-- ==== Defs.lean ====
def Pre_Global (m : (ℓ : Loc Cert.Global.nD Cert.Global.τ Cert.Global.sig) → Buf (Elt Bits) ℓ) : Prop :=
  True

def Pre_GlobalIdeal (m : (ℓ : Loc Cert.GlobalIdeal.nD Cert.GlobalIdeal.τ Cert.GlobalIdeal.sig) → Buf (Elt Ideal) ℓ) : Prop :=
  True

def Pre_GlobalIdeal_finite_scores [hPre_finite_scores : Cert.Pre_finite_scores.Facts] (m : (ℓ : Loc Cert.GlobalIdeal.nD Cert.GlobalIdeal.τ Cert.GlobalIdeal.sig) → Buf (Elt Ideal) ℓ) : Prop :=
  ∀ c : Dev Cert.GlobalIdeal.nD,
    (Cert.Pre_finite_scores.fn (F := Ideal) (m ((c.tc : Thread Cert.GlobalIdeal.nD Cert.GlobalIdeal.τ).loc Cert.GlobalIdeal.main_arg0)) (m ((c.tc : Thread Cert.GlobalIdeal.nD Cert.GlobalIdeal.τ).loc Cert.GlobalIdeal.main_arg1)) (m ((c.tc : Thread Cert.GlobalIdeal.nD Cert.GlobalIdeal.τ).loc Cert.GlobalIdeal.main_arg2))) = (fun _ => 1#1)

def Pre_GlobalRefIdeal (m : (ℓ : Loc Cert.GlobalRefIdeal.nD Cert.GlobalRefIdeal.τ Cert.GlobalRefIdeal.sig) → Buf (Elt Ideal) ℓ) : Prop :=
  True

def Pre_GlobalRefIdeal_finite_scores [hPre_finite_scores : Cert.Pre_finite_scores.Facts] (m : (ℓ : Loc Cert.GlobalRefIdeal.nD Cert.GlobalRefIdeal.τ Cert.GlobalRefIdeal.sig) → Buf (Elt Ideal) ℓ) : Prop :=
  ∀ c : Dev Cert.GlobalRefIdeal.nD,
    (Cert.Pre_finite_scores.fn (F := Ideal) (m ((c.tc : Thread Cert.GlobalRefIdeal.nD Cert.GlobalRefIdeal.τ).loc Cert.GlobalRefIdeal.main_arg0)) (m ((c.tc : Thread Cert.GlobalRefIdeal.nD Cert.GlobalRefIdeal.τ).loc Cert.GlobalRefIdeal.main_arg1)) (m ((c.tc : Thread Cert.GlobalRefIdeal.nD Cert.GlobalRefIdeal.τ).loc Cert.GlobalRefIdeal.main_arg2))) = (fun _ => 1#1)

def Pre_InSsd (m : (ℓ : Loc Cert.InSsd.nD Cert.InSsd.τ Cert.InSsd.sig) → Buf (Elt Bits) ℓ) : Prop :=
  True

def Pre_InSsdIdeal (m : (ℓ : Loc Cert.InSsdIdeal.nD Cert.InSsdIdeal.τ Cert.InSsdIdeal.sig) → Buf (Elt Ideal) ℓ) : Prop :=
  True

def Pre_InSsdRefIdeal (m : (ℓ : Loc Cert.InSsdRefIdeal.nD Cert.InSsdRefIdeal.τ Cert.InSsdRefIdeal.sig) → Buf (Elt Ideal) ℓ) : Prop :=
  True

def Pre_InAttn (m : (ℓ : Loc Cert.InAttn.nD Cert.InAttn.τ Cert.InAttn.sig) → Buf (Elt Bits) ℓ) : Prop :=
  True

def Pre_InAttnIdeal (m : (ℓ : Loc Cert.InAttnIdeal.nD Cert.InAttnIdeal.τ Cert.InAttnIdeal.sig) → Buf (Elt Ideal) ℓ) : Prop :=
  True

def Pre_InAttnRefIdeal (m : (ℓ : Loc Cert.InAttnRefIdeal.nD Cert.InAttnRefIdeal.τ Cert.InAttnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_PeerOut (m : (ℓ : Loc Cert.PeerOut.nD Cert.PeerOut.τ Cert.PeerOut.sig) → Buf (Elt Bits) ℓ) : Prop :=
  True

def Pre_PeerOutIdeal (m : (ℓ : Loc Cert.PeerOutIdeal.nD Cert.PeerOutIdeal.τ Cert.PeerOutIdeal.sig) → Buf (Elt Ideal) ℓ) : Prop :=
  True

def Pre_PeerOutRefIdeal (m : (ℓ : Loc Cert.PeerOutRefIdeal.nD Cert.PeerOutRefIdeal.τ Cert.PeerOutRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_PeerW (m : (ℓ : Loc Cert.PeerW.nD Cert.PeerW.τ Cert.PeerW.sig) → Buf (Elt Bits) ℓ) : Prop :=
  True

def Pre_PeerWIdeal (m : (ℓ : Loc Cert.PeerWIdeal.nD Cert.PeerWIdeal.τ Cert.PeerWIdeal.sig) → Buf (Elt Ideal) ℓ) : Prop :=
  True

def Pre_PeerWRefIdeal (m : (ℓ : Loc Cert.PeerWRefIdeal.nD Cert.PeerWRefIdeal.τ Cert.PeerWRefIdeal.sig) → Buf (Elt Ideal) ℓ) : Prop :=
  True

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowIdeal_finite_window [hPre_finite_window : Cert.Pre_finite_window.Facts] (m : (ℓ : Loc Cert.WindowIdeal.nD Cert.WindowIdeal.τ Cert.WindowIdeal.sig) → Buf (Elt Ideal) ℓ) : Prop :=
  ∀ c : Dev Cert.WindowIdeal.nD,
    (Cert.Pre_finite_window.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2)) (m ((c.tc : Thread Cert.WindowIdeal.nD Cert.WindowIdeal.τ).loc Cert.WindowIdeal.main_arg3))) = (fun _ => 1#1)

def Pre_WindowRefIdeal (m : (ℓ : Loc Cert.WindowRefIdeal.nD Cert.WindowRefIdeal.τ Cert.WindowRefIdeal.sig) → Buf (Elt Ideal) ℓ) : Prop :=
  True

def Pre_WindowRefIdeal_finite_window [hPre_finite_window : Cert.Pre_finite_window.Facts] (m : (ℓ : Loc Cert.WindowRefIdeal.nD Cert.WindowRefIdeal.τ Cert.WindowRefIdeal.sig) → Buf (Elt Ideal) ℓ) : Prop :=
  ∀ c : Dev Cert.WindowRefIdeal.nD,
    (Cert.Pre_finite_window.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1)) (m ((c.tc : Thread Cert.WindowRefIdeal.nD Cert.WindowRefIdeal.τ).loc Cert.WindowRefIdeal.main_arg2)) (m ((c.tc : Thread Cert.WindowRefIdeal.nD Cert.WindowRefIdeal.τ).loc Cert.WindowRefIdeal.main_arg3))) = (fun _ => 1#1)

def quiescent_Global [hGlobal : Cert.Global.Facts] : Prop :=
  ∀ (m : (ℓ : Loc Cert.Global.nD Cert.Global.τ Cert.Global.sig) → Buf (Elt Bits) ℓ) (g : Dev Cert.Global.nD → PrngReg), Pre_Global m →
    θ_run (Cert.Global.defs (F := Bits)) (onTc (τ := Cert.Global.τ) (Cert.Global.main (F := Bits))) ⟨m, fun _ => 0, g⟩ (fun r => (∀ c : Dev Cert.Global.nD,
      r.2.mem ((c.tc : Thread Cert.Global.nD Cert.Global.τ).loc Cert.Global.main_arg0) = m ((c.tc : Thread Cert.Global.nD Cert.Global.τ).loc Cert.Global.main_arg0)
      ∧ r.2.mem ((c.tc : Thread Cert.Global.nD Cert.Global.τ).loc Cert.Global.main_arg1) = m ((c.tc : Thread Cert.Global.nD Cert.Global.τ).loc Cert.Global.main_arg1)
      ∧ r.2.mem ((c.tc : Thread Cert.Global.nD Cert.Global.τ).loc Cert.Global.main_arg2) = m ((c.tc : Thread Cert.Global.nD Cert.Global.τ).loc Cert.Global.main_arg2))
      ∧ r.2.sem = fun _ => 0)

def quiescent_GlobalIdeal [hGlobalIdeal : Cert.GlobalIdeal.Facts] : Prop :=
  ∀ (m : (ℓ : Loc Cert.GlobalIdeal.nD Cert.GlobalIdeal.τ Cert.GlobalIdeal.sig) → Buf (Elt Ideal) ℓ) (g : Dev Cert.GlobalIdeal.nD → PrngReg), Pre_GlobalIdeal m →
    θ_run (Cert.GlobalIdeal.defs (F := Ideal)) (onTc (τ := Cert.GlobalIdeal.τ) (Cert.GlobalIdeal.main (F := Ideal))) ⟨m, fun _ => 0, g⟩ (fun r => (∀ c : Dev Cert.GlobalIdeal.nD,
      r.2.mem ((c.tc : Thread Cert.GlobalIdeal.nD Cert.GlobalIdeal.τ).loc Cert.GlobalIdeal.main_arg0) = m ((c.tc : Thread Cert.GlobalIdeal.nD Cert.GlobalIdeal.τ).loc Cert.GlobalIdeal.main_arg0)
      ∧ r.2.mem ((c.tc : Thread Cert.GlobalIdeal.nD Cert.GlobalIdeal.τ).loc Cert.GlobalIdeal.main_arg1) = m ((c.tc : Thread Cert.GlobalIdeal.nD Cert.GlobalIdeal.τ).loc Cert.GlobalIdeal.main_arg1)
      ∧ r.2.mem ((c.tc : Thread Cert.GlobalIdeal.nD Cert.GlobalIdeal.τ).loc Cert.GlobalIdeal.main_arg2) = m ((c.tc : Thread Cert.GlobalIdeal.nD Cert.GlobalIdeal.τ).loc Cert.GlobalIdeal.main_arg2))
      ∧ r.2.sem = fun _ => 0)

def quiescent_GlobalIdeal_pre_finite_scores [hGlobalIdeal : Cert.GlobalIdeal.Facts] [hPre_finite_scores : Cert.Pre_finite_scores.Facts] : Prop :=
  ∀ (m : (ℓ : Loc Cert.GlobalIdeal.nD Cert.GlobalIdeal.τ Cert.GlobalIdeal.sig) → Buf (Elt Ideal) ℓ) (g : Dev Cert.GlobalIdeal.nD → PrngReg), Pre_GlobalIdeal_finite_scores m →
    θ_run (Cert.GlobalIdeal.defs (F := Ideal)) (onTc (τ := Cert.GlobalIdeal.τ) (Cert.GlobalIdeal.main (F := Ideal))) ⟨m, fun _ => 0, g⟩ (fun r => (∀ c : Dev Cert.GlobalIdeal.nD,
      r.2.mem ((c.tc : Thread Cert.GlobalIdeal.nD Cert.GlobalIdeal.τ).loc Cert.GlobalIdeal.main_arg0) = m ((c.tc : Thread Cert.GlobalIdeal.nD Cert.GlobalIdeal.τ).loc Cert.GlobalIdeal.main_arg0)
      ∧ r.2.mem ((c.tc : Thread Cert.GlobalIdeal.nD Cert.GlobalIdeal.τ).loc Cert.GlobalIdeal.main_arg1) = m ((c.tc : Thread Cert.GlobalIdeal.nD Cert.GlobalIdeal.τ).loc Cert.GlobalIdeal.main_arg1)
      ∧ r.2.mem ((c.tc : Thread Cert.GlobalIdeal.nD Cert.GlobalIdeal.τ).loc Cert.GlobalIdeal.main_arg2) = m ((c.tc : Thread Cert.GlobalIdeal.nD Cert.GlobalIdeal.τ).loc Cert.GlobalIdeal.main_arg2))
      ∧ r.2.sem = fun _ => 0)

def quiescent_GlobalRefIdeal [hGlobalRefIdeal : Cert.GlobalRefIdeal.Facts] : Prop :=
  ∀ (m : (ℓ : Loc Cert.GlobalRefIdeal.nD Cert.GlobalRefIdeal.τ Cert.GlobalRefIdeal.sig) → Buf (Elt Ideal) ℓ) (g : Dev Cert.GlobalRefIdeal.nD → PrngReg), Pre_GlobalRefIdeal m →
    θ_run (Cert.GlobalRefIdeal.defs (F := Ideal)) (onTc (τ := Cert.GlobalRefIdeal.τ) (Cert.GlobalRefIdeal.main (F := Ideal))) ⟨m, fun _ => 0, g⟩ (fun r => (∀ c : Dev Cert.GlobalRefIdeal.nD,
      r.2.mem ((c.tc : Thread Cert.GlobalRefIdeal.nD Cert.GlobalRefIdeal.τ).loc Cert.GlobalRefIdeal.main_arg0) = m ((c.tc : Thread Cert.GlobalRefIdeal.nD Cert.GlobalRefIdeal.τ).loc Cert.GlobalRefIdeal.main_arg0)
      ∧ r.2.mem ((c.tc : Thread Cert.GlobalRefIdeal.nD Cert.GlobalRefIdeal.τ).loc Cert.GlobalRefIdeal.main_arg1) = m ((c.tc : Thread Cert.GlobalRefIdeal.nD Cert.GlobalRefIdeal.τ).loc Cert.GlobalRefIdeal.main_arg1)
      ∧ r.2.mem ((c.tc : Thread Cert.GlobalRefIdeal.nD Cert.GlobalRefIdeal.τ).loc Cert.GlobalRefIdeal.main_arg2) = m ((c.tc : Thread Cert.GlobalRefIdeal.nD Cert.GlobalRefIdeal.τ).loc Cert.GlobalRefIdeal.main_arg2))
      ∧ r.2.sem = fun _ => 0)

def quiescent_GlobalRefIdeal_pre_finite_scores [hGlobalRefIdeal : Cert.GlobalRefIdeal.Facts] [hPre_finite_scores : Cert.Pre_finite_scores.Facts] : Prop :=
  ∀ (m : (ℓ : Loc Cert.GlobalRefIdeal.nD Cert.GlobalRefIdeal.τ Cert.GlobalRefIdeal.sig) → Buf (Elt Ideal) ℓ) (g : Dev Cert.GlobalRefIdeal.nD → PrngReg), Pre_GlobalRefIdeal_finite_scores m →
    θ_run (Cert.GlobalRefIdeal.defs (F := Ideal)) (onTc (τ := Cert.GlobalRefIdeal.τ) (Cert.GlobalRefIdeal.main (F := Ideal))) ⟨m, fun _ => 0, g⟩ (fun r => (∀ c : Dev Cert.GlobalRefIdeal.nD,
      r.2.mem ((c.tc : Thread Cert.GlobalRefIdeal.nD Cert.GlobalRefIdeal.τ).loc Cert.GlobalRefIdeal.main_arg0) = m ((c.tc : Thread Cert.GlobalRefIdeal.nD Cert.GlobalRefIdeal.τ).loc Cert.GlobalRefIdeal.main_arg0)
      ∧ r.2.mem ((c.tc : Thread Cert.GlobalRefIdeal.nD Cert.GlobalRefIdeal.τ).loc Cert.GlobalRefIdeal.main_arg1) = m ((c.tc : Thread Cert.GlobalRefIdeal.nD Cert.GlobalRefIdeal.τ).loc Cert.GlobalRefIdeal.main_arg1)
      ∧ r.2.mem ((c.tc : Thread Cert.GlobalRefIdeal.nD Cert.GlobalRefIdeal.τ).loc Cert.GlobalRefIdeal.main_arg2) = m ((c.tc : Thread Cert.GlobalRefIdeal.nD Cert.GlobalRefIdeal.τ).loc Cert.GlobalRefIdeal.main_arg2))
      ∧ r.2.sem = fun _ => 0)

def quiescent_InSsd [hInSsd : Cert.InSsd.Facts] : Prop :=
  ∀ (m : (ℓ : Loc Cert.InSsd.nD Cert.InSsd.τ Cert.InSsd.sig) → Buf (Elt Bits) ℓ) (g : Dev Cert.InSsd.nD → PrngReg), Pre_InSsd m →
    θ_run (Cert.InSsd.defs (F := Bits)) (onTc (τ := Cert.InSsd.τ) (Cert.InSsd.main (F := Bits))) ⟨m, fun _ => 0, g⟩ (fun r => (∀ c : Dev Cert.InSsd.nD,
      r.2.mem ((c.tc : Thread Cert.InSsd.nD Cert.InSsd.τ).loc Cert.InSsd.main_arg0) = m ((c.tc : Thread Cert.InSsd.nD Cert.InSsd.τ).loc Cert.InSsd.main_arg0)
      ∧ r.2.mem ((c.tc : Thread Cert.InSsd.nD Cert.InSsd.τ).loc Cert.InSsd.main_arg1) = m ((c.tc : Thread Cert.InSsd.nD Cert.InSsd.τ).loc Cert.InSsd.main_arg1))
      ∧ r.2.sem = fun _ => 0)

def quiescent_InSsdIdeal [hInSsdIdeal : Cert.InSsdIdeal.Facts] : Prop :=
  ∀ (m : (ℓ : Loc Cert.InSsdIdeal.nD Cert.InSsdIdeal.τ Cert.InSsdIdeal.sig) → Buf (Elt Ideal) ℓ) (g : Dev Cert.InSsdIdeal.nD → PrngReg), Pre_InSsdIdeal m →
    θ_run (Cert.InSsdIdeal.defs (F := Ideal)) (onTc (τ := Cert.InSsdIdeal.τ) (Cert.InSsdIdeal.main (F := Ideal))) ⟨m, fun _ => 0, g⟩ (fun r => (∀ c : Dev Cert.InSsdIdeal.nD,
      r.2.mem ((c.tc : Thread Cert.InSsdIdeal.nD Cert.InSsdIdeal.τ).loc Cert.InSsdIdeal.main_arg0) = m ((c.tc : Thread Cert.InSsdIdeal.nD Cert.InSsdIdeal.τ).loc Cert.InSsdIdeal.main_arg0)
      ∧ r.2.mem ((c.tc : Thread Cert.InSsdIdeal.nD Cert.InSsdIdeal.τ).loc Cert.InSsdIdeal.main_arg1) = m ((c.tc : Thread Cert.InSsdIdeal.nD Cert.InSsdIdeal.τ).loc Cert.InSsdIdeal.main_arg1))
      ∧ r.2.sem = fun _ => 0)

def quiescent_InSsdRefIdeal [hInSsdRefIdeal : Cert.InSsdRefIdeal.Facts] : Prop :=
  ∀ (m : (ℓ : Loc Cert.InSsdRefIdeal.nD Cert.InSsdRefIdeal.τ Cert.InSsdRefIdeal.sig) → Buf (Elt Ideal) ℓ) (g : Dev Cert.InSsdRefIdeal.nD → PrngReg), Pre_InSsdRefIdeal m →
    θ_run (Cert.InSsdRefIdeal.defs (F := Ideal)) (onTc (τ := Cert.InSsdRefIdeal.τ) (Cert.InSsdRefIdeal.main (F := Ideal))) ⟨m, fun _ => 0, g⟩ (fun r => (∀ c : Dev Cert.InSsdRefIdeal.nD,
      r.2.mem ((c.tc : Thread Cert.InSsdRefIdeal.nD Cert.InSsdRefIdeal.τ).loc Cert.InSsdRefIdeal.main_arg0) = m ((c.tc : Thread Cert.InSsdRefIdeal.nD Cert.InSsdRefIdeal.τ).loc Cert.InSsdRefIdeal.main_arg0)
      ∧ r.2.mem ((c.tc : Thread Cert.InSsdRefIdeal.nD Cert.InSsdRefIdeal.τ).loc Cert.InSsdRefIdeal.main_arg1) = m ((c.tc : Thread Cert.InSsdRefIdeal.nD Cert.InSsdRefIdeal.τ).loc Cert.InSsdRefIdeal.main_arg1))
      ∧ r.2.sem = fun _ => 0)

def quiescent_InAttn [hInAttn : Cert.InAttn.Facts] : Prop :=
  ∀ (m : (ℓ : Loc Cert.InAttn.nD Cert.InAttn.τ Cert.InAttn.sig) → Buf (Elt Bits) ℓ) (g : Dev Cert.InAttn.nD → PrngReg), Pre_InAttn m →
    θ_run (Cert.InAttn.defs (F := Bits)) (onTc (τ := Cert.InAttn.τ) (Cert.InAttn.main (F := Bits))) ⟨m, fun _ => 0, g⟩ (fun r => (∀ c : Dev Cert.InAttn.nD,
      r.2.mem ((c.tc : Thread Cert.InAttn.nD Cert.InAttn.τ).loc Cert.InAttn.main_arg0) = m ((c.tc : Thread Cert.InAttn.nD Cert.InAttn.τ).loc Cert.InAttn.main_arg0)
      ∧ r.2.mem ((c.tc : Thread Cert.InAttn.nD Cert.InAttn.τ).loc Cert.InAttn.main_arg1) = m ((c.tc : Thread Cert.InAttn.nD Cert.InAttn.τ).loc Cert.InAttn.main_arg1))
      ∧ r.2.sem = fun _ => 0)

def quiescent_InAttnIdeal [hInAttnIdeal : Cert.InAttnIdeal.Facts] : Prop :=
  ∀ (m : (ℓ : Loc Cert.InAttnIdeal.nD Cert.InAttnIdeal.τ Cert.InAttnIdeal.sig) → Buf (Elt Ideal) ℓ) (g : Dev Cert.InAttnIdeal.nD → PrngReg), Pre_InAttnIdeal m →
    θ_run (Cert.InAttnIdeal.defs (F := Ideal)) (onTc (τ := Cert.InAttnIdeal.τ) (Cert.InAttnIdeal.main (F := Ideal))) ⟨m, fun _ => 0, g⟩ (fun r => (∀ c : Dev Cert.InAttnIdeal.nD,
      r.2.mem ((c.tc : Thread Cert.InAttnIdeal.nD Cert.InAttnIdeal.τ).loc Cert.InAttnIdeal.main_arg0) = m ((c.tc : Thread Cert.InAttnIdeal.nD Cert.InAttnIdeal.τ).loc Cert.InAttnIdeal.main_arg0)
      ∧ r.2.mem ((c.tc : Thread Cert.InAttnIdeal.nD Cert.InAttnIdeal.τ).loc Cert.InAttnIdeal.main_arg1) = m ((c.tc : Thread Cert.InAttnIdeal.nD Cert.InAttnIdeal.τ).loc Cert.InAttnIdeal.main_arg1))
      ∧ r.2.sem = fun _ => 0)

def quiescent_InAttnRefIdeal [hInAttnRefIdeal : Cert.InAttnRefIdeal.Facts] : Prop :=
  ∀ (m : (ℓ : Loc Cert.InAttnRefIdeal.nD Cert.InAttnRefIdeal.τ Cert.InAttnRefIdeal.sig) → Buf (Elt Ideal) ℓ) (g : Dev Cert.InAttnRefIdeal.nD → PrngReg), Pre_InAttnRefIdeal m →
    θ_run (Cert.InAttnRefIdeal.defs (F := Ideal)) (onTc (τ := Cert.InAttnRefIdeal.τ) (Cert.InAttnRefIdeal.main (F := Ideal))) ⟨m, fun _ => 0, g⟩ (fun r => (∀ c : Dev Cert.InAttnRefIdeal.nD,
      r.2.mem ((c.tc : Thread Cert.InAttnRefIdeal.nD Cert.InAttnRefIdeal.τ).loc Cert.InAttnRefIdeal.main_arg0) = m ((c.tc : Thread Cert.InAttnRefIdeal.nD Cert.InAttnRefIdeal.τ).loc Cert.InAttnRefIdeal.main_arg0)
      ∧ r.2.mem ((c.tc : Thread Cert.InAttnRefIdeal.nD Cert.InAttnRefIdeal.τ).loc Cert.InAttnRefIdeal.main_arg1) = m ((c.tc : Thread Cert.InAttnRefIdeal.nD Cert.InAttnRefIdeal.τ).loc Cert.InAttnRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_PeerOut [hPeerOut : Cert.PeerOut.Facts] : Prop :=
  ∀ (m : (ℓ : Loc Cert.PeerOut.nD Cert.PeerOut.τ Cert.PeerOut.sig) → Buf (Elt Bits) ℓ) (g : Dev Cert.PeerOut.nD → PrngReg), Pre_PeerOut m →
    θ_run (Cert.PeerOut.defs (F := Bits)) (onTc (τ := Cert.PeerOut.τ) (Cert.PeerOut.main (F := Bits))) ⟨m, fun _ => 0, g⟩ (fun r => (∀ c : Dev Cert.PeerOut.nD,
      r.2.mem ((c.tc : Thread Cert.PeerOut.nD Cert.PeerOut.τ).loc Cert.PeerOut.main_arg0) = m ((c.tc : Thread Cert.PeerOut.nD Cert.PeerOut.τ).loc Cert.PeerOut.main_arg0)
      ∧ r.2.mem ((c.tc : Thread Cert.PeerOut.nD Cert.PeerOut.τ).loc Cert.PeerOut.main_arg1) = m ((c.tc : Thread Cert.PeerOut.nD Cert.PeerOut.τ).loc Cert.PeerOut.main_arg1)
      ∧ r.2.mem ((c.tc : Thread Cert.PeerOut.nD Cert.PeerOut.τ).loc Cert.PeerOut.main_arg2) = m ((c.tc : Thread Cert.PeerOut.nD Cert.PeerOut.τ).loc Cert.PeerOut.main_arg2)
      ∧ r.2.mem ((c.tc : Thread Cert.PeerOut.nD Cert.PeerOut.τ).loc Cert.PeerOut.main_arg3) = m ((c.tc : Thread Cert.PeerOut.nD Cert.PeerOut.τ).loc Cert.PeerOut.main_arg3)
      ∧ r.2.mem ((c.tc : Thread Cert.PeerOut.nD Cert.PeerOut.τ).loc Cert.PeerOut.main_arg4) = m ((c.tc : Thread Cert.PeerOut.nD Cert.PeerOut.τ).loc Cert.PeerOut.main_arg4))
      ∧ r.2.sem = fun _ => 0)

def quiescent_PeerOutIdeal [hPeerOutIdeal : Cert.PeerOutIdeal.Facts] : Prop :=
  ∀ (m : (ℓ : Loc Cert.PeerOutIdeal.nD Cert.PeerOutIdeal.τ Cert.PeerOutIdeal.sig) → Buf (Elt Ideal) ℓ) (g : Dev Cert.PeerOutIdeal.nD → PrngReg), Pre_PeerOutIdeal m →
    θ_run (Cert.PeerOutIdeal.defs (F := Ideal)) (onTc (τ := Cert.PeerOutIdeal.τ) (Cert.PeerOutIdeal.main (F := Ideal))) ⟨m, fun _ => 0, g⟩ (fun r => (∀ c : Dev Cert.PeerOutIdeal.nD,
      r.2.mem ((c.tc : Thread Cert.PeerOutIdeal.nD Cert.PeerOutIdeal.τ).loc Cert.PeerOutIdeal.main_arg0) = m ((c.tc : Thread Cert.PeerOutIdeal.nD Cert.PeerOutIdeal.τ).loc Cert.PeerOutIdeal.main_arg0)
      ∧ r.2.mem ((c.tc : Thread Cert.PeerOutIdeal.nD Cert.PeerOutIdeal.τ).loc Cert.PeerOutIdeal.main_arg1) = m ((c.tc : Thread Cert.PeerOutIdeal.nD Cert.PeerOutIdeal.τ).loc Cert.PeerOutIdeal.main_arg1)
      ∧ r.2.mem ((c.tc : Thread Cert.PeerOutIdeal.nD Cert.PeerOutIdeal.τ).loc Cert.PeerOutIdeal.main_arg2) = m ((c.tc : Thread Cert.PeerOutIdeal.nD Cert.PeerOutIdeal.τ).loc Cert.PeerOutIdeal.main_arg2)
      ∧ r.2.mem ((c.tc : Thread Cert.PeerOutIdeal.nD Cert.PeerOutIdeal.τ).loc Cert.PeerOutIdeal.main_arg3) = m ((c.tc : Thread Cert.PeerOutIdeal.nD Cert.PeerOutIdeal.τ).loc Cert.PeerOutIdeal.main_arg3)
      ∧ r.2.mem ((c.tc : Thread Cert.PeerOutIdeal.nD Cert.PeerOutIdeal.τ).loc Cert.PeerOutIdeal.main_arg4) = m ((c.tc : Thread Cert.PeerOutIdeal.nD Cert.PeerOutIdeal.τ).loc Cert.PeerOutIdeal.main_arg4))
      ∧ r.2.sem = fun _ => 0)

def quiescent_PeerOutRefIdeal [hPeerOutRefIdeal : Cert.PeerOutRefIdeal.Facts] : Prop :=
  ∀ (m : (ℓ : Loc Cert.PeerOutRefIdeal.nD Cert.PeerOutRefIdeal.τ Cert.PeerOutRefIdeal.sig) → Buf (Elt Ideal) ℓ) (g : Dev Cert.PeerOutRefIdeal.nD → PrngReg), Pre_PeerOutRefIdeal m →
    θ_run (Cert.PeerOutRefIdeal.defs (F := Ideal)) (onTc (τ := Cert.PeerOutRefIdeal.τ) (Cert.PeerOutRefIdeal.main (F := Ideal))) ⟨m, fun _ => 0, g⟩ (fun r => (∀ c : Dev Cert.PeerOutRefIdeal.nD,
      r.2.mem ((c.tc : Thread Cert.PeerOutRefIdeal.nD Cert.PeerOutRefIdeal.τ).loc Cert.PeerOutRefIdeal.main_arg0) = m ((c.tc : Thread Cert.PeerOutRefIdeal.nD Cert.PeerOutRefIdeal.τ).loc Cert.PeerOutRefIdeal.main_arg0)
      ∧ r.2.mem ((c.tc : Thread Cert.PeerOutRefIdeal.nD Cert.PeerOutRefIdeal.τ).loc Cert.PeerOutRefIdeal.main_arg1) = m ((c.tc : Thread Cert.PeerOutRefIdeal.nD Cert.PeerOutRefIdeal.τ).loc Cert.PeerOutRefIdeal.main_arg1)
      ∧ r.2.mem ((c.tc : Thread Cert.PeerOutRefIdeal.nD Cert.PeerOutRefIdeal.τ).loc Cert.PeerOutRefIdeal.main_arg2) = m ((c.tc : Thread Cert.PeerOutRefIdeal.nD Cert.PeerOutRefIdeal.τ).loc Cert.PeerOutRefIdeal.main_arg2)
      ∧ r.2.mem ((c.tc : Thread Cert.PeerOutRefIdeal.nD Cert.PeerOutRefIdeal.τ).loc Cert.PeerOutRefIdeal.main_arg3) = m ((c.tc : Thread Cert.PeerOutRefIdeal.nD Cert.PeerOutRefIdeal.τ).loc Cert.PeerOutRefIdeal.main_arg3)
      ∧ r.2.mem ((c.tc : Thread Cert.PeerOutRefIdeal.nD Cert.PeerOutRefIdeal.τ).loc Cert.PeerOutRefIdeal.main_arg4) = m ((c.tc : Thread Cert.PeerOutRefIdeal.nD Cert.PeerOutRefIdeal.τ).loc Cert.PeerOutRefIdeal.main_arg4))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2))
      ∧ r.2.sem = fun _ => 0)

def quiescent_PeerW [hPeerW : Cert.PeerW.Facts] : Prop :=
  ∀ (m : (ℓ : Loc Cert.PeerW.nD Cert.PeerW.τ Cert.PeerW.sig) → Buf (Elt Bits) ℓ) (g : Dev Cert.PeerW.nD → PrngReg), Pre_PeerW m →
    θ_run (Cert.PeerW.defs (F := Bits)) (onTc (τ := Cert.PeerW.τ) (Cert.PeerW.main (F := Bits))) ⟨m, fun _ => 0, g⟩ (fun r => (∀ c : Dev Cert.PeerW.nD,
      r.2.mem ((c.tc : Thread Cert.PeerW.nD Cert.PeerW.τ).loc Cert.PeerW.main_arg0) = m ((c.tc : Thread Cert.PeerW.nD Cert.PeerW.τ).loc Cert.PeerW.main_arg0)
      ∧ r.2.mem ((c.tc : Thread Cert.PeerW.nD Cert.PeerW.τ).loc Cert.PeerW.main_arg1) = m ((c.tc : Thread Cert.PeerW.nD Cert.PeerW.τ).loc Cert.PeerW.main_arg1)
      ∧ r.2.mem ((c.tc : Thread Cert.PeerW.nD Cert.PeerW.τ).loc Cert.PeerW.main_arg2) = m ((c.tc : Thread Cert.PeerW.nD Cert.PeerW.τ).loc Cert.PeerW.main_arg2)
      ∧ r.2.mem ((c.tc : Thread Cert.PeerW.nD Cert.PeerW.τ).loc Cert.PeerW.main_arg3) = m ((c.tc : Thread Cert.PeerW.nD Cert.PeerW.τ).loc Cert.PeerW.main_arg3)
      ∧ r.2.mem ((c.tc : Thread Cert.PeerW.nD Cert.PeerW.τ).loc Cert.PeerW.main_arg4) = m ((c.tc : Thread Cert.PeerW.nD Cert.PeerW.τ).loc Cert.PeerW.main_arg4)
      ∧ r.2.mem ((c.tc : Thread Cert.PeerW.nD Cert.PeerW.τ).loc Cert.PeerW.main_arg5) = m ((c.tc : Thread Cert.PeerW.nD Cert.PeerW.τ).loc Cert.PeerW.main_arg5))
      ∧ r.2.sem = fun _ => 0)

def quiescent_PeerWIdeal [hPeerWIdeal : Cert.PeerWIdeal.Facts] : Prop :=
  ∀ (m : (ℓ : Loc Cert.PeerWIdeal.nD Cert.PeerWIdeal.τ Cert.PeerWIdeal.sig) → Buf (Elt Ideal) ℓ) (g : Dev Cert.PeerWIdeal.nD → PrngReg), Pre_PeerWIdeal m →
    θ_run (Cert.PeerWIdeal.defs (F := Ideal)) (onTc (τ := Cert.PeerWIdeal.τ) (Cert.PeerWIdeal.main (F := Ideal))) ⟨m, fun _ => 0, g⟩ (fun r => (∀ c : Dev Cert.PeerWIdeal.nD,
      r.2.mem ((c.tc : Thread Cert.PeerWIdeal.nD Cert.PeerWIdeal.τ).loc Cert.PeerWIdeal.main_arg0) = m ((c.tc : Thread Cert.PeerWIdeal.nD Cert.PeerWIdeal.τ).loc Cert.PeerWIdeal.main_arg0)
      ∧ r.2.mem ((c.tc : Thread Cert.PeerWIdeal.nD Cert.PeerWIdeal.τ).loc Cert.PeerWIdeal.main_arg1) = m ((c.tc : Thread Cert.PeerWIdeal.nD Cert.PeerWIdeal.τ).loc Cert.PeerWIdeal.main_arg1)
      ∧ r.2.mem ((c.tc : Thread Cert.PeerWIdeal.nD Cert.PeerWIdeal.τ).loc Cert.PeerWIdeal.main_arg2) = m ((c.tc : Thread Cert.PeerWIdeal.nD Cert.PeerWIdeal.τ).loc Cert.PeerWIdeal.main_arg2)
      ∧ r.2.mem ((c.tc : Thread Cert.PeerWIdeal.nD Cert.PeerWIdeal.τ).loc Cert.PeerWIdeal.main_arg3) = m ((c.tc : Thread Cert.PeerWIdeal.nD Cert.PeerWIdeal.τ).loc Cert.PeerWIdeal.main_arg3)
      ∧ r.2.mem ((c.tc : Thread Cert.PeerWIdeal.nD Cert.PeerWIdeal.τ).loc Cert.PeerWIdeal.main_arg4) = m ((c.tc : Thread Cert.PeerWIdeal.nD Cert.PeerWIdeal.τ).loc Cert.PeerWIdeal.main_arg4)
      ∧ r.2.mem ((c.tc : Thread Cert.PeerWIdeal.nD Cert.PeerWIdeal.τ).loc Cert.PeerWIdeal.main_arg5) = m ((c.tc : Thread Cert.PeerWIdeal.nD Cert.PeerWIdeal.τ).loc Cert.PeerWIdeal.main_arg5))
      ∧ r.2.sem = fun _ => 0)

def quiescent_PeerWRefIdeal [hPeerWRefIdeal : Cert.PeerWRefIdeal.Facts] : Prop :=
  ∀ (m : (ℓ : Loc Cert.PeerWRefIdeal.nD Cert.PeerWRefIdeal.τ Cert.PeerWRefIdeal.sig) → Buf (Elt Ideal) ℓ) (g : Dev Cert.PeerWRefIdeal.nD → PrngReg), Pre_PeerWRefIdeal m →
    θ_run (Cert.PeerWRefIdeal.defs (F := Ideal)) (onTc (τ := Cert.PeerWRefIdeal.τ) (Cert.PeerWRefIdeal.main (F := Ideal))) ⟨m, fun _ => 0, g⟩ (fun r => (∀ c : Dev Cert.PeerWRefIdeal.nD,
      r.2.mem ((c.tc : Thread Cert.PeerWRefIdeal.nD Cert.PeerWRefIdeal.τ).loc Cert.PeerWRefIdeal.main_arg0) = m ((c.tc : Thread Cert.PeerWRefIdeal.nD Cert.PeerWRefIdeal.τ).loc Cert.PeerWRefIdeal.main_arg0)
      ∧ r.2.mem ((c.tc : Thread Cert.PeerWRefIdeal.nD Cert.PeerWRefIdeal.τ).loc Cert.PeerWRefIdeal.main_arg1) = m ((c.tc : Thread Cert.PeerWRefIdeal.nD Cert.PeerWRefIdeal.τ).loc Cert.PeerWRefIdeal.main_arg1)
      ∧ r.2.mem ((c.tc : Thread Cert.PeerWRefIdeal.nD Cert.PeerWRefIdeal.τ).loc Cert.PeerWRefIdeal.main_arg2) = m ((c.tc : Thread Cert.PeerWRefIdeal.nD Cert.PeerWRefIdeal.τ).loc Cert.PeerWRefIdeal.main_arg2)
      ∧ r.2.mem ((c.tc : Thread Cert.PeerWRefIdeal.nD Cert.PeerWRefIdeal.τ).loc Cert.PeerWRefIdeal.main_arg3) = m ((c.tc : Thread Cert.PeerWRefIdeal.nD Cert.PeerWRefIdeal.τ).loc Cert.PeerWRefIdeal.main_arg3)
      ∧ r.2.mem ((c.tc : Thread Cert.PeerWRefIdeal.nD Cert.PeerWRefIdeal.τ).loc Cert.PeerWRefIdeal.main_arg4) = m ((c.tc : Thread Cert.PeerWRefIdeal.nD Cert.PeerWRefIdeal.τ).loc Cert.PeerWRefIdeal.main_arg4)
      ∧ r.2.mem ((c.tc : Thread Cert.PeerWRefIdeal.nD Cert.PeerWRefIdeal.τ).loc Cert.PeerWRefIdeal.main_arg5) = m ((c.tc : Thread Cert.PeerWRefIdeal.nD Cert.PeerWRefIdeal.τ).loc Cert.PeerWRefIdeal.main_arg5))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2)
      ∧ r.2.mem ((c.tc : Thread Cert.Window.nD Cert.Window.τ).loc Cert.Window.main_arg3) = m ((c.tc : Thread Cert.Window.nD Cert.Window.τ).loc Cert.Window.main_arg3))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3))
      ∧ r.2.sem = fun _ => 0)

def quiescent_WindowIdeal_pre_finite_window [hWindowIdeal : Cert.WindowIdeal.Facts] [hPre_finite_window : Cert.Pre_finite_window.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal_finite_window m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2)
      ∧ r.2.mem ((c.tc : Thread Cert.WindowRefIdeal.nD Cert.WindowRefIdeal.τ).loc Cert.WindowRefIdeal.main_arg3) = m ((c.tc : Thread Cert.WindowRefIdeal.nD Cert.WindowRefIdeal.τ).loc Cert.WindowRefIdeal.main_arg3))
      ∧ r.2.sem = fun _ => 0)

def quiescent_WindowRefIdeal_pre_finite_window [hWindowRefIdeal : Cert.WindowRefIdeal.Facts] [hPre_finite_window : Cert.Pre_finite_window.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal_finite_window m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2)
      ∧ r.2.mem ((c.tc : Thread Cert.WindowRefIdeal.nD Cert.WindowRefIdeal.τ).loc Cert.WindowRefIdeal.main_arg3) = m ((c.tc : Thread Cert.WindowRefIdeal.nD Cert.WindowRefIdeal.τ).loc Cert.WindowRefIdeal.main_arg3))
      ∧ r.2.sem = fun _ => 0)

def preserves_Global_GlobalIdeal : Prop :=
  True

def algebraic_GlobalIdeal_GlobalRefIdeal_on_latent_rows_pre_finite_scores [hGlobalIdeal : Cert.GlobalIdeal.Facts] [hGlobalRefIdeal : Cert.GlobalRefIdeal.Facts] [hPre_finite_scores : Cert.Pre_finite_scores.Facts] [hOn_latent_rows : Cert.On_latent_rows.Facts] : Prop :=
  ∀ (m : (ℓ : Loc Cert.GlobalIdeal.nD Cert.GlobalIdeal.τ Cert.GlobalIdeal.sig) → Buf (Elt Ideal) ℓ) (g : Dev Cert.GlobalIdeal.nD → PrngReg)
    (m' : (ℓ : Loc Cert.GlobalRefIdeal.nD Cert.GlobalRefIdeal.τ Cert.GlobalRefIdeal.sig) → Buf (Elt Ideal) ℓ) (g' : Dev Cert.GlobalRefIdeal.nD → PrngReg), Pre_GlobalIdeal_finite_scores m →
    (∀ c : Dev Cert.GlobalIdeal.nD,
      m' ((c.tc : Thread Cert.GlobalRefIdeal.nD Cert.GlobalRefIdeal.τ).loc Cert.GlobalRefIdeal.main_arg0) = m ((c.tc : Thread Cert.GlobalIdeal.nD Cert.GlobalIdeal.τ).loc Cert.GlobalIdeal.main_arg0)
      ∧ m' ((c.tc : Thread Cert.GlobalRefIdeal.nD Cert.GlobalRefIdeal.τ).loc Cert.GlobalRefIdeal.main_arg1) = m ((c.tc : Thread Cert.GlobalIdeal.nD Cert.GlobalIdeal.τ).loc Cert.GlobalIdeal.main_arg1)
      ∧ m' ((c.tc : Thread Cert.GlobalRefIdeal.nD Cert.GlobalRefIdeal.τ).loc Cert.GlobalRefIdeal.main_arg2) = m ((c.tc : Thread Cert.GlobalIdeal.nD Cert.GlobalIdeal.τ).loc Cert.GlobalIdeal.main_arg2)) →
    ∃ (v0 : (c : Dev Cert.GlobalIdeal.nD) → Buf (Elt Ideal) ((c.tc : Thread Cert.GlobalIdeal.nD Cert.GlobalIdeal.τ).loc Cert.GlobalIdeal.main_v19)),
      θ_run (Cert.GlobalIdeal.defs (F := Ideal)) (onTc (τ := Cert.GlobalIdeal.τ) (Cert.GlobalIdeal.main (F := Ideal))) ⟨m, fun _ => 0, g⟩ (fun r => ∀ c : Dev Cert.GlobalIdeal.nD,
          (∀ i : (⟨2, ![16640, 1024]⟩ : Shape).Idx, (Cert.On_latent_rows.fn (F := Ideal) (m ((c.tc : Thread Cert.GlobalIdeal.nD Cert.GlobalIdeal.τ).loc Cert.GlobalIdeal.main_arg0)) (m ((c.tc : Thread Cert.GlobalIdeal.nD Cert.GlobalIdeal.τ).loc Cert.GlobalIdeal.main_arg1)) (m ((c.tc : Thread Cert.GlobalIdeal.nD Cert.GlobalIdeal.τ).loc Cert.GlobalIdeal.main_arg2))) i = 1#1 → r.2.mem ((c.tc : Thread Cert.GlobalIdeal.nD Cert.GlobalIdeal.τ).loc Cert.GlobalIdeal.main_v19) i = v0 c i)
          ∧ r.2.mem ((c.tc : Thread Cert.GlobalIdeal.nD Cert.GlobalIdeal.τ).loc Cert.GlobalIdeal.main_arg0) = m ((c.tc : Thread Cert.GlobalIdeal.nD Cert.GlobalIdeal.τ).loc Cert.GlobalIdeal.main_arg0)
          ∧ r.2.mem ((c.tc : Thread Cert.GlobalIdeal.nD Cert.GlobalIdeal.τ).loc Cert.GlobalIdeal.main_arg1) = m ((c.tc : Thread Cert.GlobalIdeal.nD Cert.GlobalIdeal.τ).loc Cert.GlobalIdeal.main_arg1)
          ∧ r.2.mem ((c.tc : Thread Cert.GlobalIdeal.nD Cert.GlobalIdeal.τ).loc Cert.GlobalIdeal.main_arg2) = m ((c.tc : Thread Cert.GlobalIdeal.nD Cert.GlobalIdeal.τ).loc Cert.GlobalIdeal.main_arg2))
      ∧ θ_run (Cert.GlobalRefIdeal.defs (F := Ideal)) (onTc (τ := Cert.GlobalRefIdeal.τ) (Cert.GlobalRefIdeal.main (F := Ideal))) ⟨m', fun _ => 0, g'⟩ (fun r => ∀ c : Dev Cert.GlobalRefIdeal.nD,
          (∀ i : (⟨2, ![16640, 1024]⟩ : Shape).Idx, (Cert.On_latent_rows.fn (F := Ideal) (m ((c.tc : Thread Cert.GlobalIdeal.nD Cert.GlobalIdeal.τ).loc Cert.GlobalIdeal.main_arg0)) (m ((c.tc : Thread Cert.GlobalIdeal.nD Cert.GlobalIdeal.τ).loc Cert.GlobalIdeal.main_arg1)) (m ((c.tc : Thread Cert.GlobalIdeal.nD Cert.GlobalIdeal.τ).loc Cert.GlobalIdeal.main_arg2))) i = 1#1 → r.2.mem ((c.tc : Thread Cert.GlobalRefIdeal.nD Cert.GlobalRefIdeal.τ).loc Cert.GlobalRefIdeal.main_v21) i = v0 c i)
          ∧ r.2.mem ((c.tc : Thread Cert.GlobalRefIdeal.nD Cert.GlobalRefIdeal.τ).loc Cert.GlobalRefIdeal.main_arg0) = m' ((c.tc : Thread Cert.GlobalRefIdeal.nD Cert.GlobalRefIdeal.τ).loc Cert.GlobalRefIdeal.main_arg0)
          ∧ r.2.mem ((c.tc : Thread Cert.GlobalRefIdeal.nD Cert.GlobalRefIdeal.τ).loc Cert.GlobalRefIdeal.main_arg1) = m' ((c.tc : Thread Cert.GlobalRefIdeal.nD Cert.GlobalRefIdeal.τ).loc Cert.GlobalRefIdeal.main_arg1)
          ∧ r.2.mem ((c.tc : Thread Cert.GlobalRefIdeal.nD Cert.GlobalRefIdeal.τ).loc Cert.GlobalRefIdeal.main_arg2) = m' ((c.tc : Thread Cert.GlobalRefIdeal.nD Cert.GlobalRefIdeal.τ).loc Cert.GlobalRefIdeal.main_arg2))

def preserves_InSsd_InSsdIdeal : Prop :=
  True

def algebraic_InSsdIdeal_InSsdRefIdeal [hInSsdIdeal : Cert.InSsdIdeal.Facts] [hInSsdRefIdeal : Cert.InSsdRefIdeal.Facts] : Prop :=
  ∀ (m : (ℓ : Loc Cert.InSsdIdeal.nD Cert.InSsdIdeal.τ Cert.InSsdIdeal.sig) → Buf (Elt Ideal) ℓ) (g : Dev Cert.InSsdIdeal.nD → PrngReg)
    (m' : (ℓ : Loc Cert.InSsdRefIdeal.nD Cert.InSsdRefIdeal.τ Cert.InSsdRefIdeal.sig) → Buf (Elt Ideal) ℓ) (g' : Dev Cert.InSsdRefIdeal.nD → PrngReg), Pre_InSsdIdeal m →
    (∀ c : Dev Cert.InSsdIdeal.nD,
      m' ((c.tc : Thread Cert.InSsdRefIdeal.nD Cert.InSsdRefIdeal.τ).loc Cert.InSsdRefIdeal.main_arg0) = m ((c.tc : Thread Cert.InSsdIdeal.nD Cert.InSsdIdeal.τ).loc Cert.InSsdIdeal.main_arg0)
      ∧ m' ((c.tc : Thread Cert.InSsdRefIdeal.nD Cert.InSsdRefIdeal.τ).loc Cert.InSsdRefIdeal.main_arg1) = m ((c.tc : Thread Cert.InSsdIdeal.nD Cert.InSsdIdeal.τ).loc Cert.InSsdIdeal.main_arg1)) →
    ∃ (v0 : (c : Dev Cert.InSsdIdeal.nD) → Buf (Elt Ideal) ((c.tc : Thread Cert.InSsdIdeal.nD Cert.InSsdIdeal.τ).loc Cert.InSsdIdeal.main_v5)),
      θ_run (Cert.InSsdIdeal.defs (F := Ideal)) (onTc (τ := Cert.InSsdIdeal.τ) (Cert.InSsdIdeal.main (F := Ideal))) ⟨m, fun _ => 0, g⟩ (fun r => ∀ c : Dev Cert.InSsdIdeal.nD,
          r.2.mem ((c.tc : Thread Cert.InSsdIdeal.nD Cert.InSsdIdeal.τ).loc Cert.InSsdIdeal.main_v5) = v0 c
          ∧ r.2.mem ((c.tc : Thread Cert.InSsdIdeal.nD Cert.InSsdIdeal.τ).loc Cert.InSsdIdeal.main_arg0) = m ((c.tc : Thread Cert.InSsdIdeal.nD Cert.InSsdIdeal.τ).loc Cert.InSsdIdeal.main_arg0)
          ∧ r.2.mem ((c.tc : Thread Cert.InSsdIdeal.nD Cert.InSsdIdeal.τ).loc Cert.InSsdIdeal.main_arg1) = m ((c.tc : Thread Cert.InSsdIdeal.nD Cert.InSsdIdeal.τ).loc Cert.InSsdIdeal.main_arg1))
      ∧ θ_run (Cert.InSsdRefIdeal.defs (F := Ideal)) (onTc (τ := Cert.InSsdRefIdeal.τ) (Cert.InSsdRefIdeal.main (F := Ideal))) ⟨m', fun _ => 0, g'⟩ (fun r => ∀ c : Dev Cert.InSsdRefIdeal.nD,
          r.2.mem ((c.tc : Thread Cert.InSsdRefIdeal.nD Cert.InSsdRefIdeal.τ).loc Cert.InSsdRefIdeal.main_v3) = v0 c
          ∧ r.2.mem ((c.tc : Thread Cert.InSsdRefIdeal.nD Cert.InSsdRefIdeal.τ).loc Cert.InSsdRefIdeal.main_arg0) = m' ((c.tc : Thread Cert.InSsdRefIdeal.nD Cert.InSsdRefIdeal.τ).loc Cert.InSsdRefIdeal.main_arg0)
          ∧ r.2.mem ((c.tc : Thread Cert.InSsdRefIdeal.nD Cert.InSsdRefIdeal.τ).loc Cert.InSsdRefIdeal.main_arg1) = m' ((c.tc : Thread Cert.InSsdRefIdeal.nD Cert.InSsdRefIdeal.τ).loc Cert.InSsdRefIdeal.main_arg1))

def preserves_InAttn_InAttnIdeal : Prop :=
  True

def algebraic_InAttnIdeal_InAttnRefIdeal [hInAttnIdeal : Cert.InAttnIdeal.Facts] [hInAttnRefIdeal : Cert.InAttnRefIdeal.Facts] : Prop :=
  ∀ (m : (ℓ : Loc Cert.InAttnIdeal.nD Cert.InAttnIdeal.τ Cert.InAttnIdeal.sig) → Buf (Elt Ideal) ℓ) (g : Dev Cert.InAttnIdeal.nD → PrngReg)
    (m' : (ℓ : Loc Cert.InAttnRefIdeal.nD Cert.InAttnRefIdeal.τ Cert.InAttnRefIdeal.sig) → Buf (Elt Ideal) ℓ) (g' : Dev Cert.InAttnRefIdeal.nD → PrngReg), Pre_InAttnIdeal m →
    (∀ c : Dev Cert.InAttnIdeal.nD,
      m' ((c.tc : Thread Cert.InAttnRefIdeal.nD Cert.InAttnRefIdeal.τ).loc Cert.InAttnRefIdeal.main_arg0) = m ((c.tc : Thread Cert.InAttnIdeal.nD Cert.InAttnIdeal.τ).loc Cert.InAttnIdeal.main_arg0)
      ∧ m' ((c.tc : Thread Cert.InAttnRefIdeal.nD Cert.InAttnRefIdeal.τ).loc Cert.InAttnRefIdeal.main_arg1) = m ((c.tc : Thread Cert.InAttnIdeal.nD Cert.InAttnIdeal.τ).loc Cert.InAttnIdeal.main_arg1)) →
    ∃ (v0 : (c : Dev Cert.InAttnIdeal.nD) → Buf (Elt Ideal) ((c.tc : Thread Cert.InAttnIdeal.nD Cert.InAttnIdeal.τ).loc Cert.InAttnIdeal.main_v6)),
      θ_run (Cert.InAttnIdeal.defs (F := Ideal)) (onTc (τ := Cert.InAttnIdeal.τ) (Cert.InAttnIdeal.main (F := Ideal))) ⟨m, fun _ => 0, g⟩ (fun r => ∀ c : Dev Cert.InAttnIdeal.nD,
          r.2.mem ((c.tc : Thread Cert.InAttnIdeal.nD Cert.InAttnIdeal.τ).loc Cert.InAttnIdeal.main_v6) = v0 c
          ∧ r.2.mem ((c.tc : Thread Cert.InAttnIdeal.nD Cert.InAttnIdeal.τ).loc Cert.InAttnIdeal.main_arg0) = m ((c.tc : Thread Cert.InAttnIdeal.nD Cert.InAttnIdeal.τ).loc Cert.InAttnIdeal.main_arg0)
          ∧ r.2.mem ((c.tc : Thread Cert.InAttnIdeal.nD Cert.InAttnIdeal.τ).loc Cert.InAttnIdeal.main_arg1) = m ((c.tc : Thread Cert.InAttnIdeal.nD Cert.InAttnIdeal.τ).loc Cert.InAttnIdeal.main_arg1))
      ∧ θ_run (Cert.InAttnRefIdeal.defs (F := Ideal)) (onTc (τ := Cert.InAttnRefIdeal.τ) (Cert.InAttnRefIdeal.main (F := Ideal))) ⟨m', fun _ => 0, g'⟩ (fun r => ∀ c : Dev Cert.InAttnRefIdeal.nD,
          r.2.mem ((c.tc : Thread Cert.InAttnRefIdeal.nD Cert.InAttnRefIdeal.τ).loc Cert.InAttnRefIdeal.main_v4) = v0 c
          ∧ r.2.mem ((c.tc : Thread Cert.InAttnRefIdeal.nD Cert.InAttnRefIdeal.τ).loc Cert.InAttnRefIdeal.main_arg0) = m' ((c.tc : Thread Cert.InAttnRefIdeal.nD Cert.InAttnRefIdeal.τ).loc Cert.InAttnRefIdeal.main_arg0)
          ∧ r.2.mem ((c.tc : Thread Cert.InAttnRefIdeal.nD Cert.InAttnRefIdeal.τ).loc Cert.InAttnRefIdeal.main_arg1) = m' ((c.tc : Thread Cert.InAttnRefIdeal.nD Cert.InAttnRefIdeal.τ).loc Cert.InAttnRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v19) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v1) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v3) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v13) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v7)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v7) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v45) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_PeerOut_PeerOutIdeal : Prop :=
  True

def algebraic_PeerOutIdeal_PeerOutRefIdeal [hPeerOutIdeal : Cert.PeerOutIdeal.Facts] [hPeerOutRefIdeal : Cert.PeerOutRefIdeal.Facts] : Prop :=
  ∀ (m : (ℓ : Loc Cert.PeerOutIdeal.nD Cert.PeerOutIdeal.τ Cert.PeerOutIdeal.sig) → Buf (Elt Ideal) ℓ) (g : Dev Cert.PeerOutIdeal.nD → PrngReg)
    (m' : (ℓ : Loc Cert.PeerOutRefIdeal.nD Cert.PeerOutRefIdeal.τ Cert.PeerOutRefIdeal.sig) → Buf (Elt Ideal) ℓ) (g' : Dev Cert.PeerOutRefIdeal.nD → PrngReg), Pre_PeerOutIdeal m →
    (∀ c : Dev Cert.PeerOutIdeal.nD,
      m' ((c.tc : Thread Cert.PeerOutRefIdeal.nD Cert.PeerOutRefIdeal.τ).loc Cert.PeerOutRefIdeal.main_arg0) = m ((c.tc : Thread Cert.PeerOutIdeal.nD Cert.PeerOutIdeal.τ).loc Cert.PeerOutIdeal.main_arg0)
      ∧ m' ((c.tc : Thread Cert.PeerOutRefIdeal.nD Cert.PeerOutRefIdeal.τ).loc Cert.PeerOutRefIdeal.main_arg1) = m ((c.tc : Thread Cert.PeerOutIdeal.nD Cert.PeerOutIdeal.τ).loc Cert.PeerOutIdeal.main_arg1)
      ∧ m' ((c.tc : Thread Cert.PeerOutRefIdeal.nD Cert.PeerOutRefIdeal.τ).loc Cert.PeerOutRefIdeal.main_arg2) = m ((c.tc : Thread Cert.PeerOutIdeal.nD Cert.PeerOutIdeal.τ).loc Cert.PeerOutIdeal.main_arg2)
      ∧ m' ((c.tc : Thread Cert.PeerOutRefIdeal.nD Cert.PeerOutRefIdeal.τ).loc Cert.PeerOutRefIdeal.main_arg3) = m ((c.tc : Thread Cert.PeerOutIdeal.nD Cert.PeerOutIdeal.τ).loc Cert.PeerOutIdeal.main_arg3)
      ∧ m' ((c.tc : Thread Cert.PeerOutRefIdeal.nD Cert.PeerOutRefIdeal.τ).loc Cert.PeerOutRefIdeal.main_arg4) = m ((c.tc : Thread Cert.PeerOutIdeal.nD Cert.PeerOutIdeal.τ).loc Cert.PeerOutIdeal.main_arg4)) →
    ∃ (v0 : (c : Dev Cert.PeerOutIdeal.nD) → Buf (Elt Ideal) ((c.tc : Thread Cert.PeerOutIdeal.nD Cert.PeerOutIdeal.τ).loc Cert.PeerOutIdeal.main_v5)),
      θ_run (Cert.PeerOutIdeal.defs (F := Ideal)) (onTc (τ := Cert.PeerOutIdeal.τ) (Cert.PeerOutIdeal.main (F := Ideal))) ⟨m, fun _ => 0, g⟩ (fun r => ∀ c : Dev Cert.PeerOutIdeal.nD,
          r.2.mem ((c.tc : Thread Cert.PeerOutIdeal.nD Cert.PeerOutIdeal.τ).loc Cert.PeerOutIdeal.main_v5) = v0 c
          ∧ r.2.mem ((c.tc : Thread Cert.PeerOutIdeal.nD Cert.PeerOutIdeal.τ).loc Cert.PeerOutIdeal.main_arg0) = m ((c.tc : Thread Cert.PeerOutIdeal.nD Cert.PeerOutIdeal.τ).loc Cert.PeerOutIdeal.main_arg0)
          ∧ r.2.mem ((c.tc : Thread Cert.PeerOutIdeal.nD Cert.PeerOutIdeal.τ).loc Cert.PeerOutIdeal.main_arg1) = m ((c.tc : Thread Cert.PeerOutIdeal.nD Cert.PeerOutIdeal.τ).loc Cert.PeerOutIdeal.main_arg1)
          ∧ r.2.mem ((c.tc : Thread Cert.PeerOutIdeal.nD Cert.PeerOutIdeal.τ).loc Cert.PeerOutIdeal.main_arg2) = m ((c.tc : Thread Cert.PeerOutIdeal.nD Cert.PeerOutIdeal.τ).loc Cert.PeerOutIdeal.main_arg2)
          ∧ r.2.mem ((c.tc : Thread Cert.PeerOutIdeal.nD Cert.PeerOutIdeal.τ).loc Cert.PeerOutIdeal.main_arg3) = m ((c.tc : Thread Cert.PeerOutIdeal.nD Cert.PeerOutIdeal.τ).loc Cert.PeerOutIdeal.main_arg3)
          ∧ r.2.mem ((c.tc : Thread Cert.PeerOutIdeal.nD Cert.PeerOutIdeal.τ).loc Cert.PeerOutIdeal.main_arg4) = m ((c.tc : Thread Cert.PeerOutIdeal.nD Cert.PeerOutIdeal.τ).loc Cert.PeerOutIdeal.main_arg4))
      ∧ θ_run (Cert.PeerOutRefIdeal.defs (F := Ideal)) (onTc (τ := Cert.PeerOutRefIdeal.τ) (Cert.PeerOutRefIdeal.main (F := Ideal))) ⟨m', fun _ => 0, g'⟩ (fun r => ∀ c : Dev Cert.PeerOutRefIdeal.nD,
          r.2.mem ((c.tc : Thread Cert.PeerOutRefIdeal.nD Cert.PeerOutRefIdeal.τ).loc Cert.PeerOutRefIdeal.main_v15) = v0 c
          ∧ r.2.mem ((c.tc : Thread Cert.PeerOutRefIdeal.nD Cert.PeerOutRefIdeal.τ).loc Cert.PeerOutRefIdeal.main_arg0) = m' ((c.tc : Thread Cert.PeerOutRefIdeal.nD Cert.PeerOutRefIdeal.τ).loc Cert.PeerOutRefIdeal.main_arg0)
          ∧ r.2.mem ((c.tc : Thread Cert.PeerOutRefIdeal.nD Cert.PeerOutRefIdeal.τ).loc Cert.PeerOutRefIdeal.main_arg1) = m' ((c.tc : Thread Cert.PeerOutRefIdeal.nD Cert.PeerOutRefIdeal.τ).loc Cert.PeerOutRefIdeal.main_arg1)
          ∧ r.2.mem ((c.tc : Thread Cert.PeerOutRefIdeal.nD Cert.PeerOutRefIdeal.τ).loc Cert.PeerOutRefIdeal.main_arg2) = m' ((c.tc : Thread Cert.PeerOutRefIdeal.nD Cert.PeerOutRefIdeal.τ).loc Cert.PeerOutRefIdeal.main_arg2)
          ∧ r.2.mem ((c.tc : Thread Cert.PeerOutRefIdeal.nD Cert.PeerOutRefIdeal.τ).loc Cert.PeerOutRefIdeal.main_arg3) = m' ((c.tc : Thread Cert.PeerOutRefIdeal.nD Cert.PeerOutRefIdeal.τ).loc Cert.PeerOutRefIdeal.main_arg3)
          ∧ r.2.mem ((c.tc : Thread Cert.PeerOutRefIdeal.nD Cert.PeerOutRefIdeal.τ).loc Cert.PeerOutRefIdeal.main_arg4) = m' ((c.tc : Thread Cert.PeerOutRefIdeal.nD Cert.PeerOutRefIdeal.τ).loc Cert.PeerOutRefIdeal.main_arg4))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v1)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v1) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v5) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2))

def preserves_PeerW_PeerWIdeal : Prop :=
  True

def algebraic_PeerWIdeal_PeerWRefIdeal [hPeerWIdeal : Cert.PeerWIdeal.Facts] [hPeerWRefIdeal : Cert.PeerWRefIdeal.Facts] : Prop :=
  ∀ (m : (ℓ : Loc Cert.PeerWIdeal.nD Cert.PeerWIdeal.τ Cert.PeerWIdeal.sig) → Buf (Elt Ideal) ℓ) (g : Dev Cert.PeerWIdeal.nD → PrngReg)
    (m' : (ℓ : Loc Cert.PeerWRefIdeal.nD Cert.PeerWRefIdeal.τ Cert.PeerWRefIdeal.sig) → Buf (Elt Ideal) ℓ) (g' : Dev Cert.PeerWRefIdeal.nD → PrngReg), Pre_PeerWIdeal m →
    (∀ c : Dev Cert.PeerWIdeal.nD,
      m' ((c.tc : Thread Cert.PeerWRefIdeal.nD Cert.PeerWRefIdeal.τ).loc Cert.PeerWRefIdeal.main_arg0) = m ((c.tc : Thread Cert.PeerWIdeal.nD Cert.PeerWIdeal.τ).loc Cert.PeerWIdeal.main_arg0)
      ∧ m' ((c.tc : Thread Cert.PeerWRefIdeal.nD Cert.PeerWRefIdeal.τ).loc Cert.PeerWRefIdeal.main_arg1) = m ((c.tc : Thread Cert.PeerWIdeal.nD Cert.PeerWIdeal.τ).loc Cert.PeerWIdeal.main_arg1)
      ∧ m' ((c.tc : Thread Cert.PeerWRefIdeal.nD Cert.PeerWRefIdeal.τ).loc Cert.PeerWRefIdeal.main_arg2) = m ((c.tc : Thread Cert.PeerWIdeal.nD Cert.PeerWIdeal.τ).loc Cert.PeerWIdeal.main_arg2)
      ∧ m' ((c.tc : Thread Cert.PeerWRefIdeal.nD Cert.PeerWRefIdeal.τ).loc Cert.PeerWRefIdeal.main_arg3) = m ((c.tc : Thread Cert.PeerWIdeal.nD Cert.PeerWIdeal.τ).loc Cert.PeerWIdeal.main_arg3)
      ∧ m' ((c.tc : Thread Cert.PeerWRefIdeal.nD Cert.PeerWRefIdeal.τ).loc Cert.PeerWRefIdeal.main_arg4) = m ((c.tc : Thread Cert.PeerWIdeal.nD Cert.PeerWIdeal.τ).loc Cert.PeerWIdeal.main_arg4)
      ∧ m' ((c.tc : Thread Cert.PeerWRefIdeal.nD Cert.PeerWRefIdeal.τ).loc Cert.PeerWRefIdeal.main_arg5) = m ((c.tc : Thread Cert.PeerWIdeal.nD Cert.PeerWIdeal.τ).loc Cert.PeerWIdeal.main_arg5)) →
    ∃ (v0 : (c : Dev Cert.PeerWIdeal.nD) → Buf (Elt Ideal) ((c.tc : Thread Cert.PeerWIdeal.nD Cert.PeerWIdeal.τ).loc Cert.PeerWIdeal.main_v16)),
      θ_run (Cert.PeerWIdeal.defs (F := Ideal)) (onTc (τ := Cert.PeerWIdeal.τ) (Cert.PeerWIdeal.main (F := Ideal))) ⟨m, fun _ => 0, g⟩ (fun r => ∀ c : Dev Cert.PeerWIdeal.nD,
          r.2.mem ((c.tc : Thread Cert.PeerWIdeal.nD Cert.PeerWIdeal.τ).loc Cert.PeerWIdeal.main_v16) = v0 c
          ∧ r.2.mem ((c.tc : Thread Cert.PeerWIdeal.nD Cert.PeerWIdeal.τ).loc Cert.PeerWIdeal.main_arg0) = m ((c.tc : Thread Cert.PeerWIdeal.nD Cert.PeerWIdeal.τ).loc Cert.PeerWIdeal.main_arg0)
          ∧ r.2.mem ((c.tc : Thread Cert.PeerWIdeal.nD Cert.PeerWIdeal.τ).loc Cert.PeerWIdeal.main_arg1) = m ((c.tc : Thread Cert.PeerWIdeal.nD Cert.PeerWIdeal.τ).loc Cert.PeerWIdeal.main_arg1)
          ∧ r.2.mem ((c.tc : Thread Cert.PeerWIdeal.nD Cert.PeerWIdeal.τ).loc Cert.PeerWIdeal.main_arg2) = m ((c.tc : Thread Cert.PeerWIdeal.nD Cert.PeerWIdeal.τ).loc Cert.PeerWIdeal.main_arg2)
          ∧ r.2.mem ((c.tc : Thread Cert.PeerWIdeal.nD Cert.PeerWIdeal.τ).loc Cert.PeerWIdeal.main_arg3) = m ((c.tc : Thread Cert.PeerWIdeal.nD Cert.PeerWIdeal.τ).loc Cert.PeerWIdeal.main_arg3)
          ∧ r.2.mem ((c.tc : Thread Cert.PeerWIdeal.nD Cert.PeerWIdeal.τ).loc Cert.PeerWIdeal.main_arg4) = m ((c.tc : Thread Cert.PeerWIdeal.nD Cert.PeerWIdeal.τ).loc Cert.PeerWIdeal.main_arg4)
          ∧ r.2.mem ((c.tc : Thread Cert.PeerWIdeal.nD Cert.PeerWIdeal.τ).loc Cert.PeerWIdeal.main_arg5) = m ((c.tc : Thread Cert.PeerWIdeal.nD Cert.PeerWIdeal.τ).loc Cert.PeerWIdeal.main_arg5))
      ∧ θ_run (Cert.PeerWRefIdeal.defs (F := Ideal)) (onTc (τ := Cert.PeerWRefIdeal.τ) (Cert.PeerWRefIdeal.main (F := Ideal))) ⟨m', fun _ => 0, g'⟩ (fun r => ∀ c : Dev Cert.PeerWRefIdeal.nD,
          r.2.mem ((c.tc : Thread Cert.PeerWRefIdeal.nD Cert.PeerWRefIdeal.τ).loc Cert.PeerWRefIdeal.main_v34) = v0 c
          ∧ r.2.mem ((c.tc : Thread Cert.PeerWRefIdeal.nD Cert.PeerWRefIdeal.τ).loc Cert.PeerWRefIdeal.main_arg0) = m' ((c.tc : Thread Cert.PeerWRefIdeal.nD Cert.PeerWRefIdeal.τ).loc Cert.PeerWRefIdeal.main_arg0)
          ∧ r.2.mem ((c.tc : Thread Cert.PeerWRefIdeal.nD Cert.PeerWRefIdeal.τ).loc Cert.PeerWRefIdeal.main_arg1) = m' ((c.tc : Thread Cert.PeerWRefIdeal.nD Cert.PeerWRefIdeal.τ).loc Cert.PeerWRefIdeal.main_arg1)
          ∧ r.2.mem ((c.tc : Thread Cert.PeerWRefIdeal.nD Cert.PeerWRefIdeal.τ).loc Cert.PeerWRefIdeal.main_arg2) = m' ((c.tc : Thread Cert.PeerWRefIdeal.nD Cert.PeerWRefIdeal.τ).loc Cert.PeerWRefIdeal.main_arg2)
          ∧ r.2.mem ((c.tc : Thread Cert.PeerWRefIdeal.nD Cert.PeerWRefIdeal.τ).loc Cert.PeerWRefIdeal.main_arg3) = m' ((c.tc : Thread Cert.PeerWRefIdeal.nD Cert.PeerWRefIdeal.τ).loc Cert.PeerWRefIdeal.main_arg3)
          ∧ r.2.mem ((c.tc : Thread Cert.PeerWRefIdeal.nD Cert.PeerWRefIdeal.τ).loc Cert.PeerWRefIdeal.main_arg4) = m' ((c.tc : Thread Cert.PeerWRefIdeal.nD Cert.PeerWRefIdeal.τ).loc Cert.PeerWRefIdeal.main_arg4)
          ∧ r.2.mem ((c.tc : Thread Cert.PeerWRefIdeal.nD Cert.PeerWRefIdeal.τ).loc Cert.PeerWRefIdeal.main_arg5) = m' ((c.tc : Thread Cert.PeerWRefIdeal.nD Cert.PeerWRefIdeal.τ).loc Cert.PeerWRefIdeal.main_arg5))

def preserves_Window_WindowIdeal : Prop :=
  IdealRules.named_const.Statement Cert.WindowIdeal.κ "mask" .f32 0xF149F2CA#32 ⊥

def algebraic_WindowIdeal_WindowRefIdeal_on_window_rows_pre_finite_window [hWindowIdeal : Cert.WindowIdeal.Facts] [hWindowRefIdeal : Cert.WindowRefIdeal.Facts] [hPre_finite_window : Cert.Pre_finite_window.Facts] [hOn_window_rows : Cert.On_window_rows.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal_finite_window m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)
      ∧ m' ((c.tc : Thread Cert.WindowRefIdeal.nD Cert.WindowRefIdeal.τ).loc Cert.WindowRefIdeal.main_arg2) = m ((c.tc : Thread Cert.WindowIdeal.nD Cert.WindowIdeal.τ).loc Cert.WindowIdeal.main_arg2)
      ∧ m' ((c.tc : Thread Cert.WindowRefIdeal.nD Cert.WindowRefIdeal.τ).loc Cert.WindowRefIdeal.main_arg3) = m ((c.tc : Thread Cert.WindowIdeal.nD Cert.WindowIdeal.τ).loc Cert.WindowIdeal.main_arg3)) →
    ∃ (v0 : (c : Dev Cert.WindowIdeal.nD) → Buf (Elt Ideal) ((c.tc : Thread Cert.WindowIdeal.nD Cert.WindowIdeal.τ).loc Cert.WindowIdeal.main_v25)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          (∀ i : (⟨2, ![16640, 1024]⟩ : Shape).Idx, (Cert.On_window_rows.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2)) (m ((c.tc : Thread Cert.WindowIdeal.nD Cert.WindowIdeal.τ).loc Cert.WindowIdeal.main_arg3))) i = 1#1 → r.2.mem ((c.tc : Thread Cert.WindowIdeal.nD Cert.WindowIdeal.τ).loc Cert.WindowIdeal.main_v25) i = v0 c i)
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
          ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          (∀ i : (⟨2, ![16640, 1024]⟩ : Shape).Idx, (Cert.On_window_rows.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2)) (m ((c.tc : Thread Cert.WindowIdeal.nD Cert.WindowIdeal.τ).loc Cert.WindowIdeal.main_arg3))) i = 1#1 → r.2.mem ((c.tc : Thread Cert.WindowRefIdeal.nD Cert.WindowRefIdeal.τ).loc Cert.WindowRefIdeal.main_v86) i = v0 c i)
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1)
          ∧ r.2.mem ((c.tc : Thread Cert.WindowRefIdeal.nD Cert.WindowRefIdeal.τ).loc Cert.WindowRefIdeal.main_arg2) = m' ((c.tc : Thread Cert.WindowRefIdeal.nD Cert.WindowRefIdeal.τ).loc Cert.WindowRefIdeal.main_arg2)
          ∧ r.2.mem ((c.tc : Thread Cert.WindowRefIdeal.nD Cert.WindowRefIdeal.τ).loc Cert.WindowRefIdeal.main_arg3) = m' ((c.tc : Thread Cert.WindowRefIdeal.nD Cert.WindowRefIdeal.τ).loc Cert.WindowRefIdeal.main_arg3))

def Claim : Prop :=
  ∃ (hGlobal : Cert.Global.Facts) (hGlobalIdeal : Cert.GlobalIdeal.Facts) (hGlobalRefIdeal : Cert.GlobalRefIdeal.Facts) (hInSsd : Cert.InSsd.Facts) (hInSsdIdeal : Cert.InSsdIdeal.Facts) (hInSsdRefIdeal : Cert.InSsdRefIdeal.Facts) (hInAttn : Cert.InAttn.Facts) (hInAttnIdeal : Cert.InAttnIdeal.Facts) (hInAttnRefIdeal : Cert.InAttnRefIdeal.Facts) (hOut : Cert.Out.Facts) (hOutIdeal : Cert.OutIdeal.Facts) (hOutRefIdeal : Cert.OutRefIdeal.Facts) (hQuery : Cert.Query.Facts) (hQueryIdeal : Cert.QueryIdeal.Facts) (hQueryRefIdeal : Cert.QueryRefIdeal.Facts) (hFinal : Cert.Final.Facts) (hFinalIdeal : Cert.FinalIdeal.Facts) (hFinalRefIdeal : Cert.FinalRefIdeal.Facts) (hNorm : Cert.Norm.Facts) (hNormIdeal : Cert.NormIdeal.Facts) (hNormRefIdeal : Cert.NormRefIdeal.Facts) (hPeerOut : Cert.PeerOut.Facts) (hPeerOutIdeal : Cert.PeerOutIdeal.Facts) (hPeerOutRefIdeal : Cert.PeerOutRefIdeal.Facts) (hMods : Cert.Mods.Facts) (hModsIdeal : Cert.ModsIdeal.Facts) (hModsRefIdeal : Cert.ModsRefIdeal.Facts) (hPeerW : Cert.PeerW.Facts) (hPeerWIdeal : Cert.PeerWIdeal.Facts) (hPeerWRefIdeal : Cert.PeerWRefIdeal.Facts) (hWindow : Cert.Window.Facts) (hWindowIdeal : Cert.WindowIdeal.Facts) (hWindowRefIdeal : Cert.WindowRefIdeal.Facts) (hPre_finite_scores : Cert.Pre_finite_scores.Facts) (hPre_finite_window : Cert.Pre_finite_window.Facts) (hOn_latent_rows : Cert.On_latent_rows.Facts) (hOn_window_rows : Cert.On_window_rows.Facts),
    quiescent_Global (hGlobal := hGlobal)
    ∧ quiescent_GlobalIdeal (hGlobalIdeal := hGlobalIdeal)
    ∧ quiescent_GlobalIdeal_pre_finite_scores (hGlobalIdeal := hGlobalIdeal) (hPre_finite_scores := hPre_finite_scores)
    ∧ quiescent_GlobalRefIdeal (hGlobalRefIdeal := hGlobalRefIdeal)
    ∧ quiescent_GlobalRefIdeal_pre_finite_scores (hGlobalRefIdeal := hGlobalRefIdeal) (hPre_finite_scores := hPre_finite_scores)
    ∧ quiescent_InSsd (hInSsd := hInSsd)
    ∧ quiescent_InSsdIdeal (hInSsdIdeal := hInSsdIdeal)
    ∧ quiescent_InSsdRefIdeal (hInSsdRefIdeal := hInSsdRefIdeal)
    ∧ quiescent_InAttn (hInAttn := hInAttn)
    ∧ quiescent_InAttnIdeal (hInAttnIdeal := hInAttnIdeal)
    ∧ quiescent_InAttnRefIdeal (hInAttnRefIdeal := hInAttnRefIdeal)
    ∧ quiescent_Out (hOut := hOut)
    ∧ quiescent_OutIdeal (hOutIdeal := hOutIdeal)
    ∧ quiescent_OutRefIdeal (hOutRefIdeal := hOutRefIdeal)
    ∧ quiescent_Query (hQuery := hQuery)
    ∧ quiescent_QueryIdeal (hQueryIdeal := hQueryIdeal)
    ∧ quiescent_QueryRefIdeal (hQueryRefIdeal := hQueryRefIdeal)
    ∧ quiescent_Final (hFinal := hFinal)
    ∧ quiescent_FinalIdeal (hFinalIdeal := hFinalIdeal)
    ∧ quiescent_FinalRefIdeal (hFinalRefIdeal := hFinalRefIdeal)
    ∧ quiescent_Norm (hNorm := hNorm)
    ∧ quiescent_NormIdeal (hNormIdeal := hNormIdeal)
    ∧ quiescent_NormRefIdeal (hNormRefIdeal := hNormRefIdeal)
    ∧ quiescent_PeerOut (hPeerOut := hPeerOut)
    ∧ quiescent_PeerOutIdeal (hPeerOutIdeal := hPeerOutIdeal)
    ∧ quiescent_PeerOutRefIdeal (hPeerOutRefIdeal := hPeerOutRefIdeal)
    ∧ quiescent_Mods (hMods := hMods)
    ∧ quiescent_ModsIdeal (hModsIdeal := hModsIdeal)
    ∧ quiescent_ModsRefIdeal (hModsRefIdeal := hModsRefIdeal)
    ∧ quiescent_PeerW (hPeerW := hPeerW)
    ∧ quiescent_PeerWIdeal (hPeerWIdeal := hPeerWIdeal)
    ∧ quiescent_PeerWRefIdeal (hPeerWRefIdeal := hPeerWRefIdeal)
    ∧ quiescent_Window (hWindow := hWindow)
    ∧ quiescent_WindowIdeal (hWindowIdeal := hWindowIdeal)
    ∧ quiescent_WindowIdeal_pre_finite_window (hWindowIdeal := hWindowIdeal) (hPre_finite_window := hPre_finite_window)
    ∧ quiescent_WindowRefIdeal (hWindowRefIdeal := hWindowRefIdeal)
    ∧ quiescent_WindowRefIdeal_pre_finite_window (hWindowRefIdeal := hWindowRefIdeal) (hPre_finite_window := hPre_finite_window)
    ∧ preserves_Global_GlobalIdeal
    ∧ algebraic_GlobalIdeal_GlobalRefIdeal_on_latent_rows_pre_finite_scores (hGlobalIdeal := hGlobalIdeal) (hGlobalRefIdeal := hGlobalRefIdeal) (hPre_finite_scores := hPre_finite_scores) (hOn_latent_rows := hOn_latent_rows)
    ∧ preserves_InSsd_InSsdIdeal
    ∧ algebraic_InSsdIdeal_InSsdRefIdeal (hInSsdIdeal := hInSsdIdeal) (hInSsdRefIdeal := hInSsdRefIdeal)
    ∧ preserves_InAttn_InAttnIdeal
    ∧ algebraic_InAttnIdeal_InAttnRefIdeal (hInAttnIdeal := hInAttnIdeal) (hInAttnRefIdeal := hInAttnRefIdeal)
    ∧ preserves_Out_OutIdeal
    ∧ algebraic_OutIdeal_OutRefIdeal (hOutIdeal := hOutIdeal) (hOutRefIdeal := hOutRefIdeal)
    ∧ preserves_Query_QueryIdeal
    ∧ algebraic_QueryIdeal_QueryRefIdeal (hQueryIdeal := hQueryIdeal) (hQueryRefIdeal := hQueryRefIdeal)
    ∧ preserves_Final_FinalIdeal
    ∧ algebraic_FinalIdeal_FinalRefIdeal (hFinalIdeal := hFinalIdeal) (hFinalRefIdeal := hFinalRefIdeal)
    ∧ preserves_Norm_NormIdeal
    ∧ algebraic_NormIdeal_NormRefIdeal (hNormIdeal := hNormIdeal) (hNormRefIdeal := hNormRefIdeal)
    ∧ preserves_PeerOut_PeerOutIdeal
    ∧ algebraic_PeerOutIdeal_PeerOutRefIdeal (hPeerOutIdeal := hPeerOutIdeal) (hPeerOutRefIdeal := hPeerOutRefIdeal)
    ∧ preserves_Mods_ModsIdeal
    ∧ algebraic_ModsIdeal_ModsRefIdeal (hModsIdeal := hModsIdeal) (hModsRefIdeal := hModsRefIdeal)
    ∧ preserves_PeerW_PeerWIdeal
    ∧ algebraic_PeerWIdeal_PeerWRefIdeal (hPeerWIdeal := hPeerWIdeal) (hPeerWRefIdeal := hPeerWRefIdeal)
    ∧ preserves_Window_WindowIdeal
    ∧ algebraic_WindowIdeal_WindowRefIdeal_on_window_rows_pre_finite_window (hWindowIdeal := hWindowIdeal) (hWindowRefIdeal := hWindowRefIdeal) (hPre_finite_window := hPre_finite_window) (hOn_window_rows := hOn_window_rows)
-- ==== On_latent_rows.lean ====
abbrev S16384x2x4x128 : Shape := ⟨4, ![16384, 2, 4, 128]⟩
abbrev S16640x2x128 : Shape := ⟨3, ![16640, 2, 128]⟩
abbrev S16640x1024 : Shape := ⟨2, ![16640, 1024]⟩
abbrev S_ : Shape := ⟨0, ![]⟩

class Facts : Prop where
  bcast_S_S16640x1024 : S_.BroadcastsInDim S16640x1024 (![] : Fin 0 → Fin S16640x1024.rank)

variable [Facts]

def fn {F : FTy → Type} [FloatOps F] (main_arg0 : FVec F S16384x2x4x128 .f32) (main_arg1 : FVec F S16640x2x128 .f32) (main_arg2 : FVec F S16640x2x128 .f32) : IVec S16640x1024 1 :=
  let main_v0 : IVec S16640x1024 32 := iotaInDim S16640x1024 32 0
  let main_c : IVec S_ 32 := constantI S_ 32 256#32
  let main_v1 : IVec S16640x1024 32 := broadcastInDim S16640x1024 ![] bcast_S_S16640x1024 main_c
  let main_v2 : IVec S16640x1024 1 := cmpi .sge main_v0 main_v1
  main_v2
-- ==== On_window_rows.lean ====
abbrev S16384x2x4x128 : Shape := ⟨4, ![16384, 2, 4, 128]⟩
abbrev S16640x2x128 : Shape := ⟨3, ![16640, 2, 128]⟩
abbrev S8 : Shape := ⟨1, ![8]⟩
abbrev S16640x1024 : Shape := ⟨2, ![16640, 1024]⟩
abbrev S_ : Shape := ⟨0, ![]⟩

class Facts : Prop where
  bcast_S_S16640x1024 : S_.BroadcastsInDim S16640x1024 (![] : Fin 0 → Fin S16640x1024.rank)

variable [Facts]

def fn {F : FTy → Type} [FloatOps F] (main_arg0 : FVec F S16384x2x4x128 .f32) (main_arg1 : FVec F S16640x2x128 .f32) (main_arg2 : FVec F S16640x2x128 .f32) (main_arg3 : FVec F S8 .f32) : IVec S16640x1024 1 :=
  let main_v0 : IVec S16640x1024 32 := iotaInDim S16640x1024 32 0
  let main_c : IVec S_ 32 := constantI S_ 32 256#32
  let main_v1 : IVec S16640x1024 32 := broadcastInDim S16640x1024 ![] bcast_S_S16640x1024 main_c
  let main_v2 : IVec S16640x1024 1 := cmpi .sge main_v0 main_v1
  main_v2
-- ==== Pre_finite_scores.lean ====
abbrev S16384x2x4x128 : Shape := ⟨4, ![16384, 2, 4, 128]⟩
abbrev S16640x2x128 : Shape := ⟨3, ![16640, 2, 128]⟩
abbrev S_ : Shape := ⟨0, ![]⟩

class Facts : Prop where
  bcast_S_S16384x2x4x128 : S_.BroadcastsInDim S16384x2x4x128 (![] : Fin 0 → Fin S16384x2x4x128.rank)
  reducesTo_S16384x2x4x128_S_d0_1_2_3 : S16384x2x4x128.ReducesTo [0, 1, 2, 3] S_
  h_S_ : 0 < S_.numel
  bcast_S_S16640x2x128 : S_.BroadcastsInDim S16640x2x128 (![] : Fin 0 → Fin S16640x2x128.rank)
  reducesTo_S16640x2x128_S_d0_1_2 : S16640x2x128.ReducesTo [0, 1, 2] S_

variable [Facts]

def fn {F : FTy → Type} [FloatOps F] (main_arg0 : FVec F S16384x2x4x128 .f32) (main_arg1 : FVec F S16640x2x128 .f32) (main_arg2 : FVec F S16640x2x128 .f32) : IVec S_ 1 :=
  let main_v0 : FVec F S16384x2x4x128 .f32 := Host.absf main_arg0
  let main_cst : FVec F S_ .f32 := constant S_ .f32 0x7F800000#32
  let main_v1 : FVec F S16384x2x4x128 .f32 := broadcastInDim S16384x2x4x128 ![] bcast_S_S16384x2x4x128 main_cst
  let main_v2 : IVec S16384x2x4x128 1 := cmpf .olt main_v0 main_v1
  let main_c : IVec S_ 1 := constantI S_ 1 1#1
  let main_v3 : IVec S_ 1 := (fun x v => Host.reduce IntOp.andi x v reducesTo_S16384x2x4x128_S_d0_1_2_3 h_S_) main_v2 main_c
  let main_v4 : FVec F S16640x2x128 .f32 := Host.absf main_arg1
  let main_cst_0 : FVec F S_ .f32 := constant S_ .f32 0x7F800000#32
  let main_v5 : FVec F S16640x2x128 .f32 := broadcastInDim S16640x2x128 ![] bcast_S_S16640x2x128 main_cst_0
  let main_v6 : IVec S16640x2x128 1 := cmpf .olt main_v4 main_v5
  let main_c_1 : IVec S_ 1 := constantI S_ 1 1#1
  let main_v7 : IVec S_ 1 := (fun x v => Host.reduce IntOp.andi x v reducesTo_S16640x2x128_S_d0_1_2 h_S_) main_v6 main_c_1
  let main_v8 : IVec S_ 1 := andi main_v3 main_v7
  main_v8
-- ==== Pre_finite_window.lean ====
abbrev S16384x2x4x128 : Shape := ⟨4, ![16384, 2, 4, 128]⟩
abbrev S16640x2x128 : Shape := ⟨3, ![16640, 2, 128]⟩
abbrev S8 : Shape := ⟨1, ![8]⟩
abbrev S_ : Shape := ⟨0, ![]⟩

class Facts : Prop where
  bcast_S_S16384x2x4x128 : S_.BroadcastsInDim S16384x2x4x128 (![] : Fin 0 → Fin S16384x2x4x128.rank)
  reducesTo_S16384x2x4x128_S_d0_1_2_3 : S16384x2x4x128.ReducesTo [0, 1, 2, 3] S_
  h_S_ : 0 < S_.numel
  bcast_S_S16640x2x128 : S_.BroadcastsInDim S16640x2x128 (![] : Fin 0 → Fin S16640x2x128.rank)
  reducesTo_S16640x2x128_S_d0_1_2 : S16640x2x128.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S16384x2x4x128 .f32) (main_arg1 : FVec F S16640x2x128 .f32) (main_arg2 : FVec F S16640x2x128 .f32) (main_arg3 : FVec F S8 .f32) : IVec S_ 1 :=
  let main_v0 : FVec F S16384x2x4x128 .f32 := Host.absf main_arg0
  let main_cst : FVec F S_ .f32 := constant S_ .f32 0x7F800000#32
  let main_v1 : FVec F S16384x2x4x128 .f32 := broadcastInDim S16384x2x4x128 ![] bcast_S_S16384x2x4x128 main_cst
  let main_v2 : IVec S16384x2x4x128 1 := cmpf .olt main_v0 main_v1
  let main_c : IVec S_ 1 := constantI S_ 1 1#1
  let main_v3 : IVec S_ 1 := (fun x v => Host.reduce IntOp.andi x v reducesTo_S16384x2x4x128_S_d0_1_2_3 h_S_) main_v2 main_c
  let main_v4 : FVec F S16640x2x128 .f32 := Host.absf main_arg1
  let main_cst_0 : FVec F S_ .f32 := constant S_ .f32 0x7F800000#32
  let main_v5 : FVec F S16640x2x128 .f32 := broadcastInDim S16640x2x128 ![] bcast_S_S16640x2x128 main_cst_0
  let main_v6 : IVec S16640x2x128 1 := cmpf .olt main_v4 main_v5
  let main_c_1 : IVec S_ 1 := constantI S_ 1 1#1
  let main_v7 : IVec S_ 1 := (fun x v => Host.reduce IntOp.andi x v reducesTo_S16640x2x128_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Global.lean ====
abbrev S16384x2x4x128 : Shape := ⟨4, ![16384, 2, 4, 128]⟩
abbrev S16640x2x128 : Shape := ⟨3, ![16640, 2, 128]⟩
abbrev S_ : Shape := ⟨0, ![]⟩
abbrev S16384x1024 : Shape := ⟨2, ![16384, 1024]⟩
abbrev S256x1024 : Shape := ⟨2, ![256, 1024]⟩
abbrev S16640x1024 : Shape := ⟨2, ![16640, 1024]⟩
abbrev S16640x1536 : Shape := ⟨2, ![16640, 1536]⟩
abbrev S16640x256 : Shape := ⟨2, ![16640, 256]⟩
abbrev S16640x3072 : Shape := ⟨2, ![16640, 3072]⟩
abbrev S65x256x2x128 : Shape := ⟨4, ![65, 256, 2, 128]⟩
abbrev S2x65x128x256 : Shape := ⟨4, ![2, 65, 128, 256]⟩
abbrev S2x65x1x256 : Shape := ⟨4, ![2, 65, 1, 256]⟩
abbrev S2x65x15x256 : Shape := ⟨4, ![2, 65, 15, 256]⟩
abbrev S2x65x144x256 : Shape := ⟨4, ![2, 65, 144, 256]⟩
abbrev S256x512 : Shape := ⟨2, ![256, 512]⟩
abbrev S16640x128 : Shape := ⟨2, ![16640, 128]⟩
abbrev S1x65x144x256 : Shape := ⟨4, ![1, 65, 144, 256]⟩
abbrev S4x144x256 : Shape := ⟨3, ![4, 144, 256]⟩
abbrev S256x128 : Shape := ⟨2, ![256, 128]⟩
abbrev S1x256 : Shape := ⟨2, ![1, 256]⟩
abbrev S256x256 : Shape := ⟨2, ![256, 256]⟩
abbrev S256 : Shape := ⟨1, ![256]⟩
abbrev S1x1x144x256 : Shape := ⟨4, ![1, 1, 144, 256]⟩
abbrev S144x256 : Shape := ⟨2, ![144, 256]⟩
abbrev S1x144x256 : Shape := ⟨3, ![1, 144, 256]⟩
abbrev S128x256 : Shape := ⟨2, ![128, 256]⟩

abbrev nBuf : Space → Nat
  | .hbm => 29
  | .vmem => 9
  | .smem => 0
  | _ => 0

abbrev bufTy : (tb : Table) → Fin (tcTables nBuf tb) → BufTy
  | .hbm, ⟨0, _⟩ => ⟨S16384x2x4x128, .f32⟩
  | .hbm, ⟨1, _⟩ => ⟨S16640x2x128, .f32⟩
  | .hbm, ⟨2, _⟩ => ⟨S16640x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x2x4x128, .f32⟩
  | .hbm, ⟨9, _⟩ => ⟨S16384x2x4x128, .f32⟩
  | .hbm, ⟨10, _⟩ => ⟨S16384x1024, .f32⟩
  | .hbm, ⟨11, _⟩ => ⟨S_, .f32⟩
  | .hbm, ⟨12, _⟩ => ⟨S256x1024, .f32⟩
  | .hbm, ⟨13, _⟩ => ⟨S16640x1024, .f32⟩
  | .hbm, ⟨14, _⟩ => ⟨S_, .f32⟩
  | .hbm, ⟨15, _⟩ => ⟨S16640x1536, .f32⟩
  | .hbm, ⟨16, _⟩ => ⟨S16640x256, .f32⟩
  | .hbm, ⟨17, _⟩ => ⟨S16640x256, .f32⟩
  | .hbm, ⟨18, _⟩ => ⟨S16640x3072, .f32⟩
  | .hbm, ⟨19, _⟩ => ⟨S16640x3072, .bf16⟩
  | .hbm, ⟨20, _⟩ => ⟨S65x256x2x128, .f32⟩
  | .hbm, ⟨21, _⟩ => ⟨S2x65x128x256, .f32⟩
  | .hbm, ⟨22, _⟩ => ⟨S_, .f32⟩
  | .hbm, ⟨23, _⟩ => ⟨S2x65x1x256, .f32⟩
  | .hbm, ⟨24, _⟩ => ⟨S_, .f32⟩
  | .hbm, ⟨25, _⟩ => ⟨S2x65x15x256, .f32⟩
  | .hbm, ⟨26, _⟩ => ⟨S2x65x144x256, .f32⟩
  | .hbm, ⟨27, _⟩ => ⟨S2x65x144x256, .bf16⟩
  | .hbm, ⟨28, _⟩ => ⟨S16640x1024, .bf16⟩
  | .local _ .vmem, ⟨0, _⟩ => ⟨S256x512, .bf16⟩
  | .local _ .vmem, ⟨1, _⟩ => ⟨S256x512, .bf16⟩
  | .local _ .vmem, ⟨2, _⟩ => ⟨S16640x128, .bf16⟩
  | .local _ .vmem, ⟨3, _⟩ => ⟨S16640x128, .bf16⟩
  | .local _ .vmem, ⟨4, _⟩ => ⟨S1x65x144x256, .bf16⟩
  | .local _ .vmem, ⟨5, _⟩ => ⟨S1x65x144x256, .bf16⟩
  | .local _ .vmem, ⟨6, _⟩ => ⟨S256x512, .bf16⟩
  | .local _ .vmem, ⟨7, _⟩ => ⟨S256x512, .bf16⟩
  | .local _ .vmem, ⟨8, _⟩ => ⟨S4x144x256, .f32⟩
  | _, _ => ⟨S16384x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32 : BitVec 32 := 0#32
  let c5_i32 : BitVec 32 := 5#32
  let v16 : BitVec 32 := Scalar.addi c0_i32 c5_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32 : BitVec 32 := 13#32
  let v54 : BitVec 32 := Scalar.muli arg7 c13_i32
  let c0_i32_29 : BitVec 32 := 0#32
  let v55 : BitVec 32 := Scalar.addi v54 c0_i32_29
  let c256_i32 : BitVec 32 := 256#32
  let v56 : BitVec 32 := Scalar.muli v55 c256_i32
  v56
def k0_off1 (k0_t1 : Fin k0_t1_loop.trips) (c0_i32_29 : BitVec 32) : Fin 2 → Nat :=
  let c0_i32 : BitVec 32 := 0#32
  let c1_i32 : BitVec 32 := 1#32
  let arg7 : BitVec 32 := Scf.iv c0_i32 c1_i32 k0_t1
  let c13_i32 : BitVec 32 := 13#32
  let v54 : BitVec 32 := Scalar.muli arg7 c13_i32
  let v55 : BitVec 32 := Scalar.addi v54 c0_i32_29
  let c256_i32 : BitVec 32 := 256#32
  let v56 : BitVec 32 := Scalar.muli v55 c256_i32
  let v57 : BitVec 32 := v56
  let v58 : Index := Scalar.indexCast v57
  let c0_30 : Index := 0#32
  ![v58.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_35 : BitVec 32 := 13#32
  let v65 : BitVec 32 := Scalar.muli arg7 c13_i32_35
  let c1_i32_36 : BitVec 32 := 1#32
  let v66 : BitVec 32 := Scalar.addi v65 c1_i32_36
  let c256_i32_37 : BitVec 32 := 256#32
  let v67 : BitVec 32 := Scalar.muli v66 c256_i32_37
  v67
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_47 : BitVec 32 := 13#32
  let v112 : BitVec 32 := Scalar.muli arg7 c13_i32_47
  let c2_i32 : BitVec 32 := 2#32
  let v113 : BitVec 32 := Scalar.addi v112 c2_i32
  let c256_i32_48 : BitVec 32 := 256#32
  let v114 : BitVec 32 := Scalar.muli v113 c256_i32_48
  v114
def k0_off2 (k0_t1 : Fin k0_t1_loop.trips) (c0_i32_55 : BitVec 32) : Fin 4 → Nat :=
  let c0_56 : Index := 0#32
  let c0_i32 : BitVec 32 := 0#32
  let c1_i32 : BitVec 32 := 1#32
  let arg7 : BitVec 32 := Scf.iv c0_i32 c1_i32 k0_t1
  let c13_i32_54 : BitVec 32 := 13#32
  let v123 : BitVec 32 := Scalar.muli arg7 c13_i32_54
  let v124 : BitVec 32 := Scalar.addi v123 c0_i32_55
  let v125 : Index := Scalar.indexCast v124
  let c0_57 : Index := 0#32
  let c0_58 : Index := 0#32
  ![0, v125.toNat, 0, 0]
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_91 : BitVec 32 := 13#32
  let v200 : BitVec 32 := Scalar.muli arg7 c13_i32_91
  let c3_i32 : BitVec 32 := 3#32
  let v201 : BitVec 32 := Scalar.addi v200 c3_i32
  let c256_i32_92 : BitVec 32 := 256#32
  let v202 : BitVec 32 := Scalar.muli v201 c256_i32_92
  v202
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_135 : BitVec 32 := 13#32
  let v288 : BitVec 32 := Scalar.muli arg7 c13_i32_135
  let c4_i32 : BitVec 32 := 4#32
  let v289 : BitVec 32 := Scalar.addi v288 c4_i32
  let c256_i32_136 : BitVec 32 := 256#32
  let v290 : BitVec 32 := Scalar.muli v289 c256_i32_136
  v290
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_179 : BitVec 32 := 13#32
  let v376 : BitVec 32 := Scalar.muli arg7 c13_i32_179
  let c5_i32_180 : BitVec 32 := 5#32
  let v377 : BitVec 32 := Scalar.addi v376 c5_i32_180
  let c256_i32_181 : BitVec 32 := 256#32
  let v378 : BitVec 32 := Scalar.muli v377 c256_i32_181
  v378
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_224 : BitVec 32 := 13#32
  let v464 : BitVec 32 := Scalar.muli arg7 c13_i32_224
  let c6_i32 : BitVec 32 := 6#32
  let v465 : BitVec 32 := Scalar.addi v464 c6_i32
  let c256_i32_225 : BitVec 32 := 256#32
  let v466 : BitVec 32 := Scalar.muli v465 c256_i32_225
  v466
def k0_mult8 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_268 : BitVec 32 := 13#32
  let v552 : BitVec 32 := Scalar.muli arg7 c13_i32_268
  let c7_i32 : BitVec 32 := 7#32
  let v553 : BitVec 32 := Scalar.addi v552 c7_i32
  let c256_i32_269 : BitVec 32 := 256#32
  let v554 : BitVec 32 := Scalar.muli v553 c256_i32_269
  v554
def k0_mult9 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_312 : BitVec 32 := 13#32
  let v640 : BitVec 32 := Scalar.muli arg7 c13_i32_312
  let c8_i32 : BitVec 32 := 8#32
  let v641 : BitVec 32 := Scalar.addi v640 c8_i32
  let c256_i32_313 : BitVec 32 := 256#32
  let v642 : BitVec 32 := Scalar.muli v641 c256_i32_313
  v642
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_356 : BitVec 32 := 13#32
  let v728 : BitVec 32 := Scalar.muli arg7 c13_i32_356
  let c9_i32 : BitVec 32 := 9#32
  let v729 : BitVec 32 := Scalar.addi v728 c9_i32
  let c256_i32_357 : BitVec 32 := 256#32
  let v730 : BitVec 32 := Scalar.muli v729 c256_i32_357
  v730
def k0_mult11 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_400 : BitVec 32 := 13#32
  let v816 : BitVec 32 := Scalar.muli arg7 c13_i32_400
  let c10_i32 : BitVec 32 := 10#32
  let v817 : BitVec 32 := Scalar.addi v816 c10_i32
  let c256_i32_401 : BitVec 32 := 256#32
  let v818 : BitVec 32 := Scalar.muli v817 c256_i32_401
  v818
def k0_mult12 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_444 : BitVec 32 := 13#32
  let v904 : BitVec 32 := Scalar.muli arg7 c13_i32_444
  let c11_i32 : BitVec 32 := 11#32
  let v905 : BitVec 32 := Scalar.addi v904 c11_i32
  let c256_i32_445 : BitVec 32 := 256#32
  let v906 : BitVec 32 := Scalar.muli v905 c256_i32_445
  v906
def k0_mult13 (k0_t1 : Fin k0_t1_loop.trips) : BitVec 32 :=
  let c0_i32 : BitVec 32 := 0#32
  let c1_i32 : BitVec 32 := 1#32
  let arg7 : BitVec 32 := Scf.iv c0_i32 c1_i32 k0_t1
  let c13_i32_488 : BitVec 32 := 13#32
  let v992 : BitVec 32 := Scalar.muli arg7 c13_i32_488
  let c12_i32 : BitVec 32 := 12#32
  let v993 : BitVec 32 := Scalar.addi v992 c12_i32
  let c256_i32_489 : BitVec 32 := 256#32
  let v994 : BitVec 32 := Scalar.muli v993 c256_i32_489
  v994
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.addi c3_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![v0.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x65x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GlobalRefIdeal.lean ====
abbrev S16384x2x4x128 : Shape := ⟨4, ![16384, 2, 4, 128]⟩
abbrev S16640x2x128 : Shape := ⟨3, ![16640, 2, 128]⟩
abbrev S2x16640x16384x4 : Shape := ⟨4, ![2, 16640, 16384, 4]⟩
abbrev S2x4x16384x16640 : Shape := ⟨4, ![2, 4, 16384, 16640]⟩
abbrev S_ : Shape := ⟨0, ![]⟩
abbrev S2x4x16384 : Shape := ⟨3, ![2, 4, 16384]⟩
abbrev S2x4x16384x1 : Shape := ⟨4, ![2, 4, 16384, 1]⟩
abbrev S2x128x4x16384 : Shape := ⟨4, ![2, 128, 4, 16384]⟩
abbrev S16384x1024 : Shape := ⟨2, ![16384, 1024]⟩
abbrev S256x1024 : Shape := ⟨2, ![256, 1024]⟩
abbrev S16640x1024 : Shape := ⟨2, ![16640, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x2x4x128, .f32⟩
  | .hbm, ⟨1, _⟩ => ⟨S16640x2x128, .f32⟩
  | .hbm, ⟨2, _⟩ => ⟨S16640x2x128, .f32⟩
  | .hbm, ⟨3, _⟩ => ⟨S2x16640x16384x4, .f32⟩
  | .hbm, ⟨4, _⟩ => ⟨S2x4x16384x16640, .f32⟩
  | .hbm, ⟨5, _⟩ => ⟨S_, .f32⟩
  | .hbm, ⟨6, _⟩ => ⟨S_, .f32⟩
  | .hbm, ⟨7, _⟩ => ⟨S2x4x16384x16640, .f32⟩
  | .hbm, ⟨8, _⟩ => ⟨S2x4x16384x16640, .f32⟩
  | .hbm, ⟨9, _⟩ => ⟨S_, .f32⟩
  | .hbm, ⟨10, _⟩ => ⟨S2x4x16384, .f32⟩
  | .hbm, ⟨11, _⟩ => ⟨S_, .f32⟩
  | .hbm, ⟨12, _⟩ => ⟨S2x4x16384, .f32⟩
  | .hbm, ⟨13, _⟩ => ⟨S2x4x16384, .f32⟩
  | .hbm, ⟨14, _⟩ => ⟨S2x4x16384x1, .f32⟩
  | .hbm, ⟨15, _⟩ => ⟨S2x4x16384x16640, .f32⟩
  | .hbm, ⟨16, _⟩ => ⟨S2x4x16384x16640, .f32⟩
  | .hbm, ⟨17, _⟩ => ⟨S2x4x16384x16640, .f32⟩
  | .hbm, ⟨18, _⟩ => ⟨S_, .f32⟩
  | .hbm, ⟨19, _⟩ => ⟨S2x4x16384, .f32⟩
  | .hbm, ⟨20, _⟩ => ⟨S2x4x16384x1, .f32⟩
  | .hbm, ⟨21, _⟩ => ⟨S2x4x16384x16640, .f32⟩
  | .hbm, ⟨22, _⟩ => ⟨S2x4x16384x16640, .f32⟩
  | .hbm, ⟨23, _⟩ => ⟨S2x128x4x16384, .f32⟩
  | .hbm, ⟨24, _⟩ => ⟨S16384x2x4x128, .f32⟩
  | .hbm, ⟨25, _⟩ => ⟨S16384x1024, .f32⟩
  | .hbm, ⟨26, _⟩ => ⟨S_, .f32⟩
  | .hbm, ⟨27, _⟩ => ⟨S256x1024, .f32⟩
  | .hbm, ⟨28, _⟩ => ⟨S16640x1024, .f32⟩
  | .hbm, ⟨29, _⟩ => ⟨S16640x1024, .bf16⟩
  | _, _ => ⟨S16384x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== InSsd.lean ====
abbrev S16640x4096 : Shape := ⟨2, ![16640, 4096]⟩
abbrev S4096x9280 : Shape := ⟨2, ![4096, 9280]⟩
abbrev S4096x4096 : Shape := ⟨2, ![4096, 4096]⟩
abbrev S4096x2048 : Shape := ⟨2, ![4096, 2048]⟩
abbrev S4096x6144 : Shape := ⟨2, ![4096, 6144]⟩
abbrev S16640x6144 : Shape := ⟨2, ![16640, 6144]⟩
abbrev S640x4096 : Shape := ⟨2, ![640, 4096]⟩
abbrev S4096x512 : Shape := ⟨2, ![4096, 512]⟩
abbrev S640x512 : Shape := ⟨2, ![640, 512]⟩

abbrev nBuf : Space → Nat
  | .hbm => 8
  | .vmem => 6
  | .smem => 0
  | _ => 0

abbrev bufTy : (tb : Table) → Fin (tcTables nBuf tb) → BufTy
  | .hbm, ⟨0, _⟩ => ⟨S16640x4096, .f32⟩
  | .hbm, ⟨1, _⟩ => ⟨S4096x9280, .f32⟩
  | .hbm, ⟨2, _⟩ => ⟨S4096x4096, .f32⟩
  | .hbm, ⟨3, _⟩ => ⟨S4096x2048, .f32⟩
  | .hbm, ⟨4, _⟩ => ⟨S4096x6144, .f32⟩
  | .hbm, ⟨5, _⟩ => ⟨S4096x6144, .bf16⟩
  | .hbm, ⟨6, _⟩ => ⟨S16640x4096, .bf16⟩
  | .hbm, ⟨7, _⟩ => ⟨S16640x6144, .f32⟩
  | .local _ .vmem, ⟨0, _⟩ => ⟨S640x4096, .bf16⟩
  | .local _ .vmem, ⟨1, _⟩ => ⟨S640x4096, .bf16⟩
  | .local _ .vmem, ⟨2, _⟩ => ⟨S4096x512, .bf16⟩
  | .local _ .vmem, ⟨3, _⟩ => ⟨S4096x512, .bf16⟩
  | .local _ .vmem, ⟨4, _⟩ => ⟨S640x512, .f32⟩
  | .local _ .vmem, ⟨5, _⟩ => ⟨S640x512, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InSsdRefIdeal.lean ====
abbrev S16640x4096 : Shape := ⟨2, ![16640, 4096]⟩
abbrev S4096x9280 : Shape := ⟨2, ![4096, 9280]⟩
abbrev S16640x9280 : Shape := ⟨2, ![16640, 9280]⟩
abbrev S16640x2048 : Shape := ⟨2, ![16640, 2048]⟩
abbrev S16640x6144 : Shape := ⟨2, ![16640, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096x9280, .f32⟩
  | .hbm, ⟨2, _⟩ => ⟨S16640x9280, .f32⟩
  | .hbm, ⟨3, _⟩ => ⟨S16640x4096, .f32⟩
  | .hbm, ⟨4, _⟩ => ⟨S16640x2048, .f32⟩
  | .hbm, ⟨5, _⟩ => ⟨S16640x6144, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InAttn.lean ====
abbrev S16640x4096 : Shape := ⟨2, ![16640, 4096]⟩
abbrev S4096x9280 : Shape := ⟨2, ![4096, 9280]⟩
abbrev S_ : Shape := ⟨0, ![]⟩
abbrev S4096x64 : Shape := ⟨2, ![4096, 64]⟩
abbrev S4096x3072 : Shape := ⟨2, ![4096, 3072]⟩
abbrev S4096x3200 : Shape := ⟨2, ![4096, 3200]⟩
abbrev S16640x3200 : Shape := ⟨2, ![16640, 3200]⟩
abbrev S640x4096 : Shape := ⟨2, ![640, 4096]⟩
abbrev S4096x640 : Shape := ⟨2, ![4096, 640]⟩
abbrev S640x640 : Shape := ⟨2, ![640, 640]⟩

abbrev nBuf : Space → Nat
  | .hbm => 10
  | .vmem => 6
  | .smem => 0
  | _ => 0

abbrev bufTy : (tb : Table) → Fin (tcTables nBuf tb) → BufTy
  | .hbm, ⟨0, _⟩ => ⟨S16640x4096, .f32⟩
  | .hbm, ⟨1, _⟩ => ⟨S4096x9280, .f32⟩
  | .hbm, ⟨2, _⟩ => ⟨S_, .f32⟩
  | .hbm, ⟨3, _⟩ => ⟨S4096x64, .f32⟩
  | .hbm, ⟨4, _⟩ => ⟨S4096x3072, .f32⟩
  | .hbm, ⟨5, _⟩ => ⟨S4096x64, .f32⟩
  | .hbm, ⟨6, _⟩ => ⟨S4096x3200, .f32⟩
  | .hbm, ⟨7, _⟩ => ⟨S4096x3200, .bf16⟩
  | .hbm, ⟨8, _⟩ => ⟨S16640x4096, .bf16⟩
  | .hbm, ⟨9, _⟩ => ⟨S16640x3200, .f32⟩
  | .local _ .vmem, ⟨0, _⟩ => ⟨S640x4096, .bf16⟩
  | .local _ .vmem, ⟨1, _⟩ => ⟨S640x4096, .bf16⟩
  | .local _ .vmem, ⟨2, _⟩ => ⟨S4096x640, .bf16⟩
  | .local _ .vmem, ⟨3, _⟩ => ⟨S4096x640, .bf16⟩
  | .local _ .vmem, ⟨4, _⟩ => ⟨S640x640, .f32⟩
  | .local _ .vmem, ⟨5, _⟩ => ⟨S640x640, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAttnRefIdeal.lean ====
abbrev S16640x4096 : Shape := ⟨2, ![16640, 4096]⟩
abbrev S4096x9280 : Shape := ⟨2, ![4096, 9280]⟩
abbrev S16640x9280 : Shape := ⟨2, ![16640, 9280]⟩
abbrev S16640x3072 : Shape := ⟨2, ![16640, 3072]⟩
abbrev S16640x64 : Shape := ⟨2, ![16640, 64]⟩
abbrev S_ : Shape := ⟨0, ![]⟩
abbrev S16640x3200 : Shape := ⟨2, ![16640, 3200]⟩

abbrev nBuf : Space → Nat
  | .hbm => 8
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096x9280, .f32⟩
  | .hbm, ⟨2, _⟩ => ⟨S16640x9280, .f32⟩
  | .hbm, ⟨3, _⟩ => ⟨S16640x3072, .f32⟩
  | .hbm, ⟨4, _⟩ => ⟨S16640x64, .f32⟩
  | .hbm, ⟨5, _⟩ => ⟨S_, .f32⟩
  | .hbm, ⟨6, _⟩ => ⟨S16640x64, .f32⟩
  | .hbm, ⟨7, _⟩ => ⟨S16640x3200, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S16640x2048 : Shape := ⟨2, ![16640, 2048]⟩
abbrev S16640x1024 : Shape := ⟨2, ![16640, 1024]⟩
abbrev S4x4096x4096 : Shape := ⟨3, ![4, 4096, 4096]⟩
abbrev S16640x4096 : Shape := ⟨2, ![16640, 4096]⟩
abbrev S4096 : Shape := ⟨1, ![4096]⟩
abbrev S1x4096 : Shape := ⟨2, ![1, 4096]⟩
abbrev S2x4096 : Shape := ⟨2, ![2, 4096]⟩
abbrev S640x2048 : Shape := ⟨2, ![640, 2048]⟩
abbrev S640x1024 : Shape := ⟨2, ![640, 1024]⟩
abbrev S1x2048x512 : Shape := ⟨3, ![1, 2048, 512]⟩
abbrev S1x1024x512 : Shape := ⟨3, ![1, 1024, 512]⟩
abbrev S640x512 : Shape := ⟨2, ![640, 512]⟩
abbrev S2x512 : Shape := ⟨2, ![2, 512]⟩
abbrev S2048x512 : Shape := ⟨2, ![2048, 512]⟩
abbrev S1024x512 : Shape := ⟨2, ![1024, 512]⟩
abbrev S640x1 : Shape := ⟨2, ![640, 1]⟩
abbrev S1x512 : Shape := ⟨2, ![1, 512]⟩

abbrev nBuf : Space → Nat
  | .hbm => 15
  | .vmem => 18
  | .smem => 0
  | _ => 0

abbrev bufTy : (tb : Table) → Fin (tcTables nBuf tb) → BufTy
  | .hbm, ⟨0, _⟩ => ⟨S16640x2048, .f32⟩
  | .hbm, ⟨1, _⟩ => ⟨S16640x1024, .f32⟩
  | .hbm, ⟨2, _⟩ => ⟨S16640x1024, .f32⟩
  | .hbm, ⟨3, _⟩ => ⟨S4x4096x4096, .f32⟩
  | .hbm, ⟨4, _⟩ => ⟨S16640x4096, .f32⟩
  | .hbm, ⟨5, _⟩ => ⟨S4096, .f32⟩
  | .hbm, ⟨6, _⟩ => ⟨S4096, .f32⟩
  | .hbm, ⟨7, _⟩ => ⟨S16640x2048, .bf16⟩
  | .hbm, ⟨8, _⟩ => ⟨S16640x1024, .bf16⟩
  | .hbm, ⟨9, _⟩ => ⟨S16640x1024, .bf16⟩
  | .hbm, ⟨10, _⟩ => ⟨S4x4096x4096, .bf16⟩
  | .hbm, ⟨11, _⟩ => ⟨S1x4096, .f32⟩
  | .hbm, ⟨12, _⟩ => ⟨S1x4096, .f32⟩
  | .hbm, ⟨13, _⟩ => ⟨S2x4096, .f32⟩
  | .hbm, ⟨14, _⟩ => ⟨S16640x4096, .f32⟩
  | .local _ .vmem, ⟨0, _⟩ => ⟨S640x2048, .bf16⟩
  | .local _ .vmem, ⟨1, _⟩ => ⟨S640x2048, .bf16⟩
  | .local _ .vmem, ⟨2, _⟩ => ⟨S640x1024, .bf16⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S640x512, .f32⟩
  | .local _ .vmem, ⟨13, _⟩ => ⟨S640x512, .f32⟩
  | .local _ .vmem, ⟨14, _⟩ => ⟨S2x512, .f32⟩
  | .local _ .vmem, ⟨15, _⟩ => ⟨S2x512, .f32⟩
  | .local _ .vmem, ⟨16, _⟩ => ⟨S640x512, .f32⟩
  | .local _ .vmem, ⟨17, _⟩ => ⟨S640x512, .f32⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutRefIdeal.lean ====
abbrev S16640x2048 : Shape := ⟨2, ![16640, 2048]⟩
abbrev S16640x1024 : Shape := ⟨2, ![16640, 1024]⟩
abbrev S4x4096x4096 : Shape := ⟨3, ![4, 4096, 4096]⟩
abbrev S16640x4096 : Shape := ⟨2, ![16640, 4096]⟩
abbrev S4096 : Shape := ⟨1, ![4096]⟩
abbrev S256x4096 : Shape := ⟨2, ![256, 4096]⟩
abbrev S16384x4096 : Shape := ⟨2, ![16384, 4096]⟩
abbrev S1x4096x4096 : Shape := ⟨3, ![1, 4096, 4096]⟩
abbrev S4096x4096 : Shape := ⟨2, ![4096, 4096]⟩
abbrev S1x4096 : Shape := ⟨2, ![1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S16640x1024, .f32⟩
  | .hbm, ⟨2, _⟩ => ⟨S16640x1024, .f32⟩
  | .hbm, ⟨3, _⟩ => ⟨S4x4096x4096, .f32⟩
  | .hbm, ⟨4, _⟩ => ⟨S16640x4096, .f32⟩
  | .hbm, ⟨5, _⟩ => ⟨S4096, .f32⟩
  | .hbm, ⟨6, _⟩ => ⟨S4096, .f32⟩
  | .hbm, ⟨7, _⟩ => ⟨S16640x4096, .f32⟩
  | .hbm, ⟨8, _⟩ => ⟨S256x4096, .f32⟩
  | .hbm, ⟨9, _⟩ => ⟨S16384x4096, .f32⟩
  | .hbm, ⟨10, _⟩ => ⟨S256x4096, .f32⟩
  | .hbm, ⟨11, _⟩ => ⟨S1x4096x4096, .f32⟩
  | .hbm, ⟨12, _⟩ => ⟨S4096x4096, .f32⟩
  | .hbm, ⟨13, _⟩ => ⟨S256x4096, .f32⟩
  | .hbm, ⟨14, _⟩ => ⟨S1x4096, .f32⟩
  | .hbm, ⟨15, _⟩ => ⟨S256x4096, .f32⟩
  | .hbm, ⟨16, _⟩ => ⟨S256x4096, .f32⟩
  | .hbm, ⟨17, _⟩ => ⟨S256x4096, .f32⟩
  | .hbm, ⟨18, _⟩ => ⟨S16384x4096, .f32⟩
  | .hbm, ⟨19, _⟩ => ⟨S1x4096x4096, .f32⟩
  | .hbm, ⟨20, _⟩ => ⟨S4096x4096, .f32⟩
  | .hbm, ⟨21, _⟩ => ⟨S16384x4096, .f32⟩
  | .hbm, ⟨22, _⟩ => ⟨S1x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16640x4096, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Query.lean ====
abbrev S16640x4096 : Shape := ⟨2, ![16640, 4096]⟩
abbrev S4x4096x2048 : Shape := ⟨3, ![4, 4096, 2048]⟩
abbrev S16640x2048 : Shape := ⟨2, ![16640, 2048]⟩
abbrev S640x4096 : Shape := ⟨2, ![640, 4096]⟩
abbrev S1x4096x512 : Shape := ⟨3, ![1, 4096, 512]⟩
abbrev S640x512 : Shape := ⟨2, ![640, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S16640x4096, .f32⟩
  | .hbm, ⟨1, _⟩ => ⟨S4x4096x2048, .f32⟩
  | .hbm, ⟨2, _⟩ => ⟨S16640x4096, .bf16⟩
  | .hbm, ⟨3, _⟩ => ⟨S16640x2048, .bf16⟩
  | .local _ .vmem, ⟨0, _⟩ => ⟨S640x4096, .bf16⟩
  | .local _ .vmem, ⟨1, _⟩ => ⟨S640x4096, .bf16⟩
  | .local _ .vmem, ⟨2, _⟩ => ⟨S1x4096x512, .f32⟩
  | .local _ .vmem, ⟨3, _⟩ => ⟨S1x4096x512, .f32⟩
  | .local _ .vmem, ⟨4, _⟩ => ⟨S640x512, .bf16⟩
  | .local _ .vmem, ⟨5, _⟩ => ⟨S640x512, .bf16⟩
  | .local _ .vmem, ⟨6, _⟩ => ⟨S4096x512, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S16640x4096 : Shape := ⟨2, ![16640, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S16640x2048 : Shape := ⟨2, ![16640, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4x4096x2048, .f32⟩
  | .hbm, ⟨2, _⟩ => ⟨S1x4096x2048, .f32⟩
  | .hbm, ⟨3, _⟩ => ⟨S4096x2048, .f32⟩
  | .hbm, ⟨4, _⟩ => ⟨S16640x2048, .f32⟩
  | .hbm, ⟨5, _⟩ => ⟨S16640x2048, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Final.lean ====
abbrev S16640x4096 : Shape := ⟨2, ![16640, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S16x4096 : Shape := ⟨2, ![16, 4096]⟩
abbrev S16 : Shape := ⟨1, ![16]⟩
abbrev S16x1 : Shape := ⟨2, ![16, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32_1 : BitVec 32 := 16#32
  let v1 : BitVec 32 := Scalar.muli arg4 c16_i32_1
  v1
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c16_i32_1 : BitVec 32 := 16#32
  let v1 : BitVec 32 := Scalar.muli arg4 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S16640x4096 : Shape := ⟨2, ![16640, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Norm.lean ====
abbrev S16640x4096 : Shape := ⟨2, ![16640, 4096]⟩
abbrev S4096 : Shape := ⟨1, ![4096]⟩
abbrev S1x4096 : Shape := ⟨2, ![1, 4096]⟩
abbrev S2x4096 : Shape := ⟨2, ![2, 4096]⟩
abbrev S256x4096 : Shape := ⟨2, ![256, 4096]⟩
abbrev S16x4096 : Shape := ⟨2, ![16, 4096]⟩
abbrev S16 : Shape := ⟨1, ![16]⟩
abbrev S16x1 : Shape := ⟨2, ![16, 1]⟩

abbrev nBuf : Space → Nat
  | .hbm => 14
  | .vmem => 9
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S2x4096, .f32⟩
  | .hbm, ⟨9, _⟩ => ⟨S1x4096, .f32⟩
  | .hbm, ⟨10, _⟩ => ⟨S1x4096, .f32⟩
  | .hbm, ⟨11, _⟩ => ⟨S2x4096, .f32⟩
  | .hbm, ⟨12, _⟩ => ⟨S1x4096, .f32⟩
  | .hbm, ⟨13, _⟩ => ⟨S16640x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S2x4096, .f32⟩
  | .local _ .vmem, ⟨4, _⟩ => ⟨S2x4096, .f32⟩
  | .local _ .vmem, ⟨5, _⟩ => ⟨S256x4096, .bf16⟩
  | .local _ .vmem, ⟨6, _⟩ => ⟨S256x4096, .bf16⟩
  | .local _ .vmem, ⟨7, _⟩ => ⟨S16x4096, .f32⟩
  | .local _ .vmem, ⟨8, _⟩ => ⟨S16x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let v5 : Index := Scalar.indexCast v2
  let c0_2 : Index := 0#32
  ![v5.toNat, 0]
@[reducible] def k0_t1_loop : Scf.Loop 32 :=
  let c0_i32_8 : BitVec 32 := 0#32
  let c16_i32 : BitVec 32 := 16#32
  let v24 : BitVec 32 := Scalar.addi c0_i32_8 c16_i32
  let c1_i32_9 : BitVec 32 := 1#32
  ⟨c0_i32_8, v24, c1_i32_9⟩
def k0_mult1 (k0_t1 : Fin k0_t1_loop.trips) : BitVec 32 :=
  let c0_i32_8 : BitVec 32 := 0#32
  let c1_i32_9 : BitVec 32 := 1#32
  let arg8 : BitVec 32 := Scf.iv c0_i32_8 c1_i32_9 k0_t1
  let c16_i32_11 : BitVec 32 := 16#32
  let v25 : BitVec 32 := Scalar.muli arg8 c16_i32_11
  v25
def k0_off2 (k0_t1 : Fin k0_t1_loop.trips) : Fin 2 → Nat :=
  let c0_i32_8 : BitVec 32 := 0#32
  let c1_i32_9 : BitVec 32 := 1#32
  let arg8 : BitVec 32 := Scf.iv c0_i32_8 c1_i32_9 k0_t1
  let c16_i32_11 : BitVec 32 := 16#32
  let v25 : BitVec 32 := Scalar.muli arg8 c16_i32_11
  let v26 : BitVec 32 := v25
  let v27 : Index := Scalar.indexCast v26
  let c0_12 : Index := 0#32
  ![v27.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16640x4096 : Shape := ⟨2, ![16640, 4096]⟩
abbrev S4096 : Shape := ⟨1, ![4096]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S16384x4096 : Shape := ⟨2, ![16384, 4096]⟩
abbrev S16384 : Shape := ⟨1, ![16384]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S256x4096, .f32⟩
  | .hbm, ⟨7, _⟩ => ⟨S256x4096, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x4096, .f32⟩
  | .hbm, ⟨19, _⟩ => ⟨S256x4096, .f32⟩
  | .hbm, ⟨20, _⟩ => ⟨S1x4096, .f32⟩
  | .hbm, ⟨21, _⟩ => ⟨S256x4096, .f32⟩
  | .hbm, ⟨22, _⟩ => ⟨S256x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S1x4096, .f32⟩
  | .hbm, ⟨27, _⟩ => ⟨S256x4096, .f32⟩
  | .hbm, ⟨28, _⟩ => ⟨S256x4096, .f32⟩
  | .hbm, ⟨29, _⟩ => ⟨S1x4096, .f32⟩
  | .hbm, ⟨30, _⟩ => ⟨S256x4096, .f32⟩
  | .hbm, ⟨31, _⟩ => ⟨S256x4096, .f32⟩
  | .hbm, ⟨32, _⟩ => ⟨S16384x4096, .f32⟩
  | .hbm, ⟨33, _⟩ => ⟨S16384x4096, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x4096, .f32⟩
  | .hbm, ⟨45, _⟩ => ⟨S16384x4096, .f32⟩
  | .hbm, ⟨46, _⟩ => ⟨S1x4096, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S1x4096, .f32⟩
  | .hbm, ⟨53, _⟩ => ⟨S16384x4096, .f32⟩
  | .hbm, ⟨54, _⟩ => ⟨S16384x4096, .f32⟩
  | .hbm, ⟨55, _⟩ => ⟨S1x4096, .f32⟩
  | .hbm, ⟨56, _⟩ => ⟨S16384x4096, .f32⟩
  | .hbm, ⟨57, _⟩ => ⟨S16384x4096, .f32⟩
  | .hbm, ⟨58, _⟩ => ⟨S16640x4096, .f32⟩
  | .hbm, ⟨59, _⟩ => ⟨S16640x4096, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== PeerOut.lean ====
abbrev S16640x6400 : Shape := ⟨2, ![16640, 6400]⟩
abbrev S4x6400x4096 : Shape := ⟨3, ![4, 6400, 4096]⟩
abbrev S16640x4096 : Shape := ⟨2, ![16640, 4096]⟩
abbrev S4096 : Shape := ⟨1, ![4096]⟩
abbrev S1x4096 : Shape := ⟨2, ![1, 4096]⟩
abbrev S2x4096 : Shape := ⟨2, ![2, 4096]⟩
abbrev S640x6400 : Shape := ⟨2, ![640, 6400]⟩
abbrev S1x6400x512 : Shape := ⟨3, ![1, 6400, 512]⟩
abbrev S640x512 : Shape := ⟨2, ![640, 512]⟩
abbrev S2x512 : Shape := ⟨2, ![2, 512]⟩
abbrev S6400x512 : Shape := ⟨2, ![6400, 512]⟩
abbrev S640x1 : Shape := ⟨2, ![640, 1]⟩
abbrev S1x512 : Shape := ⟨2, ![1, 512]⟩

abbrev nBuf : Space → Nat
  | .hbm => 11
  | .vmem => 10
  | .smem => 0
  | _ => 0

abbrev bufTy : (tb : Table) → Fin (tcTables nBuf tb) → BufTy
  | .hbm, ⟨0, _⟩ => ⟨S16640x6400, .f32⟩
  | .hbm, ⟨1, _⟩ => ⟨S4x6400x4096, .f32⟩
  | .hbm, ⟨2, _⟩ => ⟨S16640x4096, .f32⟩
  | .hbm, ⟨3, _⟩ => ⟨S4096, .f32⟩
  | .hbm, ⟨4, _⟩ => ⟨S4096, .f32⟩
  | .hbm, ⟨5, _⟩ => ⟨S16640x6400, .bf16⟩
  | .hbm, ⟨6, _⟩ => ⟨S4x6400x4096, .bf16⟩
  | .hbm, ⟨7, _⟩ => ⟨S1x4096, .f32⟩
  | .hbm, ⟨8, _⟩ => ⟨S1x4096, .f32⟩
  | .hbm, ⟨9, _⟩ => ⟨S2x4096, .f32⟩
  | .hbm, ⟨10, _⟩ => ⟨S16640x4096, .f32⟩
  | .local _ .vmem, ⟨0, _⟩ => ⟨S640x6400, .bf16⟩
  | .local _ .vmem, ⟨1, _⟩ => ⟨S640x6400, .bf16⟩
  | .local _ .vmem, ⟨2, _⟩ => ⟨S1x6400x512, .bf16⟩
  | .local _ .vmem, ⟨3, _⟩ => ⟨S1x6400x512, .bf16⟩
  | .local _ .vmem, ⟨4, _⟩ => ⟨S640x512, .f32⟩
  | .local _ .vmem, ⟨5, _⟩ => ⟨S640x512, .f32⟩
  | .local _ .vmem, ⟨6, _⟩ => ⟨S2x512, .f32⟩
  | .local _ .vmem, ⟨7, _⟩ => ⟨S2x512, .f32⟩
  | .local _ .vmem, ⟨8, _⟩ => ⟨S640x512, .f32⟩
  | .local _ .vmem, ⟨9, _⟩ => ⟨S640x512, .f32⟩
  | _, _ => ⟨S16640x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x6400x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PeerOutRefIdeal.lean ====
abbrev S16640x6400 : Shape := ⟨2, ![16640, 6400]⟩
abbrev S4x6400x4096 : Shape := ⟨3, ![4, 6400, 4096]⟩
abbrev S16640x4096 : Shape := ⟨2, ![16640, 4096]⟩
abbrev S4096 : Shape := ⟨1, ![4096]⟩
abbrev S1x6400x4096 : Shape := ⟨3, ![1, 6400, 4096]⟩
abbrev S6400x4096 : Shape := ⟨2, ![6400, 4096]⟩
abbrev S256x4096 : Shape := ⟨2, ![256, 4096]⟩
abbrev S16384x4096 : Shape := ⟨2, ![16384, 4096]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16640x6400, .f32⟩
  | .hbm, ⟨1, _⟩ => ⟨S4x6400x4096, .f32⟩
  | .hbm, ⟨2, _⟩ => ⟨S16640x4096, .f32⟩
  | .hbm, ⟨3, _⟩ => ⟨S4096, .f32⟩
  | .hbm, ⟨4, _⟩ => ⟨S4096, .f32⟩
  | .hbm, ⟨5, _⟩ => ⟨S1x6400x4096, .f32⟩
  | .hbm, ⟨6, _⟩ => ⟨S6400x4096, .f32⟩
  | .hbm, ⟨7, _⟩ => ⟨S16640x4096, .f32⟩
  | .hbm, ⟨8, _⟩ => ⟨S256x4096, .f32⟩
  | .hbm, ⟨9, _⟩ => ⟨S16384x4096, .f32⟩
  | .hbm, ⟨10, _⟩ => ⟨S256x4096, .f32⟩
  | .hbm, ⟨11, _⟩ => ⟨S1x4096, .f32⟩
  | .hbm, ⟨12, _⟩ => ⟨S256x4096, .f32⟩
  | .hbm, ⟨13, _⟩ => ⟨S256x4096, .f32⟩
  | .hbm, ⟨14, _⟩ => ⟨S256x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16640x4096, .f32⟩
  | _, _ => ⟨S16640x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Mods.lean ====
abbrev S8x4096 : Shape := ⟨2, ![8, 4096]⟩
abbrev S4x4096x24576 : Shape := ⟨3, ![4, 4096, 24576]⟩
abbrev S4x24576 : Shape := ⟨2, ![4, 24576]⟩
abbrev S4x1x24576 : Shape := ⟨3, ![4, 1, 24576]⟩
abbrev S4x8x24576 : Shape := ⟨3, ![4, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x24576, .f32⟩
  | .hbm, ⟨3, _⟩ => ⟨S4x1x24576, .f32⟩
  | .hbm, ⟨4, _⟩ => ⟨S4x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S8x4096 : Shape := ⟨2, ![8, 4096]⟩
abbrev S4x4096x24576 : Shape := ⟨3, ![4, 4096, 24576]⟩
abbrev S4x24576 : Shape := ⟨2, ![4, 24576]⟩
abbrev S_ : Shape := ⟨0, ![]⟩
abbrev S4x24576x8 : Shape := ⟨3, ![4, 24576, 8]⟩
abbrev S4x8x24576 : Shape := ⟨3, ![4, 8, 24576]⟩
abbrev S4x1x24576 : Shape := ⟨3, ![4, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4x24576x8, .f32⟩
  | .hbm, ⟨13, _⟩ => ⟨S4x8x24576, .f32⟩
  | .hbm, ⟨14, _⟩ => ⟨S4x1x24576, .f32⟩
  | .hbm, ⟨15, _⟩ => ⟨S4x8x24576, .f32⟩
  | .hbm, ⟨16, _⟩ => ⟨S4x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== PeerW.lean ====
abbrev S16640x4096 : Shape := ⟨2, ![16640, 4096]⟩
abbrev S4x6400x4096 : Shape := ⟨3, ![4, 6400, 4096]⟩
abbrev S16640x2048 : Shape := ⟨2, ![16640, 2048]⟩
abbrev S8x2x80x128 : Shape := ⟨4, ![8, 2, 80, 128]⟩
abbrev S16640x8 : Shape := ⟨2, ![16640, 8]⟩
abbrev S8x1x80x128 : Shape := ⟨4, ![8, 1, 80, 128]⟩
abbrev S8x80x128 : Shape := ⟨3, ![8, 80, 128]⟩
abbrev S8x80x80x128 : Shape := ⟨4, ![8, 80, 80, 128]⟩
abbrev S8x6400x128 : Shape := ⟨3, ![8, 6400, 128]⟩
abbrev S1x8x1x80x1x128 : Shape := ⟨6, ![1, 8, 1, 80, 1, 128]⟩
abbrev S1x8x80x80x1x128 : Shape := ⟨6, ![1, 8, 80, 80, 1, 128]⟩
abbrev S8x6400x256 : Shape := ⟨3, ![8, 6400, 256]⟩
abbrev S8x256x6400 : Shape := ⟨3, ![8, 256, 6400]⟩
abbrev S16640x16 : Shape := ⟨2, ![16640, 16]⟩
abbrev S16640x6400 : Shape := ⟨2, ![16640, 6400]⟩
abbrev S256x4096 : Shape := ⟨2, ![256, 4096]⟩
abbrev S1x1280x4096 : Shape := ⟨3, ![1, 1280, 4096]⟩
abbrev S256x2048 : Shape := ⟨2, ![256, 2048]⟩
abbrev S8x256x1280 : Shape := ⟨3, ![8, 256, 1280]⟩
abbrev S256x16 : Shape := ⟨2, ![256, 16]⟩
abbrev S256x1280 : Shape := ⟨2, ![256, 1280]⟩
abbrev S1x256x4096 : Shape := ⟨3, ![1, 256, 4096]⟩
abbrev S256x256 : Shape := ⟨2, ![256, 256]⟩
abbrev S1x256x256 : Shape := ⟨3, ![1, 256, 256]⟩
abbrev S256x1 : Shape := ⟨2, ![256, 1]⟩

abbrev nBuf : Space → Nat
  | .hbm => 23
  | .vmem => 12
  | .smem => 0
  | _ => 0

abbrev bufTy : (tb : Table) → Fin (tcTables nBuf tb) → BufTy
  | .hbm, ⟨0, _⟩ => ⟨S16640x4096, .f32⟩
  | .hbm, ⟨1, _⟩ => ⟨S4x6400x4096, .f32⟩
  | .hbm, ⟨2, _⟩ => ⟨S16640x2048, .f32⟩
  | .hbm, ⟨3, _⟩ => ⟨S8x2x80x128, .f32⟩
  | .hbm, ⟨4, _⟩ => ⟨S16640x8, .f32⟩
  | .hbm, ⟨5, _⟩ => ⟨S16640x8, .f32⟩
  | .hbm, ⟨6, _⟩ => ⟨S8x1x80x128, .f32⟩
  | .hbm, ⟨7, _⟩ => ⟨S8x80x128, .f32⟩
  | .hbm, ⟨8, _⟩ => ⟨S8x80x80x128, .f32⟩
  | .hbm, ⟨9, _⟩ => ⟨S8x6400x128, .f32⟩
  | .hbm, ⟨10, _⟩ => ⟨S8x1x80x128, .f32⟩
  | .hbm, ⟨11, _⟩ => ⟨S8x80x128, .f32⟩
  | .hbm, ⟨12, _⟩ => ⟨S1x8x1x80x1x128, .f32⟩
  | .hbm, ⟨13, _⟩ => ⟨S1x8x80x80x1x128, .f32⟩
  | .hbm, ⟨14, _⟩ => ⟨S8x6400x128, .f32⟩
  | .hbm, ⟨15, _⟩ => ⟨S8x6400x256, .f32⟩
  | .hbm, ⟨16, _⟩ => ⟨S8x256x6400, .f32⟩
  | .hbm, ⟨17, _⟩ => ⟨S16640x16, .f32⟩
  | .hbm, ⟨18, _⟩ => ⟨S16640x4096, .bf16⟩
  | .hbm, ⟨19, _⟩ => ⟨S4x6400x4096, .bf16⟩
  | .hbm, ⟨20, _⟩ => ⟨S16640x2048, .bf16⟩
  | .hbm, ⟨21, _⟩ => ⟨S8x256x6400, .bf16⟩
  | .hbm, ⟨22, _⟩ => ⟨S16640x6400, .bf16⟩
  | .local _ .vmem, ⟨0, _⟩ => ⟨S256x4096, .bf16⟩
  | .local _ .vmem, ⟨1, _⟩ => ⟨S256x4096, .bf16⟩
  | .local _ .vmem, ⟨2, _⟩ => ⟨S1x1280x4096, .bf16⟩
  | .local _ .vmem, ⟨3, _⟩ => ⟨S1x1280x4096, .bf16⟩
  | .local _ .vmem, ⟨4, _⟩ => ⟨S256x2048, .bf16⟩
  | .local _ .vmem, ⟨5, _⟩ => ⟨S256x2048, .bf16⟩
  | .local _ .vmem, ⟨6, _⟩ => ⟨S8x256x1280, .bf16⟩
  | .local _ .vmem, ⟨7, _⟩ => ⟨S8x256x1280, .bf16⟩
  | .local _ .vmem, ⟨8, _⟩ => ⟨S256x16, .f32⟩
  | .local _ .vmem, ⟨9, _⟩ => ⟨S256x16, .f32⟩
  | .local _ .vmem, ⟨10, _⟩ => ⟨S256x1280, .bf16⟩
  | .local _ .vmem, ⟨11, _⟩ => ⟨S256x1280, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![5, 65], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PeerWRefIdeal.lean ====
abbrev S16640x4096 : Shape := ⟨2, ![16640, 4096]⟩
abbrev S4x6400x4096 : Shape := ⟨3, ![4, 6400, 4096]⟩
abbrev S16640x2048 : Shape := ⟨2, ![16640, 2048]⟩
abbrev S8x2x80x128 : Shape := ⟨4, ![8, 2, 80, 128]⟩
abbrev S16640x8 : Shape := ⟨2, ![16640, 8]⟩
abbrev S16640x8x2x128 : Shape := ⟨4, ![16640, 8, 2, 128]⟩
abbrev S8x2x80x16640 : Shape := ⟨4, ![8, 2, 80, 16640]⟩
abbrev S16640x8x2x80 : Shape := ⟨4, ![16640, 8, 2, 80]⟩
abbrev S16640x8x1x80 : Shape := ⟨4, ![16640, 8, 1, 80]⟩
abbrev S16640x8x80 : Shape := ⟨3, ![16640, 8, 80]⟩
abbrev S16640x8x80x1 : Shape := ⟨4, ![16640, 8, 80, 1]⟩
abbrev S16640x8x80x80 : Shape := ⟨4, ![16640, 8, 80, 80]⟩
abbrev S16640x8x6400 : Shape := ⟨3, ![16640, 8, 6400]⟩
abbrev S16640x8x1 : Shape := ⟨3, ![16640, 8, 1]⟩
abbrev S_ : Shape := ⟨0, ![]⟩
abbrev S1x6400x4096 : Shape := ⟨3, ![1, 6400, 4096]⟩
abbrev S6400x4096 : Shape := ⟨2, ![6400, 4096]⟩
abbrev S4096x6400 : Shape := ⟨2, ![4096, 6400]⟩
abbrev S16640x6400 : Shape := ⟨2, ![16640, 6400]⟩

abbrev nBuf : Space → Nat
  | .hbm => 47
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4x6400x4096, .f32⟩
  | .hbm, ⟨2, _⟩ => ⟨S16640x2048, .f32⟩
  | .hbm, ⟨3, _⟩ => ⟨S8x2x80x128, .f32⟩
  | .hbm, ⟨4, _⟩ => ⟨S16640x8, .f32⟩
  | .hbm, ⟨5, _⟩ => ⟨S16640x8, .f32⟩
  | .hbm, ⟨6, _⟩ => ⟨S16640x8x2x128, .f32⟩
  | .hbm, ⟨7, _⟩ => ⟨S8x2x80x16640, .f32⟩
  | .hbm, ⟨8, _⟩ => ⟨S16640x8x2x80, .f32⟩
  | .hbm, ⟨9, _⟩ => ⟨S16640x8x1x80, .f32⟩
  | .hbm, ⟨10, _⟩ => ⟨S16640x8x80, .f32⟩
  | .hbm, ⟨11, _⟩ => ⟨S16640x8x80x1, .f32⟩
  | .hbm, ⟨12, _⟩ => ⟨S16640x8x1x80, .f32⟩
  | .hbm, ⟨13, _⟩ => ⟨S16640x8x80, .f32⟩
  | .hbm, ⟨14, _⟩ => ⟨S16640x8x1x80, .f32⟩
  | .hbm, ⟨15, _⟩ => ⟨S16640x8x80x80, .f32⟩
  | .hbm, ⟨16, _⟩ => ⟨S16640x8x80x80, .f32⟩
  | .hbm, ⟨17, _⟩ => ⟨S16640x8x80x80, .f32⟩
  | .hbm, ⟨18, _⟩ => ⟨S16640x8x6400, .f32⟩
  | .hbm, ⟨19, _⟩ => ⟨S16640x8x1, .f32⟩
  | .hbm, ⟨20, _⟩ => ⟨S16640x8x6400, .f32⟩
  | .hbm, ⟨21, _⟩ => ⟨S16640x8x6400, .i1⟩
  | .hbm, ⟨22, _⟩ => ⟨S16640x8x1, .f32⟩
  | .hbm, ⟨23, _⟩ => ⟨S16640x8x6400, .f32⟩
  | .hbm, ⟨24, _⟩ => ⟨S16640x8x6400, .f32⟩
  | .hbm, ⟨25, _⟩ => ⟨S16640x8x6400, .f32⟩
  | .hbm, ⟨26, _⟩ => ⟨S_, .f32⟩
  | .hbm, ⟨27, _⟩ => ⟨S_, .f32⟩
  | .hbm, ⟨28, _⟩ => ⟨S16640x8x6400, .f32⟩
  | .hbm, ⟨29, _⟩ => ⟨S16640x8x6400, .f32⟩
  | .hbm, ⟨30, _⟩ => ⟨S1x6400x4096, .f32⟩
  | .hbm, ⟨31, _⟩ => ⟨S6400x4096, .f32⟩
  | .hbm, ⟨32, _⟩ => ⟨S4096x6400, .f32⟩
  | .hbm, ⟨33, _⟩ => ⟨S16640x6400, .f32⟩
  | .hbm, ⟨34, _⟩ => ⟨S_, .f32⟩
  | .hbm, ⟨35, _⟩ => ⟨S16640x6400, .f32⟩
  | .hbm, ⟨36, _⟩ => ⟨S16640x6400, .f32⟩
  | .hbm, ⟨37, _⟩ => ⟨S16640x6400, .f32⟩
  | .hbm, ⟨38, _⟩ => ⟨S_, .f32⟩
  | .hbm, ⟨39, _⟩ => ⟨S16640x6400, .f32⟩
  | .hbm, ⟨40, _⟩ => ⟨S16640x6400, .f32⟩
  | .hbm, ⟨41, _⟩ => ⟨S16640x6400, .f32⟩
  | .hbm, ⟨42, _⟩ => ⟨S16640x6400, .f32⟩
  | .hbm, ⟨43, _⟩ => ⟨S_, .f32⟩
  | .hbm, ⟨44, _⟩ => ⟨S16640x6400, .f32⟩
  | .hbm, ⟨45, _⟩ => ⟨S16640x6400, .f32⟩
  | .hbm, ⟨46, _⟩ => ⟨S16640x6400, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Window.lean ====
abbrev S16384x2x4x128 : Shape := ⟨4, ![16384, 2, 4, 128]⟩
abbrev S16640x2x128 : Shape := ⟨3, ![16640, 2, 128]⟩
abbrev S8 : Shape := ⟨1, ![8]⟩
abbrev S_ : Shape := ⟨0, ![]⟩
abbrev S16384x1024 : Shape := ⟨2, ![16384, 1024]⟩
abbrev S256x1024 : Shape := ⟨2, ![256, 1024]⟩
abbrev S16640x1024 : Shape := ⟨2, ![16640, 1024]⟩
abbrev S16640x256 : Shape := ⟨2, ![16640, 256]⟩
abbrev S16640x1536 : Shape := ⟨2, ![16640, 1536]⟩
abbrev S16640x3072 : Shape := ⟨2, ![16640, 3072]⟩
abbrev S130x128x2x128 : Shape := ⟨4, ![130, 128, 2, 128]⟩
abbrev S2x130x128x128 : Shape := ⟨4, ![2, 130, 128, 128]⟩
abbrev S2x130x1x128 : Shape := ⟨4, ![2, 130, 1, 128]⟩
abbrev S2x130x15x128 : Shape := ⟨4, ![2, 130, 15, 128]⟩
abbrev S2x130x144x128 : Shape := ⟨4, ![2, 130, 144, 128]⟩
abbrev S8x128 : Shape := ⟨2, ![8, 128]⟩
abbrev S1024 : Shape := ⟨1, ![1024]⟩
abbrev S2x2x1x256 : Shape := ⟨4, ![2, 2, 1, 256]⟩
abbrev S128x512 : Shape := ⟨2, ![128, 512]⟩
abbrev S16640x128 : Shape := ⟨2, ![16640, 128]⟩
abbrev S1x130x144x128 : Shape := ⟨4, ![1, 130, 144, 128]⟩
abbrev S1x2x1x256 : Shape := ⟨4, ![1, 2, 1, 256]⟩
abbrev S128x256 : Shape := ⟨2, ![128, 256]⟩
abbrev S128x128 : Shape := ⟨2, ![128, 128]⟩
abbrev S256x128 : Shape := ⟨2, ![256, 128]⟩
abbrev S1x1x144x128 : Shape := ⟨4, ![1, 1, 144, 128]⟩
abbrev S144x128 : Shape := ⟨2, ![144, 128]⟩
abbrev S144x640 : Shape := ⟨2, ![144, 640]⟩
abbrev S256x256 : Shape := ⟨2, ![256, 256]⟩
abbrev S1x1x1x256 : Shape := ⟨4, ![1, 1, 1, 256]⟩
abbrev S1x256 : Shape := ⟨2, ![1, 256]⟩
abbrev S256 : Shape := ⟨1, ![256]⟩
abbrev S640x256 : Shape := ⟨2, ![640, 256]⟩
abbrev S144x256 : Shape := ⟨2, ![144, 256]⟩

abbrev nBuf : Space → Nat
  | .hbm => 37
  | .vmem => 10
  | .smem => 0
  | _ => 0

abbrev bufTy : (tb : Table) → Fin (tcTables nBuf tb) → BufTy
  | .hbm, ⟨0, _⟩ => ⟨S16384x2x4x128, .f32⟩
  | .hbm, ⟨1, _⟩ => ⟨S16640x2x128, .f32⟩
  | .hbm, ⟨2, _⟩ => ⟨S16640x2x128, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x2x4x128, .f32⟩
  | .hbm, ⟨10, _⟩ => ⟨S16384x2x4x128, .f32⟩
  | .hbm, ⟨11, _⟩ => ⟨S16384x1024, .f32⟩
  | .hbm, ⟨12, _⟩ => ⟨S_, .f32⟩
  | .hbm, ⟨13, _⟩ => ⟨S256x1024, .f32⟩
  | .hbm, ⟨14, _⟩ => ⟨S16640x1024, .f32⟩
  | .hbm, ⟨15, _⟩ => ⟨S16640x256, .f32⟩
  | .hbm, ⟨16, _⟩ => ⟨S16640x256, .f32⟩
  | .hbm, ⟨17, _⟩ => ⟨S_, .f32⟩
  | .hbm, ⟨18, _⟩ => ⟨S16640x1536, .f32⟩
  | .hbm, ⟨19, _⟩ => ⟨S16640x3072, .f32⟩
  | .hbm, ⟨20, _⟩ => ⟨S16640x3072, .bf16⟩
  | .hbm, ⟨21, _⟩ => ⟨S130x128x2x128, .f32⟩
  | .hbm, ⟨22, _⟩ => ⟨S2x130x128x128, .f32⟩
  | .hbm, ⟨23, _⟩ => ⟨S_, .f32⟩
  | .hbm, ⟨24, _⟩ => ⟨S2x130x1x128, .f32⟩
  | .hbm, ⟨25, _⟩ => ⟨S_, .f32⟩
  | .hbm, ⟨26, _⟩ => ⟨S2x130x15x128, .f32⟩
  | .hbm, ⟨27, _⟩ => ⟨S2x130x144x128, .f32⟩
  | .hbm, ⟨28, _⟩ => ⟨S2x130x144x128, .bf16⟩
  | .hbm, ⟨29, _⟩ => ⟨S_, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8x128, .f32⟩
  | .hbm, ⟨34, _⟩ => ⟨S1024, .f32⟩
  | .hbm, ⟨35, _⟩ => ⟨S2x2x1x256, .f32⟩
  | .hbm, ⟨36, _⟩ => ⟨S16640x1024, .bf16⟩
  | .local _ .vmem, ⟨0, _⟩ => ⟨S128x512, .bf16⟩
  | .local _ .vmem, ⟨1, _⟩ => ⟨S128x512, .bf16⟩
  | .local _ .vmem, ⟨2, _⟩ => ⟨S16640x128, .bf16⟩
  | .local _ .vmem, ⟨3, _⟩ => ⟨S16640x128, .bf16⟩
  | .local _ .vmem, ⟨4, _⟩ => ⟨S1x130x144x128, .bf16⟩
  | .local _ .vmem, ⟨5, _⟩ => ⟨S1x130x144x128, .bf16⟩
  | .local _ .vmem, ⟨6, _⟩ => ⟨S1x2x1x256, .f32⟩
  | .local _ .vmem, ⟨7, _⟩ => ⟨S1x2x1x256, .f32⟩
  | .local _ .vmem, ⟨8, _⟩ => ⟨S128x512, .bf16⟩
  | .local _ .vmem, ⟨9, _⟩ => ⟨S128x512, .bf16⟩
  | _, _ => ⟨S16384x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 128], ![false, false]⟩

def k0_mult1 (i : grid0.Coords) : BitVec 32 :=
  let c256_i32 : BitVec 32 := 256#32
  let arg1 : BitVec 32 := BitVec.ofNat 32 (i 1).val
  let c128_i32 : BitVec 32 := 128#32
  let v0 : BitVec 32 := Scalar.muli arg1 c128_i32
  let v1 : BitVec 32 := Scalar.addi c256_i32 v0
  let c128_i32_0 : BitVec 32 := 128#32
  let v2 : BitVec 32 := Scalar.subi v1 c128_i32_0
  v2
def k0_mult2 (i : grid0.Coords) : BitVec 32 :=
  let c256_i32 : BitVec 32 := 256#32
  let arg1 : BitVec 32 := BitVec.ofNat 32 (i 1).val
  let c128_i32 : BitVec 32 := 128#32
  let v0 : BitVec 32 := Scalar.muli arg1 c128_i32
  let v1 : BitVec 32 := Scalar.addi c256_i32 v0
  v1
def k0_mult3 (i : grid0.Coords) : BitVec 32 :=
  let c256_i32 : BitVec 32 := 256#32
  let arg1 : BitVec 32 := BitVec.ofNat 32 (i 1).val
  let c128_i32 : BitVec 32 := 128#32
  let v0 : BitVec 32 := Scalar.muli arg1 c128_i32
  let v1 : BitVec 32 := Scalar.addi c256_i32 v0
  let c128_i32_1 : BitVec 32 := 128#32
  let v5 : BitVec 32 := Scalar.addi v1 c128_i32_1
  let c16512_i32 : BitVec 32 := 16512#32
  let v6 : BitVec 32 := Scalar.minsi v5 c16512_i32
  v6
def k0_off1 (i : grid0.Coords) : Fin 2 → Nat :=
  let c256_i32 : BitVec 32 := 256#32
  let arg1 : BitVec 32 := BitVec.ofNat 32 (i 1).val
  let c128_i32 : BitVec 32 := 128#32
  let v0 : BitVec 32 := Scalar.muli arg1 c128_i32
  let v1 : BitVec 32 := Scalar.addi c256_i32 v0
  let c128_i32_0 : BitVec 32 := 128#32
  let v2 : BitVec 32 := Scalar.subi v1 c128_i32_0
  let v3 : BitVec 32 := v2
  let v26 : Index := Scalar.indexCast v3
  let c0 : Index := 0#32
  ![v26.toNat, 0]
def k0_off2 (i : grid0.Coords) : Fin 2 → Nat :=
  let c256_i32 : BitVec 32 := 256#32
  let arg1 : BitVec 32 := BitVec.ofNat 32 (i 1).val
  let c128_i32 : BitVec 32 := 128#32
  let v0 : BitVec 32 := Scalar.muli arg1 c128_i32
  let v1 : BitVec 32 := Scalar.addi c256_i32 v0
  let v4 : BitVec 32 := v1
  let v29 : Index := Scalar.indexCast v4
  let c0_6 : Index := 0#32
  ![v29.toNat, 0]
def k0_off3 (i : grid0.Coords) : Fin 2 → Nat :=
  let c256_i32 : BitVec 32 := 256#32
  let arg1 : BitVec 32 := BitVec.ofNat 32 (i 1).val
  let c128_i32 : BitVec 32 := 128#32
  let v0 : BitVec 32 := Scalar.muli arg1 c128_i32
  let v1 : BitVec 32 := Scalar.addi c256_i32 v0
  let c128_i32_1 : BitVec 32 := 128#32
  let v5 : BitVec 32 := Scalar.addi v1 c128_i32_1
  let c16512_i32 : BitVec 32 := 16512#32
  let v6 : BitVec 32 := Scalar.minsi v5 c16512_i32
  let v7 : BitVec 32 := v6
  let v32 : Index := Scalar.indexCast v7
  let c0_7 : Index := 0#32
  ![v32.toNat, 0]
def k0_off4 (i : grid0.Coords) : Fin 4 → Nat :=
  let c0_17 : Index := 0#32
  let c256_i32 : BitVec 32 := 256#32
  let arg1 : BitVec 32 := BitVec.ofNat 32 (i 1).val
  let c128_i32 : BitVec 32 := 128#32
  let v0 : BitVec 32 := Scalar.muli arg1 c128_i32
  let v1 : BitVec 32 := Scalar.addi c256_i32 v0
  let c128_i32_0 : BitVec 32 := 128#32
  let v2 : BitVec 32 := Scalar.subi v1 c128_i32_0
  let v3 : BitVec 32 := v2
  let c0_i32_11 : BitVec 32 := 0#32
  let v38 : BitVec 1 := Scalar.cmpi .sgt v3 c0_i32_11
  let v39 : BitVec 32 := Scalar.extui v38
  let c0_i32_12 : BitVec 32 := 0#32
  let v40 : BitVec 1 := Scalar.cmpi .slt v3 c0_i32_12
  let v41 : BitVec 32 := Scalar.extui v40
  let v42 : BitVec 32 := Scalar.subi v39 v41
  let c128_i32_10 : BitVec 32 := 128#32
  let c0_i32_13 : BitVec 32 := 0#32
  let v43 : BitVec 1 := Scalar.cmpi .sgt c128_i32_10 c0_i32_13
  let v44 : BitVec 32 := Scalar.extui v43
  let c0_i32_14 : BitVec 32 := 0#32
  let v45 : BitVec 1 := Scalar.cmpi .slt c128_i32_10 c0_i32_14
  let v46 : BitVec 32 := Scalar.extui v45
  let v47 : BitVec 32 := Scalar.subi v44 v46
  let v48 : BitVec 1 := Scalar.cmpi .ne v42 v47
  let v49 : BitVec 32 := Scalar.remsi v3 c128_i32_10
  let c0_i32_15 : BitVec 32 := 0#32
  let v50 : BitVec 1 := Scalar.cmpi .ne v49 c0_i32_15
  let v51 : BitVec 1 := Scalar.andi v48 v50
  let v37 : BitVec 32 := Scalar.divsi v3 c128_i32_10
  let c1_i32_16 : BitVec 32 := 1#32
  let v52 : BitVec 32 := Scalar.subi v37 c1_i32_16
  let v53 : BitVec 32 := Scalar.select v51 v52 v37
  let v54 : Index := Scalar.indexCast v53
  let c0_18 : Index := 0#32
  let c0_19 : Index := 0#32
  ![0, v54.toNat, 0, 0]
def k0_off5 (i : grid0.Coords) : Fin 4 → Nat :=
  let c0_27 : Index := 0#32
  let c256_i32 : BitVec 32 := 256#32
  let arg1 : BitVec 32 := BitVec.ofNat 32 (i 1).val
  let c128_i32 : BitVec 32 := 128#32
  let v0 : BitVec 32 := Scalar.muli arg1 c128_i32
  let v1 : BitVec 32 := Scalar.addi c256_i32 v0
  let v4 : BitVec 32 := v1
  let c0_i32_21 : BitVec 32 := 0#32
  let v58 : BitVec 1 := Scalar.cmpi .sgt v4 c0_i32_21
  let v59 : BitVec 32 := Scalar.extui v58
  let c0_i32_22 : BitVec 32 := 0#32
  let v60 : BitVec 1 := Scalar.cmpi .slt v4 c0_i32_22
  let v61 : BitVec 32 := Scalar.extui v60
  let v62 : BitVec 32 := Scalar.subi v59 v61
  let c128_i32_20 : BitVec 32 := 128#32
  let c0_i32_23 : BitVec 32 := 0#32
  let v63 : BitVec 1 := Scalar.cmpi .sgt c128_i32_20 c0_i32_23
  let v64 : BitVec 32 := Scalar.extui v63
  let c0_i32_24 : BitVec 32 := 0#32
  let v65 : BitVec 1 := Scalar.cmpi .slt c128_i32_20 c0_i32_24
  let v66 : BitVec 32 := Scalar.extui v65
  let v67 : BitVec 32 := Scalar.subi v64 v66
  let v68 : BitVec 1 := Scalar.cmpi .ne v62 v67
  let v69 : BitVec 32 := Scalar.remsi v4 c128_i32_20
  let c0_i32_25 : BitVec 32 := 0#32
  let v70 : BitVec 1 := Scalar.cmpi .ne v69 c0_i32_25
  let v71 : BitVec 1 := Scalar.andi v68 v70
  let v57 : BitVec 32 := Scalar.divsi v4 c128_i32_20
  let c1_i32_26 : BitVec 32 := 1#32
  let v72 : BitVec 32 := Scalar.subi v57 c1_i32_26
  let v73 : BitVec 32 := Scalar.select v71 v72 v57
  let v74 : Index := Scalar.indexCast v73
  let c0_28 : Index := 0#32
  let c0_29 : Index := 0#32
  ![0, v74.toNat, 0, 0]
def k0_off6 (i : grid0.Coords) : Fin 4 → Nat :=
  let c0_37 : Index := 0#32
  let c256_i32 : BitVec 32 := 256#32
  let arg1 : BitVec 32 := BitVec.ofNat 32 (i 1).val
  let c128_i32 : BitVec 32 := 128#32
  let v0 : BitVec 32 := Scalar.muli arg1 c128_i32
  let v1 : BitVec 32 := Scalar.addi c256_i32 v0
  let c128_i32_1 : BitVec 32 := 128#32
  let v5 : BitVec 32 := Scalar.addi v1 c128_i32_1
  let c16512_i32 : BitVec 32 := 16512#32
  let v6 : BitVec 32 := Scalar.minsi v5 c16512_i32
  let v7 : BitVec 32 := v6
  let c0_i32_31 : BitVec 32 := 0#32
  let v78 : BitVec 1 := Scalar.cmpi .sgt v7 c0_i32_31
  let v79 : BitVec 32 := Scalar.extui v78
  let c0_i32_32 : BitVec 32 := 0#32
  let v80 : BitVec 1 := Scalar.cmpi .slt v7 c0_i32_32
  let v81 : BitVec 32 := Scalar.extui v80
  let v82 : BitVec 32 := Scalar.subi v79 v81
  let c128_i32_30 : BitVec 32 := 128#32
  let c0_i32_33 : BitVec 32 := 0#32
  let v83 : BitVec 1 := Scalar.cmpi .sgt c128_i32_30 c0_i32_33
  let v84 : BitVec 32 := Scalar.extui v83
  let c0_i32_34 : BitVec 32 := 0#32
  let v85 : BitVec 1 := Scalar.cmpi .slt c128_i32_30 c0_i32_34
  let v86 : BitVec 32 := Scalar.extui v85
  let v87 : BitVec 32 := Scalar.subi v84 v86
  let v88 : BitVec 1 := Scalar.cmpi .ne v82 v87
  let v89 : BitVec 32 := Scalar.remsi v7 c128_i32_30
  let c0_i32_35 : BitVec 32 := 0#32
  let v90 : BitVec 1 := Scalar.cmpi .ne v89 c0_i32_35
  let v91 : BitVec 1 := Scalar.andi v88 v90
  let v77 : BitVec 32 := Scalar.divsi v7 c128_i32_30
  let c1_i32_36 : BitVec 32 := 1#32
  let v92 : BitVec 32 := Scalar.subi v77 c1_i32_36
  let v93 : BitVec 32 := Scalar.select v91 v92 v77
  let v94 : Index := Scalar.indexCast v93
  let c0_38 : Index := 0#32
  let c0_39 : Index := 0#32
  ![0, v94.toNat, 0, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![v0.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x130x144x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WindowIdeal.lean ====
variable {F : FTy → Type} [FloatOps F] [Named F]
def κ : String → Option EReal := fun
  | "mask" => some ⊥
  | _ => none
-- ==== WindowRefIdeal.lean ====
abbrev S16384x2x4x128 : Shape := ⟨4, ![16384, 2, 4, 128]⟩
abbrev S16640x2x128 : Shape := ⟨3, ![16640, 2, 128]⟩
abbrev S8 : Shape := ⟨1, ![8]⟩
abbrev S128x128x2x4x128 : Shape := ⟨5, ![128, 128, 2, 4, 128]⟩
abbrev S16384x2x128 : Shape := ⟨3, ![16384, 2, 128]⟩
abbrev S_ : Shape := ⟨0, ![]⟩
abbrev S130x128x2x128 : Shape := ⟨4, ![130, 128, 2, 128]⟩
abbrev S128x128x2x128 : Shape := ⟨4, ![128, 128, 2, 128]⟩
abbrev S128x384x2x128 : Shape := ⟨4, ![128, 384, 2, 128]⟩
abbrev S256x2x128 : Shape := ⟨3, ![256, 2, 128]⟩
abbrev S128x2x384x128x4 : Shape := ⟨5, ![128, 2, 384, 128, 4]⟩
abbrev S128x2x4x128x384 : Shape := ⟨5, ![128, 2, 4, 128, 384]⟩
abbrev S2x256x128x128x4 : Shape := ⟨5, ![2, 256, 128, 128, 4]⟩
abbrev S128x2x4x128x256 : Shape := ⟨5, ![128, 2, 4, 128, 256]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S1x128x384 : Shape := ⟨3, ![1, 128, 384]⟩
abbrev S128x1x384 : Shape := ⟨3, ![128, 1, 384]⟩
abbrev S128x128x384 : Shape := ⟨3, ![128, 128, 384]⟩
abbrev S128x1x1x128x384 : Shape := ⟨5, ![128, 1, 1, 128, 384]⟩
abbrev S1x2x4x1x1 : Shape := ⟨5, ![1, 2, 4, 1, 1]⟩
abbrev S128x2x4x128x1 : Shape := ⟨5, ![128, 2, 4, 128, 1]⟩
abbrev S128x2x4x128x641 : Shape := ⟨5, ![128, 2, 4, 128, 641]⟩
abbrev S128x2x4x128 : Shape := ⟨4, ![128, 2, 4, 128]⟩
abbrev S128x2x128x4x128 : Shape := ⟨5, ![128, 2, 128, 4, 128]⟩
abbrev S2x128x128x4x128 : Shape := ⟨5, ![2, 128, 128, 4, 128]⟩
abbrev S16384x1024 : Shape := ⟨2, ![16384, 1024]⟩
abbrev S256x1024 : Shape := ⟨2, ![256, 1024]⟩
abbrev S16640x1024 : Shape := ⟨2, ![16640, 1024]⟩

abbrev nBuf : Space → Nat
  | .hbm => 111
  | .vmem => 0
  | .smem => 0
  | _ => 0

abbrev bufTy : (tb : Table) → Fin (tcTables nBuf tb) → BufTy
  | .hbm, ⟨0, _⟩ => ⟨S16384x2x4x128, .f32⟩
  | .hbm, ⟨1, _⟩ => ⟨S16640x2x128, .f32⟩
  | .hbm, ⟨2, _⟩ => ⟨S16640x2x128, .f32⟩
  | .hbm, ⟨3, _⟩ => ⟨S8, .f32⟩
  | .hbm, ⟨4, _⟩ => ⟨S128x128x2x4x128, .f32⟩
  | .hbm, ⟨5, _⟩ => ⟨S16384x2x128, .f32⟩
  | .hbm, ⟨6, _⟩ => ⟨S_, .i32⟩
  | .hbm, ⟨7, _⟩ => ⟨S_, .f32⟩
  | .hbm, ⟨8, _⟩ => ⟨S16640x2x128, .f32⟩
  | .hbm, ⟨9, _⟩ => ⟨S130x128x2x128, .f32⟩
  | .hbm, ⟨10, _⟩ => ⟨S128x128x2x128, .f32⟩
  | .hbm, ⟨11, _⟩ => ⟨S128x128x2x128, .f32⟩
  | .hbm, ⟨12, _⟩ => ⟨S128x128x2x128, .f32⟩
  | .hbm, ⟨13, _⟩ => ⟨S128x384x2x128, .f32⟩
  | .hbm, ⟨14, _⟩ => ⟨S16384x2x128, .f32⟩
  | .hbm, ⟨15, _⟩ => ⟨S_, .i32⟩
  | .hbm, ⟨16, _⟩ => ⟨S_, .f32⟩
  | .hbm, ⟨17, _⟩ => ⟨S16640x2x128, .f32⟩
  | .hbm, ⟨18, _⟩ => ⟨S130x128x2x128, .f32⟩
  | .hbm, ⟨19, _⟩ => ⟨S128x128x2x128, .f32⟩
  | .hbm, ⟨20, _⟩ => ⟨S128x128x2x128, .f32⟩
  | .hbm, ⟨21, _⟩ => ⟨S128x128x2x128, .f32⟩
  | .hbm, ⟨22, _⟩ => ⟨S128x384x2x128, .f32⟩
  | .hbm, ⟨23, _⟩ => ⟨S256x2x128, .f32⟩
  | .hbm, ⟨24, _⟩ => ⟨S256x2x128, .f32⟩
  | .hbm, ⟨25, _⟩ => ⟨S128x2x384x128x4, .f32⟩
  | .hbm, ⟨26, _⟩ => ⟨S128x2x4x128x384, .f32⟩
  | .hbm, ⟨27, _⟩ => ⟨S_, .f32⟩
  | .hbm, ⟨28, _⟩ => ⟨S_, .f32⟩
  | .hbm, ⟨29, _⟩ => ⟨S128x2x4x128x384, .f32⟩
  | .hbm, ⟨30, _⟩ => ⟨S128x2x4x128x384, .f32⟩
  | .hbm, ⟨31, _⟩ => ⟨S2x256x128x128x4, .f32⟩
  | .hbm, ⟨32, _⟩ => ⟨S128x2x4x128x256, .f32⟩
  | .hbm, ⟨33, _⟩ => ⟨S_, .f32⟩
  | .hbm, ⟨34, _⟩ => ⟨S_, .f32⟩
  | .hbm, ⟨35, _⟩ => ⟨S128x2x4x128x256, .f32⟩
  | .hbm, ⟨36, _⟩ => ⟨S128x2x4x128x256, .f32⟩
  | .hbm, ⟨37, _⟩ => ⟨S384, .i32⟩
  | .hbm, ⟨38, _⟩ => ⟨S1x384, .i32⟩
  | .hbm, ⟨39, _⟩ => ⟨S_, .i32⟩
  | .hbm, ⟨40, _⟩ => ⟨S1x384, .i32⟩
  | .hbm, ⟨41, _⟩ => ⟨S1x384, .i32⟩
  | .hbm, ⟨42, _⟩ => ⟨S128, .i32⟩
  | .hbm, ⟨43, _⟩ => ⟨S128x1, .i32⟩
  | .hbm, ⟨44, _⟩ => ⟨S128x384, .i32⟩
  | .hbm, ⟨45, _⟩ => ⟨S128x384, .i32⟩
  | .hbm, ⟨46, _⟩ => ⟨S128x384, .i32⟩
  | .hbm, ⟨47, _⟩ => ⟨S128, .i32⟩
  | .hbm, ⟨48, _⟩ => ⟨S128x1, .i32⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S_, .i32⟩
  | .hbm, ⟨53, _⟩ => ⟨S128x1, .i32⟩
  | .hbm, ⟨54, _⟩ => ⟨S128x1, .i32⟩
  | .hbm, ⟨55, _⟩ => ⟨S384, .i32⟩
  | .hbm, ⟨56, _⟩ => ⟨S1x384, .i32⟩
  | .hbm, ⟨57, _⟩ => ⟨S128x384, .i32⟩
  | .hbm, ⟨58, _⟩ => ⟨S128x384, .i32⟩
  | .hbm, ⟨59, _⟩ => ⟨S128x384, .i32⟩
  | .hbm, ⟨60, _⟩ => ⟨S128x384, .i32⟩
  | .hbm, ⟨61, _⟩ => ⟨S_, .i32⟩
  | .hbm, ⟨62, _⟩ => ⟨S128x384, .i32⟩
  | .hbm, ⟨63, _⟩ => ⟨S128x384, .i1⟩
  | .hbm, ⟨64, _⟩ => ⟨S1x128x384, .i1⟩
  | .hbm, ⟨65, _⟩ => ⟨S_, .i32⟩
  | .hbm, ⟨66, _⟩ => ⟨S128x384, .i32⟩
  | .hbm, ⟨67, _⟩ => ⟨S128x384, .i1⟩
  | .hbm, ⟨68, _⟩ => ⟨S_, .i32⟩
  | .hbm, ⟨69, _⟩ => ⟨S128x384, .i32⟩
  | .hbm, ⟨70, _⟩ => ⟨S128x384, .i1⟩
  | .hbm, ⟨71, _⟩ => ⟨S128x384, .i1⟩
  | .hbm, ⟨72, _⟩ => ⟨S128x1x384, .i1⟩
  | .hbm, ⟨73, _⟩ => ⟨S128x128x384, .i1⟩
  | .hbm, ⟨74, _⟩ => ⟨S128x128x384, .i1⟩
  | .hbm, ⟨75, _⟩ => ⟨S128x128x384, .i1⟩
  | .hbm, ⟨76, _⟩ => ⟨S128x1x1x128x384, .i1⟩
  | .hbm, ⟨77, _⟩ => ⟨S_, .f32⟩
  | .hbm, ⟨78, _⟩ => ⟨S_, .f32⟩
  | .hbm, ⟨79, _⟩ => ⟨S128x2x4x128x384, .i1⟩
  | .hbm, ⟨80, _⟩ => ⟨S128x2x4x128x384, .f32⟩
  | .hbm, ⟨81, _⟩ => ⟨S128x2x4x128x384, .f32⟩
  | .hbm, ⟨82, _⟩ => ⟨S1x2x4x1x1, .f32⟩
  | .hbm, ⟨83, _⟩ => ⟨S128x2x4x128x1, .f32⟩
  | .hbm, ⟨84, _⟩ => ⟨S128x2x4x128x641, .f32⟩
  | .hbm, ⟨85, _⟩ => ⟨S_, .f32⟩
  | .hbm, ⟨86, _⟩ => ⟨S128x2x4x128, .f32⟩
  | .hbm, ⟨87, _⟩ => ⟨S_, .f32⟩
  | .hbm, ⟨88, _⟩ => ⟨S128x2x4x128, .f32⟩
  | .hbm, ⟨89, _⟩ => ⟨S128x2x4x128, .f32⟩
  | .hbm, ⟨90, _⟩ => ⟨S128x2x4x128x1, .f32⟩
  | .hbm, ⟨91, _⟩ => ⟨S128x2x4x128x641, .f32⟩
  | .hbm, ⟨92, _⟩ => ⟨S128x2x4x128x641, .f32⟩
  | .hbm, ⟨93, _⟩ => ⟨S128x2x4x128x641, .f32⟩
  | .hbm, ⟨94, _⟩ => ⟨S_, .f32⟩
  | .hbm, ⟨95, _⟩ => ⟨S128x2x4x128, .f32⟩
  | .hbm, ⟨96, _⟩ => ⟨S128x2x4x128x1, .f32⟩
  | .hbm, ⟨97, _⟩ => ⟨S128x2x4x128x641, .f32⟩
  | .hbm, ⟨98, _⟩ => ⟨S128x2x4x128x641, .f32⟩
  | .hbm, ⟨99, _⟩ => ⟨S128x2x4x128x384, .f32⟩
  | .hbm, ⟨100, _⟩ => ⟨S128x2x128x4x128, .f32⟩
  | .hbm, ⟨101, _⟩ => ⟨S128x128x2x4x128, .f32⟩
  | .hbm, ⟨102, _⟩ => ⟨S128x2x4x128x256, .f32⟩
  | .hbm, ⟨103, _⟩ => ⟨S2x128x128x4x128, .f32⟩
  | .hbm, ⟨104, _⟩ => ⟨S128x128x2x4x128, .f32⟩
  | .hbm, ⟨105, _⟩ => ⟨S128x128x2x4x128, .f32⟩
  | .hbm, ⟨106, _⟩ => ⟨S16384x1024, .f32⟩
  | .hbm, ⟨107, _⟩ => ⟨S_, .f32⟩
  | .hbm, ⟨108, _⟩ => ⟨S256x1024, .f32⟩
  | .hbm, ⟨109, _⟩ => ⟨S16640x1024, .f32⟩
  | .hbm, ⟨110, _⟩ => ⟨S16640x1024, .bf16⟩
  | _, _ => ⟨S16384x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_c_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_6 : Ref sig .tc := ⟨.hbm, 65, rfl⟩
abbrev main_v51 : Ref sig .tc := ⟨.hbm, 66, rfl⟩
abbrev main_v52 : Ref sig .tc := ⟨.hbm, 67, rfl⟩
abbrev main_c_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_12 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== Proof.Trip.lean ====
/-
  One trip of the kernel's loop over key chunks. A trip handles thirteen chunks of 256 keys for four query
  heads; per chunk and head it forms the scores, raises the running column maximum, rescales the head's
  accumulator and adds the chunk's weighted values. The recursions `mx` and `ac` below are that arithmetic for
  one head; the theorems state that what the trip carries and leaves in its scratch buffer is `mx` and `ac`
  after thirteen chunks.
-/
module

public import proofs.«01_k».proof.Proof.Gen.GlobalIdeal.Value
public import Idealize.ShloMosaic.Lib.Pipeline.ReadBack

@[expose] public section

set_option maxRecDepth 16384

noncomputable section

namespace Cert.GlobalIdeal.Hand

open Cert.GlobalIdeal Cert.GlobalIdeal.Gen
open Idealize.ShloMosaic Idealize.ShloMosaic.TcCoe Idealize.SL.Sem

variable {F : FTy → Type} [FloatOps F]

/-- The scores of one chunk of keys against one head's queries: keys down the rows, queries along the columns. -/
def scoreTile (q kc : Vec F S256x128 .bf16) : FVec F S256x256 .f32 :=
  matmul dot_S256x128_S256x128_S256x256_1_1_0_0_n_n none (shapeCast S256x128 kc shapeCasts_S256x128_S256x128)
    (shapeCast S256x128 q shapeCasts_S256x128_S256x128) (constant S256x256 .f32 0x00000000#32)

/-- The running maximum after one more chunk of scores. -/
def mxStep (s : FVec F S256x256 .f32) (m : FVec F S1x256 .f32) : FVec F S1x256 .f32 :=
  maximumf m (shapeCast S1x256 (multiReduction .maximumf [0] S256 s 0xFF800000#32 reduces_S256x256_S256 (.inl rfl) rfl) shapeCasts_S256_S1x256)

/-- The accumulator after one more chunk: `m` is the running maximum before it and `m'` the one after it. -/
def acStep (s : FVec F S256x256 .f32) (vt : Vec F S1x1x144x256 .bf16) (m m' : FVec F S1x256 .f32) (a : Vec F S1x144x256 .f32) : Vec F S1x144x256 .f32 :=
  shapeCast S1x144x256
    (addf (mulf (broadcastTo S144x256 (exp2 (subf m m')) broadcasts_S1x256_S144x256) (shapeCast S144x256 a shapeCasts_S1x144x256_S144x256))
      (matmul dot_S144x256_S256x256_S144x256_1_0_0_1_n_n none (shapeCast S144x256 vt shapeCasts_S1x1x144x256_S144x256)
        (truncf .bf16 (exp2 (subf s (broadcastTo S256x256 m' broadcasts_S1x256_S256x256))) bitsLt_bf16_f32)
        (constant S144x256 .f32 0x00000000#32))) shapeCasts_S144x256_S1x144x256

/-- The running maximum after `u` chunks of scores `S`, from `m0`. -/
def mx (S : ℕ → FVec F S256x256 .f32) (m0 : FVec F S1x256 .f32) : ℕ → FVec F S1x256 .f32
  | 0 => m0
  | u + 1 => mxStep (S u) (mx S m0 u)

/-- The accumulator after `u` chunks of scores `S` and values `V`, from `m0` and `a0`. -/
def ac (S : ℕ → FVec F S256x256 .f32) (V : ℕ → Vec F S1x1x144x256 .bf16) (m0 : FVec F S1x256 .f32) (a0 : Vec F S1x144x256 .f32) : ℕ → Vec F S1x144x256 .f32
  | 0 => a0
  | u + 1 => acStep (S u) (V u) (mx S m0 u) (mx S m0 (u + 1)) (ac S V m0 a0 u)

/-- Running on: the maximum after `a + u` chunks is the one after `u` chunks from the one after `a`. -/
theorem mx_add (S : ℕ → FVec F S256x256 .f32) (m0 : FVec F S1x256 .f32) (a u : ℕ) :
    mx S m0 (a + u) = mx (fun n => S (a + n)) (mx S m0 a) u := by
  induction u with
  | zero => rfl
  | succ u ih => show mxStep (S (a + u)) (mx S m0 (a + u)) = _; rw [ih]; rfl

/-- The same for the accumulator. -/
theorem ac_add (S : ℕ → FVec F S256x256 .f32) (V : ℕ → Vec F S1x1x144x256 .bf16) (m0 : FVec F S1x256 .f32) (a0 : Vec F S1x144x256 .f32) (a u : ℕ) :
    ac S V m0 a0 (a + u) = ac (fun n => S (a + n)) (fun n => V (a + n)) (mx S m0 a) (ac S V m0 a0 a) u := by
  induction u with
  | zero => rfl
  | succ u ih =>
    show acStep (S (a + u)) (V (a + u)) (mx S m0 (a + u)) (mx S m0 (a + (u + 1))) (ac S V m0 a0 (a + u)) = _
    rw [ih, mx_add, mx_add]; rfl

/-- Only the chunks below `u` matter. -/
theorem mx_congr {S S' : ℕ → FVec F S256x256 .f32} (m0 : FVec F S1x256 .f32) (u : ℕ) (h : ∀ n < u, S n = S' n) : mx S m0 u = mx S' m0 u := by
  induction u with
  | zero => rfl
  | succ u ih =>
    show mxStep (S u) _ = mxStep (S' u) _
    rw [h u (Nat.lt_succ_self u), ih fun n hn => h n (Nat.lt_succ_of_lt hn)]

/-- Only the chunks below `u` matter. -/
theorem ac_congr {S S' : ℕ → FVec F S256x256 .f32} {V V' : ℕ → Vec F S1x1x144x256 .bf16} (m0 : FVec F S1x256 .f32) (a0 : Vec F S1x144x256 .f32) (u : ℕ)
    (h : ∀ n < u, S n = S' n) (h' : ∀ n < u, V n = V' n) : ac S V m0 a0 u = ac S' V' m0 a0 u := by
  induction u with
  | zero => rfl
  | succ u ih =>
    show acStep (S u) (V u) (mx S m0 u) (mx S m0 (u + 1)) (ac S V m0 a0 u) = acStep (S' u) (V' u) (mx S' m0 u) (mx S' m0 (u + 1)) (ac S' V' m0 a0 u)
    rw [h u (Nat.lt_succ_self u), h' u (Nat.lt_succ_self u), ih (fun n hn => h n (Nat.lt_succ_of_lt hn)) (fun n hn => h' n (Nat.lt_succ_of_lt hn)),
      mx_congr m0 u (fun n hn => h n (Nat.lt_succ_of_lt hn)), mx_congr m0 (u + 1) h]

/-! ## The scratch buffer's four slots -/

section
variable (v : View sig .tc .vmem S4x144x256 .f32)

/-- A load of slot 0 after stores to the other three reads the store to slot 0 before them. -/
theorem hit0 (a b c d : Vec F S1x144x256 .f32) (L : List (View.Piece (Elt F) S4x144x256 .f32)) :
    v.readCov (⟨(Rect.unit (s := S4x144x256) ![3, 0, 0] S1x144x256.size inb_S4x144x256_S1x144x256_3_0_0), a⟩ :: ⟨(Rect.unit (s := S4x144x256) ![2, 0, 0] S1x144x256.size inb_S4x144x256_S1x144x256_2_0_0), b⟩ :: ⟨(Rect.unit (s := S4x144x256) ![1, 0, 0] S1x144x256.size inb_S4x144x256_S1x144x256_1_0_0), c⟩ :: ⟨(Rect.unit (s := S4x144x256) ![0, 0, 0] S1x144x256.size inb_S4x144x256_S1x144x256_0_0_0), d⟩ :: L) (Rect.unit (s := S4x144x256) ![0, 0, 0] S1x144x256.size inb_S4x144x256_S1x144x256_0_0_0).toLoadRect = d := by
  rw [View.readCov_skip v _ _ _ _ (by decide), View.readCov_skip v _ _ _ _ (by decide), View.readCov_skip v _ _ _ _ (by decide)]
  exact View.readCov_cons_toLoadRect v _ _ _

/-- A load of slot 1 after stores to the other three reads the store to slot 1 before them. -/
theorem hit1 (a b c d : Vec F S1x144x256 .f32) (L : List (View.Piece (Elt F) S4x144x256 .f32)) :
    v.readCov (⟨(Rect.unit (s := S4x144x256) ![0, 0, 0] S1x144x256.size inb_S4x144x256_S1x144x256_0_0_0), a⟩ :: ⟨(Rect.unit (s := S4x144x256) ![3, 0, 0] S1x144x256.size inb_S4x144x256_S1x144x256_3_0_0), b⟩ :: ⟨(Rect.unit (s := S4x144x256) ![2, 0, 0] S1x144x256.size inb_S4x144x256_S1x144x256_2_0_0), c⟩ :: ⟨(Rect.unit (s := S4x144x256) ![1, 0, 0] S1x144x256.size inb_S4x144x256_S1x144x256_1_0_0), d⟩ :: L) (Rect.unit (s := S4x144x256) ![1, 0, 0] S1x144x256.size inb_S4x144x256_S1x144x256_1_0_0).toLoadRect = d := by
  rw [View.readCov_skip v _ _ _ _ (by decide), View.readCov_skip v _ _ _ _ (by decide), View.readCov_skip v _ _ _ _ (by decide)]
  exact View.readCov_cons_toLoadRect v _ _ _

/-- A load of slot 2 after stores to the other three reads the store to slot 2 before them. -/
theorem hit2 (a b c d : Vec F S1x144x256 .f32) (L : List (View.Piece (Elt F) S4x144x256 .f32)) :
    v.readCov (⟨(Rect.unit (s := S4x144x256) ![1, 0, 0] S1x144x256.size inb_S4x144x256_S1x144x256_1_0_0), a⟩ :: ⟨(Rect.unit (s := S4x144x256) ![0, 0, 0] S1x144x256.size inb_S4x144x256_S1x144x256_0_0_0), b⟩ :: ⟨(Rect.unit (s := S4x144x256) ![3, 0, 0] S1x144x256.size inb_S4x144x256_S1x144x256_3_0_0), c⟩ :: ⟨(Rect.unit (s := S4x144x256) ![2, 0, 0] S1x144x256.size inb_S4x144x256_S1x144x256_2_0_0), d⟩ :: L) (Rect.unit (s := S4x144x256) ![2, 0, 0] S1x144x256.size inb_S4x144x256_S1x144x256_2_0_0).toLoadRect = d := by
  rw [View.readCov_skip v _ _ _ _ (by decide), View.readCov_skip v _ _ _ _ (by decide), View.readCov_skip v _ _ _ _ (by decide)]
  exact View.readCov_cons_toLoadRect v _ _ _

/-- A load of slot 3 after stores to the other three reads the store to slot 3 before them. -/
theorem hit3 (a b c d : Vec F S1x144x256 .f32) (L : List (View.Piece (Elt F) S4x144x256 .f32)) :
    v.readCov (⟨(Rect.unit (s := S4x144x256) ![2, 0, 0] S1x144x256.size inb_S4x144x256_S1x144x256_2_0_0), a⟩ :: ⟨(Rect.unit (s := S4x144x256) ![1, 0, 0] S1x144x256.size inb_S4x144x256_S1x144x256_1_0_0), b⟩ :: ⟨(Rect.unit (s := S4x144x256) ![0, 0, 0] S1x144x256.size inb_S4x144x256_S1x144x256_0_0_0), c⟩ :: ⟨(Rect.unit (s := S4x144x256) ![3, 0, 0] S1x144x256.size inb_S4x144x256_S1x144x256_3_0_0), d⟩ :: L) (Rect.unit (s := S4x144x256) ![3, 0, 0] S1x144x256.size inb_S4x144x256_S1x144x256_3_0_0).toLoadRect = d := by
  rw [View.readCov_skip v _ _ _ _ (by decide), View.readCov_skip v _ _ _ _ (by decide), View.readCov_skip v _ _ _ _ (by decide)]
  exact View.readCov_cons_toLoadRect v _ _ _

/-- After stores to the four slots, slot 0 holds the store to it, whatever was there before. -/
theorem end0 (a b c d : Vec F S1x144x256 .f32) (L : List (View.Piece (Elt F) S4x144x256 .f32)) (f : BufTy.Contents (Elt F) v.ty) :
    v.readAt (Elt F) (Rect.unit (s := S4x144x256) ![0, 0, 0] S1x144x256.size inb_S4x144x256_S1x144x256_0_0_0).toLoadRect (v.writes (Elt F) f (⟨(Rect.unit (s := S4x144x256) ![3, 0, 0] S1x144x256.size inb_S4x144x256_S1x144x256_3_0_0), a⟩ :: ⟨(Rect.unit (s := S4x144x256) ![2, 0, 0] S1x144x256.size inb_S4x144x256_S1x144x256_2_0_0), b⟩ :: ⟨(Rect.unit (s := S4x144x256) ![1, 0, 0] S1x144x256.size inb_S4x144x256_S1x144x256_1_0_0), c⟩ :: ⟨(Rect.unit (s := S4x144x256) ![0, 0, 0] S1x144x256.size inb_S4x144x256_S1x144x256_0_0_0), d⟩ :: L)) = d := by
  refine (View.readAt_writes_of_cover v f _ _ ?_).trans ?_
  · intro j
    exact ⟨_, .tail _ (.tail _ (.tail _ (.head _))), LoadRect.idx_mem _ j⟩
  rw [View.readCov_skip v _ _ _ _ (by decide), View.readCov_skip v _ _ _ _ (by decide), View.readCov_skip v _ _ _ _ (by decide)]
  exact View.readCov_cons_toLoadRect v _ _ _

/-- After stores to the four slots, slot 1 holds the store to it, whatever was there before. -/
theorem end1 (a b c d : Vec F S1x144x256 .f32) (L : List (View.Piece (Elt F) S4x144x256 .f32)) (f : BufTy.Contents (Elt F) v.ty) :
    v.readAt (Elt F) (Rect.unit (s := S4x144x256) ![1, 0, 0] S1x144x256.size inb_S4x144x256_S1x144x256_1_0_0).toLoadRect (v.writes (Elt F) f (⟨(Rect.unit (s := S4x144x256) ![3, 0, 0] S1x144x256.size inb_S4x144x256_S1x144x256_3_0_0), a⟩ :: ⟨(Rect.unit (s := S4x144x256) ![2, 0, 0] S1x144x256.size inb_S4x144x256_S1x144x256_2_0_0), b⟩ :: ⟨(Rect.unit (s := S4x144x256) ![1, 0, 0] S1x144x256.size inb_S4x144x256_S1x144x256_1_0_0), c⟩ :: ⟨(Rect.unit (s := S4x144x256) ![0, 0, 0] S1x144x256.size inb_S4x144x256_S1x144x256_0_0_0), d⟩ :: L)) = c := by
  refine (View.readAt_writes_of_cover v f _ _ ?_).trans ?_
  · intro j
    exact ⟨_, .tail _ (.tail _ (.head _)), LoadRect.idx_mem _ j⟩
  rw [View.readCov_skip v _ _ _ _ (by decide), View.readCov_skip v _ _ _ _ (by decide)]
  exact View.readCov_cons_toLoadRect v _ _ _

/-- After stores to the four slots, slot 2 holds the store to it, whatever was there before. -/
theorem end2 (a b c d : Vec F S1x144x256 .f32) (L : List (View.Piece (Elt F) S4x144x256 .f32)) (f : BufTy.Contents (Elt F) v.ty) :
    v.readAt (Elt F) (Rect.unit (s := S4x144x256) ![2, 0, 0] S1x144x256.size inb_S4x144x256_S1x144x256_2_0_0).toLoadRect (v.writes (Elt F) f (⟨(Rect.unit (s := S4x144x256) ![3, 0, 0] S1x144x256.size inb_S4x144x256_S1x144x256_3_0_0), a⟩ :: ⟨(Rect.unit (s := S4x144x256) ![2, 0, 0] S1x144x256.size inb_S4x144x256_S1x144x256_2_0_0), b⟩ :: ⟨(Rect.unit (s := S4x144x256) ![1, 0, 0] S1x144x256.size inb_S4x144x256_S1x144x256_1_0_0), c⟩ :: ⟨(Rect.unit (s := S4x144x256) ![0, 0, 0] S1x144x256.size inb_S4x144x256_S1x144x256_0_0_0), d⟩ :: L)) = b := by
  refine (View.readAt_writes_of_cover v f _ _ ?_).trans ?_
  · intro j
    exact ⟨_, .tail _ (.head _), LoadRect.idx_mem _ j⟩
  rw [View.readCov_skip v _ _ _ _ (by decide)]
  exact View.readCov_cons_toLoadRect v _ _ _

/-- After stores to the four slots, slot 3 holds the store to it, whatever was there before. -/
theorem end3 (a b c d : Vec F S1x144x256 .f32) (L : List (View.Piece (Elt F) S4x144x256 .f32)) (f : BufTy.Contents (Elt F) v.ty) :
    v.readAt (Elt F) (Rect.unit (s := S4x144x256) ![3, 0, 0] S1x144x256.size inb_S4x144x256_S1x144x256_3_0_0).toLoadRect (v.writes (Elt F) f (⟨(Rect.unit (s := S4x144x256) ![3, 0, 0] S1x144x256.size inb_S4x144x256_S1x144x256_3_0_0), a⟩ :: ⟨(Rect.unit (s := S4x144x256) ![2, 0, 0] S1x144x256.size inb_S4x144x256_S1x144x256_2_0_0), b⟩ :: ⟨(Rect.unit (s := S4x144x256) ![1, 0, 0] S1x144x256.size inb_S4x144x256_S1x144x256_1_0_0), c⟩ :: ⟨(Rect.unit (s := S4x144x256) ![0, 0, 0] S1x144x256.size inb_S4x144x256_S1x144x256_0_0_0), d⟩ :: L)) = a := by
  refine (View.readAt_writes_of_cover v f _ _ ?_).trans ?_
  · intro j
    exact ⟨_, .head _, LoadRect.idx_mem _ j⟩
  exact View.readCov_cons_toLoadRect v _ _ _

end

/-! ## One trip -/

section
variable (arg3 : Memref sig .tc .vmem S16640x128 .bf16) (arg4 : Memref sig .tc .vmem S1x65x144x256 .bf16) (arg6 : Memref sig .tc .vmem S4x144x256 .f32)
variable (v4 v6 v8 v10 : Vec F S256x128 .bf16) (X_arg3 : BufTy.Contents (Elt F) arg3.view.ty) (X_arg4 : BufTy.Contents (Elt F) arg4.view.ty)
variable (k : Fin k0_t1_loop.trips) (acc : FVec F S1x256 .f32 × FVec F S1x256 .f32 × FVec F S1x256 .f32 × FVec F S1x256 .f32) (f : BufTy.Contents (Elt F) arg6.view.ty)

/-- The trip's `u`-th chunk of keys. -/
def keyChunk (u : ℕ) : Vec F S256x128 .bf16 :=
  View.readAt (Elt F) arg3.view (Rect.unit (s := S16640x128) (k0_off1 k (BitVec.ofNat 32 (Fin.ofNat 13 u).val)) S256x128.size (k0_off1_inb k (Fin.ofNat 13 u))).toLoadRect X_arg3

/-- The trip's `u`-th chunk of transposed values. -/
def valChunk (u : ℕ) : Vec F S1x1x144x256 .bf16 :=
  View.readAt (Elt F) arg4.view (Rect.unit (s := S1x65x144x256) (k0_off2 k (BitVec.ofNat 32 (Fin.ofNat 13 u).val)) S1x1x144x256.size (k0_off2_inb k (Fin.ofNat 13 u))).toLoadRect X_arg4

/-- The trip's `u`-th tile of scores for the queries `q`. -/
def trS (q : Vec F S256x128 .bf16) (u : ℕ) : FVec F S256x256 .f32 := scoreTile q (keyChunk arg3 X_arg3 k u)

/-- Slot 0 of the scratch buffer. -/
def slot0 : Vec F S1x144x256 .f32 := View.readAt (Elt F) arg6.view (Rect.unit (s := S4x144x256) ![0, 0, 0] S1x144x256.size inb_S4x144x256_S1x144x256_0_0_0).toLoadRect f

/-- Slot 1 of the scratch buffer. -/
def slot1 : Vec F S1x144x256 .f32 := View.readAt (Elt F) arg6.view (Rect.unit (s := S4x144x256) ![1, 0, 0] S1x144x256.size inb_S4x144x256_S1x144x256_1_0_0).toLoadRect f

/-- Slot 2 of the scratch buffer. -/
def slot2 : Vec F S1x144x256 .f32 := View.readAt (Elt F) arg6.view (Rect.unit (s := S4x144x256) ![2, 0, 0] S1x144x256.size inb_S4x144x256_S1x144x256_2_0_0).toLoadRect f

/-- Slot 3 of the scratch buffer. -/
def slot3 : Vec F S1x144x256 .f32 := View.readAt (Elt F) arg6.view (Rect.unit (s := S4x144x256) ![3, 0, 0] S1x144x256.size inb_S4x144x256_S1x144x256_3_0_0).toLoadRect f

/-- What the trip loads from slot 0 before its chunk 1. -/
theorem load_1_0 : trip_k0_t1.sl.v220 arg3 arg4 arg6 v4 v6 v8 v10 X_arg3 X_arg4 k acc f = ac (trS arg3 X_arg3 k v4) (valChunk arg4 X_arg4 k) acc.1 (slot0 arg6 f) 1 := by
  refine (show trip_k0_t1.sl.v220 arg3 arg4 arg6 v4 v6 v8 v10 X_arg3 X_arg4 k acc f = acStep (trS arg3 X_arg3 k v4 0) (valChunk arg4 X_arg4 k 0) (mx (trS arg3 X_arg3 k v4) acc.1 0) (mx (trS arg3 X_arg3 k v4) acc.1 1) (slot0 arg6 f) from
    hit0 arg6.view _ _ _ _ _).trans ?_
  rfl

/-- What the trip loads from slot 1 before its chunk 1. -/
theorem load_1_1 : trip_k0_t1.sl.v228 arg3 arg4 arg6 v4 v6 v8 v10 X_arg3 X_arg4 k acc f = ac (trS arg3 X_arg3 k v6) (valChunk arg4 X_arg4 k) acc.2.1 (slot1 arg6 f) 1 := by
  refine (show trip_k0_t1.sl.v228 arg3 arg4 arg6 v4 v6 v8 v10 X_arg3 X_arg4 k acc f = acStep (trS arg3 X_arg3 k v6 0) (valChunk arg4 X_arg4 k 0) (mx (trS arg3 X_arg3 k v6) acc.2.1 0) (mx (trS arg3 X_arg3 k v6) acc.2.1 1) (slot1 arg6 f) from
    hit1 arg6.view _ _ _ _ _).trans ?_
  rfl

/-- What the trip loads from slot 2 before its chunk 1. -/
theorem load_1_2 : trip_k0_t1.sl.v236 arg3 arg4 arg6 v4 v6 v8 v10 X_arg3 X_arg4 k acc f = ac (trS arg3 X_arg3 k v8) (valChunk arg4 X_arg4 k) acc.2.2.1 (slot2 arg6 f) 1 := by
  refine (show trip_k0_t1.sl.v236 arg3 arg4 arg6 v4 v6 v8 v10 X_arg3 X_arg4 k acc f = acStep (trS arg3 X_arg3 k v8 0) (valChunk arg4 X_arg4 k 0) (mx (trS arg3 X_arg3 k v8) acc.2.2.1 0) (mx (trS arg3 X_arg3 k v8) acc.2.2.1 1) (slot2 arg6 f) from
    hit2 arg6.view _ _ _ _ _).trans ?_
  rfl

/-- What the trip loads from slot 3 before its chunk 1. -/
theorem load_1_3 : trip_k0_t1.sl.v244 arg3 arg4 arg6 v4 v6 v8 v10 X_arg3 X_arg4 k acc f = ac (trS arg3 X_arg3 k v10) (valChunk arg4 X_arg4 k) acc.2.2.2 (slot3 arg6 f) 1 := by
  refine (show trip_k0_t1.sl.v244 arg3 arg4 arg6 v4 v6 v8 v10 X_arg3 X_arg4 k acc f = acStep (trS arg3 X_arg3 k v10 0) (valChunk arg4 X_arg4 k 0) (mx (trS arg3 X_arg3 k v10) acc.2.2.2 0) (mx (trS arg3 X_arg3 k v10) acc.2.2.2 1) (slot3 arg6 f) from
    hit3 arg6.view _ _ _ _ _).trans ?_
  rfl

/-- What the trip loads from slot 0 before its chunk 2. -/
theorem load_2_0 : trip_k0_t1.sl.v308 arg3 arg4 arg6 v4 v6 v8 v10 X_arg3 X_arg4 k acc f = ac (trS arg3 X_arg3 k v4) (valChunk arg4 X_arg4 k) acc.1 (slot0 arg6 f) 2 := by
  refine (show trip_k0_t1.sl.v308 arg3 arg4 arg6 v4 v6 v8 v10 X_arg3 X_arg4 k acc f = acStep (trS arg3 X_arg3 k v4 1) (valChunk arg4 X_arg4 k 1) (mx (trS arg3 X_arg3 k v4) acc.1 1) (mx (trS arg3 X_arg3 k v4) acc.1 2) (trip_k0_t1.sl.v220 arg3 arg4 arg6 v4 v6 v8 v10 X_arg3 X_arg4 k acc f) from
    hit0 arg6.view _ _ _ _ _).trans ?_
  rw [load_1_0]; rfl

/-- What the trip loads from slot 1 before its chunk 2. -/
theorem load_2_1 : trip_k0_t1.sl.v316 arg3 arg4 arg6 v4 v6 v8 v10 X_arg3 X_arg4 k acc f = ac (trS arg3 X_arg3 k v6) (valChunk arg4 X_arg4 k) acc.2.1 (slot1 arg6 f) 2 := by
  refine (show trip_k0_t1.sl.v316 arg3 arg4 arg6 v4 v6 v8 v10 X_arg3 X_arg4 k acc f = acStep (trS arg3 X_arg3 k v6 1) (valChunk arg4 X_arg4 k 1) (mx (trS arg3 X_arg3 k v6) acc.2.1 1) (mx (trS arg3 X_arg3 k v6) acc.2.1 2) (trip_k0_t1.sl.v228 arg3 arg4 arg6 v4 v6 v8 v10 X_arg3 X_arg4 k acc f) from
    hit1 arg6.view _ _ _ _ _).trans ?_
  rw [load_1_1]; rfl

/-- What the trip loads from slot 2 before its chunk 2. -/
theorem load_2_2 : trip_k0_t1.sl.v324 arg3 arg4 arg6 v4 v6 v8 v10 X_arg3 X_arg4 k acc f = ac (trS arg3 X_arg3 k v8) (valChunk arg4 X_arg4 k) acc.2.2.1 (slot2 arg6 f) 2 := by
  refine (show trip_k0_t1.sl.v324 arg3 arg4 arg6 v4 v6 v8 v10 X_arg3 X_arg4 k acc f = acStep (trS arg3 X_arg3 k v8 1) (valChunk arg4 X_arg4 k 1) (mx (trS arg3 X_arg3 k v8) acc.2.2.1 1) (mx (trS arg3 X_arg3 k v8) acc.2.2.1 2) (trip_k0_t1.sl.v236 arg3 arg4 arg6 v4 v6 v8 v10 X_arg3 X_arg4 k acc f) from
    hit2 arg6.view _ _ _ _ _).trans ?_
  rw [load_1_2]; rfl

/-- What the trip loads from slot 3 before its chunk 2. -/
theorem load_2_3 : trip_k0_t1.sl.v332 arg3 arg4 arg6 v4 v6 v8 v10 X_arg3 X_arg4 k acc f = ac (trS arg3 X_arg3 k v10) (valChunk arg4 X_arg4 k) acc.2.2.2 (slot3 arg6 f) 2 := by
  refine (show trip_k0_t1.sl.v332 arg3 arg4 arg6 v4 v6 v8 v10 X_arg3 X_arg4 k acc f = acStep (trS arg3 X_arg3 k v10 1) (valChunk arg4 X_arg4 k 1) (mx (trS arg3 X_arg3 k v10) acc.2.2.2 1) (mx (trS arg3 X_arg3 k v10) acc.2.2.2 2) (trip_k0_t1.sl.v244 arg3 arg4 arg6 v4 v6 v8 v10 X_arg3 X_arg4 k acc f) from
    hit3 arg6.view _ _ _ _ _).trans ?_
  rw [load_1_3]; rfl

/-- What the trip loads from slot 0 before its chunk 3. -/
theorem load_3_0 : trip_k0_t1.sl.v396 arg3 arg4 arg6 v4 v6 v8 v10 X_arg3 X_arg4 k acc f = ac (trS arg3 X_arg3 k v4) (valChunk arg4 X_arg4 k) acc.1 (slot0 arg6 f) 3 := by
  refine (show trip_k0_t1.sl.v396 arg3 arg4 arg6 v4 v6 v8 v10 X_arg3 X_arg4 k acc f = acStep (trS arg3 X_arg3 k v4 2) (valChunk arg4 X_arg4 k 2) (mx (trS arg3 X_arg3 k v4) acc.1 2) (mx (trS arg3 X_arg3 k v4) acc.1 3) (trip_k0_t1.sl.v308 arg3 arg4 arg6 v4 v6 v8 v10 X_arg3 X_arg4 k acc f) from
    hit0 arg6.view _ _ _ _ _).trans ?_
  rw [load_2_0]; rfl

/-- What the trip loads from slot 1 before its chunk 3. -/
theorem load_3_1 : trip_k0_t1.sl.v404 arg3 arg4 arg6 v4 v6 v8 v10 X_arg3 X_arg4 k acc f = ac (trS arg3 X_arg3 k v6) (valChunk arg4 X_arg4 k) acc.2.1 (slot1 arg6 f) 3 := by
  refine (show trip_k0_t1.sl.v404 arg3 arg4 arg6 v4 v6 v8 v10 X_arg3 X_arg4 k acc f = acStep (trS arg3 X_arg3 k v6 2) (valChunk arg4 X_arg4 k 2) (mx (trS arg3 X_arg3 k v6) acc.2.1 2) (mx (trS arg3 X_arg3 k v6) acc.2.1 3) (trip_k0_t1.sl.v316 arg3 arg4 arg6 v4 v6 v8 v10 X_arg3 X_arg4 k acc f) from
    hit1 arg6.view _ _ _ _ _).trans ?_
  rw [load_2_1]; rfl

/-- What the trip loads from slot 2 before its chunk 3. -/
theorem load_3_2 : trip_k0_t1.sl.v412 arg3 arg4 arg6 v4 v6 v8 v10 X_arg3 X_arg4 k acc f = ac (trS arg3 X_arg3 k v8) (valChunk arg4 X_arg4 k) acc.2.2.1 (slot2 arg6 f) 3 := by
  refine (show trip_k0_t1.sl.v412 arg3 arg4 arg6 v4 v6 v8 v10 X_arg3 X_arg4 k acc f = acStep (trS arg3 X_arg3 k v8 2) (valChunk arg4 X_arg4 k 2) (mx (trS arg3 X_arg3 k v8) acc.2.2.1 2) (mx (trS arg3 X_arg3 k v8) acc.2.2.1 3) (trip_k0_t1.sl.v324 arg3 arg4 arg6 v4 v6 v8 v10 X_arg3 X_arg4 k acc f) from
    hit2 arg6.view _ _ _ _ _).trans ?_
  rw [load_2_2]; rfl

/-- What the trip loads from slot 3 before its chunk 3. -/
theorem load_3_3 : trip_k0_t1.sl.v420 arg3 arg4 arg6 v4 v6 v8 v10 X_arg3 X_arg4 k acc f = ac (trS arg3 X_arg3 k v10) (valChunk arg4 X_arg4 k) acc.2.2.2 (slot3 arg6 f) 3 := by
  refine (show trip_k0_t1.sl.v420 arg3 arg4 arg6 v4 v6 v8 v10 X_arg3 X_arg4 k acc f = acStep (trS arg3 X_arg3 k v10 2) (valChunk arg4 X_arg4 k 2) (mx (trS arg3 X_arg3 k v10) acc.2.2.2 2) (mx (trS arg3 X_arg3 k v10) acc.2.2.2 3) (trip_k0_t1.sl.v332 arg3 arg4 arg6 v4 v6 v8 v10 X_arg3 X_arg4 k acc f) from
    hit3 arg6.view _ _ _ _ _).trans ?_
  rw [load_2_3]; rfl

/-- What the trip loads from slot 0 before its chunk 4. -/
theorem load_4_0 : trip_k0_t1.sl.v484 arg3 arg4 arg6 v4 v6 v8 v10 X_arg3 X_arg4 k acc f = ac (trS arg3 X_arg3 k v4) (valChunk arg4 X_arg4 k) acc.1 (slot0 arg6 f) 4 := by
  refine (show trip_k0_t1.sl.v484 arg3 arg4 arg6 v4 v6 v8 v10 X_arg3 X_arg4 k acc f = acStep (trS arg3 X_arg3 k v4 3) (valChunk arg4 X_arg4 k 3) (mx (trS arg3 X_arg3 k v4) acc.1 3) (mx (trS arg3 X_arg3 k v4) acc.1 4) (trip_k0_t1.sl.v396 arg3 arg4 arg6 v4 v6 v8 v10 X_arg3 X_arg4 k acc f) from
    hit0 arg6.view _ _ _ _ _).trans ?_
  rw [load_3_0]; rfl

/-- What the trip loads from slot 1 before its chunk 4. -/
theorem load_4_1 : trip_k0_t1.sl.v492 arg3 arg4 arg6 v4 v6 v8 v10 X_arg3 X_arg4 k acc f = ac (trS arg3 X_arg3 k v6) (valChunk arg4 X_arg4 k) acc.2.1 (slot1 arg6 f) 4 := by
  refine (show trip_k0_t1.sl.v492 arg3 arg4 arg6 v4 v6 v8 v10 X_arg3 X_arg4 k acc f = acStep (trS arg3 X_arg3 k v6 3) (valChunk arg4 X_arg4 k 3) (mx (trS arg3 X_arg3 k v6) acc.2.1 3) (mx (trS arg3 X_arg3 k v6) acc.2.1 4) (trip_k0_t1.sl.v404 arg3 arg4 arg6 v4 v6 v8 v10 X_arg3 X_arg4 k acc f) from
    hit1 arg6.view _ _ _ _ _).trans ?_
  rw [load_3_1]; rfl

/-- What the trip loads from slot 2 before its chunk 4. -/
theorem load_4_2 : trip_k0_t1.sl.v500 arg3 arg4 arg6 v4 v6 v8 v10 X_arg3 X_arg4 k acc f = ac (trS arg3 X_arg3 k v8) (valChunk arg4 X_arg4 k) acc.2.2.1 (slot2 arg6 f) 4 := by
  refine (show trip_k0_t1.sl.v500 arg3 arg4 arg6 v4 v6 v8 v10 X_arg3 X_arg4 k acc f = acStep (trS arg3 X_arg3 k v8 3) (valChunk arg4 X_arg4 k 3) (mx (trS arg3 X_arg3 k v8) acc.2.2.1 3) (mx (trS arg3 X_arg3 k v8) acc.2.2.1 4) (trip_k0_t1.sl.v412 arg3 arg4 arg6 v4 v6 v8 v10 X_arg3 X_arg4 k acc f) from
    hit2 arg6.view _ _ _ _ _).trans ?_
  rw [load_3_2]; rfl

/-- What the trip loads from slot 3 before its chunk 4. -/
theorem load_4_3 : trip_k0_t1.sl.v508 arg3 arg4 arg6 v4 v6 v8 v10 X_arg3 X_arg4 k acc f = ac (trS arg3 X_arg3 k v10) (valChunk arg4 X_arg4 k) acc.2.2.2 (slot3 arg6 f) 4 := by
  refine (show trip_k0_t1.sl.v508 arg3 arg4 arg6 v4 v6 v8 v10 X_arg3 X_arg4 k acc f = acStep (trS arg3 X_arg3 k v10 3) (valChunk arg4 X_arg4 k 3) (mx (trS arg3 X_arg3 k v10) acc.2.2.2 3) (mx (trS arg3 X_arg3 k v10) acc.2.2.2 4) (trip_k0_t1.sl.v420 arg3 arg4 arg6 v4 v6 v8 v10 X_arg3 X_arg4 k acc f) from
    hit3 arg6.view _ _ _ _ _).trans ?_
  rw [load_3_3]; rfl

/-- What the trip loads from slot 0 before its chunk 5. -/
theorem load_5_0 : trip_k0_t1.sl.v572 arg3 arg4 arg6 v4 v6 v8 v10 X_arg3 X_arg4 k acc f = ac (trS arg3 X_arg3 k v4) (valChunk arg4 X_arg4 k) acc.1 (slot0 arg6 f) 5 := by
  refine (show trip_k0_t1.sl.v572 arg3 arg4 arg6 v4 v6 v8 v10 X_arg3 X_arg4 k acc f = acStep (trS arg3 X_arg3 k v4 4) (valChunk arg4 X_arg4 k 4) (mx (trS arg3 X_arg3 k v4) acc.1 4) (mx (trS arg3 X_arg3 k v4) acc.1 5) (trip_k0_t1.sl.v484 arg3 arg4 arg6 v4 v6 v8 v10 X_arg3 X_arg4 k acc f) from
    hit0 arg6.view _ _ _ _ _).trans ?_
  rw [load_4_0]; rfl

/-- What the trip loads from slot 1 before its chunk 5. -/
theorem load_5_1 : trip_k0_t1.sl.v580 arg3 arg4 arg6 v4 v6 v8 v10 X_arg3 X_arg4 k acc f = ac (trS arg3 X_arg3 k v6) (valChunk arg4 X_arg4 k) acc.2.1 (slot1 arg6 f) 5 := by
  refine (show trip_k0_t1.sl.v580 arg3 arg4 arg6 v4 v6 v8 v10 X_arg3 X_arg4 k acc f = acStep (trS arg3 X_arg3 k v6 4) (valChunk arg4 X_arg4 k 4) (mx (trS arg3 X_arg3 k v6) acc.2.1 4) (mx (trS arg3 X_arg3 k v6) acc.2.1 5) (trip_k0_t1.sl.v492 arg3 arg4 arg6 v4 v6 v8 v10 X_arg3 X_arg4 k acc f) from
    hit1 arg6.view _ _ _ _ _).trans ?_
  rw [load_4_1]; rfl

/-- What the trip loads from slot 2 before its chunk 5. -/
theorem load_5_2 : trip_k0_t1.sl.v588 arg3 arg4 arg6 v4 v6 v8 v10 X_arg3 X_arg4 k acc f = ac (trS arg3 X_arg3 k v8) (valChunk arg4 X_arg4 k) acc.2.2.1 (slot2 arg6 f) 5 := by
  refine (show trip_k0_t1.sl.v588 arg3 arg4 arg6 v4 v6 v8 v10 X_arg3 X_arg4 k acc f = acStep (trS arg3 X_arg3 k v8 4) (valChunk arg4 X_arg4 k 4) (mx (trS arg3 X_arg3 k v8) acc.2.2.1 4) (mx (trS arg3 X_arg3 k v8) acc.2.2.1 5) (trip_k0_t1.sl.v500 arg3 arg4 arg6 v4 v6 v8 v10 X_arg3 X_arg4 k acc f) from
    hit2 arg6.view _ _ _ _ _).trans ?_
  rw [load_4_2]; rfl

/-- What the trip loads from slot 3 before its chunk 5. -/
theorem load_5_3 : trip_k0_t1.sl.v596 arg3 arg4 arg6 v4 v6 v8 v10 X_arg3 X_arg4 k acc f = ac (trS arg3 X_arg3 k v10) (valChunk arg4 X_arg4 k) acc.2.2.2 (slot3 arg6 f) 5 := by
  refine (show trip_k0_t1.sl.v596 arg3 arg4 arg6 v4 v6 v8 v10 X_arg3 X_arg4 k acc f = acStep (trS arg3 X_arg3 k v10 4) (valChunk arg4 X_arg4 k 4) (mx (trS arg3 X_arg3 k v10) acc.2.2.2 4) (mx (trS arg3 X_arg3 k v10) acc.2.2.2 5) (trip_k0_t1.sl.v508 arg3 arg4 arg6 v4 v6 v8 v10 X_arg3 X_arg4 k acc f) from
    hit3 arg6.view _ _ _ _ _).trans ?_
  rw [load_4_3]; rfl

/-- What the trip loads from slot 0 before its chunk 6. -/
theorem load_6_0 : trip_k0_t1.sl.v660 arg3 arg4 arg6 v4 v6 v8 v10 X_arg3 X_arg4 k acc f = ac (trS arg3 X_arg3 k v4) (valChunk arg4 X_arg4 k) acc.1 (slot0 arg6 f) 6 := by
  refine (show trip_k0_t1.sl.v660 arg3 arg4 arg6 v4 v6 v8 v10 X_arg3 X_arg4 k acc f = acStep (trS arg3 X_arg3 k v4 5) (valChunk arg4 X_arg4 k 5) (mx (trS arg3 X_arg3 k v4) acc.1 5) (mx (trS arg3 X_arg3 k v4) acc.1 6) (trip_k0_t1.sl.v572 arg3 arg4 arg6 v4 v6 v8 v10 X_arg3 X_arg4 k acc f) from
    hit0 arg6.view _ _ _ _ _).trans ?_
  rw [load_5_0]; rfl

/-- What the trip loads from slot 1 before its chunk 6. -/
theorem load_6_1 : trip_k0_t1.sl.v668 arg3 arg4 arg6 v4 v6 v8 v10 X_arg3 X_arg4 k acc f = ac (trS arg3 X_arg3 k v6) (valChunk arg4 X_arg4 k) acc.2.1 (slot1 arg6 f) 6 := by
  refine (show trip_k0_t1.sl.v668 arg3 arg4 arg6 v4 v6 v8 v10 X_arg3 X_arg4 k acc f = acStep (trS arg3 X_arg3 k v6 5) (valChunk arg4 X_arg4 k 5) (mx (trS arg3 X_arg3 k v6) acc.2.1 5) (mx (trS arg3 X_arg3 k v6) acc.2.1 6) (trip_k0_t1.sl.v580 arg3 arg4 arg6 v4 v6 v8 v10 X_arg3 X_arg4 k acc f) from
    hit1 arg6.view _ _ _ _ _).trans ?_
  rw [load_5_1]; rfl

/-- What the trip loads from slot 2 before its chunk 6. -/
theorem load_6_2 : trip_k0_t1.sl.v676 arg3 arg4 arg6 v4 v6 v8 v10 X_arg3 X_arg4 k acc f = ac (trS arg3 X_arg3 k v8) (valChunk arg4 X_arg4 k) acc.2.2.1 (slot2 arg6 f) 6 := by
  refine (show trip_k0_t1.sl.v676 arg3 arg4 arg6 v4 v6 v8 v10 X_arg3 X_arg4 k acc f = acStep (trS arg3 X_arg3 k v8 5) (valChunk arg4 X_arg4 k 5) (mx (trS arg3 X_arg3 k v8) acc.2.2.1 5) (mx (trS arg3 X_arg3 k v8) acc.2.2.1 6) (trip_k0_t1.sl.v588 arg3 arg4 arg6 v4 v6 v8 v10 X_arg3 X_arg4 k acc f) from
    hit2 arg6.view _ _ _ _ _).trans ?_
  rw [load_5_2]; rfl

/-- What the trip loads from slot 3 before its chunk 6. -/
theorem load_6_3 : trip_k0_t1.sl.v684 arg3 arg4 arg6 v4 v6 v8 v10 X_arg3 X_arg4 k acc f = ac (trS arg3 X_arg3 k v10) (valChunk arg4 X_arg4 k) acc.2.2.2 (slot3 arg6 f) 6 := by
  refine (show trip_k0_t1.sl.v684 arg3 arg4 arg6 v4 v6 v8 v10 X_arg3 X_arg4 k acc f = acStep (trS arg3 X_arg3 k v10 5) (valChunk arg4 X_arg4 k 5) (mx (trS arg3 X_arg3 k v10) acc.2.2.2 5) (mx (trS arg3 X_arg3 k v10) acc.2.2.2 6) (trip_k0_t1.sl.v596 arg3 arg4 arg6 v4 v6 v8 v10 X_arg3 X_arg4 k acc f) from
    hit3 arg6.view _ _ _ _ _).trans ?_
  rw [load_5_3]; rfl

/-- What the trip loads from slot 0 before its chunk 7. -/
theorem load_7_0 : trip_k0_t1.sl.v748 arg3 arg4 arg6 v4 v6 v8 v10 X_arg3 X_arg4 k acc f = ac (trS arg3 X_arg3 k v4) (valChunk arg4 X_arg4 k) acc.1 (slot0 arg6 f) 7 := by
  refine (show trip_k0_t1.sl.v748 arg3 arg4 arg6 v4 v6 v8 v10 X_arg3 X_arg4 k acc f = acStep (trS arg3 X_arg3 k v4 6) (valChunk arg4 X_arg4 k 6) (mx (trS arg3 X_arg3 k v4) acc.1 6) (mx (trS arg3 X_arg3 k v4) acc.1 7) (trip_k0_t1.sl.v660 arg3 arg4 arg6 v4 v6 v8 v10 X_arg3 X_arg4 k acc f) from
    hit0 arg6.view _ _ _ _ _).trans ?_
  rw [load_6_0]; rfl

/-- What the trip loads from slot 1 before its chunk 7. -/
theorem load_7_1 : trip_k0_t1.sl.v756 arg3 arg4 arg6 v4 v6 v8 v10 X_arg3 X_arg4 k acc f = ac (trS arg3 X_arg3 k v6) (valChunk arg4 X_arg4 k) acc.2.1 (slot1 arg6 f) 7 := by
  refine (show trip_k0_t1.sl.v756 arg3 arg4 arg6 v4 v6 v8 v10 X_arg3 X_arg4 k acc f = acStep (trS arg3 X_arg3 k v6 6) (valChunk arg4 X_arg4 k 6) (mx (trS arg3 X_arg3 k v6) acc.2.1 6) (mx (trS arg3 X_arg3 k v6) acc.2.1 7) (trip_k0_t1.sl.v668 arg3 arg4 arg6 v4 v6 v8 v10 X_arg3 X_arg4 k acc f) from
    hit1 arg6.view _ _ _ _ _).trans ?_
  rw [load_6_1]; rfl

/-- What the trip loads from slot 2 before its chunk 7. -/
theorem load_7_2 : trip_k0_t1.sl.v764 arg3 arg4 arg6 v4 v6 v8 v10 X_arg3 X_arg4 k acc f = ac (trS arg3 X_arg3 k v8) (valChunk arg4 X_arg4 k) acc.2.2.1 (slot2 arg6 f) 7 := by
  refine (show trip_k0_t1.sl.v764 arg3 arg4 arg6 v4 v6 v8 v10 X_arg3 X_arg4 k acc f = acStep (trS arg3 X_arg3 k v8 6) (valChunk arg4 X_arg4 k 6) (mx (trS arg3 X_arg3 k v8) acc.2.2.1 6) (mx (trS arg3 X_arg3 k v8) acc.2.2.1 7) (trip_k0_t1.sl.v676 arg3 arg4 arg6 v4 v6 v8 v10 X_arg3 X_arg4 k acc f) from
    hit2 arg6.view _ _ _ _ _).trans ?_
  rw [load_6_2]; rfl

/-- What the trip loads from slot 3 before its chunk 7. -/
theorem load_7_3 : trip_k0_t1.sl.v772 arg3 arg4 arg6 v4 v6 v8 v10 X_arg3 X_arg4 k acc f = ac (trS arg3 X_arg3 k v10) (valChunk arg4 X_arg4 k) acc.2.2.2 (slot3 arg6 f) 7 := by
  refine (show trip_k0_t1.sl.v772 arg3 arg4 arg6 v4 v6 v8 v10 X_arg3 X_arg4 k acc f = acStep (trS arg3 X_arg3 k v10 6) (valChunk arg4 X_arg4 k 6) (mx (trS arg3 X_arg3 k v10) acc.2.2.2 6) (mx (trS arg3 X_arg3 k v10) acc.2.2.2 7) (trip_k0_t1.sl.v684 arg3 arg4 arg6 v4 v6 v8 v10 X_arg3 X_arg4 k acc f) from
    hit3 arg6.view _ _ _ _ _).trans ?_
  rw [load_6_3]; rfl

/-- What the trip loads from slot 0 before its chunk 8. -/
theorem load_8_0 : trip_k0_t1.sl.v836 arg3 arg4 arg6 v4 v6 v8 v10 X_arg3 X_arg4 k acc f = ac (trS arg3 X_arg3 k v4) (valChunk arg4 X_arg4 k) acc.1 (slot0 arg6 f) 8 := by
  refine (show trip_k0_t1.sl.v836 arg3 arg4 arg6 v4 v6 v8 v10 X_arg3 X_arg4 k acc f = acStep (trS arg3 X_arg3 k v4 7) (valChunk arg4 X_arg4 k 7) (mx (trS arg3 X_arg3 k v4) acc.1 7) (mx (trS arg3 X_arg3 k v4) acc.1 8) (trip_k0_t1.sl.v748 arg3 arg4 arg6 v4 v6 v8 v10 X_arg3 X_arg4 k acc f) from
    hit0 arg6.view _ _ _ _ _).trans ?_
  rw [load_7_0]; rfl

/-- What the trip loads from slot 1 before its chunk 8. -/
theorem load_8_1 : trip_k0_t1.sl.v844 arg3 arg4 arg6 v4 v6 v8 v10 X_arg3 X_arg4 k acc f = ac (trS arg3 X_arg3 k v6) (valChunk arg4 X_arg4 k) acc.2.1 (slot1 arg6 f) 8 := by
  refine (show trip_k0_t1.sl.v844 arg3 arg4 arg6 v4 v6 v8 v10 X_arg3 X_arg4 k acc f = acStep (trS arg3 X_arg3 k v6 7) (valChunk arg4 X_arg4 k 7) (mx (trS arg3 X_arg3 k v6) acc.2.1 7) (mx (trS arg3 X_arg3 k v6) acc.2.1 8) (trip_k0_t1.sl.v756 arg3 arg4 arg6 v4 v6 v8 v10 X_arg3 X_arg4 k acc f) from
    hit1 arg6.view _ _ _ _ _).trans ?_
  rw [load_7_1]; rfl

/-- What the trip loads from slot 2 before its chunk 8. -/
theorem load_8_2 : trip_k0_t1.sl.v852 arg3 arg4 arg6 v4 v6 v8 v10 X_arg3 X_arg4 k acc f = ac (trS arg3 X_arg3 k v8) (valChunk arg4 X_arg4 k) acc.2.2.1 (slot2 arg6 f) 8 := by
  refine (show trip_k0_t1.sl.v852 arg3 arg4 arg6 v4 v6 v8 v10 X_arg3 X_arg4 k acc f = acStep (trS arg3 X_arg3 k v8 7) (valChunk arg4 X_arg4 k 7) (mx (trS arg3 X_arg3 k v8) acc.2.2.1 7) (mx (trS arg3 X_arg3 k v8) acc.2.2.1 8) (trip_k0_t1.sl.v764 arg3 arg4 arg6 v4 v6 v8 v10 X_arg3 X_arg4 k acc f) from
    hit2 arg6.view _ _ _ _ _).trans ?_
  rw [load_7_2]; rfl

/-- What the trip loads from slot 3 before its chunk 8. -/
theorem load_8_3 : trip_k0_t1.sl.v860 arg3 arg4 arg6 v4 v6 v8 v10 X_arg3 X_arg4 k acc f = ac (trS arg3 X_arg3 k v10) (valChunk arg4 X_arg4 k) acc.2.2.2 (slot3 arg6 f) 8 := by
  refine (show trip_k0_t1.sl.v860 arg3 arg4 arg6 v4 v6 v8 v10 X_arg3 X_arg4 k acc f = acStep (trS arg3 X_arg3 k v10 7) (valChunk arg4 X_arg4 k 7) (mx (trS arg3 X_arg3 k v10) acc.2.2.2 7) (mx (trS arg3 X_arg3 k v10) acc.2.2.2 8) (trip_k0_t1.sl.v772 arg3 arg4 arg6 v4 v6 v8 v10 X_arg3 X_arg4 k acc f) from
    hit3 arg6.view _ _ _ _ _).trans ?_
  rw [load_7_3]; rfl

/-- What the trip loads from slot 0 before its chunk 9. -/
theorem load_9_0 : trip_k0_t1.sl.v924 arg3 arg4 arg6 v4 v6 v8 v10 X_arg3 X_arg4 k acc f = ac (trS arg3 X_arg3 k v4) (valChunk arg4 X_arg4 k) acc.1 (slot0 arg6 f) 9 := by
  refine (show trip_k0_t1.sl.v924 arg3 arg4 arg6 v4 v6 v8 v10 X_arg3 X_arg4 k acc f = acStep (trS arg3 X_arg3 k v4 8) (valChunk arg4 X_arg4 k 8) (mx (trS arg3 X_arg3 k v4) acc.1 8) (mx (trS arg3 X_arg3 k v4) acc.1 9) (trip_k0_t1.sl.v836 arg3 arg4 arg6 v4 v6 v8 v10 X_arg3 X_arg4 k acc f) from
    hit0 arg6.view _ _ _ _ _).trans ?_
  rw [load_8_0]; rfl

/-- What the trip loads from slot 1 before its chunk 9. -/
theorem load_9_1 : trip_k0_t1.sl.v932 arg3 arg4 arg6 v4 v6 v8 v10 X_arg3 X_arg4 k acc f = ac (trS arg3 X_arg3 k v6) (valChunk arg4 X_arg4 k) acc.2.1 (slot1 arg6 f) 9 := by
  refine (show trip_k0_t1.sl.v932 arg3 arg4 arg6 v4 v6 v8 v10 X_arg3 X_arg4 k acc f = acStep (trS arg3 X_arg3 k v6 8) (valChunk arg4 X_arg4 k 8) (mx (trS arg3 X_arg3 k v6) acc.2.1 8) (mx (trS arg3 X_arg3 k v6) acc.2.1 9) (trip_k0_t1.sl.v844 arg3 arg4 arg6 v4 v6 v8 v10 X_arg3 X_arg4 k acc f) from
    hit1 arg6.view _ _ _ _ _).trans ?_
  rw [load_8_1]; rfl

/-- What the trip loads from slot 2 before its chunk 9. -/
theorem load_9_2 : trip_k0_t1.sl.v940 arg3 arg4 arg6 v4 v6 v8 v10 X_arg3 X_arg4 k acc f = ac (trS arg3 X_arg3 k v8) (valChunk arg4 X_arg4 k) acc.2.2.1 (slot2 arg6 f) 9 := by
  refine (show trip_k0_t1.sl.v940 arg3 arg4 arg6 v4 v6 v8 v10 X_arg3 X_arg4 k acc f = acStep (trS arg3 X_arg3 k v8 8) (valChunk arg4 X_arg4 k 8) (mx (trS arg3 X_arg3 k v8) acc.2.2.1 8) (mx (trS arg3 X_arg3 k v8) acc.2.2.1 9) (trip_k0_t1.sl.v852 arg3 arg4 arg6 v4 v6 v8 v10 X_arg3 X_arg4 k acc f) from
    hit2 arg6.view _ _ _ _ _).trans ?_
  rw [load_8_2]; rfl

/-- What the trip loads from slot 3 before its chunk 9. -/
theorem load_9_3 : trip_k0_t1.sl.v948 arg3 arg4 arg6 v4 v6 v8 v10 X_arg3 X_arg4 k acc f = ac (trS arg3 X_arg3 k v10) (valChunk arg4 X_arg4 k) acc.2.2.2 (slot3 arg6 f) 9 := by
  refine (show trip_k0_t1.sl.v948 arg3 arg4 arg6 v4 v6 v8 v10 X_arg3 X_arg4 k acc f = acStep (trS arg3 X_arg3 k v10 8) (valChunk arg4 X_arg4 k 8) (mx (trS arg3 X_arg3 k v10) acc.2.2.2 8) (mx (trS arg3 X_arg3 k v10) acc.2.2.2 9) (trip_k0_t1.sl.v860 arg3 arg4 arg6 v4 v6 v8 v10 X_arg3 X_arg4 k acc f) from
    hit3 arg6.view _ _ _ _ _).trans ?_
  rw [load_8_3]; rfl

/-- What the trip loads from slot 0 before its chunk 10. -/
theorem load_10_0 : trip_k0_t1.sl.v1012 arg3 arg4 arg6 v4 v6 v8 v10 X_arg3 X_arg4 k acc f = ac (trS arg3 X_arg3 k v4) (valChunk arg4 X_arg4 k) acc.1 (slot0 arg6 f) 10 := by
  refine (show trip_k0_t1.sl.v1012 arg3 arg4 arg6 v4 v6 v8 v10 X_arg3 X_arg4 k acc f = acStep (trS arg3 X_arg3 k v4 9) (valChunk arg4 X_arg4 k 9) (mx (trS arg3 X_arg3 k v4) acc.1 9) (mx (trS arg3 X_arg3 k v4) acc.1 10) (trip_k0_t1.sl.v924 arg3 arg4 arg6 v4 v6 v8 v10 X_arg3 X_arg4 k acc f) from
    hit0 arg6.view _ _ _ _ _).trans ?_
  rw [load_9_0]; rfl

/-- What the trip loads from slot 1 before its chunk 10. -/
theorem load_10_1 : trip_k0_t1.sl.v1020 arg3 arg4 arg6 v4 v6 v8 v10 X_arg3 X_arg4 k acc f = ac (trS arg3 X_arg3 k v6) (valChunk arg4 X_arg4 k) acc.2.1 (slot1 arg6 f) 10 := by
  refine (show trip_k0_t1.sl.v1020 arg3 arg4 arg6 v4 v6 v8 v10 X_arg3 X_arg4 k acc f = acStep (trS arg3 X_arg3 k v6 9) (valChunk arg4 X_arg4 k 9) (mx (trS arg3 X_arg3 k v6) acc.2.1 9) (mx (trS arg3 X_arg3 k v6) acc.2.1 10) (trip_k0_t1.sl.v932 arg3 arg4 arg6 v4 v6 v8 v10 X_arg3 X_arg4 k acc f) from
    hit1 arg6.view _ _ _ _ _).trans ?_
  rw [load_9_1]; rfl

/-- What the trip loads from slot 2 before its chunk 10. -/
theorem load_10_2 : trip_k0_t1.sl.v1028 arg3 arg4 arg6 v4 v6 v8 v10 X_arg3 X_arg4 k acc f = ac (trS arg3 X_arg3 k v8) (valChunk arg4 X_arg4 k) acc.2.2.1 (slot2 arg6 f) 10 := by
  refine (show trip_k0_t1.sl.v1028 arg3 arg4 arg6 v4 v6 v8 v10 X_arg3 X_arg4 k acc f = acStep (trS arg3 X_arg3 k v8 9) (valChunk arg4 X_arg4 k 9) (mx (trS arg3 X_arg3 k v8) acc.2.2.1 9) (mx (trS arg3 X_arg3 k v8) acc.2.2.1 10) (trip_k0_t1.sl.v940 arg3 arg4 arg6 v4 v6 v8 v10 X_arg3 X_arg4 k acc f) from
    hit2 arg6.view _ _ _ _ _).trans ?_
  rw [load_9_2]; rfl

/-- What the trip loads from slot 3 before its chunk 10. -/
theorem load_10_3 : trip_k0_t1.sl.v1036 arg3 arg4 arg6 v4 v6 v8 v10 X_arg3 X_arg4 k acc f = ac (trS arg3 X_arg3 k v10) (valChunk arg4 X_arg4 k) acc.2.2.2 (slot3 arg6 f) 10 := by
  refine (show trip_k0_t1.sl.v1036 arg3 arg4 arg6 v4 v6 v8 v10 X_arg3 X_arg4 k acc f = acStep (trS arg3 X_arg3 k v10 9) (valChunk arg4 X_arg4 k 9) (mx (trS arg3 X_arg3 k v10) acc.2.2.2 9) (mx (trS arg3 X_arg3 k v10) acc.2.2.2 10) (trip_k0_t1.sl.v948 arg3 arg4 arg6 v4 v6 v8 v10 X_arg3 X_arg4 k acc f) from
    hit3 arg6.view _ _ _ _ _).trans ?_
  rw [load_9_3]; rfl

/-- What the trip loads from slot 0 before its chunk 11. -/
theorem load_11_0 : trip_k0_t1.sl.v1089 arg3 arg4 arg6 v4 v6 v8 v10 X_arg3 X_arg4 k acc f = ac (trS arg3 X_arg3 k v4) (valChunk arg4 X_arg4 k) acc.1 (slot0 arg6 f) 11 := by
  refine (show trip_k0_t1.sl.v1089 arg3 arg4 arg6 v4 v6 v8 v10 X_arg3 X_arg4 k acc f = acStep (trS arg3 X_arg3 k v4 10) (valChunk arg4 X_arg4 k 10) (mx (trS arg3 X_arg3 k v4) acc.1 10) (mx (trS arg3 X_arg3 k v4) acc.1 11) (trip_k0_t1.sl.v1012 arg3 arg4 arg6 v4 v6 v8 v10 X_arg3 X_arg4 k acc f) from
    hit0 arg6.view _ _ _ _ _).trans ?_
  rw [load_10_0]; rfl

/-- What the trip loads from slot 1 before its chunk 11. -/
theorem load_11_1 : trip_k0_t1.sl.v1097 arg3 arg4 arg6 v4 v6 v8 v10 X_arg3 X_arg4 k acc f = ac (trS arg3 X_arg3 k v6) (valChunk arg4 X_arg4 k) acc.2.1 (slot1 arg6 f) 11 := by
  refine (show trip_k0_t1.sl.v1097 arg3 arg4 arg6 v4 v6 v8 v10 X_arg3 X_arg4 k acc f = acStep (trS arg3 X_arg3 k v6 10) (valChunk arg4 X_arg4 k 10) (mx (trS arg3 X_arg3 k v6) acc.2.1 10) (mx (trS arg3 X_arg3 k v6) acc.2.1 11) (trip_k0_t1.sl.v1020 arg3 arg4 arg6 v4 v6 v8 v10 X_arg3 X_arg4 k acc f) from
    hit1 arg6.view _ _ _ _ _).trans ?_
  rw [load_10_1]; rfl

/-- What the trip loads from slot 2 before its chunk 11. -/
theorem load_11_2 : trip_k0_t1.sl.v1105 arg3 arg4 arg6 v4 v6 v8 v10 X_arg3 X_arg4 k acc f = ac (trS arg3 X_arg3 k v8) (valChunk arg4 X_arg4 k) acc.2.2.1 (slot2 arg6 f) 11 := by
  refine (show trip_k0_t1.sl.v1105 arg3 arg4 arg6 v4 v6 v8 v10 X_arg3 X_arg4 k acc f = acStep (trS arg3 X_arg3 k v8 10) (valChunk arg4 X_arg4 k 10) (mx (trS arg3 X_arg3 k v8) acc.2.2.1 10) (mx (trS arg3 X_arg3 k v8) acc.2.2.1 11) (trip_k0_t1.sl.v1028 arg3 arg4 arg6 v4 v6 v8 v10 X_arg3 X_arg4 k acc f) from
    hit2 arg6.view _ _ _ _ _).trans ?_
  rw [load_10_2]; rfl

/-- What the trip loads from slot 3 before its chunk 11. -/
theorem load_11_3 : trip_k0_t1.sl.v1113 arg3 arg4 arg6 v4 v6 v8 v10 X_arg3 X_arg4 k acc f = ac (trS arg3 X_arg3 k v10) (valChunk arg4 X_arg4 k) acc.2.2.2 (slot3 arg6 f) 11 := by
  refine (show trip_k0_t1.sl.v1113 arg3 arg4 arg6 v4 v6 v8 v10 X_arg3 X_arg4 k acc f = acStep (trS arg3 X_arg3 k v10 10) (valChunk arg4 X_arg4 k 10) (mx (trS arg3 X_arg3 k v10) acc.2.2.2 10) (mx (trS arg3 X_arg3 k v10) acc.2.2.2 11) (trip_k0_t1.sl.v1036 arg3 arg4 arg6 v4 v6 v8 v10 X_arg3 X_arg4 k acc f) from
    hit3 arg6.view _ _ _ _ _).trans ?_
  rw [load_10_3]; rfl

/-- What the trip loads from slot 0 before its chunk 12. -/
theorem load_12_0 : trip_k0_t1.sl.v1166 arg3 arg4 arg6 v4 v6 v8 v10 X_arg3 X_arg4 k acc f = ac (trS arg3 X_arg3 k v4) (valChunk arg4 X_arg4 k) acc.1 (slot0 arg6 f) 12 := by
  refine (show trip_k0_t1.sl.v1166 arg3 arg4 arg6 v4 v6 v8 v10 X_arg3 X_arg4 k acc f = acStep (trS arg3 X_arg3 k v4 11) (valChunk arg4 X_arg4 k 11) (mx (trS arg3 X_arg3 k v4) acc.1 11) (mx (trS arg3 X_arg3 k v4) acc.1 12) (trip_k0_t1.sl.v1089 arg3 arg4 arg6 v4 v6 v8 v10 X_arg3 X_arg4 k acc f) from
    hit0 arg6.view _ _ _ _ _).trans ?_
  rw [load_11_0]; rfl

/-- What the trip loads from slot 1 before its chunk 12. -/
theorem load_12_1 : trip_k0_t1.sl.v1174 arg3 arg4 arg6 v4 v6 v8 v10 X_arg3 X_arg4 k acc f = ac (trS arg3 X_arg3 k v6) (valChunk arg4 X_arg4 k) acc.2.1 (slot1 arg6 f) 12 := by
  refine (show trip_k0_t1.sl.v1174 arg3 arg4 arg6 v4 v6 v8 v10 X_arg3 X_arg4 k acc f = acStep (trS arg3 X_arg3 k v6 11) (valChunk arg4 X_arg4 k 11) (mx (trS arg3 X_arg3 k v6) acc.2.1 11) (mx (trS arg3 X_arg3 k v6) acc.2.1 12) (trip_k0_t1.sl.v1097 arg3 arg4 arg6 v4 v6 v8 v10 X_arg3 X_arg4 k acc f) from
    hit1 arg6.view _ _ _ _ _).trans ?_
  rw [load_11_1]; rfl

/-- What the trip loads from slot 2 before its chunk 12. -/
theorem load_12_2 : trip_k0_t1.sl.v1182 arg3 arg4 arg6 v4 v6 v8 v10 X_arg3 X_arg4 k acc f = ac (trS arg3 X_arg3 k v8) (valChunk arg4 X_arg4 k) acc.2.2.1 (slot2 arg6 f) 12 := by
  refine (show trip_k0_t1.sl.v1182 arg3 arg4 arg6 v4 v6 v8 v10 X_arg3 X_arg4 k acc f = acStep (trS arg3 X_arg3 k v8 11) (valChunk arg4 X_arg4 k 11) (mx (trS arg3 X_arg3 k v8) acc.2.2.1 11) (mx (trS arg3 X_arg3 k v8) acc.2.2.1 12) (trip_k0_t1.sl.v1105 arg3 arg4 arg6 v4 v6 v8 v10 X_arg3 X_arg4 k acc f) from
    hit2 arg6.view _ _ _ _ _).trans ?_
  rw [load_11_2]; rfl

/-- What the trip loads from slot 3 before its chunk 12. -/
theorem load_12_3 : trip_k0_t1.sl.v1190 arg3 arg4 arg6 v4 v6 v8 v10 X_arg3 X_arg4 k acc f = ac (trS arg3 X_arg3 k v10) (valChunk arg4 X_arg4 k) acc.2.2.2 (slot3 arg6 f) 12 := by
  refine (show trip_k0_t1.sl.v1190 arg3 arg4 arg6 v4 v6 v8 v10 X_arg3 X_arg4 k acc f = acStep (trS arg3 X_arg3 k v10 11) (valChunk arg4 X_arg4 k 11) (mx (trS arg3 X_arg3 k v10) acc.2.2.2 11) (mx (trS arg3 X_arg3 k v10) acc.2.2.2 12) (trip_k0_t1.sl.v1113 arg3 arg4 arg6 v4 v6 v8 v10 X_arg3 X_arg4 k acc f) from
    hit3 arg6.view _ _ _ _ _).trans ?_
  rw [load_11_3]; rfl

variable (𝒱 : Variants) (c : Dev nD) (bd : Option 𝒱.V) (i : grid0.Coords) (arg2 : Memref sig .tc .vmem S256x512 .bf16) (harg2 : arg2.IsWhole) (harg3 : arg3.IsWhole) (harg4 : arg4.IsWhole) (arg5 : Memref sig .tc .vmem S256x512 .bf16) (harg5 : arg5.IsWhole) (harg6 : arg6.IsWhole)

/-- The trip leaves in slot 0 the accumulator after its thirteen chunks. -/
theorem trip_slot0 : slot0 arg6 (arg6.view.writes (Elt F) f (tripL_k0_t1 (F := F) 𝒱 c bd i arg2 harg2 arg3 harg3 arg4 harg4 arg5 harg5 arg6 harg6 v4 v6 v8 v10 X_arg3 X_arg4 k acc f)) = ac (trS arg3 X_arg3 k v4) (valChunk arg4 X_arg4 k) acc.1 (slot0 arg6 f) 13 := by
  unfold tripL_k0_t1 trip_k0_t1
  refine (show _ = acStep (trS arg3 X_arg3 k v4 12) (valChunk arg4 X_arg4 k 12) (mx (trS arg3 X_arg3 k v4) acc.1 12) (mx (trS arg3 X_arg3 k v4) acc.1 13) (trip_k0_t1.sl.v1166 arg3 arg4 arg6 v4 v6 v8 v10 X_arg3 X_arg4 k acc f) from end0 arg6.view _ _ _ _ _ _).trans ?_
  rw [load_12_0]; rfl

/-- The trip leaves in slot 1 the accumulator after its thirteen chunks. -/
theorem trip_slot1 : slot1 arg6 (arg6.view.writes (Elt F) f (tripL_k0_t1 (F := F) 𝒱 c bd i arg2 harg2 arg3 harg3 arg4 harg4 arg5 harg5 arg6 harg6 v4 v6 v8 v10 X_arg3 X_arg4 k acc f)) = ac (trS arg3 X_arg3 k v6) (valChunk arg4 X_arg4 k) acc.2.1 (slot1 arg6 f) 13 := by
  unfold tripL_k0_t1 trip_k0_t1
  refine (show _ = acStep (trS arg3 X_arg3 k v6 12) (valChunk arg4 X_arg4 k 12) (mx (trS arg3 X_arg3 k v6) acc.2.1 12) (mx (trS arg3 X_arg3 k v6) acc.2.1 13) (trip_k0_t1.sl.v1174 arg3 arg4 arg6 v4 v6 v8 v10 X_arg3 X_arg4 k acc f) from end1 arg6.view _ _ _ _ _ _).trans ?_
  rw [load_12_1]; rfl

/-- The trip leaves in slot 2 the accumulator after its thirteen chunks. -/
theorem trip_slot2 : slot2 arg6 (arg6.view.writes (Elt F) f (tripL_k0_t1 (F := F) 𝒱 c bd i arg2 harg2 arg3 harg3 arg4 harg4 arg5 harg5 arg6 harg6 v4 v6 v8 v10 X_arg3 X_arg4 k acc f)) = ac (trS arg3 X_arg3 k v8) (valChunk arg4 X_arg4 k) acc.2.2.1 (slot2 arg6 f) 13 := by
  unfold tripL_k0_t1 trip_k0_t1
  refine (show _ = acStep (trS arg3 X_arg3 k v8 12) (valChunk arg4 X_arg4 k 12) (mx (trS arg3 X_arg3 k v8) acc.2.2.1 12) (mx (trS arg3 X_arg3 k v8) acc.2.2.1 13) (trip_k0_t1.sl.v1182 arg3 arg4 arg6 v4 v6 v8 v10 X_arg3 X_arg4 k acc f) from end2 arg6.view _ _ _ _ _ _).trans ?_
  rw [load_12_2]; rfl

/-- The trip leaves in slot 3 the accumulator after its thirteen chunks. -/
theorem trip_slot3 : slot3 arg6 (arg6.view.writes (Elt F) f (tripL_k0_t1 (F := F) 𝒱 c bd i arg2 harg2 arg3 harg3 arg4 harg4 arg5 harg5 arg6 harg6 v4 v6 v8 v10 X_arg3 X_arg4 k acc f)) = ac (trS arg3 X_arg3 k v10) (valChunk arg4 X_arg4 k) acc.2.2.2 (slot3 arg6 f) 13 := by
  unfold tripL_k0_t1 trip_k0_t1
  refine (show _ = acStep (trS arg3 X_arg3 k v10 12) (valChunk arg4 X_arg4 k 12) (mx (trS arg3 X_arg3 k v10) acc.2.2.2 12) (mx (trS arg3 X_arg3 k v10) acc.2.2.2 13) (trip_k0_t1.sl.v1190 arg3 arg4 arg6 v4 v6 v8 v10 X_arg3 X_arg4 k acc f) from end3 arg6.view _ _ _ _ _ _).trans ?_
  rw [load_12_3]; rfl

/-- The trip carries on the four running maxima after its thirteen chunks. -/
theorem trip_max : tripR_k0_t1 (F := F) 𝒱 c bd i arg2 harg2 arg3 harg3 arg4 harg4 arg5 harg5 arg6 harg6 v4 v6 v8 v10 X_arg3 X_arg4 k acc f = (mx (trS arg3 X_arg3 k v4) acc.1 13, mx (trS arg3 X_arg3 k v6) acc.2.1 13, mx (trS arg3 X_arg3 k v8) acc.2.2.1 13, mx (trS arg3 X_arg3 k v10) acc.2.2.2 13) := by
  unfold tripR_k0_t1 trip_k0_t1
  rfl

end

end Cert.GlobalIdeal.Hand
-- ==== Proof.Block.lean ====
/-
  One grid point of the call. The loop's five trips of thirteen chunks are the recursions `mx` and `ac` over all 65
  chunks; the block written is, head by head, the final division of the accumulator that `ac` ends with.
-/
module

public import proofs.«01_k».proof.Proof.Trip

@[expose] public section

set_option maxRecDepth 16384

noncomputable section

namespace Cert.GlobalIdeal.Hand

open Cert.GlobalIdeal Cert.GlobalIdeal.Gen
open Idealize.ShloMosaic Idealize.ShloMosaic.TcCoe Idealize.SL.Sem

variable {F : FTy → Type} [FloatOps F]

/-- The key chunk's rectangle is in range. -/
theorem key_inb (n : ℕ) : ∀ a, (![256 * (n % 65), 0] : Fin 2 → ℕ) a + S256x128.size a ≤ S16640x128.size a := by
  have := Nat.mod_lt n (show 0 < 65 by decide)
  intro a; fin_cases a
  · show 256 * (n % 65) + 256 ≤ 16640; omega
  · show 0 + 128 ≤ 128; omega

/-- The value chunk's rectangle is in range. -/
theorem val_inb (n : ℕ) : ∀ a, (![0, n % 65, 0, 0] : Fin 4 → ℕ) a + S1x1x144x256.size a ≤ S1x65x144x256.size a := by
  have := Nat.mod_lt n (show 0 < 65 by decide)
  intro a; fin_cases a
  · show 0 + 1 ≤ 1; omega
  · show n % 65 + 1 ≤ 65; omega
  · show 0 + 144 ≤ 144; omega
  · show 0 + 256 ≤ 256; omega

/-- The `n`-th chunk of 256 keys of the block. -/
def keyRows (x1 : Vec F S16640x128 .bf16) (n : ℕ) : Vec F S256x128 .bf16 :=
  View.ld x1 (Rect.unit (s := S16640x128) ![256 * (n % 65), 0] S256x128.size (key_inb n))

/-- The `n`-th chunk of transposed values of the block. -/
def valRows (x2 : Vec F S1x65x144x256 .bf16) (n : ℕ) : Vec F S1x1x144x256 .bf16 :=
  View.ld x2 (Rect.unit (s := S1x65x144x256) ![0, n % 65, 0, 0] S1x1x144x256.size (val_inb n))

/-- A load depends on its rectangle's offsets only through their values. -/
theorem ld_congr_off {s : Shape} {e : EltTy} (X : Vec F s e) {off off' size : Fin s.rank → ℕ} (h : off = off')
    (inb : ∀ a, off a + size a ≤ s.size a) (inb' : ∀ a, off' a + size a ≤ s.size a) :
    (View.ld X (Rect.unit off size inb) : (⟨s.rank, size⟩ : Shape).Idx → Elt F e) = View.ld X (Rect.unit off' size inb') := by
  subst h; rfl

/-- The loop makes five trips. -/
theorem trips_eq : k0_t1_loop.trips = 5 := by decide

/-- Trip `k`'s chunk `u` of keys is chunk `13 k + u` of the block. -/
theorem keyChunk_eq (arg3 : Memref sig .tc .vmem S16640x128 .bf16) (harg3 : arg3.IsWhole) (x1 : Vec F S16640x128 .bf16)
    (k : Fin k0_t1_loop.trips) (u : ℕ) (hu : u < 13) : keyChunk arg3 (harg3.unread x1) k u = keyRows x1 (13 * k.val + u) := by
  have hk : k.val < 5 := trips_eq ▸ k.isLt
  unfold keyChunk keyRows
  rw [View.readAt_eq_ld, harg3.read_unread]
  refine ld_congr_off x1 ?_ _ _
  rw [k0_off1_eq]
  have e : (Fin.ofNat 13 u).val = u := Nat.mod_eq_of_lt hu
  have e' : (13 * k.val + u) % 65 = 13 * k.val + u := Nat.mod_eq_of_lt (by omega)
  rw [e, e', show 3328 * k.val + 256 * u = 256 * (13 * k.val + u) by omega]

/-- Trip `k`'s chunk `u` of values is chunk `13 k + u` of the block. -/
theorem valChunk_eq (arg4 : Memref sig .tc .vmem S1x65x144x256 .bf16) (harg4 : arg4.IsWhole) (x2 : Vec F S1x65x144x256 .bf16)
    (k : Fin k0_t1_loop.trips) (u : ℕ) (hu : u < 13) : valChunk arg4 (harg4.unread x2) k u = valRows x2 (13 * k.val + u) := by
  have hk : k.val < 5 := trips_eq ▸ k.isLt
  unfold valChunk valRows
  rw [View.readAt_eq_ld, harg4.read_unread]
  refine ld_congr_off x2 ?_ _ _
  rw [k0_off2_eq]
  have e : (Fin.ofNat 13 u).val = u := Nat.mod_eq_of_lt hu
  have e' : (13 * k.val + u) % 65 = 13 * k.val + u := Nat.mod_eq_of_lt (by omega)
  rw [e, e']

/-- The scores of chunk `n` of the block against the queries `q`. -/
def allS (x1 : Vec F S16640x128 .bf16) (q : Vec F S256x128 .bf16) (n : ℕ) : FVec F S256x256 .f32 := scoreTile q (keyRows x1 n)

section
variable (c : Dev nD) (i : grid0.Coords)
variable (arg2 : Memref sig .tc .vmem S256x512 .bf16) (harg2 : arg2.IsWhole) (arg3 : Memref sig .tc .vmem S16640x128 .bf16) (harg3 : arg3.IsWhole)
variable (arg4 : Memref sig .tc .vmem S1x65x144x256 .bf16) (harg4 : arg4.IsWhole) (arg5 : Memref sig .tc .vmem S256x512 .bf16) (harg5 : arg5.IsWhole)
variable (arg6 : Memref sig .tc .vmem S4x144x256 .f32) (harg6 : arg6.IsWhole)
variable (v4 v6 v8 v10 : Vec F S256x128 .bf16) (x1 : Vec F S16640x128 .bf16) (x2 : Vec F S1x65x144x256 .bf16)
variable (G : BufTy.Contents (Elt F) arg6.view.ty) (init : FVec F S1x256 .f32 × FVec F S1x256 .f32 × FVec F S1x256 .f32 × FVec F S1x256 .f32)

/-- The loop before trip `n`: the four running maxima carried and the four accumulators in the scratch buffer. -/
theorem loop_eq (n : ℕ) (hn : n ≤ 5) :
    (st_k0_t1 (F := F) Variants.none c none i arg2 harg2 arg3 harg3 arg4 harg4 arg5 harg5 arg6 harg6 v4 v6 v8 v10 (harg3.unread x1) (harg4.unread x2) G init n).1 = (mx (allS x1 v4) init.1 (13 * n), mx (allS x1 v6) init.2.1 (13 * n), mx (allS x1 v8) init.2.2.1 (13 * n), mx (allS x1 v10) init.2.2.2 (13 * n))
    ∧ slot0 arg6 (arg6.view.writes (Elt F) G (st_k0_t1 (F := F) Variants.none c none i arg2 harg2 arg3 harg3 arg4 harg4 arg5 harg5 arg6 harg6 v4 v6 v8 v10 (harg3.unread x1) (harg4.unread x2) G init n).2) = ac (allS x1 v4) (valRows x2) init.1 (slot0 arg6 G) (13 * n)
    ∧ slot1 arg6 (arg6.view.writes (Elt F) G (st_k0_t1 (F := F) Variants.none c none i arg2 harg2 arg3 harg3 arg4 harg4 arg5 harg5 arg6 harg6 v4 v6 v8 v10 (harg3.unread x1) (harg4.unread x2) G init n).2) = ac (allS x1 v6) (valRows x2) init.2.1 (slot1 arg6 G) (13 * n)
    ∧ slot2 arg6 (arg6.view.writes (Elt F) G (st_k0_t1 (F := F) Variants.none c none i arg2 harg2 arg3 harg3 arg4 harg4 arg5 harg5 arg6 harg6 v4 v6 v8 v10 (harg3.unread x1) (harg4.unread x2) G init n).2) = ac (allS x1 v8) (valRows x2) init.2.2.1 (slot2 arg6 G) (13 * n)
    ∧ slot3 arg6 (arg6.view.writes (Elt F) G (st_k0_t1 (F := F) Variants.none c none i arg2 harg2 arg3 harg3 arg4 harg4 arg5 harg5 arg6 harg6 v4 v6 v8 v10 (harg3.unread x1) (harg4.unread x2) G init n).2) = ac (allS x1 v10) (valRows x2) init.2.2.2 (slot3 arg6 G) (13 * n) := by
  induction n with
  | zero => exact ⟨rfl, rfl, rfl, rfl, rfl⟩
  | succ n ih =>
    obtain ⟨h, h0, h1, h2, h3⟩ := ih (Nat.le_of_succ_le hn)
    have hk : n < k0_t1_loop.trips := trips_eq ▸ hn
    have hS : ∀ q : Vec F S256x128 .bf16, ∀ u < 13, trS arg3 (harg3.unread x1) ⟨n, hk⟩ q u = (fun j => allS x1 q (13 * n + j)) u :=
      fun q u hu => congrArg (scoreTile q) (keyChunk_eq arg3 harg3 x1 ⟨n, hk⟩ u hu)
    have hV : ∀ u < 13, valChunk arg4 (harg4.unread x2) ⟨n, hk⟩ u = (fun j => valRows x2 (13 * n + j)) u :=
      fun u hu => valChunk_eq arg4 harg4 x2 ⟨n, hk⟩ u hu
    have hs := st_k0_t1_succ (F := F) Variants.none c none i arg2 harg2 arg3 harg3 arg4 harg4 arg5 harg5 arg6 harg6 v4 v6 v8 v10 (harg3.unread x1) (harg4.unread x2) G init ⟨n, hk⟩
    have hm : 13 * (n + 1) = 13 * n + 13 := by omega
    refine ⟨?_, ?_, ?_, ?_, ?_⟩
    · refine (congrArg Prod.fst hs).trans ((trip_max ..).trans ?_)
      rw [h, hm, mx_add (allS x1 v4), mx_add (allS x1 v6), mx_add (allS x1 v8), mx_add (allS x1 v10), mx_congr _ 13 (hS v4), mx_congr _ 13 (hS v6), mx_congr _ 13 (hS v8), mx_congr _ 13 (hS v10)]
    · rw [show (st_k0_t1 (F := F) Variants.none c none i arg2 harg2 arg3 harg3 arg4 harg4 arg5 harg5 arg6 harg6 v4 v6 v8 v10 (harg3.unread x1) (harg4.unread x2) G init (n + 1)).2 = _ from congrArg Prod.snd hs, View.writes_append]
      refine (trip_slot0 ..).trans ?_
      rw [h0, h, hm, ac_add, ac_congr _ _ 13 (hS v4) hV]
    · rw [show (st_k0_t1 (F := F) Variants.none c none i arg2 harg2 arg3 harg3 arg4 harg4 arg5 harg5 arg6 harg6 v4 v6 v8 v10 (harg3.unread x1) (harg4.unread x2) G init (n + 1)).2 = _ from congrArg Prod.snd hs, View.writes_append]
      refine (trip_slot1 ..).trans ?_
      rw [h1, h, hm, ac_add, ac_congr _ _ 13 (hS v6) hV]
    · rw [show (st_k0_t1 (F := F) Variants.none c none i arg2 harg2 arg3 harg3 arg4 harg4 arg5 harg5 arg6 harg6 v4 v6 v8 v10 (harg3.unread x1) (harg4.unread x2) G init (n + 1)).2 = _ from congrArg Prod.snd hs, View.writes_append]
      refine (trip_slot2 ..).trans ?_
      rw [h2, h, hm, ac_add, ac_congr _ _ 13 (hS v8) hV]
    · rw [show (st_k0_t1 (F := F) Variants.none c none i arg2 harg2 arg3 harg3 arg4 harg4 arg5 harg5 arg6 harg6 v4 v6 v8 v10 (harg3.unread x1) (harg4.unread x2) G init (n + 1)).2 = _ from congrArg Prod.snd hs, View.writes_append]
      refine (trip_slot3 ..).trans ?_
      rw [h3, h, hm, ac_add, ac_congr _ _ 13 (hS v10) hV]

end

/-- One head's block of the output: the accumulator after all 65 chunks, divided by its row of sums. -/
def headOut (q : Vec F S256x128 .bf16) (x1 : Vec F S16640x128 .bf16) (x2 : Vec F S1x65x144x256 .bf16) : FVec F S256x128 .bf16 :=
  k0_pay326 (ac (allS x1 q) (valRows x2) k0_pay321 (fun _ => Scalar.ofBits .f32 0x00000000#32) 65)

section
variable (c : Dev nD) (i : grid0.Coords)
variable (arg2 : Memref sig .tc .vmem S256x512 .bf16) (harg2 : arg2.IsWhole) (arg3 : Memref sig .tc .vmem S16640x128 .bf16) (harg3 : arg3.IsWhole)
variable (arg4 : Memref sig .tc .vmem S1x65x144x256 .bf16) (harg4 : arg4.IsWhole) (arg5 : Memref sig .tc .vmem S256x512 .bf16) (harg5 : arg5.IsWhole)
variable (arg6 : Memref sig .tc .vmem S4x144x256 .f32) (harg6 : arg6.IsWhole)
variable (x0 : Vec F S256x512 .bf16) (x1 : Vec F S16640x128 .bf16) (x2 : Vec F S1x65x144x256 .bf16)

/-- Slot 0 of the zeroed scratch buffer. -/
theorem zero_slot0 : slot0 (F := F) arg6 (arg6.view.writes (Elt F) arg6.view.junk kernelRun0_A.sl.HS0_1) = fun _ => Scalar.ofBits .f32 0x00000000#32 := by
  unfold slot0 kernelRun0_A.sl.HS0_1
  rw [View.readAt_writes_junk_eq_canon]
  funext j
  rw [View.canon_cons_unit_zero (by decide)]
  unfold k0_pay316
  dsimp only
  rw [shapeCast_self]
  rfl

/-- The accumulator of head 0 that the block's last step loads. -/
theorem final0 : kernelRun0_A.sl.v18 (F := F) c i arg2 harg2 arg3 harg3 arg4 harg4 arg5 harg5 arg6 harg6 x0 x1 x2
    = ac (allS x1 (View.ld x0 (Rect.unit (s := S256x512) ![0, 0] S256x128.size inb_S256x512_S256x128_0_0))) (valRows x2) k0_pay321 (fun _ => Scalar.ofBits .f32 0x00000000#32) 65 := by
  unfold kernelRun0_A.sl.v18 View.readCov
  rw [View.writes_append, show Scf.trips k0_t1_loop.lb k0_t1_loop.ub k0_t1_loop.st = 5 from trips_eq]
  simp only [View.readAt_eq_ld arg2.view, harg2.read_unread]
  refine ((loop_eq c i arg2 harg2 arg3 harg3 arg4 harg4 arg5 harg5 arg6 harg6 (View.ld x0 (Rect.unit (s := S256x512) ![0, 0] S256x128.size inb_S256x512_S256x128_0_0)) (View.ld x0 (Rect.unit (s := S256x512) ![0, 128] S256x128.size inb_S256x512_S256x128_0_128)) (View.ld x0 (Rect.unit (s := S256x512) ![0, 256] S256x128.size inb_S256x512_S256x128_0_256)) (View.ld x0 (Rect.unit (s := S256x512) ![0, 384] S256x128.size inb_S256x512_S256x128_0_384)) x1 x2
    (arg6.view.writes (Elt F) arg6.view.junk kernelRun0_A.sl.HS0_1) (k0_pay321, k0_pay322, k0_pay323, k0_pay324) 5 le_rfl).2.1).trans ?_
  rw [zero_slot0]

/-- Slot 1 of the zeroed scratch buffer. -/
theorem zero_slot1 : slot1 (F := F) arg6 (arg6.view.writes (Elt F) arg6.view.junk kernelRun0_A.sl.HS0_1) = fun _ => Scalar.ofBits .f32 0x00000000#32 := by
  unfold slot1 kernelRun0_A.sl.HS0_1
  rw [View.readAt_writes_junk_eq_canon]
  funext j
  rw [View.canon_cons_unit_zero (by decide)]
  unfold k0_pay316
  dsimp only
  rw [shapeCast_self]
  rfl

/-- The accumulator of head 1 that the block's last step loads. -/
theorem final1 : kernelRun0_A.sl.v (F := F) c i arg2 harg2 arg3 harg3 arg4 harg4 arg5 harg5 arg6 harg6 x0 x1 x2
    = ac (allS x1 (View.ld x0 (Rect.unit (s := S256x512) ![0, 128] S256x128.size inb_S256x512_S256x128_0_128))) (valRows x2) k0_pay321 (fun _ => Scalar.ofBits .f32 0x00000000#32) 65 := by
  unfold kernelRun0_A.sl.v View.readCov
  rw [View.writes_append, show Scf.trips k0_t1_loop.lb k0_t1_loop.ub k0_t1_loop.st = 5 from trips_eq]
  simp only [View.readAt_eq_ld arg2.view, harg2.read_unread]
  refine ((loop_eq c i arg2 harg2 arg3 harg3 arg4 harg4 arg5 harg5 arg6 harg6 (View.ld x0 (Rect.unit (s := S256x512) ![0, 0] S256x128.size inb_S256x512_S256x128_0_0)) (View.ld x0 (Rect.unit (s := S256x512) ![0, 128] S256x128.size inb_S256x512_S256x128_0_128)) (View.ld x0 (Rect.unit (s := S256x512) ![0, 256] S256x128.size inb_S256x512_S256x128_0_256)) (View.ld x0 (Rect.unit (s := S256x512) ![0, 384] S256x128.size inb_S256x512_S256x128_0_384)) x1 x2
    (arg6.view.writes (Elt F) arg6.view.junk kernelRun0_A.sl.HS0_1) (k0_pay321, k0_pay322, k0_pay323, k0_pay324) 5 le_rfl).2.2.1).trans ?_
  rw [zero_slot1]
  rfl

/-- Slot 2 of the zeroed scratch buffer. -/
theorem zero_slot2 : slot2 (F := F) arg6 (arg6.view.writes (Elt F) arg6.view.junk kernelRun0_A.sl.HS0_1) = fun _ => Scalar.ofBits .f32 0x00000000#32 := by
  unfold slot2 kernelRun0_A.sl.HS0_1
  rw [View.readAt_writes_junk_eq_canon]
  funext j
  rw [View.canon_cons_unit_zero (by decide)]
  unfold k0_pay316
  dsimp only
  rw [shapeCast_self]
  rfl

/-- The accumulator of head 2 that the block's last step loads. -/
theorem final2 : kernelRun0_A.sl.v36 (F := F) c i arg2 harg2 arg3 harg3 arg4 harg4 arg5 harg5 arg6 harg6 x0 x1 x2
    = ac (allS x1 (View.ld x0 (Rect.unit (s := S256x512) ![0, 256] S256x128.size inb_S256x512_S256x128_0_256))) (valRows x2) k0_pay321 (fun _ => Scalar.ofBits .f32 0x00000000#32) 65 := by
  unfold kernelRun0_A.sl.v36 View.readCov
  rw [View.writes_append, show Scf.trips k0_t1_loop.lb k0_t1_loop.ub k0_t1_loop.st = 5 from trips_eq]
  simp only [View.readAt_eq_ld arg2.view, harg2.read_unread]
  refine ((loop_eq c i arg2 harg2 arg3 harg3 arg4 harg4 arg5 harg5 arg6 harg6 (View.ld x0 (Rect.unit (s := S256x512) ![0, 0] S256x128.size inb_S256x512_S256x128_0_0)) (View.ld x0 (Rect.unit (s := S256x512) ![0, 128] S256x128.size inb_S256x512_S256x128_0_128)) (View.ld x0 (Rect.unit (s := S256x512) ![0, 256] S256x128.size inb_S256x512_S256x128_0_256)) (View.ld x0 (Rect.unit (s := S256x512) ![0, 384] S256x128.size inb_S256x512_S256x128_0_384)) x1 x2
    (arg6.view.writes (Elt F) arg6.view.junk kernelRun0_A.sl.HS0_1) (k0_pay321, k0_pay322, k0_pay323, k0_pay324) 5 le_rfl).2.2.2.1).trans ?_
  rw [zero_slot2]
  rfl

/-- Slot 3 of the zeroed scratch buffer. -/
theorem zero_slot3 : slot3 (F := F) arg6 (arg6.view.writes (Elt F) arg6.view.junk kernelRun0_A.sl.HS0_1) = fun _ => Scalar.ofBits .f32 0x00000000#32 := by
  unfold slot3 kernelRun0_A.sl.HS0_1
  rw [View.readAt_writes_junk_eq_canon]
  funext j
  rw [View.canon_cons_unit_zero (by decide)]
  unfold k0_pay316
  dsimp only
  rw [shapeCast_self]
  rfl

/-- The accumulator of head 3 that the block's last step loads. -/
theorem final3 : kernelRun0_A.sl.v45 (F := F) c i arg2 harg2 arg3 harg3 arg4 harg4 arg5 harg5 arg6 harg6 x0 x1 x2
    = ac (allS x1 (View.ld x0 (Rect.unit (s := S256x512) ![0, 384] S256x128.size inb_S256x512_S256x128_0_384))) (valRows x2) k0_pay321 (fun _ => Scalar.ofBits .f32 0x00000000#32) 65 := by
  unfold kernelRun0_A.sl.v45 View.readCov
  rw [View.writes_append, show Scf.trips k0_t1_loop.lb k0_t1_loop.ub k0_t1_loop.st = 5 from trips_eq]
  simp only [View.readAt_eq_ld arg2.view, harg2.read_unread]
  refine ((loop_eq c i arg2 harg2 arg3 harg3 arg4 harg4 arg5 harg5 arg6 harg6 (View.ld x0 (Rect.unit (s := S256x512) ![0, 0] S256x128.size inb_S256x512_S256x128_0_0)) (View.ld x0 (Rect.unit (s := S256x512) ![0, 128] S256x128.size inb_S256x512_S256x128_0_128)) (View.ld x0 (Rect.unit (s := S256x512) ![0, 256] S256x128.size inb_S256x512_S256x128_0_256)) (View.ld x0 (Rect.unit (s := S256x512) ![0, 384] S256x128.size inb_S256x512_S256x128_0_384)) x1 x2
    (arg6.view.writes (Elt F) arg6.view.junk kernelRun0_A.sl.HS0_1) (k0_pay321, k0_pay322, k0_pay323, k0_pay324) 5 le_rfl).2.2.2.2).trans ?_
  rw [zero_slot3]
  rfl

/-- Head 0's columns lie off head 3's. -/
theorem skip30 (y : S256x128.Idx) : (Rect.unit (s := S256x512) ![0, 0] S256x128.size inb_S256x512_S256x128_0_0).emb y ∉ (Rect.unit (s := S256x512) ![0, 384] S256x128.size inb_S256x512_S256x128_0_384).set :=
  LoadRect.idx_not_mem_of_disj (p := (Rect.unit (s := S256x512) ![0, 384] S256x128.size inb_S256x512_S256x128_0_384)) (B := (Rect.unit (s := S256x512) ![0, 0] S256x128.size inb_S256x512_S256x128_0_0).toLoadRect) (by decide) y

/-- Head 0's columns lie off head 2's. -/
theorem skip20 (y : S256x128.Idx) : (Rect.unit (s := S256x512) ![0, 0] S256x128.size inb_S256x512_S256x128_0_0).emb y ∉ (Rect.unit (s := S256x512) ![0, 256] S256x128.size inb_S256x512_S256x128_0_256).set :=
  LoadRect.idx_not_mem_of_disj (p := (Rect.unit (s := S256x512) ![0, 256] S256x128.size inb_S256x512_S256x128_0_256)) (B := (Rect.unit (s := S256x512) ![0, 0] S256x128.size inb_S256x512_S256x128_0_0).toLoadRect) (by decide) y

/-- Head 0's columns lie off head 1's. -/
theorem skip10 (y : S256x128.Idx) : (Rect.unit (s := S256x512) ![0, 0] S256x128.size inb_S256x512_S256x128_0_0).emb y ∉ (Rect.unit (s := S256x512) ![0, 128] S256x128.size inb_S256x512_S256x128_0_128).set :=
  LoadRect.idx_not_mem_of_disj (p := (Rect.unit (s := S256x512) ![0, 128] S256x128.size inb_S256x512_S256x128_0_128)) (B := (Rect.unit (s := S256x512) ![0, 0] S256x128.size inb_S256x512_S256x128_0_0).toLoadRect) (by decide) y

/-- Head 1's columns lie off head 3's. -/
theorem skip31 (y : S256x128.Idx) : (Rect.unit (s := S256x512) ![0, 128] S256x128.size inb_S256x512_S256x128_0_128).emb y ∉ (Rect.unit (s := S256x512) ![0, 384] S256x128.size inb_S256x512_S256x128_0_384).set :=
  LoadRect.idx_not_mem_of_disj (p := (Rect.unit (s := S256x512) ![0, 384] S256x128.size inb_S256x512_S256x128_0_384)) (B := (Rect.unit (s := S256x512) ![0, 128] S256x128.size inb_S256x512_S256x128_0_128).toLoadRect) (by decide) y

/-- Head 1's columns lie off head 2's. -/
theorem skip21 (y : S256x128.Idx) : (Rect.unit (s := S256x512) ![0, 128] S256x128.size inb_S256x512_S256x128_0_128).emb y ∉ (Rect.unit (s := S256x512) ![0, 256] S256x128.size inb_S256x512_S256x128_0_256).set :=
  LoadRect.idx_not_mem_of_disj (p := (Rect.unit (s := S256x512) ![0, 256] S256x128.size inb_S256x512_S256x128_0_256)) (B := (Rect.unit (s := S256x512) ![0, 128] S256x128.size inb_S256x512_S256x128_0_128).toLoadRect) (by decide) y

/-- Head 2's columns lie off head 3's. -/
theorem skip32 (y : S256x128.Idx) : (Rect.unit (s := S256x512) ![0, 256] S256x128.size inb_S256x512_S256x128_0_256).emb y ∉ (Rect.unit (s := S256x512) ![0, 384] S256x128.size inb_S256x512_S256x128_0_384).set :=
  LoadRect.idx_not_mem_of_disj (p := (Rect.unit (s := S256x512) ![0, 384] S256x128.size inb_S256x512_S256x128_0_384)) (B := (Rect.unit (s := S256x512) ![0, 256] S256x128.size inb_S256x512_S256x128_0_256).toLoadRect) (by decide) y

/-- The block written at one grid point, at row `r` and column `d` of head 0 … 3. -/
theorem out_head0 (y : S256x128.Idx) : out0_A_3 (F := F) c i arg2 harg2 arg3 harg3 arg4 harg4 arg5 harg5 arg6 harg6 x0 x1 x2 ((Rect.unit (s := S256x512) ![0, 0] S256x128.size inb_S256x512_S256x128_0_0).emb y)
    = headOut (View.ld x0 (Rect.unit (s := S256x512) ![0, 0] S256x128.size inb_S256x512_S256x128_0_0)) x1 x2 y := by
  unfold out0_A_3 kernelRun0_A
  dsimp only
  rw [View.read_writes_junk_eq_canon]
  refine (View.canon_cons_of_not_mem (⟨(Rect.unit (s := S256x512) ![0, 384] S256x128.size inb_S256x512_S256x128_0_384), _⟩ : View.Piece (Elt F) S256x512 .bf16) _ (skip30 y)).trans ?_
  refine (View.canon_cons_of_not_mem (⟨(Rect.unit (s := S256x512) ![0, 256] S256x128.size inb_S256x512_S256x128_0_256), _⟩ : View.Piece (Elt F) S256x512 .bf16) _ (skip20 y)).trans ?_
  refine (View.canon_cons_of_not_mem (⟨(Rect.unit (s := S256x512) ![0, 128] S256x128.size inb_S256x512_S256x128_0_128), _⟩ : View.Piece (Elt F) S256x512 .bf16) _ (skip10 y)).trans ?_
  refine (View.canon_cons_emb (Rect.unit (s := S256x512) ![0, 0] S256x128.size inb_S256x512_S256x128_0_0) _ _ y).trans ?_
  rw [final0]
  rfl

/-- The same for the next head. -/
theorem out_head1 (y : S256x128.Idx) : out0_A_3 (F := F) c i arg2 harg2 arg3 harg3 arg4 harg4 arg5 harg5 arg6 harg6 x0 x1 x2 ((Rect.unit (s := S256x512) ![0, 128] S256x128.size inb_S256x512_S256x128_0_128).emb y)
    = headOut (View.ld x0 (Rect.unit (s := S256x512) ![0, 128] S256x128.size inb_S256x512_S256x128_0_128)) x1 x2 y := by
  unfold out0_A_3 kernelRun0_A
  dsimp only
  rw [View.read_writes_junk_eq_canon]
  refine (View.canon_cons_of_not_mem (⟨(Rect.unit (s := S256x512) ![0, 384] S256x128.size inb_S256x512_S256x128_0_384), _⟩ : View.Piece (Elt F) S256x512 .bf16) _ (skip31 y)).trans ?_
  refine (View.canon_cons_of_not_mem (⟨(Rect.unit (s := S256x512) ![0, 256] S256x128.size inb_S256x512_S256x128_0_256), _⟩ : View.Piece (Elt F) S256x512 .bf16) _ (skip21 y)).trans ?_
  refine (View.canon_cons_emb (Rect.unit (s := S256x512) ![0, 128] S256x128.size inb_S256x512_S256x128_0_128) _ _ y).trans ?_
  rw [final1]
  rfl

/-- The same for the next head. -/
theorem out_head2 (y : S256x128.Idx) : out0_A_3 (F := F) c i arg2 harg2 arg3 harg3 arg4 harg4 arg5 harg5 arg6 harg6 x0 x1 x2 ((Rect.unit (s := S256x512) ![0, 256] S256x128.size inb_S256x512_S256x128_0_256).emb y)
    = headOut (View.ld x0 (Rect.unit (s := S256x512) ![0, 256] S256x128.size inb_S256x512_S256x128_0_256)) x1 x2 y := by
  unfold out0_A_3 kernelRun0_A
  dsimp only
  rw [View.read_writes_junk_eq_canon]
  refine (View.canon_cons_of_not_mem (⟨(Rect.unit (s := S256x512) ![0, 384] S256x128.size inb_S256x512_S256x128_0_384), _⟩ : View.Piece (Elt F) S256x512 .bf16) _ (skip32 y)).trans ?_
  refine (View.canon_cons_emb (Rect.unit (s := S256x512) ![0, 256] S256x128.size inb_S256x512_S256x128_0_256) _ _ y).trans ?_
  rw [final2]
  rfl

/-- The same for the next head. -/
theorem out_head3 (y : S256x128.Idx) : out0_A_3 (F := F) c i arg2 harg2 arg3 harg3 arg4 harg4 arg5 harg5 arg6 harg6 x0 x1 x2 ((Rect.unit (s := S256x512) ![0, 384] S256x128.size inb_S256x512_S256x128_0_384).emb y)
    = headOut (View.ld x0 (Rect.unit (s := S256x512) ![0, 384] S256x128.size inb_S256x512_S256x128_0_384)) x1 x2 y := by
  unfold out0_A_3 kernelRun0_A
  dsimp only
  rw [View.read_writes_junk_eq_canon]
  refine (View.canon_cons_emb (Rect.unit (s := S256x512) ![0, 384] S256x128.size inb_S256x512_S256x128_0_384) _ _ y).trans ?_
  rw [final3]
  rfl

end

end Cert.GlobalIdeal.Hand
-- ==== Proof.Softmax.lean ====
/-
  Softmax over finite scores in the extended reals, free of any program: the maximum of finitely many reals is a
  real, a non-negative real factor goes through a sum of arbitrary extended reals, and weights `2 ^ (s - M)` divided
  by their sum do not depend on the real `M` subtracted.
-/
module

public import Idealize.ShloMosaic.Lib.Pointwise

@[expose] public section

noncomputable section

namespace Cert.Softmax

open Idealize.ShloMosaic

/-- The maximum, taken from a real or from −∞, of finitely many reals (at least one in all) is a real. -/
theorem fold_max_real {ι : Type} [Fintype ι] [Nonempty ι] (f : ι → ℝ) :
    ∃ M : ℝ, (Finset.univ : Finset ι).fold max (⊥ : EReal) (fun k => (f k : EReal)) = M := by
  have hlt : (Finset.univ : Finset ι).fold max (⊥ : EReal) (fun k => (f k : EReal)) < ⊤ :=
    (Finset.fold_max_lt _).mpr ⟨bot_lt_top, fun k _ => EReal.coe_lt_top _⟩
  have hgt : ⊥ < (Finset.univ : Finset ι).fold max (⊥ : EReal) (fun k => (f k : EReal)) :=
    (Finset.lt_fold_max _).mpr (.inr ⟨Classical.arbitrary ι, Finset.mem_univ _, EReal.bot_lt_coe _⟩)
  exact ⟨_, (EReal.coe_toReal hlt.ne hgt.ne').symm⟩

/-- A real sum of reals. -/
theorem coe_sum {ι : Type} (s : Finset ι) (f : ι → ℝ) : (∑ k ∈ s, (f k : EReal)) = ((∑ k ∈ s, f k : ℝ) : EReal) := by
  induction s using Finset.cons_induction with
  | empty => simp
  | cons a s ha ih => rw [Finset.sum_cons, Finset.sum_cons, ih, EReal.coe_add]

/-- A non-negative real factor distributes over any sum of extended reals. -/
theorem mul_sum {ι : Type} (s : Finset ι) (c : ℝ) (hc : 0 ≤ c) (f : ι → EReal) : (c : EReal) * ∑ k ∈ s, f k = ∑ k ∈ s, (c : EReal) * f k := by
  induction s using Finset.cons_induction with
  | empty => simp
  | cons a s ha ih =>
    rw [Finset.sum_cons, Finset.sum_cons, ← ih,
      EReal.left_distrib_of_nonneg_of_ne_top (EReal.coe_nonneg.mpr hc) (EReal.coe_ne_top c)]

/-- The weight of one key: two to its score. -/
def pw (x : ℝ) : ℝ := (2 : ℝ) ^ x

theorem pw_pos (x : ℝ) : 0 < pw x := Real.rpow_pos_of_pos (by norm_num) x

theorem pw_add (x y : ℝ) : pw (x + y) = pw x * pw y := Real.rpow_add (by norm_num) x y

/-- The exponential of two on a difference of reals. -/
theorem exp2_sub (x y : ℝ) : Ideal.exp2 ((x : EReal) - (y : EReal)) = (pw (x - y) : EReal) := by
  rw [← EReal.coe_sub]; exact Ideal.exp2_coe _

/-- One head's running state after `u` chunks of 256 keys, started from the real maximum `m0` and an empty sum: the
    maximum is a real `M`, and the sum is that of the values so far, each weighted by two to its score less `M`. -/
theorem online {K : ℕ} (s : ℕ → Fin (K + 1) → ℝ) (v : ℕ → Fin (K + 1) → EReal) (m a : ℕ → EReal) (m0 : ℝ) (h0 : m 0 = m0) (ha : a 0 = 0)
    (hm : ∀ u, m (u + 1) = max (m u) ((Finset.univ : Finset (Fin (K + 1))).fold max ⊥ fun κ => ((s u κ : ℝ) : EReal)))
    (hs : ∀ u, a (u + 1) = Ideal.exp2 (m u - m (u + 1)) * a u + ∑ κ, v u κ * Ideal.exp2 (((s u κ : ℝ) : EReal) - m (u + 1))) (u : ℕ) :
    ∃ M : ℝ, m u = M ∧ a u = ∑ n ∈ Finset.range u, ∑ κ, v n κ * (pw (s n κ - M) : EReal) := by
  induction u with
  | zero => exact ⟨m0, h0, by rw [ha, Finset.range_zero, Finset.sum_empty]⟩
  | succ u ih =>
    obtain ⟨M, hM, hA⟩ := ih
    obtain ⟨B, hB⟩ := fold_max_real (s u)
    have hM' : m (u + 1) = ((max M B : ℝ) : EReal) := by rw [hm, hM, hB]; exact (EReal.coe_strictMono.monotone.map_max).symm
    refine ⟨max M B, hM', ?_⟩
    rw [hs, hM, hM', hA, exp2_sub, Finset.sum_range_succ, mul_sum _ _ (pw_pos _).le]
    congr 1
    refine Finset.sum_congr rfl fun n _ => ?_
    rw [mul_sum _ _ (pw_pos _).le]
    refine Finset.sum_congr rfl fun κ _ => ?_
    rw [mul_left_comm, ← EReal.coe_mul, ← pw_add]
    congr 3; ring

/-- The quotient of the weighted sum of values by the sum of the weights, the weights taken less any real `M`: the sum
    of the values, each by its softmax weight. -/
theorem quotient {ι : Type} (t : Finset ι) (ht : t.Nonempty) (s : ι → ℝ) (v : ι → EReal) (M : ℝ) :
    Ideal.div (∑ k ∈ t, v k * (pw (s k - M) : EReal)) (∑ k ∈ t, (1 : EReal) * (pw (s k - M) : EReal))
      = ∑ k ∈ t, v k * ((pw (s k) / ∑ j ∈ t, pw (s j) : ℝ) : EReal) := by
  have e : (∑ k ∈ t, (1 : EReal) * (pw (s k - M) : EReal)) = ((pw (-M) * ∑ k ∈ t, pw (s k) : ℝ) : EReal) := by
    rw [Finset.mul_sum, ← coe_sum]
    refine Finset.sum_congr rfl fun k _ => ?_
    rw [one_mul, ← pw_add, neg_add_eq_sub]
  have hS : 0 < ∑ k ∈ t, pw (s k) := Finset.sum_pos (fun k _ => pw_pos _) ht
  have hL : 0 < pw (-M) * ∑ k ∈ t, pw (s k) := mul_pos (pw_pos _) hS
  rw [e, Ideal.div_coe hL.ne', mul_comm, mul_sum _ _ (one_div_pos.mpr hL).le]
  refine Finset.sum_congr rfl fun k _ => ?_
  rw [mul_left_comm, ← EReal.coe_mul]
  congr 2
  rw [sub_eq_neg_add, pw_add]
  have := (pw_pos (-M)).ne'
  field_simp

/-- The reference's spelling of one softmax weight: the exponential of the score less any real, divided by the sum of
    the exponentials. Its scores are the kernel's times `log 2`. -/
theorem weight {ι : Type} (t : Finset ι) (ht : t.Nonempty) (s : ι → ℝ) (M : ℝ) (k : ι) :
    Ideal.div ((Real.exp (s k * Real.log 2 - M) : ℝ) : EReal) (∑ j ∈ t, ((Real.exp (s j * Real.log 2 - M) : ℝ) : EReal))
      = ((pw (s k) / ∑ j ∈ t, pw (s j) : ℝ) : EReal) := by
  have e : ∀ j, Real.exp (s j * Real.log 2 - M) = Real.exp (-M) * pw (s j) := fun j => by
    rw [sub_eq_neg_add, Real.exp_add, pw, Real.rpow_def_of_pos (by norm_num), mul_comm (s j)]
  simp only [e]
  have hS : 0 < ∑ k ∈ t, pw (s k) := Finset.sum_pos (fun k _ => pw_pos _) ht
  rw [coe_sum, ← Finset.mul_sum, Ideal.div_coe (mul_pos (Real.exp_pos _) hS).ne', ← EReal.coe_mul]
  congr 1
  have := (Real.exp_pos (-M)).ne'
  field_simp

end Cert.Softmax
-- ==== Proof.Column.lean ====
/-
  One head's output block read at an index, over the extended reals: with finite queries and keys the entry of query
  `r` and coordinate `d` is the sum over all 65 × 256 keys of the value's coordinate `d` times the key's softmax
  weight.
-/
module

public import proofs.«01_k».proof.Proof.Block
public import proofs.«01_k».proof.Proof.Softmax

@[expose] public section

set_option maxRecDepth 16384

noncomputable section

namespace Cert.GlobalIdeal.Hand

open Cert.GlobalIdeal Cert.GlobalIdeal.Gen Cert.Softmax
open Idealize.ShloMosaic Idealize.ShloMosaic.TcCoe Idealize.SL.Sem

/-- A tile of scores at an index: the product of the key's row and the query's row. -/
theorem scoreTile_apply (q kc : Vec Ideal S256x128 .bf16) (κ r : Fin 256) :
    scoreTile q kc (ix2 κ r) = ∑ d : Fin 128, kc (ix2 κ d) * q (ix2 r d) := by
  pointwise [scoreTile]

/-- The pattern of −∞. -/
theorem neg_inf : Ideal.ofBits FTy.f32 4286578688#32 = (⊥ : EReal) := by simp [Ideal.ofBits, Ideal.ieee]

/-- The step of the running maximum at an index. -/
theorem mxStep_apply (s : FVec Ideal S256x256 .f32) (m : FVec Ideal S1x256 .f32) (r : Fin 256) :
    mxStep s m (ix2 0 r) = max (m (ix2 0 r)) ((Finset.univ : Finset (Fin 256)).fold max ⊥ fun κ => s (ix2 κ r)) := by
  pointwise [mxStep]
  rw [neg_inf]

/-- The step of the accumulator at an index. -/
theorem acStep_apply (s : FVec Ideal S256x256 .f32) (vt : Vec Ideal S1x1x144x256 .bf16) (m m' : FVec Ideal S1x256 .f32) (a : Vec Ideal S1x144x256 .f32)
    (e : Fin 144) (r : Fin 256) :
    acStep s vt m m' a (ix3 0 e r) = Ideal.exp2 (m (ix2 0 r) - m' (ix2 0 r)) * a (ix3 0 e r)
      + ∑ κ : Fin 256, vt (ix4 0 0 e κ) * Ideal.exp2 (s (ix2 κ r) - m' (ix2 0 r)) := by
  pointwise [acStep]
  rfl

/-- The last step at an index: the accumulator's row `d` divided by its row 128, the sum of the weights. -/
theorem pay326_apply (a : Vec Ideal S1x144x256 .f32) (r : Fin 256) (d : Fin 128) :
    k0_pay326 a (ix2 r d) = Ideal.div (a (ix3 0 ⟨d.val, by omega⟩ r)) (a (ix3 0 128 r)) := by
  pointwise [k0_pay326]

/-- A chunk of keys at an index. -/
theorem keyRows_apply (x1 : Vec Ideal S16640x128 .bf16) (n : ℕ) (κ : Fin 256) (d : Fin 128) :
    keyRows x1 n (ix2 κ d) = x1 (ix2 ⟨256 * (n % 65) + κ.val, by have := Nat.mod_lt n (show 0 < 65 by decide); omega⟩ d) := by
  pointwise [keyRows]

/-- A chunk of values at an index. -/
theorem valRows_apply (x2 : Vec Ideal S1x65x144x256 .bf16) (n : ℕ) (e : Fin 144) (κ : Fin 256) :
    valRows x2 n (ix4 0 0 e κ) = x2 (ix4 0 ⟨n % 65, Nat.mod_lt n (by decide)⟩ e κ) := by
  pointwise [valRows]

/-- The running maximum starts from a finite number. -/
theorem start_real : ∃ m0 : ℝ, ∀ r : Fin 256, (k0_pay321 (F := Ideal)) (ix2 0 r) = m0 := by
  refine ⟨(Ideal.ofBits FTy.f32 0xF149F2CA#32 : EReal).toReal, fun r => ?_⟩
  pointwise [k0_pay321]
  refine (EReal.coe_toReal ?_ ?_).symm <;> simp [Ideal.ofBits, Ideal.ieee]
  · exact_mod_cast EReal.coe_ne_bot ((13234890 : ℝ) * 2 ^ 76)
  · exact_mod_cast EReal.coe_ne_top ((13234890 : ℝ) * 2 ^ 76)

/-- The accumulator's first value. -/
def zeros : FVec Ideal S1x144x256 .f32 := fun _ => Scalar.ofBits .f32 0x00000000#32

/-- The accumulator after `u` chunks, and the sum of the weights so far, for query `r` whose scores are the reals `s`. -/
theorem acc_apply (q : Vec Ideal S256x128 .bf16) (x1 : Vec Ideal S16640x128 .bf16) (x2 : Vec Ideal S1x65x144x256 .bf16) (r : Fin 256)
    (s : ℕ → Fin 256 → ℝ) (hs : ∀ n κ, allS x1 q n (ix2 κ r) = ((s n κ : ℝ) : EReal)) (e : Fin 144) (u : ℕ) :
    ∃ M : ℝ, mx (allS x1 q) k0_pay321 u (ix2 0 r) = M
      ∧ ac (allS x1 q) (valRows x2) k0_pay321 zeros u (ix3 0 e r)
        = ∑ n ∈ Finset.range u, ∑ κ, valRows x2 n (ix4 0 0 e κ) * (pw (s n κ - M) : EReal) := by
  obtain ⟨m0, h0⟩ := start_real
  refine online (K := 255) s (fun n κ => valRows x2 n (ix4 0 0 e κ)) (fun u => mx (allS x1 q) k0_pay321 u (ix2 0 r))
    (fun u => ac (allS x1 q) (valRows x2) k0_pay321 zeros u (ix3 0 e r)) m0 (h0 r) ?_ (fun u => ?_) (fun u => ?_) u
  · exact Ideal.ofBits_zero_f32
  · refine (mxStep_apply _ _ r).trans ?_
    simp only [hs]
  · refine (acStep_apply _ _ _ _ _ e r).trans ?_
    simp only [hs]

/-- The block's entry: every key's value by its softmax weight. -/
theorem headOut_apply (q : Vec Ideal S256x128 .bf16) (x1 : Vec Ideal S16640x128 .bf16) (x2 : Vec Ideal S1x65x144x256 .bf16) (r : Fin 256) (d : Fin 128)
    (s : ℕ → Fin 256 → ℝ) (hs : ∀ n κ, allS x1 q n (ix2 κ r) = ((s n κ : ℝ) : EReal))
    (h1 : ∀ n κ, valRows x2 n (ix4 0 0 128 κ) = (1 : EReal)) :
    headOut q x1 x2 (ix2 r d) = ∑ p ∈ Finset.range 65 ×ˢ (Finset.univ : Finset (Fin 256)),
      valRows x2 p.1 (ix4 0 0 ⟨d.val, by omega⟩ p.2)
        * ((pw (s p.1 p.2) / ∑ p ∈ Finset.range 65 ×ˢ (Finset.univ : Finset (Fin 256)), pw (s p.1 p.2) : ℝ) : EReal) := by
  obtain ⟨M, hM, hA⟩ := acc_apply q x1 x2 r s hs ⟨d.val, by omega⟩ 65
  obtain ⟨M', hM', hL⟩ := acc_apply q x1 x2 r s hs 128 65
  obtain rfl : M = M' := EReal.coe_injective (hM.symm.trans hM')
  unfold headOut
  rw [pay326_apply]
  change Ideal.div (ac (allS x1 q) (valRows x2) k0_pay321 zeros 65 _) (ac (allS x1 q) (valRows x2) k0_pay321 zeros 65 _) = _
  rw [hA, hL]
  simp only [h1]
  rw [← Finset.sum_product', ← Finset.sum_product']
  exact quotient _ ⟨(0, 0), by simp⟩ (fun p : ℕ × Fin 256 => s p.1 p.2) (fun p => valRows x2 p.1 (ix4 0 0 ⟨d.val, by omega⟩ p.2)) M

end Cert.GlobalIdeal.Hand
-- ==== Proof.Host.lean ====
/-
  The arrays that the host prepares for the call, read at an index: the packed queries and keys, and the transposed
  values with their row of ones. With finite queries and keys the scores of the call are real numbers.
-/
module

public import proofs.«01_k».proof.Proof.Column
public import proofs.«01_k».proof.Proof.Gen.GlobalIdeal.Value
public import Idealize.ShloMosaic.Lib.Claim
public import Idealize.ShloMosaic.Lib.Pipeline.ValueKit

@[expose] public section

set_option maxRecDepth 16384

noncomputable section

namespace Cert.GlobalIdeal.Hand

open Cert.GlobalIdeal Cert.GlobalIdeal.Gen Cert.Softmax
open Idealize.ShloMosaic Idealize.ShloMosaic.TcCoe Idealize.SL.Sem

variable (m : (ℓ : Loc nD τ sig) → Buf (Elt Ideal) ℓ)

/-- The queries divided by √128 · log 2, a row of eight heads per latent token. -/
def scaled (q : Vec Ideal S16384x2x4x128 .f32) : Vec Ideal S16384x1024 .f32 :=
  shapeCast S16384x1024 (Host.divf (F := Ideal) (φ := .f32) q (broadcastInDim S16384x2x4x128 ![] bcast_S_S16384x2x4x128
    (mulf (Host.sqrt (constant (F := Ideal) S_ .f32 0x43000000#32)) (Host.log (constant (F := Ideal) S_ .f32 0x40000000#32))))) shapeCasts_S16384x2x4x128_S16384x1024

/-- The packed array that the call reads its queries and keys from. -/
def qkvOf (q : Vec Ideal S16384x2x4x128 .f32) (k v : Vec Ideal S16640x2x128 .f32) : Vec Ideal S16640x3072 .bf16 :=
  truncf .bf16 (concatenate S16640x3072 1 [⟨S16640x1536, broadcastInDim S16640x1536 ![] bcast_S_S16640x1536 (constant (F := Ideal) S_ .f32 0x00000000#32)⟩,
    ⟨S16640x1024, concatenate S16640x1024 0 [⟨S256x1024, broadcastInDim S256x1024 ![] bcast_S_S256x1024 (constant (F := Ideal) S_ .f32 0x00000000#32)⟩,
      ⟨S16384x1024, scaled q⟩] concatenates_S256x1024_S16384x1024_S16640x1024_d0⟩,
    ⟨S16640x256, shapeCast S16640x256 k shapeCasts_S16640x2x128_S16640x256⟩,
    ⟨S16640x256, shapeCast S16640x256 v shapeCasts_S16640x2x128_S16640x256⟩] concatenates_S16640x1536_S16640x1024_S16640x256_S16640x256_S16640x3072_d1) bitsLt_bf16_f32

/-- The values in chunks of 256 keys, transposed, with a row of ones below each chunk. -/
def vtOf (v : Vec Ideal S16640x2x128 .f32) : Vec Ideal S2x65x144x256 .bf16 :=
  truncf .bf16 (concatenate S2x65x144x256 2 [⟨S2x65x128x256, transpose S2x65x128x256 [2, 0, 3, 1]
      (shapeCast S65x256x2x128 v shapeCasts_S16640x2x128_S65x256x2x128) transposes_S65x256x2x128_S2x65x128x256_2_0_3_1⟩,
    ⟨S2x65x1x256, broadcastInDim S2x65x1x256 ![] bcast_S_S2x65x1x256 (constant (F := Ideal) S_ .f32 0x3F800000#32)⟩,
    ⟨S2x65x15x256, broadcastInDim S2x65x15x256 ![] bcast_S_S2x65x15x256 (constant (F := Ideal) S_ .f32 0x00000000#32)⟩] concatenates_S2x65x128x256_S2x65x1x256_S2x65x15x256_S2x65x144x256_d2) bitsLt_bf16_f32

/-- The call's first two operands are the packed array. -/
theorem V_qkv (c : Dev nD) : V m c main_v12 = qkvOf (m ((c : Thread nD τ).loc main_arg0)) (m ((c : Thread nD τ).loc main_arg1)) (m ((c : Thread nD τ).loc main_arg2)) := by
  rfl

/-- The call's third operand is the array of transposed values. -/
theorem V_vt (c : Dev nD) : V m c main_v18 = vtOf (m ((c : Thread nD τ).loc main_arg2)) := by
  rfl

/-- The pattern of 128. -/
theorem bits_128 : Ideal.ofBits FTy.f32 1124073472#32 = ((128 : ℝ) : EReal) := by
  simp [Ideal.ofBits, Ideal.ieee]; exact_mod_cast (by norm_num : ((8388608 : ℝ) * (2 ^ 16)⁻¹) = 128)

/-- The pattern of 2. -/
theorem bits_2 : Ideal.ofBits FTy.f32 1073741824#32 = ((2 : ℝ) : EReal) := by
  simp [Ideal.ofBits, Ideal.ieee]; exact_mod_cast (by norm_num : ((8388608 : ℝ) * (2 ^ 22)⁻¹) = 2)

/-- The factor by which the host divides the queries. -/
def scaleBy : ℝ := √128 * Real.log 2

theorem scaleBy_ne : scaleBy ≠ 0 := mul_ne_zero (by positivity) (Real.log_pos (by norm_num)).ne'

/-- A scaled query at an index. -/
theorem scaled_apply (q : Vec Ideal S16384x2x4x128 .f32) (i : Fin 16384) (h : Fin 2) (g : Fin 4) (d : Fin 128) :
    scaled q (ix2 i ⟨512 * h.val + 128 * g.val + d.val, by omega⟩) = q (ix4 i h g d) * ((1 / scaleBy : ℝ) : EReal) := by
  pointwise [scaled]
  rw [bits_128, bits_2, Ideal.sqrt_coe, Ideal.log_coe, if_neg (by norm_num), if_neg (by norm_num), ← EReal.coe_mul]
  exact Ideal.div_coe scaleBy_ne _

/-- The packed array holds the scaled queries in the latent tokens' rows, from column 1536 on. -/
theorem qkvOf_q (q : Vec Ideal S16384x2x4x128 .f32) (k v : Vec Ideal S16640x2x128 .f32) (i : Fin 16384) (j : Fin 1024) :
    qkvOf q k v (ix2 ⟨256 + i.val, by omega⟩ ⟨1536 + j.val, by omega⟩) = scaled q (ix2 i j) := by
  pointwise [qkvOf]

/-- The packed array holds the keys from column 2560 on. -/
theorem qkvOf_k (q : Vec Ideal S16384x2x4x128 .f32) (k v : Vec Ideal S16640x2x128 .f32) (i : Fin 16640) (h : Fin 2) (d : Fin 128) :
    qkvOf q k v (ix2 i ⟨2560 + 128 * h.val + d.val, by omega⟩) = k (ix3 i h d) := by
  pointwise [qkvOf]
  rw [dif_neg (by omega), dif_neg (by omega), dif_pos (by omega)]
  congr 2 <;> exact Fin.ext (by simp only; omega)

/-- A transposed value at an index. -/
theorem vtOf_v (v : Vec Ideal S16640x2x128 .f32) (h : Fin 2) (n : Fin 65) (e : Fin 144) (he : e.val < 128) (κ : Fin 256) :
    vtOf v (ix4 h n e κ) = v (ix3 ⟨256 * n.val + κ.val, by omega⟩ h ⟨e.val, he⟩) := by
  pointwise [vtOf]
  rw [dif_pos he]
  congr 2; exact Fin.ext (by simp only; omega)

/-- Row 128 of the transposed values is ones. -/
theorem vtOf_one (v : Vec Ideal S16640x2x128 .f32) (h : Fin 2) (n : Fin 65) (κ : Fin 256) :
    vtOf v (ix4 h n 128 κ) = (1 : EReal) := by
  pointwise [vtOf]

/-- The score of latent query `i` against key `n` in head `g` of key head `h`, in powers of two. -/
def score (q : Vec Ideal S16384x2x4x128 .f32) (k : Vec Ideal S16640x2x128 .f32) (i : Fin 16384) (h : Fin 2) (g : Fin 4) (n : Fin 16640) : ℝ :=
  (∑ d : Fin 128, (k (ix3 n h d) : EReal).toReal * (q (ix4 i h g d) : EReal).toReal) * (1 / scaleBy)

/-- The attention of latent query `i` in head `g` of key head `h`, coordinate `d`: each key's value by its softmax weight. -/
def att (q : Vec Ideal S16384x2x4x128 .f32) (k v : Vec Ideal S16640x2x128 .f32) (i : Fin 16384) (h : Fin 2) (g : Fin 4) (d : Fin 128) : EReal :=
  ∑ n : Fin 16640, v (ix3 n h d) * ((pw (score q k i h g n) / ∑ j : Fin 16640, pw (score q k i h g j) : ℝ) : EReal)

/-- With finite queries and keys, the products that the call sums are those of real numbers. -/
theorem score_real (q : Vec Ideal S16384x2x4x128 .f32) (k : Vec Ideal S16640x2x128 .f32)
    (hq : ∀ i, q i = (((q i : EReal).toReal : ℝ) : EReal)) (hk : ∀ i, k i = (((k i : EReal).toReal : ℝ) : EReal))
    (i : Fin 16384) (h : Fin 2) (g : Fin 4) (n : Fin 16640) :
    ∑ d : Fin 128, k (ix3 n h d) * (q (ix4 i h g d) * ((1 / scaleBy : ℝ) : EReal)) = ((score q k i h g n : ℝ) : EReal) := by
  unfold score
  rw [Finset.sum_mul, ← coe_sum]
  refine Finset.sum_congr rfl fun d _ => ?_
  rw [hk, hq, ← EReal.coe_mul, ← EReal.coe_mul, mul_assoc]
  simp only [EReal.toReal_coe]

/-- A sum over chunks of 256 keys is the sum over the keys. -/
theorem sum_chunks {M : Type} [AddCommMonoid M] (f : ℕ → Fin 256 → M) (g : Fin 16640 → M)
    (hfg : ∀ (n : Fin 65) (κ : Fin 256), f n.val κ = g ⟨256 * n.val + κ.val, by omega⟩) :
    ∑ p ∈ Finset.range 65 ×ˢ (Finset.univ : Finset (Fin 256)), f p.1 p.2 = ∑ n : Fin 16640, g n := by
  refine Finset.sum_bij' (fun p hp => ⟨256 * p.1 + p.2.val, by have := Finset.mem_range.mp (Finset.mem_product.mp hp).1; omega⟩)
    (fun n _ => (n.val / 256, ⟨n.val % 256, Nat.mod_lt _ (by decide)⟩)) (fun _ _ => Finset.mem_univ _) (fun n _ => ?_) (fun p _ => ?_) (fun n _ => ?_) (fun p hp => ?_)
  · simp only [Finset.mem_product, Finset.mem_range, Finset.mem_univ, and_true]; omega
  · refine Prod.ext ?_ (Fin.ext ?_) <;> simp only <;> omega
  · exact Fin.ext (by simp only; omega)
  · exact hfg ⟨p.1, Finset.mem_range.mp (Finset.mem_product.mp hp).1⟩ p.2

end Cert.GlobalIdeal.Hand
-- ==== Proof.Head.lean ====
/-
  One head's output block as the attention of its queries, from the blocks that the call's windows give it.
-/
module

public import proofs.«01_k».proof.Proof.Host

@[expose] public section

set_option maxRecDepth 16384

noncomputable section

namespace Cert.GlobalIdeal.Hand

open Cert.GlobalIdeal Cert.GlobalIdeal.Gen Cert.Softmax
open Idealize.ShloMosaic Idealize.ShloMosaic.TcCoe Idealize.SL.Sem

/-- One head's block, for finite queries and keys, over blocks that hold the scaled queries of token `i`, the keys and the
    transposed values of key head `h`: its row `r` is the attention of token `i`'s query in head `g`. -/
theorem head_att (Q : Vec Ideal S16384x2x4x128 .f32) (K V : Vec Ideal S16640x2x128 .f32)
    (rq : ∀ i, Q i = (((Q i : EReal).toReal : ℝ) : EReal)) (rk : ∀ i, K i = (((K i : EReal).toReal : ℝ) : EReal))
    (i : Fin 16384) (h : Fin 2) (g : Fin 4) (q : Vec Ideal S256x128 .bf16) (x1 : Vec Ideal S16640x128 .bf16) (x2 : Vec Ideal S1x65x144x256 .bf16)
    (r : Fin 256) (d : Fin 128) (hq : ∀ d : Fin 128, q (ix2 r d) = Q (ix4 i h g d) * ((1 / scaleBy : ℝ) : EReal))
    (hk : ∀ (n : Fin 16640) (d : Fin 128), x1 (ix2 n d) = K (ix3 n h d))
    (hv : ∀ (n : Fin 65) (e : Fin 144) (κ : Fin 256), x2 (ix4 0 n e κ) = vtOf V (ix4 h n e κ)) :
    headOut q x1 x2 (ix2 r d) = att Q K V i h g d := by
  have hs : ∀ (n : ℕ) (κ : Fin 256), allS x1 q n (ix2 κ r)
      = ((score Q K i h g ⟨256 * (n % 65) + κ.val, by have := Nat.mod_lt n (show 0 < 65 by decide); omega⟩ : ℝ) : EReal) := fun n κ => by
    rw [← score_real Q K rq rk]
    refine (scoreTile_apply q _ κ r).trans (Finset.sum_congr rfl fun d _ => ?_)
    rw [keyRows_apply, hq, hk]
  have h1 : ∀ (n : ℕ) (κ : Fin 256), valRows x2 n (ix4 0 0 128 κ) = (1 : EReal) := fun n κ => by
    rw [valRows_apply, hv, vtOf_one]
  rw [headOut_apply q x1 x2 r d _ hs h1]
  unfold att
  rw [sum_chunks (fun n κ => pw (score Q K i h g ⟨256 * (n % 65) + κ.val, by have := Nat.mod_lt n (show 0 < 65 by decide); omega⟩))
    (fun n => pw (score Q K i h g n)) (fun n κ => by simp only [Nat.mod_eq_of_lt n.isLt])]
  refine sum_chunks (fun n κ => valRows x2 n (ix4 0 0 ⟨d.val, by omega⟩ κ)
    * ((pw (score Q K i h g ⟨256 * (n % 65) + κ.val, by have := Nat.mod_lt n (show 0 < 65 by decide); omega⟩) / ∑ j : Fin 16640, pw (score Q K i h g j) : ℝ) : EReal))
    _ fun n κ => ?_
  refine congrArg₂ (· * ·) ?_ (by simp only [Nat.mod_eq_of_lt n.isLt])
  rw [valRows_apply, hv]
  refine (vtOf_v V h _ _ d.isLt κ).trans ?_
  simp only [Nat.mod_eq_of_lt n.isLt]

end Cert.GlobalIdeal.Hand
-- ==== Proof.Attn.lean ====
/-
  The call's result array: every latent token's row holds the attention of its queries.
-/
module

public import proofs.«01_k».proof.Proof.Head

@[expose] public section

set_option maxRecDepth 16384

noncomputable section

namespace Cert.GlobalIdeal.Hand

open Cert.GlobalIdeal Cert.GlobalIdeal.Gen Cert.Softmax
open Idealize.ShloMosaic Idealize.ShloMosaic.TcCoe Idealize.SL.Sem

variable (m : (ℓ : Loc nD τ sig) → Buf (Elt Ideal) ℓ)

/-- Which block of its array each window has at grid point `t`. -/
theorem idx : ∀ t : Fin cfg0.N, win0_0.index t = ![t.val % 64 + 1, 3 + t.val / 64] ∧ win0_1.index t = ![0, 20 + t.val / 64]
    ∧ win0_2.index t = ![t.val / 64, 0, 0, 0] ∧ win0_3.index t = ![t.val % 64 + 1, t.val / 64] ∧ t.val < 128 :=
  (by decide +kernel : ∀ t : Fin grid0.N, win0_0.index t = ![t.val % 64 + 1, 3 + t.val / 64] ∧ win0_1.index t = ![0, 20 + t.val / 64]
    ∧ win0_2.index t = ![t.val / 64, 0, 0, 0] ∧ win0_3.index t = ![t.val % 64 + 1, t.val / 64] ∧ t.val < 128)

theorem lt128 (t : Fin cfg0.N) : t.val < 128 := (idx t).2.2.2.2

/-- The latent token of row `r` of grid point `t`. -/
def tok (t : Fin cfg0.N) (r : Fin 256) : Fin 16384 := ⟨256 * (t.val % 64) + r.val, by omega⟩

/-- The key head of grid point `t`. -/
def hd (t : Fin cfg0.N) : Fin 2 := ⟨t.val / 64, by have := lt128 t; omega⟩

/-- The query block at an index. -/
theorem blk_q (c : Dev nD) (t : Fin cfg0.N) (Q : Vec Ideal S16384x2x4x128 .f32) (hQ : Q = m ((c : Thread nD τ).loc main_arg0))
    (r : Fin 256) (g : Fin 4) (d : Fin 128) :
    (iblk m c 0 t : Vec Ideal S256x512 .bf16) (ix2 r ⟨128 * g.val + d.val, by omega⟩)
      = Q (ix4 (tok t r) (hd t) g d) * ((1 / scaleBy : ℝ) : EReal) := by
  subst hQ
  refine Eq.trans ?_ (scaled_apply (m ((c : Thread nD τ).loc main_arg0)) (tok t r) (hd t) g d)
  refine Eq.trans ?_ (qkvOf_q (m ((c : Thread nD τ).loc main_arg0)) (m ((c : Thread nD τ).loc main_arg1)) (m ((c : Thread nD τ).loc main_arg2)) (tok t r) _)
  rw [← V_qkv]
  have := lt128 t
  unfold tok hd
  blk_ext [iblk, idx t]

/-- The key block at an index. -/
theorem blk_k (c : Dev nD) (t : Fin cfg0.N) (n : Fin 16640) (d : Fin 128) :
    (iblk m c 1 t : Vec Ideal S16640x128 .bf16) (ix2 n d)
      = (m ((c : Thread nD τ).loc main_arg1) : Vec Ideal S16640x2x128 .f32) (ix3 n (hd t) d) := by
  refine Eq.trans ?_ (qkvOf_k (m ((c : Thread nD τ).loc main_arg0)) (m ((c : Thread nD τ).loc main_arg1)) (m ((c : Thread nD τ).loc main_arg2)) n (hd t) d)
  rw [← V_qkv]
  have := lt128 t
  unfold hd
  blk_ext [iblk, idx t]

/-- The block of transposed values is key head `hd t` of its array. -/
theorem blk_vt (c : Dev nD) (t : Fin cfg0.N) (n : Fin 65) (e : Fin 144) (κ : Fin 256) :
    (iblk m c 2 t : Vec Ideal S1x65x144x256 .bf16) (ix4 0 n e κ) = vtOf (m ((c : Thread nD τ).loc main_arg2)) (ix4 (hd t) n e κ) := by
  rw [← V_vt]
  have := lt128 t
  unfold hd
  blk_ext [iblk, idx t]

theorem ld0 (x : Vec Ideal S256x512 .bf16) (r : Fin 256) (d : Fin 128) :
    View.ld x (Rect.unit (s := S256x512) ![0, 0] S256x128.size inb_S256x512_S256x128_0_0) (ix2 r d) = x (ix2 r ⟨128 * (0 : Fin 4).val + d.val, by omega⟩) := by
  pointwise

theorem ld1 (x : Vec Ideal S256x512 .bf16) (r : Fin 256) (d : Fin 128) :
    View.ld x (Rect.unit (s := S256x512) ![0, 128] S256x128.size inb_S256x512_S256x128_0_128) (ix2 r d) = x (ix2 r ⟨128 * (1 : Fin 4).val + d.val, by omega⟩) := by
  pointwise

theorem ld2 (x : Vec Ideal S256x512 .bf16) (r : Fin 256) (d : Fin 128) :
    View.ld x (Rect.unit (s := S256x512) ![0, 256] S256x128.size inb_S256x512_S256x128_0_256) (ix2 r d) = x (ix2 r ⟨128 * (2 : Fin 4).val + d.val, by omega⟩) := by
  pointwise

theorem ld3 (x : Vec Ideal S256x512 .bf16) (r : Fin 256) (d : Fin 128) :
    View.ld x (Rect.unit (s := S256x512) ![0, 384] S256x128.size inb_S256x512_S256x128_0_384) (ix2 r d) = x (ix2 r ⟨128 * (3 : Fin 4).val + d.val, by omega⟩) := by
  pointwise

/-- What the call's array holds at a latent token's row: its column names the key head, the head and the coordinate. -/
def attAt (Q : Vec Ideal S16384x2x4x128 .f32) (K V : Vec Ideal S16640x2x128 .f32) : Vec Ideal S16640x1024 .bf16 := fun j =>
  att Q K V ⟨(j 0).val - 256, by have h : (j 0).val < 16640 := (j 0).isLt; omega⟩ ⟨(j 1).val / 512, by have h : (j 1).val < 1024 := (j 1).isLt; omega⟩
    ⟨(j 1).val / 128 % 4, by omega⟩ ⟨(j 1).val % 128, by omega⟩

/-- The specification at row `256 + i`, with the column spelled by head and coordinate. -/
theorem attAt_apply (Q : Vec Ideal S16384x2x4x128 .f32) (K V : Vec Ideal S16640x2x128 .f32) (j : S16640x1024.Idx) (i : Fin 16384) (h : Fin 2) (g : Fin 4) (d : Fin 128)
    (h0 : (j 0).val = 256 + i.val) (h1 : (j 1).val = 512 * h.val + 128 * g.val + d.val) : attAt Q K V j = att Q K V i h g d := by
  unfold attAt
  congr 1 <;> exact Fin.ext (by simp only; omega)

variable (c : Dev nD) (t : Fin cfg0.N) (Q : Vec Ideal S16384x2x4x128 .f32) (K V : Vec Ideal S16640x2x128 .f32)
  (hQ : Q = m ((c : Thread nD τ).loc main_arg0)) (hK : K = m ((c : Thread nD τ).loc main_arg1)) (hV : V = m ((c : Thread nD τ).loc main_arg2))
  (rq : ∀ i, Q i = (((Q i : EReal).toReal : ℝ) : EReal)) (rk : ∀ i, K i = (((K i : EReal).toReal : ℝ) : EReal))

include hQ hK hV rq rk

theorem point0 (i : grid0.Coords) (a2 : Memref sig .tc .vmem S256x512 .bf16) (h2 : a2.IsWhole) (a3 : Memref sig .tc .vmem S16640x128 .bf16) (h3 : a3.IsWhole)
    (a4 : Memref sig .tc .vmem S1x65x144x256 .bf16) (h4 : a4.IsWhole) (a5 : Memref sig .tc .vmem S256x512 .bf16) (h5 : a5.IsWhole)
    (a6 : Memref sig .tc .vmem S4x144x256 .f32) (h6 : a6.IsWhole) (r : Fin 256) (d : Fin 128) :
    out0_A_3 (F := Ideal) c i a2 h2 a3 h3 a4 h4 a5 h5 a6 h6 (iblk m c 0 t) (iblk m c 1 t) (iblk m c 2 t) (ix2 r ⟨128 * (0 : Fin 4).val + d.val, by omega⟩)
      = att Q K V (tok t r) (hd t) 0 d := by
  have e : (ix2 r ⟨128 * (0 : Fin 4).val + d.val, by omega⟩ : S256x512.Idx)
      = (Rect.unit (s := S256x512) ![0, 0] S256x128.size inb_S256x512_S256x128_0_0).emb (ix2 r d) := by
    blk_ext
  rw [e, out_head0]
  refine head_att Q K V rq rk (tok t r) (hd t) 0 _ (iblk m c 1 t) (iblk m c 2 t) r d (fun d => ?_) (fun n d => ?_) (fun n e κ => ?_)
  · exact (ld0 _ r d).trans (blk_q m c t Q hQ r 0 d)
  · exact (blk_k m c t n d).trans (by rw [hK])
  · exact (blk_vt m c t n e κ).trans (by rw [hV])

theorem point1 (i : grid0.Coords) (a2 : Memref sig .tc .vmem S256x512 .bf16) (h2 : a2.IsWhole) (a3 : Memref sig .tc .vmem S16640x128 .bf16) (h3 : a3.IsWhole)
    (a4 : Memref sig .tc .vmem S1x65x144x256 .bf16) (h4 : a4.IsWhole) (a5 : Memref sig .tc .vmem S256x512 .bf16) (h5 : a5.IsWhole)
    (a6 : Memref sig .tc .vmem S4x144x256 .f32) (h6 : a6.IsWhole) (r : Fin 256) (d : Fin 128) :
    out0_A_3 (F := Ideal) c i a2 h2 a3 h3 a4 h4 a5 h5 a6 h6 (iblk m c 0 t) (iblk m c 1 t) (iblk m c 2 t) (ix2 r ⟨128 * (1 : Fin 4).val + d.val, by omega⟩)
      = att Q K V (tok t r) (hd t) 1 d := by
  have e : (ix2 r ⟨128 * (1 : Fin 4).val + d.val, by omega⟩ : S256x512.Idx)
      = (Rect.unit (s := S256x512) ![0, 128] S256x128.size inb_S256x512_S256x128_0_128).emb (ix2 r d) := by
    blk_ext
  rw [e, out_head1]
  refine head_att Q K V rq rk (tok t r) (hd t) 1 _ (iblk m c 1 t) (iblk m c 2 t) r d (fun d => ?_) (fun n d => ?_) (fun n e κ => ?_)
  · exact (ld1 _ r d).trans (blk_q m c t Q hQ r 1 d)
  · exact (blk_k m c t n d).trans (by rw [hK])
  · exact (blk_vt m c t n e κ).trans (by rw [hV])

theorem point2 (i : grid0.Coords) (a2 : Memref sig .tc .vmem S256x512 .bf16) (h2 : a2.IsWhole) (a3 : Memref sig .tc .vmem S16640x128 .bf16) (h3 : a3.IsWhole)
    (a4 : Memref sig .tc .vmem S1x65x144x256 .bf16) (h4 : a4.IsWhole) (a5 : Memref sig .tc .vmem S256x512 .bf16) (h5 : a5.IsWhole)
    (a6 : Memref sig .tc .vmem S4x144x256 .f32) (h6 : a6.IsWhole) (r : Fin 256) (d : Fin 128) :
    out0_A_3 (F := Ideal) c i a2 h2 a3 h3 a4 h4 a5 h5 a6 h6 (iblk m c 0 t) (iblk m c 1 t) (iblk m c 2 t) (ix2 r ⟨128 * (2 : Fin 4).val + d.val, by omega⟩)
      = att Q K V (tok t r) (hd t) 2 d := by
  have e : (ix2 r ⟨128 * (2 : Fin 4).val + d.val, by omega⟩ : S256x512.Idx)
      = (Rect.unit (s := S256x512) ![0, 256] S256x128.size inb_S256x512_S256x128_0_256).emb (ix2 r d) := by
    blk_ext
  rw [e, out_head2]
  refine head_att Q K V rq rk (tok t r) (hd t) 2 _ (iblk m c 1 t) (iblk m c 2 t) r d (fun d => ?_) (fun n d => ?_) (fun n e κ => ?_)
  · exact (ld2 _ r d).trans (blk_q m c t Q hQ r 2 d)
  · exact (blk_k m c t n d).trans (by rw [hK])
  · exact (blk_vt m c t n e κ).trans (by rw [hV])

theorem point3 (i : grid0.Coords) (a2 : Memref sig .tc .vmem S256x512 .bf16) (h2 : a2.IsWhole) (a3 : Memref sig .tc .vmem S16640x128 .bf16) (h3 : a3.IsWhole)
    (a4 : Memref sig .tc .vmem S1x65x144x256 .bf16) (h4 : a4.IsWhole) (a5 : Memref sig .tc .vmem S256x512 .bf16) (h5 : a5.IsWhole)
    (a6 : Memref sig .tc .vmem S4x144x256 .f32) (h6 : a6.IsWhole) (r : Fin 256) (d : Fin 128) :
    out0_A_3 (F := Ideal) c i a2 h2 a3 h3 a4 h4 a5 h5 a6 h6 (iblk m c 0 t) (iblk m c 1 t) (iblk m c 2 t) (ix2 r ⟨128 * (3 : Fin 4).val + d.val, by omega⟩)
      = att Q K V (tok t r) (hd t) 3 d := by
  have e : (ix2 r ⟨128 * (3 : Fin 4).val + d.val, by omega⟩ : S256x512.Idx)
      = (Rect.unit (s := S256x512) ![0, 384] S256x128.size inb_S256x512_S256x128_0_384).emb (ix2 r d) := by
    blk_ext
  rw [e, out_head3]
  refine head_att Q K V rq rk (tok t r) (hd t) 3 _ (iblk m c 1 t) (iblk m c 2 t) r d (fun d => ?_) (fun n d => ?_) (fun n e κ => ?_)
  · exact (ld3 _ r d).trans (blk_q m c t Q hQ r 3 d)
  · exact (blk_k m c t n d).trans (by rw [hK])
  · exact (blk_vt m c t n e κ).trans (by rw [hV])

end Cert.GlobalIdeal.Hand
-- ==== Proof.Final.lean ====
/-
  The whole array after the run, at the latent tokens' rows.
-/
module

public import proofs.«01_k».proof.Proof.Attn

@[expose] public section

set_option maxRecDepth 16384

noncomputable section

namespace Cert.GlobalIdeal.Hand

open Cert.GlobalIdeal Cert.GlobalIdeal.Gen Cert.Softmax
open Idealize.ShloMosaic Idealize.ShloMosaic.TcCoe Idealize.SL.Sem

variable (m : (ℓ : Loc nD τ sig) → Buf (Elt Ideal) ℓ)

variable (c : Dev nD) (Q : Vec Ideal S16384x2x4x128 .f32) (K V : Vec Ideal S16640x2x128 .f32)
  (hQ : Q = m ((c : Thread nD τ).loc main_arg0)) (hK : K = m ((c : Thread nD τ).loc main_arg1)) (hV : V = m ((c : Thread nD τ).loc main_arg2))
  (rq : ∀ i, Q i = (((Q i : EReal).toReal : ℝ) : EReal)) (rk : ∀ i, K i = (((K i : EReal).toReal : ℝ) : EReal))

include hQ hK hV rq rk

/-- A grid point's block in the four heads of its key head. -/
theorem points (t : Fin cfg0.N) (i : grid0.Coords) (a2 : Memref sig .tc .vmem S256x512 .bf16) (h2 : a2.IsWhole) (a3 : Memref sig .tc .vmem S16640x128 .bf16) (h3 : a3.IsWhole)
    (a4 : Memref sig .tc .vmem S1x65x144x256 .bf16) (h4 : a4.IsWhole) (a5 : Memref sig .tc .vmem S256x512 .bf16) (h5 : a5.IsWhole)
    (a6 : Memref sig .tc .vmem S4x144x256 .f32) (h6 : a6.IsWhole) (r : Fin 256) (d : Fin 128) : ∀ g : Fin 4,
    out0_A_3 (F := Ideal) c i a2 h2 a3 h3 a4 h4 a5 h5 a6 h6 (iblk m c 0 t) (iblk m c 1 t) (iblk m c 2 t) (ix2 r ⟨128 * g.val + d.val, by omega⟩)
      = att Q K V (tok t r) (hd t) g d
  | ⟨0, _⟩ => point0 m c t Q K V hQ hK hV rq rk i a2 h2 a3 h3 a4 h4 a5 h5 a6 h6 r d
  | ⟨1, _⟩ => point1 m c t Q K V hQ hK hV rq rk i a2 h2 a3 h3 a4 h4 a5 h5 a6 h6 r d
  | ⟨2, _⟩ => point2 m c t Q K V hQ hK hV rq rk i a2 h2 a3 h3 a4 h4 a5 h5 a6 h6 r d
  | ⟨3, _⟩ => point3 m c t Q K V hQ hK hV rq rk i a2 h2 a3 h3 a4 h4 a5 h5 a6 h6 r d

/-- What a grid point leaves in its output block, at any index of the block. -/
theorem point (t : Fin cfg0.N) (y : S256x512.Idx) (j : S16640x1024.Idx) (h0 : (j 0).val = (t.val % 64 + 1) * 256 + (y 0).val) (h1 : (j 1).val = t.val / 64 * 512 + (y 1).val) :
    (dats m 0 c).after 3 t y = attAt Q K V j := by
  have b0 : (y 0).val < 256 := (y 0).isLt
  have b1 : (y 1).val < 512 := (y 1).isLt
  have bt := lt128 t
  obtain ⟨r, hr⟩ : ∃ r : Fin 256, (y 0).val = r.val := ⟨⟨(y 0).val, b0⟩, rfl⟩
  obtain ⟨g, d, hy⟩ : ∃ (g : Fin 4) (d : Fin 128), (y 1).val = 128 * g.val + d.val :=
    ⟨⟨(y 1).val / 128, by omega⟩, ⟨(y 1).val % 128, by omega⟩, by simp only; omega⟩
  have ey : y = ix2 r ⟨128 * g.val + d.val, by omega⟩ := by
    funext a
    match a with
    | ⟨0, _⟩ => exact Fin.ext hr
    | ⟨1, _⟩ => exact Fin.ext hy
  rw [attAt_apply Q K V j (tok t r) (hd t) g d (by simp only [tok]; omega) (by simp only [hd]; omega), ey, after0_3]
  unfold outsAt0
  exact points m c Q K V hQ hK hV rq rk t _ _ _ _ _ _ _ _ _ _ _ r d g

/-- The call's array after the run, at a latent token's row: the attention of its queries. -/
theorem final_apply (j : S16640x1024.Idx) (hj : 256 ≤ (j 0).val) : (dats m 0 c).arrAt 3 cfg0.N j = attAt Q K V j := by
  refine ((dats m 0 c).arrAt_apply_of_coversWhere 3 (attAt Q K V) (P := fun j => 256 ≤ (j 0).val) (fun β => 1 ≤ β 0) (by decide +kernel) (fun t hf y => ?_)
    (fun j => by blk_simp [Pipeline.Window.cell_apply]; omega) j).trans (if_pos hj)
  blk_simp
  refine point m c Q K V hQ hK hV rq rk t _ _ ?_ ?_ <;> blk_simp [idx t]

end Cert.GlobalIdeal.Hand
-- ==== Proof.Reference.lean ====
/-
  The reference read at an index: with finite queries and keys, a latent token's row is the attention of its queries.
-/
module

public import proofs.«01_k».proof.Proof.Softmax
public import proofs.«01_k».proof.Proof.Gen.GlobalRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.GlobalRefIdeal.Hand

open Cert.GlobalRefIdeal Cert.GlobalRefIdeal.Gen Cert.GlobalRefIdeal.Read Cert.Softmax
open Idealize.ShloMosaic Idealize.ShloMosaic.TcCoe Idealize.SL.Sem

/-- The result at a latent token's row: the sum of the values by the softmax of the scores. -/
theorem v21_apply (q : Vec Ideal S16384x2x4x128 .f32) (k v : Vec Ideal S16640x2x128 .f32) (i : Fin 16384) (j : Fin 1024) :
    val_main_v21 (F := Ideal) q k v (ix2 ⟨256 + i.val, by omega⟩ j) = ∑ n : Fin 16640, v (ix3 n ⟨j.val / 512, by omega⟩ ⟨j.val % 128, by omega⟩) * val_main_v15 (F := Ideal) q k (ix4 ⟨j.val / 512, by omega⟩ ⟨j.val / 128 % 4, by omega⟩ i n) := by
  pointwise [val_main_v21, val_main_v20, val_main_v18, val_main_v17, val_main_v16]

/-- A score at an index. -/
theorem v4_apply (q : Vec Ideal S16384x2x4x128 .f32) (k : Vec Ideal S16640x2x128 .f32) (h : Fin 2) (g : Fin 4) (i : Fin 16384) (n : Fin 16640) :
    val_main_v4 (F := Ideal) q k (ix4 h g i n)
      = Ideal.div (∑ d : Fin 128, k (ix3 n h d) * q (ix4 i h g d)) (Ideal.sqrt (Ideal.ofBits FTy.f32 1124073472#32)) := by
  pointwise [val_main_v4, val_main_v3, val_main_v2, val_main_cst, val_main_v1, val_main_v0]

/-- A score as a real number, for finite queries and keys. -/
theorem v4_real (q : Vec Ideal S16384x2x4x128 .f32) (k : Vec Ideal S16640x2x128 .f32)
    (hq : ∀ i, q i = (((q i : EReal).toReal : ℝ) : EReal)) (hk : ∀ i, k i = (((k i : EReal).toReal : ℝ) : EReal))
    (h : Fin 2) (g : Fin 4) (i : Fin 16384) (n : Fin 16640) :
    val_main_v4 (F := Ideal) q k (ix4 h g i n)
      = (((∑ d : Fin 128, (k (ix3 n h d) : EReal).toReal * (q (ix4 i h g d) : EReal).toReal) * (1 / √128) : ℝ) : EReal) := by
  have e : ∑ d : Fin 128, k (ix3 n h d) * q (ix4 i h g d)
      = ((∑ d : Fin 128, (k (ix3 n h d) : EReal).toReal * (q (ix4 i h g d) : EReal).toReal : ℝ) : EReal) := by
    rw [← coe_sum]
    refine Finset.sum_congr rfl fun d _ => ?_
    rw [hk, hq, ← EReal.coe_mul]
    simp only [EReal.toReal_coe]
  have b : Ideal.ofBits FTy.f32 1124073472#32 = ((128 : ℝ) : EReal) := by
    simp [Ideal.ofBits, Ideal.ieee]; exact_mod_cast (by norm_num : ((8388608 : ℝ) * (2 ^ 16)⁻¹) = 128)
  rw [v4_apply, e, b, Ideal.sqrt_coe, if_neg (by norm_num), Ideal.div_coe (by positivity), ← EReal.coe_mul]

/-- The maximum along an axis of real numbers, taken from −∞, is a real number. -/
theorem reduce_max_real {s t u : Shape} {a : Fin s.rank} [Nonempty (Fin (s.size a))] (x : FVec Ideal s .f32) (init : FVec Ideal u .f32)
    (h' : s.ReducesTo [a] t) (h : s.Reduces [a] t) (hu : 0 < u.numel) (f : s.Idx → ℝ) (hx : ∀ i, x i = ((f i : ℝ) : EReal))
    (hi : init (Shape.Idx.first hu) = (⊥ : EReal)) (j : t.Idx) : ∃ M : ℝ, Host.reduce FloatOps.maximumf x init h' hu j = ((M : ℝ) : EReal) := by
  obtain ⟨M, hM⟩ := fold_max_real fun n => f (h.lift j n)
  refine ⟨M, ?_⟩
  rw [Host.reduce_eq_fold_single FloatOps.maximumf x init h' h hu j, hi, show x ∘ h.lift j = fun n => ((f (h.lift j n) : ℝ) : EReal) from funext fun n => hx _]
  exact hM

/-- The largest score of a query is a real number when all scores are. -/
theorem v7_real (q : Vec Ideal S16384x2x4x128 .f32) (k : Vec Ideal S16640x2x128 .f32) (s : S2x4x16384x16640.Idx → ℝ)
    (hs : ∀ i, val_main_v4 (F := Ideal) q k i = ((s i : ℝ) : EReal)) (j : S2x4x16384.Idx) : ∃ M : ℝ, val_main_v7 (F := Ideal) q k j = ((M : ℝ) : EReal) := by
  have hb : Ideal.ofBits FTy.f32 4286578688#32 = (⊥ : EReal) := by simp [Ideal.ofBits, Ideal.ieee]
  have : Nonempty (Fin (S2x4x16384x16640.size 3)) := ⟨⟨0, by decide⟩⟩
  obtain ⟨M, hM⟩ : ∃ M : ℝ, val_main_v5 (F := Ideal) q k j = ((M : ℝ) : EReal) :=
    reduce_max_real _ _ _ (by decide) _ s hs hb j
  refine ⟨M, ?_⟩
  rw [val_main_v7_apply, hM, val_main_v6_apply, val_main_cst_1_apply]
  refine (congrArg (fun b => max b ((M : ℝ) : EReal)) hb).trans ?_
  exact max_eq_right bot_le

/-- A softmax weight at an index. -/
theorem v15_apply (q : Vec Ideal S16384x2x4x128 .f32) (k : Vec Ideal S16640x2x128 .f32) (h : Fin 2) (g : Fin 4) (i : Fin 16384) (n : Fin 16640) :
    val_main_v15 (F := Ideal) q k (ix4 h g i n) = Ideal.div (Ideal.exp (val_main_v4 (F := Ideal) q k (ix4 h g i n) - val_main_v7 (F := Ideal) q k (ix3 h g i)))
      (∑ j : Fin 16640, Ideal.exp (val_main_v4 (F := Ideal) q k (ix4 h g i j) - val_main_v7 (F := Ideal) q k (ix3 h g i))) := by
  pointwise [val_main_v15, val_main_v14, val_main_v13, val_main_v12, val_main_v11, val_main_v10, val_main_v9, val_main_v8, val_main_cst_2]

/-- A softmax weight, for finite queries and keys, over scores `s` in powers of two. -/
theorem v15_real (q : Vec Ideal S16384x2x4x128 .f32) (k : Vec Ideal S16640x2x128 .f32)
    (hq : ∀ i, q i = (((q i : EReal).toReal : ℝ) : EReal)) (hk : ∀ i, k i = (((k i : EReal).toReal : ℝ) : EReal))
    (h : Fin 2) (g : Fin 4) (i : Fin 16384) (s : Fin 16640 → ℝ)
    (hs : ∀ n, s n = (∑ d : Fin 128, (k (ix3 n h d) : EReal).toReal * (q (ix4 i h g d) : EReal).toReal) * (1 / (√128 * Real.log 2))) (n : Fin 16640) :
    val_main_v15 (F := Ideal) q k (ix4 h g i n) = ((pw (s n) / ∑ j : Fin 16640, pw (s j) : ℝ) : EReal) := by
  obtain ⟨M, hM⟩ := v7_real q k
    (fun j => (∑ d : Fin 128, (k (ix3 (j 3) (j 0) d) : EReal).toReal * (q (ix4 (j 2) (j 0) (j 1) d) : EReal).toReal) * (1 / √128))
    (fun j => by
      have e : j = ix4 (j 0) (j 1) (j 2) (j 3) := by blk_ext
      exact (congrArg _ e).trans (v4_real q k hq hk _ _ _ _)) (ix3 h g i)
  have hl : Real.log 2 ≠ 0 := (Real.log_pos (by norm_num)).ne'
  have h4 : ∀ n, val_main_v4 (F := Ideal) q k (ix4 h g i n) = ((s n * Real.log 2 : ℝ) : EReal) := fun n => by
    rw [v4_real q k hq hk, hs]
    refine congrArg Real.toEReal ?_
    generalize (∑ d : Fin 128, (k (ix3 n h d) : EReal).toReal * (q (ix4 i h g d) : EReal).toReal) = x
    field_simp
  rw [v15_apply, hM]
  simp only [h4, ← EReal.coe_sub, Ideal.exp_coe]
  exact weight Finset.univ ⟨n, Finset.mem_univ _⟩ s M n

end Cert.GlobalRefIdeal.Hand
-- ==== Proof.Values.lean ====
/-
  The attention's claim: the mask and the precondition read, and the two programs' results compared where the mask is set.
-/
module

public import proofs.«01_k».proof.Defs
public import proofs.«01_k».proof.Proof.Final
public import proofs.«01_k».proof.Proof.Reference
public import proofs.«01_k».proof.Proof.Gen.Global
public import proofs.«01_k».proof.Proof.Gen.GlobalIdeal.Value
public import Idealize.ShloMosaic.Lib.WordCmp
public import proofs.«01_k».proof.Proof.Gen.GlobalRefIdeal.Run
public import proofs.«01_k».proof.Proof.Gen.Pre_finite_scores
public import proofs.«01_k».proof.Proof.Gen.On_latent_rows
public import Idealize.ShloMosaic.Lib.ReduceAll
public import Idealize.ShloMosaic.Lib.Quiescent

@[expose] public section

set_option maxRecDepth 16384

noncomputable section

namespace Cert.Attention

open Idealize.ShloMosaic Idealize.ShloMosaic.TcCoe Idealize.SL.Sem Cert.Softmax

/-- An element that is below infinity in magnitude is a real number. -/
theorem real_of_lt {x : EReal} (h : Ideal.cmp .olt (max x (-x)) (Ideal.ofBits .f32 0x7F800000#32) = 1#1) : x = ((x.toReal : ℝ) : EReal) := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => rfl

/-- Where the mask is set the row is a latent token's. -/
theorem row_of_mask {F : FTy → Type} [FloatOps F] (q : FVec F Cert.On_latent_rows.S16384x2x4x128 .f32) (k v : FVec F Cert.On_latent_rows.S16640x2x128 .f32)
    (j : Cert.On_latent_rows.S16640x1024.Idx) (h : Cert.On_latent_rows.fn (F := F) q k v j = 1#1) : 256 ≤ (j 0).val := by
  have h' : IntOp.cmpi .sge (BitVec.ofNat 32 (j 0).val) 256#32 = 1#1 := h
  have hb : (j 0).val < 16640 := (j 0).isLt
  generalize (j 0).val = r at *
  have h2 : (256#32).sle (BitVec.ofNat 32 r) = true := by
    by_contra hn
    simp only [IntOp.cmpi, Bool.not_eq_true] at h' hn
    rw [hn] at h'
    exact absurd h' (by decide)
  rw [BitVec.sle_eq_decide, decide_eq_true_eq, BitVec.toInt_eq_toNat_cond, BitVec.toInt_eq_toNat_cond, BitVec.toNat_ofNat] at h2
  simp only [BitVec.toNat_ofNat] at h2
  omega

/-- The precondition says the queries and the keys are real numbers. -/
theorem real_of_pre (q : FVec Ideal Cert.Pre_finite_scores.S16384x2x4x128 .f32) (k v : FVec Ideal Cert.Pre_finite_scores.S16640x2x128 .f32)
    (h : Cert.Pre_finite_scores.fn (F := Ideal) q k v = fun _ => 1#1) :
    (∀ i, q i = (((q i : EReal).toReal : ℝ) : EReal)) ∧ ∀ i, k i = (((k i : EReal).toReal : ℝ) : EReal) := by
  have h0 := congrFun h (fun a => nomatch a)
  have h1 := IntOp.andi_eq_one.mp h0
  have : Subsingleton Cert.Pre_finite_scores.S_.Idx := ⟨fun a b => funext fun x => nomatch x⟩
  refine ⟨fun i => ?_, fun i => ?_⟩
  · exact real_of_lt (Host.reduce_andi_all _ _ _ _ _ h1.1 i)
  · exact real_of_lt (Host.reduce_andi_all _ _ _ _ _ h1.2 i)

/-- The reference's result at a latent token's row: the attention of its queries. -/
theorem ref_apply (q : Vec Ideal Cert.GlobalIdeal.S16384x2x4x128 .f32) (k v : Vec Ideal Cert.GlobalIdeal.S16640x2x128 .f32)
    (hq : ∀ i, q i = (((q i : EReal).toReal : ℝ) : EReal)) (hk : ∀ i, k i = (((k i : EReal).toReal : ℝ) : EReal))
    (j : Cert.GlobalIdeal.S16640x1024.Idx) (hj : 256 ≤ (j 0).val) :
    Cert.GlobalRefIdeal.Read.val_main_v21 (F := Ideal) q k v j = Cert.GlobalIdeal.Hand.attAt q k v j := by
  have b0 : (j 0).val < 16640 := (j 0).isLt
  have e : j = ix2 ⟨256 + (⟨(j 0).val - 256, by omega⟩ : Fin 16384).val, by omega⟩ (j 1) := by
    funext a
    match a with
    | ⟨0, _⟩ => exact Fin.ext (by show (j 0).val = 256 + ((j 0).val - 256); omega)
    | ⟨1, _⟩ => rfl
  refine ((congrArg (Cert.GlobalRefIdeal.Read.val_main_v21 (F := Ideal) q k v) e).trans (Cert.GlobalRefIdeal.Hand.v21_apply q k v ⟨(j 0).val - 256, by omega⟩ (j 1))).trans ?_
  unfold Cert.GlobalIdeal.Hand.attAt Cert.GlobalIdeal.Hand.att
  refine Finset.sum_congr rfl fun n _ => congrArg _ ?_
  exact Cert.GlobalRefIdeal.Hand.v15_real q k hq hk _ _ _ (fun n => Cert.GlobalIdeal.Hand.score q k _ _ _ n) (fun n => rfl) n

/-- The kernel at the extended reals: where the mask is set its result is the attention, and its arguments end unchanged. -/
theorem algebraic : Cert.algebraic_GlobalIdeal_GlobalRefIdeal_on_latent_rows_pre_finite_scores := by
  intro m g m' g' hpre hagree
  refine ⟨fun c => Cert.GlobalIdeal.Hand.attAt (m ((c.tc : Thread Cert.GlobalIdeal.nD Cert.GlobalIdeal.τ).loc Cert.GlobalIdeal.main_arg0))
    (m ((c.tc : Thread Cert.GlobalIdeal.nD Cert.GlobalIdeal.τ).loc Cert.GlobalIdeal.main_arg1)) (m ((c.tc : Thread Cert.GlobalIdeal.nD Cert.GlobalIdeal.τ).loc Cert.GlobalIdeal.main_arg2)), ?_, ?_⟩
  · refine (θ_run Cert.GlobalIdeal.defs _ _).mono (fun _ h c => ⟨fun i hi => ?_, (h c).2⟩) (Cert.GlobalIdeal.Value.run_blocks (F := Ideal) m g)
    have hr := real_of_pre _ _ _ (hpre c)
    exact (congrFun (h c).1 i).trans (Cert.GlobalIdeal.Hand.final_apply m c _ _ _ rfl rfl rfl hr.1 hr.2 i (row_of_mask _ _ _ i hi))
  · refine (θ_run Cert.GlobalRefIdeal.defs _ _).mono (fun _ h c => ⟨fun i hi => ?_, (h c).2⟩) (Cert.GlobalRefIdeal.Value.run (F := Ideal) m' g')
    have hr := real_of_pre _ _ _ (hpre c)
    refine (congrFun ((h c).1.trans (Cert.GlobalRefIdeal.Read.val_main_v21_eq (F := Ideal) _ _ _)) i).trans ?_
    rw [(hagree c).1, (hagree c).2.1, (hagree c).2.2]
    exact ref_apply _ _ _ hr.1 hr.2 i (row_of_mask _ _ _ i hi)

/-- The reference's run: its arguments end unchanged; it declares no semaphore. -/
theorem frame_ref : Cert.quiescent_GlobalRefIdeal := fun m g _ =>
  (θ_run Cert.GlobalRefIdeal.defs _ _).mono (fun r h => ⟨fun c => (h c).2, Idealize.ShloMosaic.sem_eq_zero_of_no_sems (by decide) r.2⟩)
    (Cert.GlobalRefIdeal.Value.run (F := Ideal) m g)

end Cert.Attention

end
-- ==== Proof.InSsd.lean ====
/-
  The input projection's columns for the SSD mixer: the call's array is the product, block by block.
-/
module

public import proofs.«01_k».proof.Defs
public import proofs.«01_k».proof.Proof.Gen.InSsdIdeal.Value
public import proofs.«01_k».proof.Proof.Gen.InSsdRefIdeal.Run
public import proofs.«01_k».proof.Proof.Gen.InSsdRefIdeal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.InSsdIdeal.Hand

open Cert.InSsdIdeal Cert.InSsdIdeal.Gen
open Idealize.ShloMosaic Idealize.ShloMosaic.TcCoe Idealize.SL.Sem

/-- The column of the projection that the call's column is: the convolved part first, then the gate. -/
def src (j : Fin 6144) : Fin 9280 := ⟨if j.val < 4096 then 2048 + j.val else j.val - 4096, by split <;> omega⟩

/-- The product of the tokens and the weights at an index of the call's array. -/
def prod (h : Vec Ideal S16640x4096 .f32) (w : Vec Ideal S4096x9280 .f32) : Vec Ideal S16640x6144 .f32 := fun j =>
  ∑ k : Fin 4096, h (ix2 (j 0) k) * w (ix2 k (src (j 1)))

/-- The weights as the host orders their columns. -/
def wA (w : Vec Ideal S4096x9280 .f32) : Vec Ideal S4096x6144 .bf16 :=
  truncf (F := Ideal) (φ := .f32) .bf16 (concatenate (α := Ideal .f32) S4096x6144 1 [⟨S4096x4096, extractStridedSlice S4096x4096 ![0, 2048] w slices_S4096x9280_S4096x4096_0_2048⟩,
    ⟨S4096x2048, extractStridedSlice S4096x2048 ![0, 0] w slices_S4096x9280_S4096x2048_0_0⟩] concatenates_S4096x4096_S4096x2048_S4096x6144_d1) bitsLt_bf16_f32

theorem wA_apply (w : Vec Ideal S4096x9280 .f32) (k : Fin 4096) (j : Fin 6144) : wA w (ix2 k j) = w (ix2 k (src j)) := by
  unfold src
  pointwise [wA]
  split <;> blk_ext

/-- A block of the product: a row of the tokens' block by a column of the weights' block. -/
theorem pay (x0 : Vec Ideal S640x4096 .bf16) (x1 : Vec Ideal S4096x512 .bf16) (r : Fin 640) (s : Fin 512) :
    k0_pay1 (F := Ideal) x0 x1 (ix2 r s) = ∑ k : Fin 4096, x0 (ix2 r k) * x1 (ix2 k s) := by
  pointwise [k0_pay1]

variable (m : (ℓ : Loc nD τ sig) → Buf (Elt Ideal) ℓ)

theorem V_h (c : Dev nD) : V m c main_v4 = truncf (F := Ideal) (φ := .f32) .bf16 (m ((c : Thread nD τ).loc main_arg0)) bitsLt_bf16_f32 := by
  rfl

theorem V_w (c : Dev nD) : V m c main_v3 = wA (m ((c : Thread nD τ).loc main_arg1)) := by
  rfl

theorem idx : ∀ t : Fin cfg0.N, win0_0.index t = ![t.val % 26, 0] ∧ win0_1.index t = ![0, t.val / 26] ∧ win0_2.index t = ![t.val % 26, t.val / 26] :=
  (by decide +kernel : ∀ t : Fin grid0.N, _)

theorem lt312 (t : Fin cfg0.N) : t.val < 312 := lt_of_lt_of_eq t.isLt (by decide +kernel)

/-- What a grid point computes, at an index of its block. -/
theorem point (c : Dev nD) (t : Fin cfg0.N) (H : Vec Ideal S16640x4096 .f32) (W : Vec Ideal S4096x9280 .f32)
    (hH : H = m ((c : Thread nD τ).loc main_arg0)) (hW : W = m ((c : Thread nD τ).loc main_arg1))
    (y : S640x512.Idx) (j : S16640x6144.Idx) (h0 : (j 0).val = t.val % 26 * 640 + (y 0).val) (h1 : (j 1).val = t.val / 26 * 512 + (y 1).val) :
    k0_pay1 (F := Ideal) (iblk m c 0 t) (iblk m c 1 t) y = prod H W j := by
  have := lt312 t
  have e : y = ix2 (y 0) (y 1) := by blk_ext
  refine (congrArg (k0_pay1 (F := Ideal) (iblk m c 0 t) (iblk m c 1 t)) e).trans ((pay (iblk m c 0 t) (iblk m c 1 t) (y 0) (y 1)).trans ?_)
  refine Finset.sum_congr rfl fun k _ => ?_
  refine congrArg₂ (· * ·) ?_ (Eq.trans ?_ (wA_apply W k (j 1)))
  · refine Eq.trans (b := (V m c main_v4 : Vec Ideal S16640x4096 .bf16) (ix2 (j 0) k)) ?_ (by rw [V_h, hH]; rfl)
    blk_ext [iblk, idx t]
  · rw [hW, ← V_w]
    blk_ext [iblk, idx t]

/-- The call's array after the run is the product. -/
theorem final (c : Dev nD) (H : Vec Ideal S16640x4096 .f32) (W : Vec Ideal S4096x9280 .f32)
    (hH : H = m ((c : Thread nD τ).loc main_arg0)) (hW : W = m ((c : Thread nD τ).loc main_arg1)) : (dats m 0 c).arrAt 2 cfg0.N = prod H W := by
  refine (dats m 0 c).arrAt_eq_of_covers 2 _ (by decide +kernel) fun t hf y => ?_
  blk_simp
  rw [after0_2]
  frame_out
  refine point m c t H W hH hW y _ ?_ ?_ <;> blk_simp [idx t]

end Cert.InSsdIdeal.Hand

namespace Cert.InSsdRefIdeal.Hand

open Cert.InSsdRefIdeal Cert.InSsdRefIdeal.Read
open Idealize.ShloMosaic Idealize.ShloMosaic.TcCoe Idealize.SL.Sem

/-- The reference's result is the product. -/
theorem ref_eq (h : Vec Ideal S16640x4096 .f32) (w : Vec Ideal S4096x9280 .f32) :
    val_main_v3 (F := Ideal) h w = Cert.InSsdIdeal.Hand.prod h w := by
  funext j
  unfold Cert.InSsdIdeal.Hand.prod Cert.InSsdIdeal.Hand.src
  pointwise [val_main_v3, val_main_v2, val_main_v1, val_main_v0]
  split <;> exact Finset.sum_congr rfl fun k _ => by blk_ext

/-- The call and its reference compute the same array. -/
theorem algebraic : Cert.algebraic_InSsdIdeal_InSsdRefIdeal := by
  intro m g m' g' _ hagree
  refine ⟨fun c => Cert.InSsdIdeal.Hand.prod (m ((c.tc : Thread Cert.InSsdIdeal.nD Cert.InSsdIdeal.τ).loc Cert.InSsdIdeal.main_arg0))
    (m ((c.tc : Thread Cert.InSsdIdeal.nD Cert.InSsdIdeal.τ).loc Cert.InSsdIdeal.main_arg1)), ?_, ?_⟩
  · exact (θ_run Cert.InSsdIdeal.defs _ _).mono (fun _ h c => ⟨(h c).1.trans (Cert.InSsdIdeal.Hand.final m c _ _ rfl rfl), (h c).2⟩)
      (Cert.InSsdIdeal.Value.run_blocks (F := Ideal) m g)
  · refine (θ_run Cert.InSsdRefIdeal.defs _ _).mono (fun _ h c => ⟨((h c).1.trans (val_main_v3_eq (F := Ideal) _ _)).trans ?_, (h c).2⟩)
      (Cert.InSsdRefIdeal.Value.run (F := Ideal) m' g')
    rw [(hagree c).1, (hagree c).2]
    exact ref_eq _ _

/-- The reference's run: its arguments end unchanged; it declares no semaphore. -/
theorem frame : Cert.quiescent_InSsdRefIdeal := fun m g _ =>
  (θ_run Cert.InSsdRefIdeal.defs _ _).mono (fun r h => ⟨fun c => (h c).2, Idealize.ShloMosaic.sem_eq_zero_of_no_sems (by decide) r.2⟩)
    (Cert.InSsdRefIdeal.Value.run (F := Ideal) m g)

end Cert.InSsdRefIdeal.Hand

end
-- ==== Proof.InAttn.lean ====
/-
  The input projection's columns for the attention heads: the call's array is the product, block by block,
  with 64 columns of zeros after it.
-/
module

public import proofs.«01_k».proof.Defs
public import proofs.«01_k».proof.Proof.Gen.InAttnIdeal.Value
public import proofs.«01_k».proof.Proof.Gen.InAttnRefIdeal.Run
public import proofs.«01_k».proof.Proof.Gen.InAttnRefIdeal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.InAttnIdeal.Hand

open Cert.InAttnIdeal Cert.InAttnIdeal.Gen
open Idealize.ShloMosaic Idealize.ShloMosaic.TcCoe Idealize.SL.Sem

/-- The column of the projection that the call's column is, for the columns before the padding: the heads' queries,
keys and values first, then the step sizes. -/
def src (j : Fin 3200) : Fin 9280 := ⟨if j.val < 3072 then 6208 + j.val else 6144 + (j.val - 3072), by split <;> omega⟩

/-- The product of the tokens and the weights at an index of the call's array; zero in the padding. -/
def prod (h : Vec Ideal S16640x4096 .f32) (w : Vec Ideal S4096x9280 .f32) : Vec Ideal S16640x3200 .f32 := fun j =>
  if (j 1).val < 3136 then ∑ k : Fin 4096, h (ix2 (j 0) k) * w (ix2 k (src (j 1))) else 0

/-- The weights as the host orders their columns. -/
def wA (w : Vec Ideal S4096x9280 .f32) : Vec Ideal S4096x3200 .bf16 :=
  truncf (F := Ideal) (φ := .f32) .bf16 (concatenate (α := Ideal .f32) S4096x3200 1 [⟨S4096x3072, extractStridedSlice S4096x3072 ![0, 6208] w slices_S4096x9280_S4096x3072_0_6208⟩,
    ⟨S4096x64, extractStridedSlice S4096x64 ![0, 6144] w slices_S4096x9280_S4096x64_0_6144⟩,
    ⟨S4096x64, broadcastInDim S4096x64 ![] bcast_S_S4096x64 (constant (F := Ideal) S_ .f32 0x00000000#32)⟩]
    concatenates_S4096x3072_S4096x64_S4096x64_S4096x3200_d1) bitsLt_bf16_f32

theorem wA_apply (w : Vec Ideal S4096x9280 .f32) (k : Fin 4096) (j : Fin 3200) :
    wA w (ix2 k j) = if j.val < 3136 then w (ix2 k (src j)) else 0 := by
  have := j.isLt
  unfold src
  pointwise [wA]
  split
  · refine Eq.trans ?_ (if_pos (by omega)).symm; blk_ext
  · split
    · refine Eq.trans ?_ (if_pos (by omega)).symm; blk_ext
    · exact (if_neg (by omega)).symm

/-- A block of the product: a row of the tokens' block by a column of the weights' block. -/
theorem pay (x0 : Vec Ideal S640x4096 .bf16) (x1 : Vec Ideal S4096x640 .bf16) (r : Fin 640) (s : Fin 640) :
    k0_pay1 (F := Ideal) x0 x1 (ix2 r s) = ∑ k : Fin 4096, x0 (ix2 r k) * x1 (ix2 k s) := by
  pointwise [k0_pay1]

variable (m : (ℓ : Loc nD τ sig) → Buf (Elt Ideal) ℓ)

theorem V_h (c : Dev nD) : V m c main_v5 = truncf (F := Ideal) (φ := .f32) .bf16 (m ((c : Thread nD τ).loc main_arg0)) bitsLt_bf16_f32 := by
  rfl

theorem V_w (c : Dev nD) : V m c main_v4 = wA (m ((c : Thread nD τ).loc main_arg1)) := by
  rfl

theorem idx : ∀ t : Fin cfg0.N, win0_0.index t = ![t.val % 26, 0] ∧ win0_1.index t = ![0, t.val / 26] ∧ win0_2.index t = ![t.val % 26, t.val / 26] :=
  (by decide +kernel : ∀ t : Fin grid0.N, _)

theorem lt130 (t : Fin cfg0.N) : t.val < 130 := lt_of_lt_of_eq t.isLt (by decide +kernel)

/-- What a grid point computes, at an index of its block. -/
theorem point (c : Dev nD) (t : Fin cfg0.N) (H : Vec Ideal S16640x4096 .f32) (W : Vec Ideal S4096x9280 .f32)
    (hH : H = m ((c : Thread nD τ).loc main_arg0)) (hW : W = m ((c : Thread nD τ).loc main_arg1))
    (y : S640x640.Idx) (j : S16640x3200.Idx) (h0 : (j 0).val = t.val % 26 * 640 + (y 0).val) (h1 : (j 1).val = t.val / 26 * 640 + (y 1).val) :
    k0_pay1 (F := Ideal) (iblk m c 0 t) (iblk m c 1 t) y = prod H W j := by
  have := lt130 t
  have e : y = ix2 (y 0) (y 1) := by blk_ext
  refine (congrArg (k0_pay1 (F := Ideal) (iblk m c 0 t) (iblk m c 1 t)) e).trans ((pay (iblk m c 0 t) (iblk m c 1 t) (y 0) (y 1)).trans ?_)
  have e2 : prod H W j = ∑ k : Fin 4096, H (ix2 (j 0) k) * (if (j 1).val < 3136 then W (ix2 k (src (j 1))) else 0) := by
    unfold prod
    split
    · rfl
    · exact (Finset.sum_eq_zero fun k _ => mul_zero _).symm
  refine Eq.trans (Finset.sum_congr rfl fun k _ => ?_) e2.symm
  refine congrArg₂ (· * ·) ?_ (Eq.trans ?_ (wA_apply W k (j 1)))
  · refine Eq.trans (b := (V m c main_v5 : Vec Ideal S16640x4096 .bf16) (ix2 (j 0) k)) ?_ (by rw [V_h, hH]; rfl)
    blk_ext [iblk, idx t]
  · rw [hW, ← V_w]
    blk_ext [iblk, idx t]

/-- The call's array after the run is the product. -/
theorem final (c : Dev nD) (H : Vec Ideal S16640x4096 .f32) (W : Vec Ideal S4096x9280 .f32)
    (hH : H = m ((c : Thread nD τ).loc main_arg0)) (hW : W = m ((c : Thread nD τ).loc main_arg1)) : (dats m 0 c).arrAt 2 cfg0.N = prod H W := by
  refine (dats m 0 c).arrAt_eq_of_covers 2 _ (by decide +kernel) fun t hf y => ?_
  blk_simp
  rw [after0_2]
  frame_out
  refine point m c t H W hH hW y _ ?_ ?_ <;> blk_simp [idx t]

end Cert.InAttnIdeal.Hand

namespace Cert.InAttnRefIdeal.Hand

open Cert.InAttnRefIdeal Cert.InAttnRefIdeal.Read
open Idealize.ShloMosaic Idealize.ShloMosaic.TcCoe Idealize.SL.Sem

/-- The reference's result is the product. -/
theorem ref_eq (h : Vec Ideal S16640x4096 .f32) (w : Vec Ideal S4096x9280 .f32) :
    val_main_v4 (F := Ideal) h w = Cert.InAttnIdeal.Hand.prod h w := by
  funext j
  have hj : (j 1).val < 3200 := (j 1).isLt
  unfold Cert.InAttnIdeal.Hand.prod Cert.InAttnIdeal.Hand.src
  pointwise [val_main_v4, val_main_v3, val_main_v2, val_main_v1, val_main_v0, val_main_cst]
  split
  · refine Eq.trans ?_ (if_pos (by omega)).symm; exact Finset.sum_congr rfl fun k _ => by blk_ext
  · split
    · refine Eq.trans ?_ (if_pos (by omega)).symm; exact Finset.sum_congr rfl fun k _ => by blk_ext
    · exact (if_neg (by omega)).symm

/-- The call and its reference compute the same array. -/
theorem algebraic : Cert.algebraic_InAttnIdeal_InAttnRefIdeal := by
  intro m g m' g' _ hagree
  refine ⟨fun c => Cert.InAttnIdeal.Hand.prod (m ((c.tc : Thread Cert.InAttnIdeal.nD Cert.InAttnIdeal.τ).loc Cert.InAttnIdeal.main_arg0))
    (m ((c.tc : Thread Cert.InAttnIdeal.nD Cert.InAttnIdeal.τ).loc Cert.InAttnIdeal.main_arg1)), ?_, ?_⟩
  · exact (θ_run Cert.InAttnIdeal.defs _ _).mono (fun _ h c => ⟨(h c).1.trans (Cert.InAttnIdeal.Hand.final m c _ _ rfl rfl), (h c).2⟩)
      (Cert.InAttnIdeal.Value.run_blocks (F := Ideal) m g)
  · refine (θ_run Cert.InAttnRefIdeal.defs _ _).mono (fun _ h c => ⟨((h c).1.trans (val_main_v4_eq (F := Ideal) _ _)).trans ?_, (h c).2⟩)
      (Cert.InAttnRefIdeal.Value.run (F := Ideal) m' g')
    rw [(hagree c).1, (hagree c).2]
    exact ref_eq _ _

/-- The reference's run: its arguments end unchanged; it declares no semaphore. -/
theorem frame : Cert.quiescent_InAttnRefIdeal := fun m g _ =>
  (θ_run Cert.InAttnRefIdeal.defs _ _).mono (fun r h => ⟨fun c => (h c).2, Idealize.ShloMosaic.sem_eq_zero_of_no_sems (by decide) r.2⟩)
    (Cert.InAttnRefIdeal.Value.run (F := Ideal) m g)

end Cert.InAttnRefIdeal.Hand

end
-- ==== Proof.OutProj.lean ====
/-
  The output projection: the call's array is the stream with the gated product added, block by block.
-/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.OutIdeal.Hand

open Cert.OutIdeal Cert.OutIdeal.Gen
open Idealize.ShloMosaic Idealize.ShloMosaic.TcCoe Idealize.SL.Sem

/-- The product of a row of the three mixers' arrays, side by side, with the weights. -/
def proj (s : Vec Ideal S16640x2048 .f32) (a g : Vec Ideal S16640x1024 .f32) (w : Vec Ideal S4x4096x4096 .f32) (i : Fin 16640) (n : Fin 4096) : EReal :=
  ∑ k : Fin 2048, s (ix2 i k) * w (ix3 0 ⟨k.val, by omega⟩ n) + ∑ k : Fin 1024, a (ix2 i k) * w (ix3 0 ⟨2048 + k.val, by omega⟩ n)
    + ∑ k : Fin 1024, g (ix2 i k) * w (ix3 0 ⟨3072 + k.val, by omega⟩ n)

/-- The stream with the gated product added: the first 256 rows take the context's gate, the others the latent tokens'. -/
def res (s : Vec Ideal S16640x2048 .f32) (a g : Vec Ideal S16640x1024 .f32) (w : Vec Ideal S4x4096x4096 .f32)
    (xs : Vec Ideal S16640x4096 .f32) (gc gl : Vec Ideal S4096 .f32) : Vec Ideal S16640x4096 .f32 := fun j =>
  xs j + (if (j 0).val < 256 then gc (ix1 (j 1)) else gl (ix1 (j 1))) * proj s a g w (j 0) (j 1)

theorem pay2 (x0 : Vec Ideal S640x2048 .bf16) (w0 : Vec Ideal S1x2048x512 .bf16) (x1 : Vec Ideal S640x1024 .bf16) (w1 : Vec Ideal S1x1024x512 .bf16)
    (x2 : Vec Ideal S640x1024 .bf16) (w2 : Vec Ideal S1x1024x512 .bf16) (r : Fin 640) (s : Fin 512) :
    k0_pay2 (F := Ideal) x0 w0 x1 w1 x2 w2 (ix2 r s)
      = ∑ k : Fin 2048, x0 (ix2 r k) * w0 (ix3 0 k s) + ∑ k : Fin 1024, x1 (ix2 r k) * w1 (ix3 0 k s)
        + ∑ k : Fin 1024, x2 (ix2 r k) * w2 (ix3 0 k s) := by
  pointwise [k0_pay2]

/-- The word that says whether a row of a block is one of the first 256 rows. -/
theorem row_word (a b : ℕ) (ha : a < 26) (hb : b < 640) {α : Type} (x y : α) :
    Scalar.select (IntOp.cmpi .slt (IntOp.addi (Scalar.muli (BitVec.ofNat 32 a) 640#32) (BitVec.ofNat 32 b)) 256#32) x y
      = if a * 640 + b < 256 then x else y := by
  have e : IntOp.addi (Scalar.muli (BitVec.ofNat 32 a) 640#32) (BitVec.ofNat 32 b) = BitVec.ofNat 32 (a * 640 + b) := by
    apply BitVec.eq_of_toNat_eq
    simp [IntOp.addi, Scalar.muli, IntOp.muli]
  have n : (BitVec.ofNat 32 (a * 640 + b)).toNat = a * 640 + b := by
    rw [BitVec.toNat_ofNat]; omega
  rw [e, WordCmp.cmpi_slt_of_lt (by rw [n]; omega) (by decide), n]
  by_cases h : a * 640 + b < 256 <;> simp [h, Scalar.select]

theorem pay3 (i : grid0.Coords) (g0 g1 : Vec Ideal S1x512 .f32) (r : Fin 640) (s : Fin 512) :
    k0_pay3 (F := Ideal) i g0 g1 (ix2 r s) = if (i 1).val * 640 + r.val < 256 then g0 (ix2 0 s) else g1 (ix2 0 s) := by
  pointwise [k0_pay3]
  exact row_word _ _ (i 1).isLt r.isLt _ _

theorem pay1 (a b c : Vec Ideal S640x512 .f32) (y : S640x512.Idx) : k0_pay1 (F := Ideal) a b c y = c y + b y * a y := by
  pointwise [k0_pay1]

variable (m : (ℓ : Loc nD τ sig) → Buf (Elt Ideal) ℓ)

/-- The two gates as the host stacks them. -/
def gates (gc gl : Vec Ideal S4096 .f32) : Vec Ideal S2x4096 .f32 :=
  concatenate (α := Ideal .f32) S2x4096 0 [⟨S1x4096, broadcastInDim (α := Ideal .f32) S1x4096 ![1] bcast_S4096_S1x4096_1 gc⟩,
    ⟨S1x4096, broadcastInDim (α := Ideal .f32) S1x4096 ![1] bcast_S4096_S1x4096_1 gl⟩] concatenates_S1x4096_S1x4096_S2x4096_d0

theorem gates_zero (gc gl : Vec Ideal S4096 .f32) (n : Fin 4096) : gates gc gl (ix2 0 n) = gc (ix1 n) := by
  pointwise [gates]

theorem gates_one (gc gl : Vec Ideal S4096 .f32) (n : Fin 4096) : gates gc gl (ix2 1 n) = gl (ix1 n) := by
  pointwise [gates]

theorem V_s (c : Dev nD) : V m c main_v0 = truncf (F := Ideal) (φ := .f32) .bf16 (m ((c : Thread nD τ).loc main_arg0)) bitsLt_bf16_f32 := by
  rfl

theorem V_a (c : Dev nD) : V m c main_v1 = truncf (F := Ideal) (φ := .f32) .bf16 (m ((c : Thread nD τ).loc main_arg1)) bitsLt_bf16_f32 := by
  rfl

theorem V_g (c : Dev nD) : V m c main_v2 = truncf (F := Ideal) (φ := .f32) .bf16 (m ((c : Thread nD τ).loc main_arg2)) bitsLt_bf16_f32 := by
  rfl

theorem V_w (c : Dev nD) : V m c main_v3 = truncf (F := Ideal) (φ := .f32) .bf16 (m ((c : Thread nD τ).loc main_arg3)) bitsLt_bf16_f32 := by
  rfl

theorem V_x (c : Dev nD) : V m c main_arg4 = m ((c : Thread nD τ).loc main_arg4) := by
  rfl

theorem V_gate (c : Dev nD) : V m c main_v6 = gates (m ((c : Thread nD τ).loc main_arg5)) (m ((c : Thread nD τ).loc main_arg6)) := by
  rfl

theorem idx : ∀ t : Fin cfg0.N, win0_0.index t = ![t.val % 26, 0] ∧ win0_1.index t = ![t.val % 26, 0] ∧ win0_2.index t = ![t.val % 26, 0]
    ∧ win0_3.index t = ![0, 0, t.val / 26] ∧ win0_4.index t = ![0, 2, t.val / 26] ∧ win0_5.index t = ![0, 3, t.val / 26]
    ∧ win0_6.index t = ![t.val % 26, t.val / 26] ∧ win0_7.index t = ![0, t.val / 26] ∧ win0_8.index t = ![t.val % 26, t.val / 26]
    ∧ (grid0.coords t 1).val = t.val % 26 :=
  (by decide +kernel : ∀ t : Fin grid0.N, _)

theorem lt208 (t : Fin cfg0.N) : t.val < 208 := lt_of_lt_of_eq t.isLt (by decide +kernel)

theorem ld_zero (B : Vec Ideal S2x512 .f32) (n : Fin 512) : View.ld B r0_4 (ix2 0 n) = B (ix2 0 n) := by
  pointwise

theorem ld_one (B : Vec Ideal S2x512 .f32) (n : Fin 512) : View.ld B r0_5 (ix2 0 n) = B (ix2 1 n) := by
  pointwise

/-- What a grid point computes, at an index of its block. -/
theorem point (c : Dev nD) (t : Fin cfg0.N) (S : Vec Ideal S16640x2048 .f32) (A G : Vec Ideal S16640x1024 .f32) (W : Vec Ideal S4x4096x4096 .f32)
    (X : Vec Ideal S16640x4096 .f32) (gc gl : Vec Ideal S4096 .f32)
    (hS : S = m ((c : Thread nD τ).loc main_arg0)) (hA : A = m ((c : Thread nD τ).loc main_arg1)) (hG : G = m ((c : Thread nD τ).loc main_arg2))
    (hW : W = m ((c : Thread nD τ).loc main_arg3)) (hX : X = m ((c : Thread nD τ).loc main_arg4))
    (hc : gc = m ((c : Thread nD τ).loc main_arg5)) (hl : gl = m ((c : Thread nD τ).loc main_arg6))
    (y : S640x512.Idx) (j : S16640x4096.Idx) (h0 : (j 0).val = t.val % 26 * 640 + (y 0).val) (h1 : (j 1).val = t.val / 26 * 512 + (y 1).val) :
    k0_pay1 (F := Ideal) (k0_pay2 (iblk m c 0 t) (iblk m c 3 t) (iblk m c 1 t) (iblk m c 4 t) (iblk m c 2 t) (iblk m c 5 t))
      (k0_pay3 (grid0.coords t) (View.ld (iblk m c 7 t) r0_4) (View.ld (iblk m c 7 t) r0_5)) (iblk m c 6 t) y = res S A G W X gc gl j := by
  have := lt208 t
  have hy0 : (y 0).val < 640 := (y 0).isLt
  have hy1 : (y 1).val < 512 := (y 1).isLt
  have e : y = ix2 (y 0) (y 1) := by blk_ext
  have hr : (grid0.coords t 1).val = t.val % 26 := (idx t).2.2.2.2.2.2.2.2.2
  refine (pay1 _ _ _ y).trans (congrArg₂ (· + ·) ?_ (congrArg₂ (· * ·) ?_ ?_))
  · rw [hX, ← V_x m c]
    blk_ext [iblk, idx t]
  · refine (congrArg (k0_pay3 (F := Ideal) (grid0.coords t) (View.ld (iblk m c 7 t) r0_4) (View.ld (iblk m c 7 t) r0_5)) e).trans
      ((pay3 (grid0.coords t) (View.ld (iblk m c 7 t) r0_4) (View.ld (iblk m c 7 t) r0_5) (y 0) (y 1)).trans ?_)
    refine if_congr (by rw [hr, h0]) ?_ ?_
    · refine (ld_zero _ (y 1)).trans (Eq.trans ?_ (gates_zero gc gl (j 1)))
      rw [hc, hl, ← V_gate]
      blk_ext [iblk, idx t]
    · refine (ld_one _ (y 1)).trans (Eq.trans ?_ (gates_one gc gl (j 1)))
      rw [hc, hl, ← V_gate]
      blk_ext [iblk, idx t]
  · refine (congrArg (k0_pay2 (F := Ideal) (iblk m c 0 t) (iblk m c 3 t) (iblk m c 1 t) (iblk m c 4 t) (iblk m c 2 t) (iblk m c 5 t)) e).trans
      ((pay2 (iblk m c 0 t) (iblk m c 3 t) (iblk m c 1 t) (iblk m c 4 t) (iblk m c 2 t) (iblk m c 5 t) (y 0) (y 1)).trans ?_)
    unfold proj
    refine congrArg₂ (· + ·) (congrArg₂ (· + ·) ?_ ?_) ?_ <;> refine Finset.sum_congr rfl fun k _ => ?_ <;> refine congrArg₂ (· * ·) ?_ ?_
    · refine Eq.trans (b := (V m c main_v0 : Vec Ideal S16640x2048 .bf16) (ix2 (j 0) k)) ?_ (by rw [V_s, hS]; rfl); blk_ext [iblk, idx t]
    · refine Eq.trans (b := (V m c main_v3 : Vec Ideal S4x4096x4096 .bf16) (ix3 0 ⟨k.val, by omega⟩ (j 1))) ?_ (by rw [V_w, hW]; rfl); blk_ext [iblk, idx t]
    · refine Eq.trans (b := (V m c main_v1 : Vec Ideal S16640x1024 .bf16) (ix2 (j 0) k)) ?_ (by rw [V_a, hA]; rfl); blk_ext [iblk, idx t]
    · refine Eq.trans (b := (V m c main_v3 : Vec Ideal S4x4096x4096 .bf16) (ix3 0 ⟨2048 + k.val, by omega⟩ (j 1))) ?_ (by rw [V_w, hW]; rfl); blk_ext [iblk, idx t]
    · refine Eq.trans (b := (V m c main_v2 : Vec Ideal S16640x1024 .bf16) (ix2 (j 0) k)) ?_ (by rw [V_g, hG]; rfl); blk_ext [iblk, idx t]
    · refine Eq.trans (b := (V m c main_v3 : Vec Ideal S4x4096x4096 .bf16) (ix3 0 ⟨3072 + k.val, by omega⟩ (j 1))) ?_ (by rw [V_w, hW]; rfl); blk_ext [iblk, idx t]

/-- The call's array after the run. -/
theorem final (c : Dev nD) (S : Vec Ideal S16640x2048 .f32) (A G : Vec Ideal S16640x1024 .f32) (W : Vec Ideal S4x4096x4096 .f32)
    (X : Vec Ideal S16640x4096 .f32) (gc gl : Vec Ideal S4096 .f32)
    (hS : S = m ((c : Thread nD τ).loc main_arg0)) (hA : A = m ((c : Thread nD τ).loc main_arg1)) (hG : G = m ((c : Thread nD τ).loc main_arg2))
    (hW : W = m ((c : Thread nD τ).loc main_arg3)) (hX : X = m ((c : Thread nD τ).loc main_arg4))
    (hc : gc = m ((c : Thread nD τ).loc main_arg5)) (hl : gl = m ((c : Thread nD τ).loc main_arg6)) :
    (dats m 0 c).arrAt 8 cfg0.N = res S A G W X gc gl := by
  refine (dats m 0 c).arrAt_eq_of_covers 8 _ (by decide +kernel) fun t hf y => ?_
  blk_simp
  rw [after0_8]
  frame_out
  refine point m c t S A G W X gc gl hS hA hG hW hX hc hl y _ ?_ ?_ <;> blk_simp [idx t]

end Cert.OutIdeal.Hand

namespace Cert.OutRefIdeal.Hand

open Cert.OutRefIdeal Cert.OutRefIdeal.Read
open Idealize.ShloMosaic Idealize.ShloMosaic.TcCoe Idealize.SL.Sem

/-- A sum over the 4096 columns, cut where the three arrays meet. -/
theorem sum_cut (f : Fin 4096 → EReal) : ∑ k, f k = ∑ k : Fin 2048, f ⟨k.val, by omega⟩ + ∑ k : Fin 1024, f ⟨2048 + k.val, by omega⟩
    + ∑ k : Fin 1024, f ⟨3072 + k.val, by omega⟩ :=
  (Fin.sum_univ_add (a := 3072) (b := 1024) f).trans
    (congrArg (· + _) (Fin.sum_univ_add (a := 2048) (b := 1024) fun k => f ⟨k.val, by omega⟩))

theorem ref_eq (s : Vec Ideal S16640x2048 .f32) (a g : Vec Ideal S16640x1024 .f32) (w : Vec Ideal S4x4096x4096 .f32)
    (xs : Vec Ideal S16640x4096 .f32) (gc gl : Vec Ideal S4096 .f32) :
    val_main_v19 (F := Ideal) s a g w xs gc gl = Cert.OutIdeal.Hand.res s a g w xs gc gl := by
  funext j
  have hj : (j 0).val < 16640 := (j 0).isLt
  unfold Cert.OutIdeal.Hand.res Cert.OutIdeal.Hand.proj
  pointwise [val_main_v19, val_main_v18, val_main_v17, val_main_v16, val_main_v15, val_main_v14, val_main_v13, val_main_v12, val_main_v11,
   val_main_v10, val_main_v9, val_main_v8, val_main_v7, val_main_v6, val_main_v5, val_main_v4, val_main_v3, val_main_v2, val_main_v1, val_main_v0]
  split
  · refine congrArg₂ (· + ·) rfl (congrArg₂ (· * ·) rfl ?_)
    refine (sum_cut _).trans (congrArg₂ (· + ·) (congrArg₂ (· + ·) ?_ ?_) ?_) <;> refine Finset.sum_congr rfl fun k _ => ?_
    · refine congrArg₂ (· * ·) ((dif_pos k.isLt).trans ?_) ?_ <;> blk_ext
    · refine congrArg₂ (· * ·) ((dif_neg (by simp)).trans ((dif_pos (by simp)).trans ?_)) ?_ <;> blk_ext
    · refine congrArg₂ (· * ·) ((dif_neg (by simp; omega)).trans ((dif_neg (by simp; omega)).trans ?_)) ?_ <;> blk_ext
  · refine congrArg₂ (· + ·) (by blk_ext) (congrArg₂ (· * ·) rfl ?_)
    refine (sum_cut _).trans (congrArg₂ (· + ·) (congrArg₂ (· + ·) ?_ ?_) ?_) <;> refine Finset.sum_congr rfl fun k _ => ?_
    · refine congrArg₂ (· * ·) ((dif_pos k.isLt).trans ?_) ?_ <;> blk_ext
    · refine congrArg₂ (· * ·) ((dif_neg (by simp)).trans ((dif_pos (by simp)).trans ?_)) ?_ <;> blk_ext
    · refine congrArg₂ (· * ·) ((dif_neg (by simp; omega)).trans ((dif_neg (by simp; omega)).trans ?_)) ?_ <;> blk_ext

/-- The call and its reference compute the same array. -/
theorem algebraic : Cert.algebraic_OutIdeal_OutRefIdeal := by
  intro m g m' g' _ hagree
  refine ⟨fun c => Cert.OutIdeal.Hand.res (m ((c.tc : Thread Cert.OutIdeal.nD Cert.OutIdeal.τ).loc Cert.OutIdeal.main_arg0))
    (m ((c.tc : Thread Cert.OutIdeal.nD Cert.OutIdeal.τ).loc Cert.OutIdeal.main_arg1))
    (m ((c.tc : Thread Cert.OutIdeal.nD Cert.OutIdeal.τ).loc Cert.OutIdeal.main_arg2))
    (m ((c.tc : Thread Cert.OutIdeal.nD Cert.OutIdeal.τ).loc Cert.OutIdeal.main_arg3))
    (m ((c.tc : Thread Cert.OutIdeal.nD Cert.OutIdeal.τ).loc Cert.OutIdeal.main_arg4))
    (m ((c.tc : Thread Cert.OutIdeal.nD Cert.OutIdeal.τ).loc Cert.OutIdeal.main_arg5))
    (m ((c.tc : Thread Cert.OutIdeal.nD Cert.OutIdeal.τ).loc Cert.OutIdeal.main_arg6)), ?_, ?_⟩
  · exact (θ_run Cert.OutIdeal.defs _ _).mono (fun _ h c => ⟨(h c).1.trans (Cert.OutIdeal.Hand.final m c _ _ _ _ _ _ _ rfl rfl rfl rfl rfl rfl rfl), (h c).2⟩)
      (Cert.OutIdeal.Value.run_blocks (F := Ideal) m g)
  · refine (θ_run Cert.OutRefIdeal.defs _ _).mono (fun _ h c => ⟨((h c).1.trans (val_main_v19_eq (F := Ideal) _ _ _ _ _ _ _)).trans ?_, (h c).2⟩)
      (Cert.OutRefIdeal.Value.run (F := Ideal) m' g')
    rw [(hagree c).1, (hagree c).2.1, (hagree c).2.2.1, (hagree c).2.2.2.1, (hagree c).2.2.2.2.1, (hagree c).2.2.2.2.2.1, (hagree c).2.2.2.2.2.2]
    exact ref_eq _ _ _ _ _ _ _

/-- The reference's run: its arguments end unchanged; it declares no semaphore. -/
theorem frame : Cert.quiescent_OutRefIdeal := fun m g _ =>
  (θ_run Cert.OutRefIdeal.defs _ _).mono (fun r h => ⟨fun c => (h c).2, Idealize.ShloMosaic.sem_eq_zero_of_no_sems (by decide) r.2⟩)
    (Cert.OutRefIdeal.Value.run (F := Ideal) m g)

end Cert.OutRefIdeal.Hand

end
-- ==== Proof.Query.lean ====
/-
  The expert-key queries: the call's array is the product with the first layer's weights, block by block. A block of
  weights is cast when the grid comes to its first row block and kept for the other row blocks.
-/
module

public import proofs.«01_k».proof.Defs
public import proofs.«01_k».proof.Proof.Gen.QueryIdeal.Value
public import proofs.«01_k».proof.Proof.Gen.QueryRefIdeal.Run
public import proofs.«01_k».proof.Proof.Gen.QueryRefIdeal.Read
public import Idealize.ShloMosaic.Lib.Pointwise
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.QueryIdeal.Hand

open Cert.QueryIdeal Cert.QueryIdeal.Gen
open Idealize.ShloMosaic Idealize.ShloMosaic.TcCoe Idealize.SL.Sem

/-- The product of the tokens and the first layer's weights at an index of the call's array. -/
def prod (h : Vec Ideal S16640x4096 .f32) (w : Vec Ideal S4x4096x2048 .f32) : Vec Ideal S16640x2048 .bf16 := fun j =>
  ∑ k : Fin 4096, h (ix2 (j 0) k) * w (ix3 0 k (j 1))

/-- A block of the product: a row of the tokens' block by a column of the kept weights. -/
theorem pay (x0 : Vec Ideal S640x4096 .bf16) (x1 : Vec Ideal S4096x512 .bf16) (r : Fin 640) (s : Fin 512) :
    k0_pay2 (F := Ideal) x0 x1 (ix2 r s) = ∑ k : Fin 4096, x0 (ix2 r k) * x1 (ix2 k s) := by
  pointwise [k0_pay2]

/-- The weights that are kept: the block of them, cast. -/
theorem keep (x : Vec Ideal S1x4096x512 .f32) (k : Fin 4096) (s : Fin 512) : k0_pay1 (F := Ideal) x (ix2 k s) = x (ix3 0 k s) := by
  pointwise [k0_pay1]

variable (m : (ℓ : Loc nD τ sig) → Buf (Elt Ideal) ℓ)

theorem V_h (c : Dev nD) : V m c main_v0 = truncf (F := Ideal) (φ := .f32) .bf16 (m ((c : Thread nD τ).loc main_arg0)) bitsLt_bf16_f32 := by
  rfl

theorem V_w (c : Dev nD) : V m c main_arg1 = m ((c : Thread nD τ).loc main_arg1) := by
  rfl

theorem idx : ∀ t : Fin cfg0.N, win0_0.index t = ![t.val % 26, 0] ∧ win0_1.index t = ![0, 0, t.val / 26] ∧ win0_2.index t = ![t.val % 26, t.val / 26] :=
  (by decide +kernel : ∀ t : Fin grid0.N, _)

theorem lt104 (t : Fin cfg0.N) : t.val < 104 := lt_of_lt_of_eq t.isLt (by decide +kernel)

/-- A block of weights, cast, at a row and a column of it. -/
theorem keep_block (c : Dev nD) (t : Fin cfg0.N) (W : Vec Ideal S4x4096x2048 .f32) (hW : W = m ((c : Thread nD τ).loc main_arg1))
    (k : Fin 4096) (s : Fin 512) (n : Fin 2048) (hn : n.val = t.val / 26 * 512 + s.val) :
    k0_pay1 (F := Ideal) (iblk m c 1 t) (ix2 k s) = W (ix3 0 k n) := by
  refine (keep (iblk m c 1 t) k s).trans ?_
  rw [hW, ← V_w m c]
  blk_ext [iblk, idx t]

/-- What the kept block holds after a grid point: the weights of the point's columns. -/
theorem kept (c : Dev nD) (W : Vec Ideal S4x4096x2048 .f32) (hW : W = m ((c : Thread nD τ).loc main_arg1)) (t : ℕ) : ∀ (ht : t < cfg0.N)
    (k : Fin 4096) (s : Fin 512) (n : Fin 2048) (_ : n.val = t / 26 * 512 + s.val), (outsAt0 m c t ht).2 (ix2 k s) = W (ix3 0 k n) := by
  induction t with
  | zero =>
    intro ht k s n hn
    rw [outsAt0_A m c ⟨0, ht⟩ rfl]
    frame_out
    exact keep_block m c ⟨0, ht⟩ W hW k s n hn
  | succ t ih =>
    intro ht k s n hn
    by_cases h0 : (t + 1) % 26 = 0
    · rw [outsAt0_A m c ⟨t + 1, ht⟩ h0]
      frame_out
      exact keep_block m c ⟨t + 1, ht⟩ W hW k s n hn
    · rw [outsAt0_B m c ⟨t + 1, ht⟩ h0]
      exact ih (Nat.lt_of_succ_lt ht) k s n (by omega)

/-- What a grid point computes from a kept block `B`, at an index of its block. -/
theorem point (c : Dev nD) (t : Fin cfg0.N) (H : Vec Ideal S16640x4096 .f32) (W : Vec Ideal S4x4096x2048 .f32)
    (hH : H = m ((c : Thread nD τ).loc main_arg0)) (B : Vec Ideal S4096x512 .bf16)
    (y : S640x512.Idx) (j : S16640x2048.Idx) (h0 : (j 0).val = t.val % 26 * 640 + (y 0).val) (hB : ∀ k : Fin 4096, B (ix2 k (y 1)) = W (ix3 0 k (j 1))) :
    k0_pay2 (F := Ideal) (iblk m c 0 t) B y = prod H W j := by
  have := lt104 t
  have e : y = ix2 (y 0) (y 1) := by blk_ext
  refine (congrArg (k0_pay2 (F := Ideal) (iblk m c 0 t) B) e).trans ((pay (iblk m c 0 t) B (y 0) (y 1)).trans ?_)
  refine Finset.sum_congr rfl fun k _ => ?_
  refine congrArg₂ (· * ·) ?_ (hB k)
  refine Eq.trans (b := (V m c main_v0 : Vec Ideal S16640x4096 .bf16) (ix2 (j 0) k)) ?_ (by rw [V_h, hH]; rfl)
  blk_ext [iblk, idx t]

/-- The call's array after the run is the product. -/
theorem final (c : Dev nD) (H : Vec Ideal S16640x4096 .f32) (W : Vec Ideal S4x4096x2048 .f32)
    (hH : H = m ((c : Thread nD τ).loc main_arg0)) (hW : W = m ((c : Thread nD τ).loc main_arg1)) : (dats m 0 c).arrAt 2 cfg0.N = prod H W := by
  refine (dats m 0 c).arrAt_eq_of_covers 2 _ (by decide +kernel) fun t hf y => ?_
  have := lt104 t
  blk_simp
  rw [after0_2]
  by_cases h0 : t.val % 26 = 0
  · rw [outsAt0_A m c t h0]
    frame_out
    refine point m c t H W hH _ y _ ?_ fun k => ?_
    · blk_simp [idx t]
    · refine keep_block m c t W hW k _ _ ?_
      blk_simp [idx t]
  · rw [outsAt0_B m c t h0]
    frame_out
    simp only [read_unread_whole]
    refine point m c t H W hH _ y _ ?_ fun k => ?_
    · blk_simp [idx t]
    · refine kept m c W hW (t.val - 1) _ k _ _ ?_
      blk_simp [idx t]
      omega

end Cert.QueryIdeal.Hand

namespace Cert.QueryRefIdeal.Hand

open Cert.QueryRefIdeal Cert.QueryRefIdeal.Read
open Idealize.ShloMosaic Idealize.ShloMosaic.TcCoe Idealize.SL.Sem

/-- The reference's result is the product. -/
theorem ref_eq (h : Vec Ideal S16640x4096 .f32) (w : Vec Ideal S4x4096x2048 .f32) :
    val_main_v3 (F := Ideal) h w = Cert.QueryIdeal.Hand.prod h w := by
  funext j
  unfold Cert.QueryIdeal.Hand.prod
  pointwise [val_main_v3, val_main_v2, val_main_v1, val_main_v0]

/-- The call and its reference compute the same array. -/
theorem algebraic : Cert.algebraic_QueryIdeal_QueryRefIdeal := by
  intro m g m' g' _ hagree
  refine ⟨fun c => Cert.QueryIdeal.Hand.prod (m ((c.tc : Thread Cert.QueryIdeal.nD Cert.QueryIdeal.τ).loc Cert.QueryIdeal.main_arg0))
    (m ((c.tc : Thread Cert.QueryIdeal.nD Cert.QueryIdeal.τ).loc Cert.QueryIdeal.main_arg1)), ?_, ?_⟩
  · exact (θ_run Cert.QueryIdeal.defs _ _).mono (fun _ h c => ⟨(h c).1.trans (Cert.QueryIdeal.Hand.final m c _ _ rfl rfl), (h c).2⟩)
      (Cert.QueryIdeal.Value.run_blocks (F := Ideal) m g)
  · refine (θ_run Cert.QueryRefIdeal.defs _ _).mono (fun _ h c => ⟨((h c).1.trans (val_main_v3_eq (F := Ideal) _ _)).trans ?_, (h c).2⟩)
      (Cert.QueryRefIdeal.Value.run (F := Ideal) m' g')
    rw [(hagree c).1, (hagree c).2]
    exact ref_eq _ _

/-- The reference's run: its arguments end unchanged; it declares no semaphore. -/
theorem frame : Cert.quiescent_QueryRefIdeal := fun m g _ =>
  (θ_run Cert.QueryRefIdeal.defs _ _).mono (fun r h => ⟨fun c => (h c).2, Idealize.ShloMosaic.sem_eq_zero_of_no_sems (by decide) r.2⟩)
    (Cert.QueryRefIdeal.Value.run (F := Ideal) m g)

end Cert.QueryRefIdeal.Hand

end
-- ==== Proof.FinalNorm.lean ====
/-
  The last norm: the call's array is the latent tokens' rows, each divided by the root of its mean square and scaled.
  A grid point normalises its block sixteen rows at a time.
-/
module

public import proofs.«01_k».proof.Defs
public import proofs.«01_k».proof.Proof.Gen.FinalIdeal.Value
public import proofs.«01_k».proof.Proof.Gen.FinalRefIdeal.Run
public import proofs.«01_k».proof.Proof.Gen.FinalRefIdeal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.FinalIdeal.Hand

open Cert.FinalIdeal Cert.FinalIdeal.Gen
open Idealize.ShloMosaic Idealize.ShloMosaic.TcCoe Idealize.SL.Sem

/-- A row divided by the root of its mean square, times the gain: at a row of the stream and a column. -/
def nrm (x : Vec Ideal S16640x4096 .f32) (g : Vec Ideal S4096 .f32) (i : Fin 16640) (n : Fin 4096) : EReal :=
  x (ix2 i n) * Ideal.rsqrt (Ideal.div (∑ k : Fin 4096, x (ix2 i k) * x (ix2 i k)) (Ideal.ofBits .f32 0x45800000#32) + Ideal.ofBits .f32 0x358637BD#32) * g (ix1 n)

/-- The rows after the first 256, normalised. -/
def res (x : Vec Ideal S16640x4096 .f32) (g : Vec Ideal S4096 .f32) : Vec Ideal S16384x4096 .f32 := fun j =>
  nrm x g ⟨256 + (j 0).val, by have : (j 0).val < 16384 := (j 0).isLt; omega⟩ (j 1)

/-- The same for the rows of one block. -/
def rows (x0 : Vec Ideal S256x4096 .f32) (x1 : Vec Ideal S1x4096 .f32) : Vec Ideal S256x4096 .f32 := fun y =>
  x0 (ix2 (y 0) (y 1)) * Ideal.rsqrt (Ideal.div (∑ k : Fin 4096, x0 (ix2 (y 0) k) * x0 (ix2 (y 0) k)) (Ideal.ofBits .f32 0x45800000#32) + Ideal.ofBits .f32 0x358637BD#32)
    * x1 (ix2 0 (y 1))

/-- Sixteen rows, normalised. -/
theorem pay (a b : Vec Ideal S16x4096 .f32) (g : Vec Ideal S1x4096 .f32) (x : S16x4096.Idx) :
    k0_pay1 (F := Ideal) a b g x = b x * Ideal.rsqrt (Ideal.div (∑ k : Fin 4096, a (ix2 (x 0) k) * a (ix2 (x 0) k)) (Ideal.ofBits .f32 0x45800000#32)
      + Ideal.ofBits .f32 0x358637BD#32) * g (ix2 0 (x 1)) := by
  pointwise [k0_pay1]

/-- The first row of a trip's sixteen. -/
theorem off_eq : ∀ k : Fin k0_t1_loop.trips, k0_off1 k = ![16 * k.val, 0] ∧ k.val < 16 := by
  decide +kernel

/-- The rows a trip stores. -/
abbrev rect (k : Fin k0_t1_loop.trips) : Rect S256x4096 := Rect.unit (s := S256x4096) (k0_off1 k) S16x4096.size (k0_off1_inb k)

/-- The row of the block at a row of a trip. -/
theorem emb_row (k : Fin k0_t1_loop.trips) (z : S16x4096.Idx) : ((rect k).emb z 0).val = 16 * k.val + (z 0).val :=
  (ValueKit.rect_emb_unit_val (s := S256x4096) (k0_off1 k) S16x4096.size (k0_off1_inb k) z 0).trans (congrArg (fun f : Fin 2 → ℕ => f 0 + (z 0).val) (off_eq k).1)

/-- A trip's columns are the block's. -/
theorem emb_col (k : Fin k0_t1_loop.trips) (z : S16x4096.Idx) : ((rect k).emb z 1).val = (z 1).val :=
  (ValueKit.rect_emb_unit_val (s := S256x4096) (k0_off1 k) S16x4096.size (k0_off1_inb k) z 1).trans ((congrArg (fun f : Fin 2 → ℕ => f 1 + (z 1).val) (off_eq k).1).trans (Nat.zero_add _))

section
variable (c : Dev nD) (i : grid0.Coords)
variable (arg1 : Memref sig .tc .vmem S256x4096 .f32) (harg1 : arg1.IsWhole) (arg2 : Memref sig .tc .vmem S1x4096 .f32) (harg2 : arg2.IsWhole)
variable (arg3 : Memref sig .tc .vmem S256x4096 .f32) (harg3 : arg3.IsWhole) (x0 : Vec Ideal S256x4096 .f32) (x1 : Vec Ideal S1x4096 .f32)

/-- What a trip stores are the block's rows, normalised. -/
theorem trip (k : Fin k0_t1_loop.trips) : ∀ p ∈ tripL_k0_t1 (F := Ideal) Variants.none c none i arg1 harg1 arg2 harg2 arg3 harg3 (harg1.unread x0) (harg2.unread x1) k,
    ∀ x : p.1.shape.Idx, p.2 x = rows x0 x1 (p.1.emb x) := by
  unfold tripL_k0_t1 trip_k0_t1
  dsimp only
  intro p hp
  obtain rfl := List.mem_singleton.mp hp
  intro x
  dsimp only
  rw [View.readAt_eq_ld, harg1.read_unread, View.readAt_eq_ld, harg2.read_unread]
  have e1 := emb_col k x
  have hx : ∀ (z : S16x4096.Idx) (n : Fin 4096), z 0 = x 0 → (z 1).val = n.val →
      View.ld x0 (rect k) z = x0 (ix2 ((rect k).emb x 0) n) := fun z n h0 h1 => by
    refine congrArg x0 (funext fun a => Fin.ext ?_)
    fin_cases a
    · exact (emb_row k z).trans ((congrArg (fun q : Fin 16 => 16 * k.val + q.val) h0).trans (emb_row k x).symm)
    · exact (emb_col k z).trans h1
  refine (pay _ _ _ x).trans ?_
  refine congrArg₂ (· * ·) (congrArg₂ (· * ·) (hx x _ rfl e1.symm) (congrArg (fun s => Ideal.rsqrt (Ideal.div s _ + _)) ?_)) ?_
  · exact Finset.sum_congr rfl fun n _ => congrArg₂ (· * ·) (hx (ix2 (x 0) n) n rfl rfl) (hx (ix2 (x 0) n) n rfl rfl)
  · refine congrArg x1 (funext fun a => Fin.ext ?_)
    fin_cases a
    · rfl
    · exact (ValueKit.rect_emb_unit_val (s := S1x4096) _ _ _ _ 1).trans ((Nat.zero_add _).trans e1.symm)

/-- What the trips before `n` store are the block's rows, normalised. -/
theorem trips (n : ℕ) : ∀ p ∈ pb_k0_t1 (F := Ideal) Variants.none c none i arg1 harg1 arg2 harg2 arg3 harg3 (harg1.unread x0) (harg2.unread x1) n,
    ∀ x : p.1.shape.Idx, p.2 x = rows x0 x1 (p.1.emb x) := by
  induction n with
  | zero => exact fun p hp => absurd hp List.not_mem_nil
  | succ n ih =>
    intro p hp
    rw [pb_k0_t1.eq_2] at hp
    unfold pb_k0_t1Step at hp
    split at hp
    · rcases List.mem_append.mp hp with h | h
      · exact trip c i arg1 harg1 arg2 harg2 arg3 harg3 x0 x1 _ p h
      · exact ih p h
    · exact ih p hp

/-- A block the call writes. -/
theorem block (y : S256x4096.Idx) : out0_A_2 (F := Ideal) c i arg1 harg1 arg2 harg2 arg3 harg3 x0 x1 y = rows x0 x1 y := by
  unfold out0_A_2
  rw [View.read_writes_junk_eq_canon]
  exact View.canon_apply_of_pieces (rows x0 x1) _ (trips c i arg1 harg1 arg2 harg2 arg3 harg3 x0 x1 _) y
    (cover0_A_2 c i arg1 harg1 arg2 harg2 arg3 harg3 x0 x1 y)

end

variable (m : (ℓ : Loc nD τ sig) → Buf (Elt Ideal) ℓ)

/-- The gain as a one-row matrix, at a column. -/
theorem row (g : Vec Ideal S4096 .f32) (n : Fin 4096) : shapeCast (α := Ideal .f32) S1x4096 g shapeCasts_S4096_S1x4096 (ix2 0 n) = g (ix1 n) := by
  pointwise

/-- The gain as the host lays it out. -/
theorem V_g (c : Dev nD) : V m c main_v0 = shapeCast (α := Ideal .f32) S1x4096 (m ((c : Thread nD τ).loc main_arg1)) shapeCasts_S4096_S1x4096 := by
  rfl

theorem V_x (c : Dev nD) : V m c main_arg0 = m ((c : Thread nD τ).loc main_arg0) := by
  rfl

theorem idx : ∀ t : Fin cfg0.N, win0_0.index t = ![t.val + 1, 0] ∧ win0_1.index t = ![0, 0] ∧ win0_2.index t = ![t.val, 0] :=
  (by decide +kernel : ∀ t : Fin grid0.N, _)

theorem lt64 (t : Fin cfg0.N) : t.val < 64 := lt_of_lt_of_eq t.isLt (by decide +kernel)

/-- What a grid point computes, at an index of its block. -/
theorem point (c : Dev nD) (t : Fin cfg0.N) (X : Vec Ideal S16640x4096 .f32) (g : Vec Ideal S4096 .f32)
    (hX : X = m ((c : Thread nD τ).loc main_arg0)) (hg : g = m ((c : Thread nD τ).loc main_arg1))
    (y : S256x4096.Idx) (j : S16384x4096.Idx) (h0 : (j 0).val = t.val * 256 + (y 0).val) (h1 : (j 1).val = (y 1).val) :
    rows (iblk m c 0 t) (iblk m c 1 t) y = res X g j := by
  have := lt64 t
  have hj : (j 0).val < 16384 := (j 0).isLt
  have hx : ∀ k k' : Fin 4096, k'.val = k.val → (iblk m c 0 t : Vec Ideal S256x4096 .f32) (ix2 (y 0) k) = X (ix2 ⟨256 + (j 0).val, by omega⟩ k') := fun k k' h => by
    rw [hX, ← V_x m c]
    blk_ext [iblk, idx t]
  unfold rows res nrm
  refine congrArg₂ (· * ·) (congrArg₂ (· * ·) (hx (y 1) (j 1) h1) (congrArg (fun s => Ideal.rsqrt (Ideal.div s _ + _)) ?_)) ?_
  · exact Finset.sum_congr rfl fun k _ => congrArg₂ (· * ·) (hx k k rfl) (hx k k rfl)
  · refine Eq.trans (b := (V m c main_v0 : Vec Ideal S1x4096 .f32) (ix2 0 (j 1))) ?_ ?_
    · blk_ext [iblk, idx t]
    · rw [V_g, ← hg]
      exact row g (j 1)

/-- The call's array after the run. -/
theorem final (c : Dev nD) (X : Vec Ideal S16640x4096 .f32) (g : Vec Ideal S4096 .f32)
    (hX : X = m ((c : Thread nD τ).loc main_arg0)) (hg : g = m ((c : Thread nD τ).loc main_arg1)) : (dats m 0 c).arrAt 2 cfg0.N = res X g := by
  refine (dats m 0 c).arrAt_eq_of_covers 2 _ (by decide +kernel) fun t hf y => ?_
  blk_simp
  rw [after0_2]
  unfold Gen.outsAt0
  refine (block c _ _ _ _ _ _ _ (iblk m c 0 t) (iblk m c 1 t) y).trans ?_
  refine point m c t X g hX hg y _ ?_ ?_ <;> blk_simp [idx t]

end Cert.FinalIdeal.Hand

namespace Cert.FinalRefIdeal.Hand

open Cert.FinalRefIdeal Cert.FinalRefIdeal.Read
open Idealize.ShloMosaic Idealize.ShloMosaic.TcCoe Idealize.SL.Sem

/-- The reference's result is the normalised rows. -/
theorem ref_eq (x : Vec Ideal S16640x4096 .f32) (g : Vec Ideal S4096 .f32) :
    val_main_v13 (F := Ideal) x g = Cert.FinalIdeal.Hand.res x g := by
  funext j
  unfold Cert.FinalIdeal.Hand.res Cert.FinalIdeal.Hand.nrm
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]

/-- The call and its reference compute the same array. -/
theorem algebraic : Cert.algebraic_FinalIdeal_FinalRefIdeal := by
  intro m g m' g' _ hagree
  refine ⟨fun c => Cert.FinalIdeal.Hand.res (m ((c.tc : Thread Cert.FinalIdeal.nD Cert.FinalIdeal.τ).loc Cert.FinalIdeal.main_arg0))
    (m ((c.tc : Thread Cert.FinalIdeal.nD Cert.FinalIdeal.τ).loc Cert.FinalIdeal.main_arg1)), ?_, ?_⟩
  · exact (θ_run Cert.FinalIdeal.defs _ _).mono (fun _ h c => ⟨(h c).1.trans (Cert.FinalIdeal.Hand.final m c _ _ rfl rfl), (h c).2⟩)
      (Cert.FinalIdeal.Value.run_blocks (F := Ideal) m g)
  · refine (θ_run Cert.FinalRefIdeal.defs _ _).mono (fun _ h c => ⟨((h c).1.trans (val_main_v13_eq (F := Ideal) _ _)).trans ?_, (h c).2⟩)
      (Cert.FinalRefIdeal.Value.run (F := Ideal) m' g')
    rw [(hagree c).1, (hagree c).2]
    exact ref_eq _ _

/-- The reference's run: its arguments end unchanged; it declares no semaphore. -/
theorem frame : Cert.quiescent_FinalRefIdeal := fun m g _ =>
  (θ_run Cert.FinalRefIdeal.defs _ _).mono (fun r h => ⟨fun c => (h c).2, Idealize.ShloMosaic.sem_eq_zero_of_no_sems (by decide) r.2⟩)
    (Cert.FinalRefIdeal.Value.run (F := Ideal) m g)

end Cert.FinalRefIdeal.Hand

end
-- ==== Proof.Norm.lean ====
/-
  The modulated norm: each token's row divided by the root of its mean square, scaled by the gain and by one plus the scale, and shifted.
  The context tokens and the latent tokens have their own scale and shift; the result is kept in bfloat16.
  A grid point normalises its block sixteen rows at a time; it holds the factors and the shift, broadcast to sixteen rows, in two buffers.
-/
module

public import proofs.«01_k».proof.Defs
public import proofs.«01_k».proof.Proof.Gen.NormIdeal.Value
public import proofs.«01_k».proof.Proof.Gen.NormRefIdeal.Run
public import proofs.«01_k».proof.Proof.Gen.NormRefIdeal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.NormIdeal.Hand

open Cert.NormIdeal Cert.NormIdeal.Gen
open Idealize.ShloMosaic Idealize.ShloMosaic.TcCoe Idealize.SL.Sem

/-- A token's modulated norm at a column, with that token's factor and shift. -/
def nrm (x : Vec Ideal S16640x4096 .f32) (f h : EReal) (i : Fin 16640) (n : Fin 4096) : EReal :=
  x (ix2 i n) * Ideal.rsqrt (Ideal.div (∑ k : Fin 4096, x (ix2 i k) * x (ix2 i k)) (Ideal.ofBits .f32 0x45800000#32) + Ideal.ofBits .f32 0x358637BD#32) * f + h

/-- The whole result: the first 256 tokens are the context's. -/
def res (x : Vec Ideal S16640x4096 .f32) (g hc hl sc sl : Vec Ideal S4096 .f32) : Vec Ideal S16640x4096 .bf16 := fun j =>
  nrm x (g (ix1 (j 1)) * (Ideal.ofBits .f32 0x3F800000#32 + if (j 0).val < 256 then sc (ix1 (j 1)) else sl (ix1 (j 1))))
    (if (j 0).val < 256 then hc (ix1 (j 1)) else hl (ix1 (j 1))) (j 0) (j 1)

/-- The same for the rows of one block, the factors and shifts given as sixteen equal rows. -/
def rows (x0 : Vec Ideal S256x4096 .f32) (f h : Vec Ideal S16x4096 .f32) : Vec Ideal S256x4096 .bf16 := fun y =>
  x0 (ix2 (y 0) (y 1)) * Ideal.rsqrt (Ideal.div (∑ k : Fin 4096, x0 (ix2 (y 0) k) * x0 (ix2 (y 0) k)) (Ideal.ofBits .f32 0x45800000#32) + Ideal.ofBits .f32 0x358637BD#32)
    * f (ix2 0 (y 1)) + h (ix2 0 (y 1))

/-- Sixteen rows, normalised and modulated. -/
theorem pay (a b f h : Vec Ideal S16x4096 .f32) (x : S16x4096.Idx) :
    k0_pay3 (F := Ideal) a b f h x = b x * Ideal.rsqrt (Ideal.div (∑ k : Fin 4096, a (ix2 (x 0) k) * a (ix2 (x 0) k)) (Ideal.ofBits .f32 0x45800000#32)
      + Ideal.ofBits .f32 0x358637BD#32) * f x + h x := by
  pointwise [k0_pay3]

/-- The factors' sixteen rows. -/
theorem pay_f (g s : Vec Ideal S1x4096 .f32) (r : Fin 16) (n : Fin 4096) :
    k0_pay1 (F := Ideal) g s (ix2 r n) = g (ix2 0 n) * (Ideal.ofBits .f32 0x3F800000#32 + s (ix2 0 n)) := by
  pointwise [k0_pay1]

/-- The shifts' sixteen rows. -/
theorem pay_h (s : Vec Ideal S1x4096 .f32) (r : Fin 16) (n : Fin 4096) : k0_pay2 (F := Ideal) s (ix2 r n) = s (ix2 0 n) := by
  pointwise [k0_pay2]

/-- The first row of a trip's sixteen. -/
theorem off_eq : ∀ k : Fin k0_t1_loop.trips, k0_off2 k = ![16 * k.val, 0] ∧ k.val < 16 := by
  decide +kernel

/-- The rows a trip stores. -/
abbrev rect (k : Fin k0_t1_loop.trips) : Rect S256x4096 := Rect.unit (s := S256x4096) (k0_off2 k) S16x4096.size (k0_off2_inb k)

/-- The row of the block at a row of a trip. -/
theorem emb_row (k : Fin k0_t1_loop.trips) (z : S16x4096.Idx) : ((rect k).emb z 0).val = 16 * k.val + (z 0).val :=
  (ValueKit.rect_emb_unit_val (s := S256x4096) (k0_off2 k) S16x4096.size (k0_off2_inb k) z 0).trans (congrArg (fun f : Fin 2 → ℕ => f 0 + (z 0).val) (off_eq k).1)

/-- A trip's columns are the block's. -/
theorem emb_col (k : Fin k0_t1_loop.trips) (z : S16x4096.Idx) : ((rect k).emb z 1).val = (z 1).val :=
  (ValueKit.rect_emb_unit_val (s := S256x4096) (k0_off2 k) S16x4096.size (k0_off2_inb k) z 1).trans
    ((congrArg (fun f : Fin 2 → ℕ => f 1 + (z 1).val) (off_eq k).1).trans (Nat.zero_add _))

/-- The whole of sixteen rows, read. -/
theorem ld_all (f : Vec Ideal S16x4096 .f32) (z : S16x4096.Idx) :
    View.ld f (Rect.unit (s := S16x4096) ![0, 0] S16x4096.size inb_S16x4096_S16x4096_0_0) z = f z :=
  View.ld_unit_apply_of f _ _ _ z z (by intro a; fin_cases a <;> exact (Nat.zero_add _).symm)

section
variable (c : Dev nD) (i : grid0.Coords)
variable (arg1 : Memref sig .tc .vmem S256x4096 .f32) (harg1 : arg1.IsWhole) (arg2 : Memref sig .tc .vmem S1x4096 .f32) (harg2 : arg2.IsWhole)
variable (arg3 : Memref sig .tc .vmem S2x4096 .f32) (harg3 : arg3.IsWhole) (arg4 : Memref sig .tc .vmem S2x4096 .f32) (harg4 : arg4.IsWhole)
variable (arg5 : Memref sig .tc .vmem S256x4096 .bf16) (harg5 : arg5.IsWhole)
variable (arg6 : Memref sig .tc .vmem S16x4096 .f32) (harg6 : arg6.IsWhole) (arg7 : Memref sig .tc .vmem S16x4096 .f32) (harg7 : arg7.IsWhole)
variable (x0 : Vec Ideal S256x4096 .f32) (x1 : Vec Ideal S1x4096 .f32) (x2 x3 : Vec Ideal S2x4096 .f32)
variable (X6 : BufTy.Contents (Elt Ideal) arg6.view.ty) (X7 : BufTy.Contents (Elt Ideal) arg7.view.ty)
variable (h6 : ∀ (r : Fin 16) (n : Fin 4096), arg6.view.read (Elt Ideal) X6 (ix2 r n) = arg6.view.read (Elt Ideal) X6 (ix2 0 n))
variable (h7 : ∀ (r : Fin 16) (n : Fin 4096), arg7.view.read (Elt Ideal) X7 (ix2 r n) = arg7.view.read (Elt Ideal) X7 (ix2 0 n))

include h6 h7

/-- What a trip stores are the block's rows, normalised and modulated. -/
theorem trip (k : Fin k0_t1_loop.trips) :
    ∀ p ∈ tripL_k0_t1 (F := Ideal) Variants.none c none i arg1 harg1 arg2 harg2 arg3 harg3 arg4 harg4 arg5 harg5 arg6 harg6 arg7 harg7 (harg1.unread x0) X6 X7 k,
    ∀ x : p.1.shape.Idx, p.2 x = rows x0 (arg6.view.read (Elt Ideal) X6) (arg7.view.read (Elt Ideal) X7) (p.1.emb x) := by
  unfold tripL_k0_t1 trip_k0_t1
  dsimp only
  intro p hp
  obtain rfl := List.mem_singleton.mp hp
  intro x
  dsimp only
  rw [View.readAt_eq_ld, harg1.read_unread, View.readAt_eq_ld, View.readAt_eq_ld]
  have e1 : ((rect k).emb x 1 : Fin 4096) = (x 1 : Fin 4096) := Fin.ext (emb_col k x)
  have ex : x = ix2 (x 0) (x 1) := by funext a; fin_cases a <;> rfl
  have hx : ∀ (z : S16x4096.Idx) (n : Fin 4096), z 0 = x 0 → (z 1).val = n.val →
      View.ld x0 (rect k) z = x0 (ix2 ((rect k).emb x 0) n) := fun z n h0 h1 => by
    refine congrArg x0 (funext fun a => Fin.ext ?_)
    fin_cases a
    · exact (emb_row k z).trans ((congrArg (fun q : Fin 16 => 16 * k.val + q.val) h0).trans (emb_row k x).symm)
    · exact (emb_col k z).trans h1
  refine (pay _ _ _ _ x).trans ?_
  refine congrArg₂ (· + ·) (congrArg₂ (· * ·) (congrArg₂ (· * ·) (hx x _ rfl (emb_col k x).symm) (congrArg (fun s => Ideal.rsqrt (Ideal.div s _ + _)) ?_)) ?_) ?_
  · exact Finset.sum_congr rfl fun n _ => congrArg₂ (· * ·) (hx (ix2 (x 0) n) n rfl rfl) (hx (ix2 (x 0) n) n rfl rfl)
  · exact (ld_all _ x).trans ((congrArg _ ex).trans ((h6 (x 0) (x 1)).trans (congrArg (fun n : Fin 4096 => arg6.view.read (Elt Ideal) X6 (ix2 0 n)) e1.symm)))
  · exact (ld_all _ x).trans ((congrArg _ ex).trans ((h7 (x 0) (x 1)).trans (congrArg (fun n : Fin 4096 => arg7.view.read (Elt Ideal) X7 (ix2 0 n)) e1.symm)))

/-- What the trips before `n` store are the block's rows, normalised and modulated. -/
theorem trips (n : ℕ) :
    ∀ p ∈ pb_k0_t1 (F := Ideal) Variants.none c none i arg1 harg1 arg2 harg2 arg3 harg3 arg4 harg4 arg5 harg5 arg6 harg6 arg7 harg7 (harg1.unread x0) X6 X7 n,
    ∀ x : p.1.shape.Idx, p.2 x = rows x0 (arg6.view.read (Elt Ideal) X6) (arg7.view.read (Elt Ideal) X7) (p.1.emb x) := by
  induction n with
  | zero => exact fun p hp => absurd hp List.not_mem_nil
  | succ n ih =>
    intro p hp
    rw [pb_k0_t1.eq_2] at hp
    unfold pb_k0_t1Step at hp
    split at hp
    · rcases List.mem_append.mp hp with h | h
      · exact trip c i arg1 harg1 arg2 harg2 arg3 harg3 arg4 harg4 arg5 harg5 arg6 harg6 arg7 harg7 x0 X6 X7 h6 h7 _ p h
      · exact ih p h
    · exact ih p hp

omit h6 h7

/-- The rectangle of the context's or the latent tokens' row of a stack. -/
abbrev side : Rect S2x4096 := Rect.unit (s := S2x4096) (k0_off1 i) S1x4096.size (k0_off1_inb i)

/-- The buffer of factors before the trips. -/
theorem buf_f : arg6.view.read (Elt Ideal) (arg6.view.writes (Elt Ideal) arg6.view.junk (kernelRun0_A.sl.HS0_1 (F := Ideal) c i arg2 harg2 arg4 harg4 x1 x3))
    = k0_pay1 (F := Ideal) x1 (View.ld x3 (side i)) := by
  rw [View.read_writes_junk_eq_canon]
  unfold kernelRun0_A.sl.HS0_1
  refine (View.canon_cons_unit_lit _ _ _ (by decide)).trans ?_
  dsimp only
  rw [View.readAt_eq_ld, View.readAt_eq_ld, harg2.read_unread, harg4.read_unread]
  exact congrArg (fun g => k0_pay1 (F := Ideal) g (View.ld x3 (side i))) (funext fun z => View.ld_unit_apply_of x1 _ _ _ z z (by
    intro a; fin_cases a <;> exact (Nat.zero_add _).symm))

/-- The buffer of shifts before the trips. -/
theorem buf_h : arg7.view.read (Elt Ideal) (arg7.view.writes (Elt Ideal) arg7.view.junk (kernelRun0_A.sl.HS1_1 (F := Ideal) c i arg3 harg3 x2))
    = k0_pay2 (F := Ideal) (View.ld x2 (side i)) := by
  rw [View.read_writes_junk_eq_canon]
  unfold kernelRun0_A.sl.HS1_1
  refine (View.canon_cons_unit_lit _ _ _ (by decide)).trans ?_
  dsimp only
  rw [View.readAt_eq_ld, harg3.read_unread]

/-- A block the call writes. -/
theorem block (y : S256x4096.Idx) : out0_A_4 (F := Ideal) c i arg1 harg1 arg2 harg2 arg3 harg3 arg4 harg4 arg5 harg5 arg6 harg6 arg7 harg7 x0 x1 x2 x3 y
    = rows x0 (k0_pay1 (F := Ideal) x1 (View.ld x3 (side i))) (k0_pay2 (F := Ideal) (View.ld x2 (side i))) y := by
  unfold out0_A_4
  rw [View.read_writes_junk_eq_canon, ← buf_f c i arg2 harg2 arg4 harg4 arg6 x1 x3, ← buf_h c i arg3 harg3 arg7 x2]
  refine View.canon_apply_of_pieces (rows x0 _ _) _ (trips c i arg1 harg1 arg2 harg2 arg3 harg3 arg4 harg4 arg5 harg5 arg6 harg6 arg7 harg7 x0 _ _ ?_ ?_ _) y
    (cover0_A_4 c i arg1 harg1 arg2 harg2 arg3 harg3 arg4 harg4 arg5 harg5 arg6 harg6 arg7 harg7 x0 x1 x2 x3 y)
  · intro r n
    rw [buf_f, pay_f, pay_f]
  · intro r n
    rw [buf_h, pay_h, pay_h]
end

variable (m : (ℓ : Loc nD τ sig) → Buf (Elt Ideal) ℓ)

/-- Two vectors as the rows of a matrix. -/
def stack (a b : Vec Ideal S4096 .f32) : Vec Ideal S2x4096 .f32 :=
  concatenate (α := Ideal .f32) S2x4096 0 [⟨S1x4096, broadcastInDim S1x4096 ![1] bcast_S4096_S1x4096_1 a⟩, ⟨S1x4096, broadcastInDim S1x4096 ![1] bcast_S4096_S1x4096_1 b⟩]
    concatenates_S1x4096_S1x4096_S2x4096_d0

theorem stack_0 (a b : Vec Ideal S4096 .f32) (n : Fin 4096) : stack a b (ix2 0 n) = a (ix1 n) := by
  pointwise [stack]

theorem stack_1 (a b : Vec Ideal S4096 .f32) (n : Fin 4096) : stack a b (ix2 1 n) = b (ix1 n) := by
  pointwise [stack]

/-- The gain as a one-row matrix, at a column. -/
theorem row (g : Vec Ideal S4096 .f32) (n : Fin 4096) : shapeCast (α := Ideal .f32) S1x4096 g shapeCasts_S4096_S1x4096 (ix2 0 n) = g (ix1 n) := by
  pointwise

theorem V_x (c : Dev nD) : V m c main_arg0 = m ((c : Thread nD τ).loc main_arg0) := by
  rfl

/-- The gain as the host lays it out. -/
theorem V_g (c : Dev nD) : V m c main_v6 = shapeCast (α := Ideal .f32) S1x4096 (m ((c : Thread nD τ).loc main_arg1)) shapeCasts_S4096_S1x4096 := by
  rfl

/-- The shifts as the host lays them out. -/
theorem V_h (c : Dev nD) : V m c main_v2 = stack (m ((c : Thread nD τ).loc main_arg2)) (m ((c : Thread nD τ).loc main_arg3)) := by
  rfl

/-- The scales as the host lays them out. -/
theorem V_s (c : Dev nD) : V m c main_v5 = stack (m ((c : Thread nD τ).loc main_arg4)) (m ((c : Thread nD τ).loc main_arg5)) := by
  rfl

theorem off1_eq : ∀ t : Fin cfg0.N, k0_off1 (grid0.coords t) = ![if t.val = 0 then 0 else 1, 0] :=
  (by decide +kernel : ∀ t : Fin grid0.N, _)

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

theorem lt65 (t : Fin cfg0.N) : t.val < 65 := lt_of_lt_of_eq t.isLt (by decide +kernel)

/-- The row of a stack that a grid point reads: the context's at the first point, the latent tokens' after it. -/
theorem side_eq (t : Fin cfg0.N) (a b : Vec Ideal S4096 .f32) (B : Vec Ideal S2x4096 .f32) (hB : B = stack a b) (n : Fin 4096) :
    View.ld B (side (grid0.coords t)) (ix2 0 n) = if t.val = 0 then a (ix1 n) else b (ix1 n) := by
  have ho := off1_eq t
  subst hB
  split
  · rename_i h
    rw [if_pos h] at ho
    refine (View.ld_unit_apply_of _ _ _ _ _ (ix2 0 n) (fun q => ?_)).trans (stack_0 a b n)
    refine Eq.trans ?_ (congrArg (fun f : Fin 2 → ℕ => f q + ((ix2 0 n : S1x4096.Idx) q).val) ho).symm
    fin_cases q
    · rfl
    · exact (Nat.zero_add _).symm
  · rename_i h
    rw [if_neg h] at ho
    refine (View.ld_unit_apply_of _ _ _ _ _ (ix2 1 n) (fun q => ?_)).trans (stack_1 a b n)
    refine Eq.trans ?_ (congrArg (fun f : Fin 2 → ℕ => f q + ((ix2 0 n : S1x4096.Idx) q).val) ho).symm
    fin_cases q
    · rfl
    · exact (Nat.zero_add _).symm

/-- What a grid point computes, at an index of its block. -/
theorem point (c : Dev nD) (t : Fin cfg0.N) (X : Vec Ideal S16640x4096 .f32) (g hc hl sc sl : Vec Ideal S4096 .f32)
    (hX : X = m ((c : Thread nD τ).loc main_arg0)) (hg : g = m ((c : Thread nD τ).loc main_arg1))
    (h2 : hc = m ((c : Thread nD τ).loc main_arg2)) (h3 : hl = m ((c : Thread nD τ).loc main_arg3))
    (h4 : sc = m ((c : Thread nD τ).loc main_arg4)) (h5 : sl = m ((c : Thread nD τ).loc main_arg5))
    (y : S256x4096.Idx) (j : S16640x4096.Idx) (h0 : (j 0).val = t.val * 256 + (y 0).val) (h1 : (j 1).val = (y 1).val) :
    rows (iblk m c 0 t) (k0_pay1 (F := Ideal) (iblk m c 1 t) (View.ld (iblk m c 3 t : Vec Ideal S2x4096 .f32) (side (grid0.coords t))))
      (k0_pay2 (F := Ideal) (View.ld (iblk m c 2 t : Vec Ideal S2x4096 .f32) (side (grid0.coords t)))) y = res X g hc hl sc sl j := by
  have ht := lt65 t
  have hy : (y 0).val < 256 := (y 0).isLt
  have ey : (y 1 : Fin 4096) = (j 1 : Fin 4096) := Fin.ext h1.symm
  have ec : (j 0).val < 256 ↔ t.val = 0 := by omega
  have hx : ∀ k : Fin 4096, (iblk m c 0 t : Vec Ideal S256x4096 .f32) (ix2 (y 0) k) = X (ix2 (j 0) k) := fun k => by
    rw [hX, ← V_x m c]
    blk_ext [iblk, idx t]
  have hs : (iblk m c 3 t : Vec Ideal S2x4096 .f32) = stack sc sl := by
    rw [h4, h5, ← V_s m c]
    funext z
    blk_ext [iblk, idx t]
  have hh : (iblk m c 2 t : Vec Ideal S2x4096 .f32) = stack hc hl := by
    rw [h2, h3, ← V_h m c]
    funext z
    blk_ext [iblk, idx t]
  have hgain : (iblk m c 1 t : Vec Ideal S1x4096 .f32) (ix2 0 (j 1)) = g (ix1 (j 1)) := by
    refine Eq.trans (b := (V m c main_v6 : Vec Ideal S1x4096 .f32) (ix2 0 (j 1))) ?_ ?_
    · blk_ext [iblk, idx t]
    · rw [V_g, ← hg]
      exact row g (j 1)
  have hside : ∀ (a b : Vec Ideal S4096 .f32) (B : Vec Ideal S2x4096 .f32), B = stack a b →
      View.ld B (side (grid0.coords t)) (ix2 0 (j 1)) = if (j 0).val < 256 then a (ix1 (j 1)) else b (ix1 (j 1)) := fun a b B hB => by
    refine (side_eq t a b B hB (j 1)).trans ?_
    simp only [ec]
  have hf := (pay_f (iblk m c 1 t) (View.ld (iblk m c 3 t : Vec Ideal S2x4096 .f32) (side (grid0.coords t))) 0 (j 1)).trans
    (congrArg₂ (· * ·) hgain (congrArg (Ideal.ofBits .f32 0x3F800000#32 + ·) (hside sc sl _ hs)))
  have hm := (pay_h (View.ld (iblk m c 2 t : Vec Ideal S2x4096 .f32) (side (grid0.coords t))) 0 (j 1)).trans (hside hc hl _ hh)
  unfold rows res nrm
  rw [ey]
  refine congrArg₂ (· + ·) (congrArg₂ (· * ·) (congrArg₂ (· * ·) (hx (j 1)) (congrArg (fun s => Ideal.rsqrt (Ideal.div s _ + _)) ?_)) hf) hm
  exact Finset.sum_congr rfl fun k _ => congrArg₂ (· * ·) (hx k) (hx k)

/-- The call's array after the run. -/
theorem final (c : Dev nD) (X : Vec Ideal S16640x4096 .f32) (g hc hl sc sl : Vec Ideal S4096 .f32)
    (hX : X = m ((c : Thread nD τ).loc main_arg0)) (hg : g = m ((c : Thread nD τ).loc main_arg1))
    (h2 : hc = m ((c : Thread nD τ).loc main_arg2)) (h3 : hl = m ((c : Thread nD τ).loc main_arg3))
    (h4 : sc = m ((c : Thread nD τ).loc main_arg4)) (h5 : sl = m ((c : Thread nD τ).loc main_arg5)) :
    (dats m 0 c).arrAt 4 cfg0.N = res X g hc hl sc sl := by
  refine (dats m 0 c).arrAt_eq_of_covers 4 _ (by decide +kernel) fun t hf y => ?_
  blk_simp
  rw [after0_4]
  unfold Gen.outsAt0
  refine (block c _ _ _ _ _ _ _ _ _ _ _ _ _ _ _ (iblk m c 0 t) (iblk m c 1 t) (iblk m c 2 t) (iblk m c 3 t) y).trans ?_
  refine point m c t X g hc hl sc sl hX hg h2 h3 h4 h5 y _ ?_ ?_ <;> blk_simp [idx t]

end Cert.NormIdeal.Hand

namespace Cert.NormRefIdeal.Hand

open Cert.NormRefIdeal Cert.NormRefIdeal.Gen Cert.NormRefIdeal.Read
open Idealize.ShloMosaic Idealize.ShloMosaic.TcCoe Idealize.SL.Sem

/-- The reference's context row at a column. -/
theorem ctx (x : Vec Ideal S16640x4096 .f32) (g h s : Vec Ideal S4096 .f32) (r : Fin 256) (n : Fin 4096) :
    val_main_v21 (F := Ideal) x g h s (ix2 r n)
      = Cert.NormIdeal.Hand.nrm x (g (ix1 n) * (Ideal.ofBits .f32 0x3F800000#32 + s (ix1 n))) (h (ix1 n)) ⟨r.val, by omega⟩ n := by
  unfold Cert.NormIdeal.Hand.nrm
  rw [← mul_assoc]
  pointwise [val_main_v21, val_main_v20, val_main_v19, val_main_v18, val_main_v17, val_main_v16, val_main_v15, val_main_v14, val_main_cst_2,
    val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]

/-- The reference's latent row at a column. -/
theorem lat (x : Vec Ideal S16640x4096 .f32) (g h s : Vec Ideal S4096 .f32) (r : Fin 16384) (n : Fin 4096) :
    val_main_v43 (F := Ideal) x g h s (ix2 r n)
      = Cert.NormIdeal.Hand.nrm x (g (ix1 n) * (Ideal.ofBits .f32 0x3F800000#32 + s (ix1 n))) (h (ix1 n)) ⟨256 + r.val, by omega⟩ n := by
  unfold Cert.NormIdeal.Hand.nrm
  rw [← mul_assoc]
  pointwise [val_main_v43, val_main_v42, val_main_v41, val_main_v40, val_main_v39, val_main_v38, val_main_v37, val_main_v36, val_main_cst_6,
    val_main_v35, val_main_v34, val_main_v33, val_main_v32, val_main_v31, val_main_v30, val_main_v29, val_main_v28, val_main_v27, val_main_v26, val_main_v25,
    val_main_v24, val_main_v23, val_main_v22, val_main_cst_3, val_main_cst_4, val_main_cst_5]

/-- The context's rows and the latent tokens' together. -/
def cat (a : Vec Ideal S256x4096 .f32) (b : Vec Ideal S16384x4096 .f32) : Vec Ideal S16640x4096 .bf16 :=
  truncf (F := Ideal) (φ := .f32) .bf16 (concatenate (α := Ideal .f32) S16640x4096 0 [⟨S256x4096, a⟩, ⟨S16384x4096, b⟩] concatenates_S256x4096_S16384x4096_S16640x4096_d0)
    bitsLt_bf16_f32

theorem cat_ctx (a : Vec Ideal S256x4096 .f32) (b : Vec Ideal S16384x4096 .f32) (i : Fin 16640) (n : Fin 4096) (h : i.val < 256) :
    cat a b (ix2 i n) = a (ix2 ⟨i.val, h⟩ n) := by
  pointwise [cat]
  exact dif_pos h

theorem cat_lat (a : Vec Ideal S256x4096 .f32) (b : Vec Ideal S16384x4096 .f32) (i : Fin 16640) (n : Fin 4096) (h : ¬ i.val < 256) :
    cat a b (ix2 i n) = b (ix2 ⟨i.val - 256, by omega⟩ n) := by
  pointwise [cat]
  exact dif_neg h

/-- The reference's result is the modulated norm. -/
theorem ref_eq (x : Vec Ideal S16640x4096 .f32) (g hc hl sc sl : Vec Ideal S4096 .f32) :
    val_main_v45 (F := Ideal) x g hc hl sc sl = Cert.NormIdeal.Hand.res x g hc hl sc sl := by
  funext j
  have ej : j = ix2 (j 0) (j 1) := by funext a; fin_cases a <;> rfl
  refine (congrArg (cat (val_main_v21 (F := Ideal) x g hc sc) (val_main_v43 (F := Ideal) x g hl sl)) ej).trans ?_
  unfold Cert.NormIdeal.Hand.res
  by_cases h : (j 0).val < 256
  · rw [if_pos h, if_pos h]
    refine (cat_ctx _ _ (j 0) (j 1) h).trans ?_
    exact ctx x g hc sc _ (j 1)
  · rw [if_neg h, if_neg h]
    refine (cat_lat _ _ (j 0) (j 1) h).trans ?_
    refine (lat x g hl sl _ (j 1)).trans (congrArg (fun i => Cert.NormIdeal.Hand.nrm x _ _ i (j 1)) (Fin.ext ?_))
    exact Nat.add_sub_of_le (Nat.le_of_not_lt h)

/-- The call and its reference compute the same array. -/
theorem algebraic : Cert.algebraic_NormIdeal_NormRefIdeal := by
  intro m g m' g' _ hagree
  refine ⟨fun c => Cert.NormIdeal.Hand.res (m ((c.tc : Thread Cert.NormIdeal.nD Cert.NormIdeal.τ).loc Cert.NormIdeal.main_arg0))
    (m ((c.tc : Thread Cert.NormIdeal.nD Cert.NormIdeal.τ).loc Cert.NormIdeal.main_arg1))
    (m ((c.tc : Thread Cert.NormIdeal.nD Cert.NormIdeal.τ).loc Cert.NormIdeal.main_arg2))
    (m ((c.tc : Thread Cert.NormIdeal.nD Cert.NormIdeal.τ).loc Cert.NormIdeal.main_arg3))
    (m ((c.tc : Thread Cert.NormIdeal.nD Cert.NormIdeal.τ).loc Cert.NormIdeal.main_arg4))
    (m ((c.tc : Thread Cert.NormIdeal.nD Cert.NormIdeal.τ).loc Cert.NormIdeal.main_arg5)), ?_, ?_⟩
  · exact (θ_run Cert.NormIdeal.defs _ _).mono (fun _ h c => ⟨(h c).1.trans (Cert.NormIdeal.Hand.final m c _ _ _ _ _ _ rfl rfl rfl rfl rfl rfl), (h c).2⟩)
      (Cert.NormIdeal.Value.run_blocks (F := Ideal) m g)
  · refine (θ_run Cert.NormRefIdeal.defs _ _).mono (fun _ h c => ⟨((h c).1.trans (val_main_v45_eq (F := Ideal) _ _ _ _ _ _)).trans ?_, (h c).2⟩)
      (Cert.NormRefIdeal.Value.run (F := Ideal) m' g')
    rw [(hagree c).1, (hagree c).2.1, (hagree c).2.2.1, (hagree c).2.2.2.1, (hagree c).2.2.2.2.1, (hagree c).2.2.2.2.2]
    exact ref_eq _ _ _ _ _ _

/-- The reference's run: its arguments end unchanged; it declares no semaphore. -/
theorem frame : Cert.quiescent_NormRefIdeal := fun m g _ =>
  (θ_run Cert.NormRefIdeal.defs _ _).mono (fun r h => ⟨fun c => (h c).2, Idealize.ShloMosaic.sem_eq_zero_of_no_sems (by decide) r.2⟩)
    (Cert.NormRefIdeal.Value.run (F := Ideal) m g)

end Cert.NormRefIdeal.Hand
-- ==== Proof.PeerOut.lean ====
/-
  The expert layer's last call: the call's array is the stream with the gated sum of the experts' rows added, block by block.
-/
module

public import proofs.«01_k».proof.Defs
public import proofs.«01_k».proof.Proof.Gen.PeerOutIdeal.Value
public import proofs.«01_k».proof.Proof.Gen.PeerOutRefIdeal.Run
public import proofs.«01_k».proof.Proof.Gen.PeerOutRefIdeal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.PeerOutIdeal.Hand

open Cert.PeerOutIdeal Cert.PeerOutIdeal.Gen
open Idealize.ShloMosaic Idealize.ShloMosaic.TcCoe Idealize.SL.Sem

/-- The sum of the experts' rows by a token's weights. -/
def mix (x : Vec Ideal S16640x6400 .f32) (w : Vec Ideal S4x6400x4096 .f32) (i : Fin 16640) (n : Fin 4096) : EReal :=
  ∑ k : Fin 6400, x (ix2 i k) * w (ix3 0 k n)

/-- The stream with the gated sum added: the first 256 rows take the context's gate, the others the latent tokens'. -/
def res (x : Vec Ideal S16640x6400 .f32) (w : Vec Ideal S4x6400x4096 .f32)
    (xs : Vec Ideal S16640x4096 .f32) (gc gl : Vec Ideal S4096 .f32) : Vec Ideal S16640x4096 .f32 := fun j =>
  xs j + (if (j 0).val < 256 then gc (ix1 (j 1)) else gl (ix1 (j 1))) * mix x w (j 0) (j 1)

/-- The word that says whether a row of a block is one of the first 256 rows. -/
theorem row_word (a b : ℕ) (ha : a < 26) (hb : b < 640) {α : Type} (x y : α) :
    Scalar.select (IntOp.cmpi .slt (IntOp.addi (Scalar.muli (BitVec.ofNat 32 a) 640#32) (BitVec.ofNat 32 b)) 256#32) x y
      = if a * 640 + b < 256 then x else y := by
  have e : IntOp.addi (Scalar.muli (BitVec.ofNat 32 a) 640#32) (BitVec.ofNat 32 b) = BitVec.ofNat 32 (a * 640 + b) := by
    apply BitVec.eq_of_toNat_eq
    simp [IntOp.addi, Scalar.muli, IntOp.muli]
  have n : (BitVec.ofNat 32 (a * 640 + b)).toNat = a * 640 + b := by
    rw [BitVec.toNat_ofNat]; omega
  rw [e, WordCmp.cmpi_slt_of_lt (by rw [n]; omega) (by decide), n]
  by_cases h : a * 640 + b < 256 <;> simp [h, Scalar.select]

theorem pay (i : grid0.Coords) (x : Vec Ideal S640x6400 .bf16) (w : Vec Ideal S1x6400x512 .bf16) (g0 g1 : Vec Ideal S1x512 .f32) (a : Vec Ideal S640x512 .f32)
    (r : Fin 640) (s : Fin 512) :
    k0_pay1 (F := Ideal) i x w g0 g1 a (ix2 r s)
      = a (ix2 r s) + (if (i 1).val * 640 + r.val < 256 then g0 (ix2 0 s) else g1 (ix2 0 s)) * ∑ k : Fin 6400, x (ix2 r k) * w (ix3 0 k s) := by
  pointwise [k0_pay1]
  refine congrArg₂ (· + ·) rfl (congrArg₂ (· * ·) ?_ rfl)
  exact row_word _ _ (i 1).isLt r.isLt _ _

variable (m : (ℓ : Loc nD τ sig) → Buf (Elt Ideal) ℓ)

/-- The two gates as the host stacks them. -/
def gates (gc gl : Vec Ideal S4096 .f32) : Vec Ideal S2x4096 .f32 :=
  concatenate (α := Ideal .f32) S2x4096 0 [⟨S1x4096, broadcastInDim (α := Ideal .f32) S1x4096 ![1] bcast_S4096_S1x4096_1 gc⟩,
    ⟨S1x4096, broadcastInDim (α := Ideal .f32) S1x4096 ![1] bcast_S4096_S1x4096_1 gl⟩] concatenates_S1x4096_S1x4096_S2x4096_d0

theorem gates_zero (gc gl : Vec Ideal S4096 .f32) (n : Fin 4096) : gates gc gl (ix2 0 n) = gc (ix1 n) := by
  pointwise [gates]

theorem gates_one (gc gl : Vec Ideal S4096 .f32) (n : Fin 4096) : gates gc gl (ix2 1 n) = gl (ix1 n) := by
  pointwise [gates]

theorem V_a (c : Dev nD) : V m c main_v0 = truncf (F := Ideal) (φ := .f32) .bf16 (m ((c : Thread nD τ).loc main_arg0)) bitsLt_bf16_f32 := by
  rfl

theorem V_w (c : Dev nD) : V m c main_v1 = truncf (F := Ideal) (φ := .f32) .bf16 (m ((c : Thread nD τ).loc main_arg1)) bitsLt_bf16_f32 := by
  rfl

theorem V_x (c : Dev nD) : V m c main_arg2 = m ((c : Thread nD τ).loc main_arg2) := by
  rfl

theorem V_gate (c : Dev nD) : V m c main_v4 = gates (m ((c : Thread nD τ).loc main_arg3)) (m ((c : Thread nD τ).loc main_arg4)) := by
  rfl

theorem idx : ∀ t : Fin cfg0.N, win0_0.index t = ![t.val % 26, 0] ∧ win0_1.index t = ![0, 0, t.val / 26] ∧ win0_2.index t = ![t.val % 26, t.val / 26]
    ∧ win0_3.index t = ![0, t.val / 26] ∧ win0_4.index t = ![t.val % 26, t.val / 26] ∧ (grid0.coords t 1).val = t.val % 26 :=
  (by decide +kernel : ∀ t : Fin grid0.N, _)

theorem lt208 (t : Fin cfg0.N) : t.val < 208 := lt_of_lt_of_eq t.isLt (by decide +kernel)

theorem ld_zero (B : Vec Ideal S2x512 .f32) (n : Fin 512) : View.ld B (Rect.unit (s := S2x512) ![0, 0] S1x512.size inb_S2x512_S1x512_0_0) (ix2 0 n) = B (ix2 0 n) := by
  pointwise

theorem ld_one (B : Vec Ideal S2x512 .f32) (n : Fin 512) : View.ld B (Rect.unit (s := S2x512) ![1, 0] S1x512.size inb_S2x512_S1x512_1_0) (ix2 0 n) = B (ix2 1 n) := by
  pointwise

/-- What a grid point computes, at an index of its block. -/
theorem point (c : Dev nD) (t : Fin cfg0.N) (A : Vec Ideal S16640x6400 .f32) (W : Vec Ideal S4x6400x4096 .f32)
    (X : Vec Ideal S16640x4096 .f32) (gc gl : Vec Ideal S4096 .f32)
    (hA : A = m ((c : Thread nD τ).loc main_arg0)) (hW : W = m ((c : Thread nD τ).loc main_arg1)) (hX : X = m ((c : Thread nD τ).loc main_arg2))
    (hc : gc = m ((c : Thread nD τ).loc main_arg3)) (hl : gl = m ((c : Thread nD τ).loc main_arg4))
    (y : S640x512.Idx) (j : S16640x4096.Idx) (h0 : (j 0).val = t.val % 26 * 640 + (y 0).val) (h1 : (j 1).val = t.val / 26 * 512 + (y 1).val) :
    k0_pay1 (F := Ideal) (grid0.coords t) (iblk m c 0 t) (iblk m c 1 t) (View.ld (iblk m c 3 t) (Rect.unit (s := S2x512) ![0, 0] S1x512.size inb_S2x512_S1x512_0_0))
      (View.ld (iblk m c 3 t) (Rect.unit (s := S2x512) ![1, 0] S1x512.size inb_S2x512_S1x512_1_0)) (iblk m c 2 t) y = res A W X gc gl j := by
  have := lt208 t
  have hy0 : (y 0).val < 640 := (y 0).isLt
  have hy1 : (y 1).val < 512 := (y 1).isLt
  have e : y = ix2 (y 0) (y 1) := by blk_ext
  have hr : (grid0.coords t 1).val = t.val % 26 := (idx t).2.2.2.2.2
  refine (congrArg (k0_pay1 (F := Ideal) (grid0.coords t) (iblk m c 0 t) (iblk m c 1 t) _ _ (iblk m c 2 t)) e).trans
    ((pay (grid0.coords t) (iblk m c 0 t) (iblk m c 1 t) _ _ (iblk m c 2 t) (y 0) (y 1)).trans ?_)
  refine congrArg₂ (· + ·) ?_ (congrArg₂ (· * ·) ?_ ?_)
  · rw [hX, ← V_x m c]
    blk_ext [iblk, idx t]
  · refine if_congr (by rw [hr, h0]) ?_ ?_
    · refine (ld_zero _ (y 1)).trans (Eq.trans ?_ (gates_zero gc gl (j 1)))
      rw [hc, hl, ← V_gate]
      blk_ext [iblk, idx t]
    · refine (ld_one _ (y 1)).trans (Eq.trans ?_ (gates_one gc gl (j 1)))
      rw [hc, hl, ← V_gate]
      blk_ext [iblk, idx t]
  · unfold mix
    refine Finset.sum_congr rfl fun k _ => congrArg₂ (· * ·) ?_ ?_
    · refine Eq.trans (b := (V m c main_v0 : Vec Ideal S16640x6400 .bf16) (ix2 (j 0) k)) ?_ (by rw [V_a, hA]; rfl); blk_ext [iblk, idx t]
    · refine Eq.trans (b := (V m c main_v1 : Vec Ideal S4x6400x4096 .bf16) (ix3 0 k (j 1))) ?_ (by rw [V_w, hW]; rfl); blk_ext [iblk, idx t]

/-- The call's array after the run. -/
theorem final (c : Dev nD) (A : Vec Ideal S16640x6400 .f32) (W : Vec Ideal S4x6400x4096 .f32)
    (X : Vec Ideal S16640x4096 .f32) (gc gl : Vec Ideal S4096 .f32)
    (hA : A = m ((c : Thread nD τ).loc main_arg0)) (hW : W = m ((c : Thread nD τ).loc main_arg1)) (hX : X = m ((c : Thread nD τ).loc main_arg2))
    (hc : gc = m ((c : Thread nD τ).loc main_arg3)) (hl : gl = m ((c : Thread nD τ).loc main_arg4)) :
    (dats m 0 c).arrAt 4 cfg0.N = res A W X gc gl := by
  refine (dats m 0 c).arrAt_eq_of_covers 4 _ (by decide +kernel) fun t hf y => ?_
  blk_simp
  rw [after0_4]
  frame_out
  refine point m c t A W X gc gl hA hW hX hc hl y _ ?_ ?_ <;> blk_simp [idx t]

end Cert.PeerOutIdeal.Hand

namespace Cert.PeerOutRefIdeal.Hand

open Cert.PeerOutRefIdeal Cert.PeerOutRefIdeal.Read
open Idealize.ShloMosaic Idealize.ShloMosaic.TcCoe Idealize.SL.Sem

theorem ref_eq (x : Vec Ideal S16640x6400 .f32) (w : Vec Ideal S4x6400x4096 .f32)
    (xs : Vec Ideal S16640x4096 .f32) (gc gl : Vec Ideal S4096 .f32) :
    val_main_v15 (F := Ideal) x w xs gc gl = Cert.PeerOutIdeal.Hand.res x w xs gc gl := by
  funext j
  have hj : (j 0).val < 16640 := (j 0).isLt
  unfold Cert.PeerOutIdeal.Hand.res Cert.PeerOutIdeal.Hand.mix
  pointwise [val_main_v15, val_main_v14, val_main_v13, val_main_v12, val_main_v11,
   val_main_v10, val_main_v9, val_main_v8, val_main_v7, val_main_v6, val_main_v5, val_main_v4, val_main_v3, val_main_v2, val_main_v1, val_main_v0]
  split
  · rfl
  · refine congrArg₂ (· + ·) (by blk_ext) (congrArg₂ (· * ·) rfl ?_)
    refine Finset.sum_congr rfl fun k _ => congrArg₂ (· * ·) (by blk_ext) rfl

/-- The call and its reference compute the same array. -/
theorem algebraic : Cert.algebraic_PeerOutIdeal_PeerOutRefIdeal := by
  intro m g m' g' _ hagree
  refine ⟨fun c => Cert.PeerOutIdeal.Hand.res (m ((c.tc : Thread Cert.PeerOutIdeal.nD Cert.PeerOutIdeal.τ).loc Cert.PeerOutIdeal.main_arg0))
    (m ((c.tc : Thread Cert.PeerOutIdeal.nD Cert.PeerOutIdeal.τ).loc Cert.PeerOutIdeal.main_arg1))
    (m ((c.tc : Thread Cert.PeerOutIdeal.nD Cert.PeerOutIdeal.τ).loc Cert.PeerOutIdeal.main_arg2))
    (m ((c.tc : Thread Cert.PeerOutIdeal.nD Cert.PeerOutIdeal.τ).loc Cert.PeerOutIdeal.main_arg3))
    (m ((c.tc : Thread Cert.PeerOutIdeal.nD Cert.PeerOutIdeal.τ).loc Cert.PeerOutIdeal.main_arg4)), ?_, ?_⟩
  · exact (θ_run Cert.PeerOutIdeal.defs _ _).mono (fun _ h c => ⟨(h c).1.trans (Cert.PeerOutIdeal.Hand.final m c _ _ _ _ _ rfl rfl rfl rfl rfl), (h c).2⟩)
      (Cert.PeerOutIdeal.Value.run_blocks (F := Ideal) m g)
  · refine (θ_run Cert.PeerOutRefIdeal.defs _ _).mono (fun _ h c => ⟨((h c).1.trans (val_main_v15_eq (F := Ideal) _ _ _ _ _)).trans ?_, (h c).2⟩)
      (Cert.PeerOutRefIdeal.Value.run (F := Ideal) m' g')
    rw [(hagree c).1, (hagree c).2.1, (hagree c).2.2.1, (hagree c).2.2.2.1, (hagree c).2.2.2.2]
    exact ref_eq _ _ _ _ _

/-- The reference's run: its arguments end unchanged; it declares no semaphore. -/
theorem frame : Cert.quiescent_PeerOutRefIdeal := fun m g _ =>
  (θ_run Cert.PeerOutRefIdeal.defs _ _).mono (fun r h => ⟨fun c => (h c).2, Idealize.ShloMosaic.sem_eq_zero_of_no_sems (by decide) r.2⟩)
    (Cert.PeerOutRefIdeal.Value.run (F := Ideal) m g)

end Cert.PeerOutRefIdeal.Hand

end
-- ==== Proof.Mods.lean ====
/-
  The modulation: the call's array is each row's silu times a layer's weights plus the layer's bias, block by block.
-/
module

public import proofs.«01_k».proof.Defs
public import proofs.«01_k».proof.Proof.Gen.ModsIdeal.Value
public import proofs.«01_k».proof.Proof.Gen.ModsRefIdeal.Run
public import proofs.«01_k».proof.Proof.Gen.ModsRefIdeal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.ModsIdeal.Hand

open Cert.ModsIdeal Cert.ModsIdeal.Gen
open Idealize.ShloMosaic Idealize.ShloMosaic.TcCoe Idealize.SL.Sem

/-- The silu of an extended real, with the pattern of one. -/
def silu (x : EReal) : EReal :=
  x * Ideal.div (Ideal.ofBits .f32 0x3F800000#32) (Ideal.ofBits .f32 0x3F800000#32 + Ideal.exp (-x))

/-- The modulation of row `j 1` by layer `j 0`. -/
def res (x : Vec Ideal S8x4096 .f32) (w : Vec Ideal S4x4096x24576 .f32) (b : Vec Ideal S4x24576 .f32) : Vec Ideal S4x8x24576 .f32 := fun j =>
  ∑ k : Fin 4096, silu (x (ix2 (j 1) k)) * w (ix3 (j 0) k (j 2)) + b (ix2 (j 0) (j 2))

theorem pay (x : Vec Ideal S8x4096 .f32) (w : Vec Ideal S1x4096x512 .f32) (b : Vec Ideal S1x1x512 .f32) (r : Fin 8) (s : Fin 512) :
    k0_pay1 (F := Ideal) x w b (ix3 0 r s) = ∑ k : Fin 4096, silu (x (ix2 r k)) * w (ix3 0 k s) + b (ix3 0 0 s) := by
  unfold silu
  pointwise [k0_pay1]
  simp only [zero_sub]

variable (m : (ℓ : Loc nD τ sig) → Buf (Elt Ideal) ℓ)

/-- The biases as the host reshapes them. -/
def biases (b : Vec Ideal S4x24576 .f32) : Vec Ideal S4x1x24576 .f32 := shapeCast S4x1x24576 b shapeCasts_S4x24576_S4x1x24576

theorem biases_apply (b : Vec Ideal S4x24576 .f32) (l : Fin 4) (n : Fin 24576) : biases b (ix3 l 0 n) = b (ix2 l n) := by
  pointwise [biases]

theorem V_x (c : Dev nD) : V m c main_arg0 = m ((c : Thread nD τ).loc main_arg0) := by
  rfl

theorem V_w (c : Dev nD) : V m c main_arg1 = m ((c : Thread nD τ).loc main_arg1) := by
  rfl

theorem V_b (c : Dev nD) : V m c main_v0 = biases (m ((c : Thread nD τ).loc main_arg2)) := by
  rfl

theorem idx : ∀ t : Fin cfg0.N, win0_0.index t = ![0, 0] ∧ win0_1.index t = ![t.val / 48, 0, t.val % 48] ∧ win0_2.index t = ![t.val / 48, 0, t.val % 48]
    ∧ win0_3.index t = ![t.val / 48, 0, t.val % 48] :=
  (by decide +kernel : ∀ t : Fin grid0.N, _)

theorem lt192 (t : Fin cfg0.N) : t.val < 192 := lt_of_lt_of_eq t.isLt (by decide +kernel)

/-- What a grid point computes, at an index of its block. -/
theorem point (c : Dev nD) (t : Fin cfg0.N) (X : Vec Ideal S8x4096 .f32) (W : Vec Ideal S4x4096x24576 .f32) (B : Vec Ideal S4x24576 .f32)
    (hX : X = m ((c : Thread nD τ).loc main_arg0)) (hW : W = m ((c : Thread nD τ).loc main_arg1)) (hB : B = m ((c : Thread nD τ).loc main_arg2))
    (y : S1x8x512.Idx) (j : S4x8x24576.Idx) (h0 : (j 0).val = t.val / 48) (h1 : (j 1).val = (y 1).val) (h2 : (j 2).val = t.val % 48 * 512 + (y 2).val) :
    k0_pay1 (F := Ideal) (iblk m c 0 t) (iblk m c 1 t) (iblk m c 2 t) y = res X W B j := by
  have := lt192 t
  have hy0 : (y 0).val < 1 := (y 0).isLt
  have hy1 : (y 1).val < 8 := (y 1).isLt
  have hy2 : (y 2).val < 512 := (y 2).isLt
  have e : y = ix3 0 (y 1) (y 2) := by blk_ext
  refine (congrArg (k0_pay1 (F := Ideal) (iblk m c 0 t) (iblk m c 1 t) (iblk m c 2 t)) e).trans ((pay (iblk m c 0 t) (iblk m c 1 t) (iblk m c 2 t) (y 1) (y 2)).trans ?_)
  refine congrArg₂ (· + ·) (Finset.sum_congr rfl fun k _ => congrArg₂ (· * ·) (congrArg silu ?_) ?_) ?_
  · rw [hX, ← V_x m c]
    blk_ext [iblk, idx t]
  · rw [hW, ← V_w m c]
    blk_ext [iblk, idx t]
  · refine Eq.trans ?_ (biases_apply B (j 0) (j 2))
    rw [hB, ← V_b]
    blk_ext [iblk, idx t]

/-- The call's array after the run. -/
theorem final (c : Dev nD) (X : Vec Ideal S8x4096 .f32) (W : Vec Ideal S4x4096x24576 .f32) (B : Vec Ideal S4x24576 .f32)
    (hX : X = m ((c : Thread nD τ).loc main_arg0)) (hW : W = m ((c : Thread nD τ).loc main_arg1)) (hB : B = m ((c : Thread nD τ).loc main_arg2)) :
    (dats m 0 c).arrAt 3 cfg0.N = res X W B := by
  refine (dats m 0 c).arrAt_eq_of_covers 3 _ (by decide +kernel) fun t hf y => ?_
  blk_simp
  rw [after0_3]
  frame_out
  have hy0 : (y 0).val < 1 := (y 0).isLt
  refine point m c t X W B hX hW hB y _ ?_ ?_ ?_ <;> blk_simp [idx t]

end Cert.ModsIdeal.Hand

namespace Cert.ModsRefIdeal.Hand

open Cert.ModsRefIdeal Cert.ModsRefIdeal.Read
open Idealize.ShloMosaic Idealize.ShloMosaic.TcCoe Idealize.SL.Sem

theorem silu_eq (x : Vec Ideal S8x4096 .f32) (r : Fin 8) (k : Fin 4096) : val_main_v0 (F := Ideal) x (ix2 r k) = Cert.ModsIdeal.Hand.silu (x (ix2 r k)) := by
  unfold Cert.ModsIdeal.Hand.silu
  pointwise [val_main_v0, val_main_call0_v5, val_main_call0_v4, val_main_call0_cst_0, val_main_call0_v3, val_main_call0_v2, val_main_call0_cst, val_main_call0_v1, val_main_call0_v0]

theorem ref_eq (x : Vec Ideal S8x4096 .f32) (w : Vec Ideal S4x4096x24576 .f32) (b : Vec Ideal S4x24576 .f32) :
    val_main_v5 (F := Ideal) x w b = Cert.ModsIdeal.Hand.res x w b := by
  funext j
  have e : j = ix3 (j 0) (j 1) (j 2) := by blk_ext
  have h : ∀ (l : Fin 4) (r : Fin 8) (n : Fin 24576), val_main_v5 (F := Ideal) x w b (ix3 l r n)
      = ∑ k : Fin 4096, w (ix3 l k n) * val_main_v0 (F := Ideal) x (ix2 r k) + b (ix2 l n) := fun l r n => by
    pointwise [val_main_v5, val_main_v4, val_main_v3, val_main_v2, val_main_v1]
  refine (congrArg (val_main_v5 (F := Ideal) x w b) e).trans ((h (j 0) (j 1) (j 2)).trans (congrArg₂ (· + ·) ?_ rfl))
  refine Finset.sum_congr rfl fun k _ => (mul_comm _ _).trans (congrArg₂ (· * ·) (silu_eq x (j 1) k) rfl)

/-- The call and its reference compute the same array. -/
theorem algebraic : Cert.algebraic_ModsIdeal_ModsRefIdeal := by
  intro m g m' g' _ hagree
  refine ⟨fun c => Cert.ModsIdeal.Hand.res (m ((c.tc : Thread Cert.ModsIdeal.nD Cert.ModsIdeal.τ).loc Cert.ModsIdeal.main_arg0))
    (m ((c.tc : Thread Cert.ModsIdeal.nD Cert.ModsIdeal.τ).loc Cert.ModsIdeal.main_arg1))
    (m ((c.tc : Thread Cert.ModsIdeal.nD Cert.ModsIdeal.τ).loc Cert.ModsIdeal.main_arg2)), ?_, ?_⟩
  · exact (θ_run Cert.ModsIdeal.defs _ _).mono (fun _ h c => ⟨(h c).1.trans (Cert.ModsIdeal.Hand.final m c _ _ _ rfl rfl rfl), (h c).2⟩)
      (Cert.ModsIdeal.Value.run_blocks (F := Ideal) m g)
  · refine (θ_run Cert.ModsRefIdeal.defs _ _).mono (fun _ h c => ⟨((h c).1.trans (val_main_v5_eq (F := Ideal) _ _ _)).trans ?_, (h c).2⟩)
      (Cert.ModsRefIdeal.Value.run (F := Ideal) m' g')
    rw [(hagree c).1, (hagree c).2.1, (hagree c).2.2]
    exact ref_eq _ _ _

/-- The reference's run: its arguments end unchanged; it declares no semaphore. -/
theorem frame : Cert.quiescent_ModsRefIdeal := fun m g _ =>
  (θ_run Cert.ModsRefIdeal.defs _ _).mono (fun r h => ⟨fun c => (h c).2, Idealize.ShloMosaic.sem_eq_zero_of_no_sems (by decide) r.2⟩)
    (Cert.ModsRefIdeal.Value.run (F := Ideal) m g)

end Cert.ModsRefIdeal.Hand

end
-- ==== Proof.PeerSlab.lean ====
/-
  The experts' weights: what a grid point computes, slab by slab of 256 experts.
-/
module

public import proofs.«01_k».proof.Defs
public import proofs.«01_k».proof.Proof.Gen.PeerWIdeal.Value
public import Idealize.ShloMosaic.Lib.Pointwise
public import Idealize.ShloMosaic.Lib.Pipeline.ValueKit

@[expose] public section

set_option maxRecDepth 16384

noncomputable section

namespace Cert.PeerWIdeal.Hand

open Cert.PeerWIdeal Cert.PeerWIdeal.Gen
open Idealize.ShloMosaic Idealize.ShloMosaic.TcCoe Idealize.SL.Sem

/-- A head's softmax on one expert: nothing where the score `s` lies below the threshold `t`. -/
def share (s t l : EReal) : EReal := Scalar.select (FloatOps.cmpf (F := Ideal) (φ := .f32) .oge s t) (Ideal.exp (s - l)) 0

/-- The gelu of a number, with the error function. -/
def gelu (a : EReal) : EReal :=
  (FloatOps.ofBits (F := Ideal) .f32 0x3F000000#32 : EReal) * a * (1 + Ideal.erf (a * (FloatOps.ofBits (F := Ideal) .f32 0x3F3504F3#32 : EReal)))

/-- One head's softmax on an expert of a slab. -/
def term (q : Vec Ideal S256x256 .bf16) (k : Vec Ideal S1x256x256 .bf16) (t l : Vec Ideal S256x1 .f32) (r s : Fin 256) : EReal :=
  share (∑ j : Fin 256, q (ix2 r j) * k (ix3 0 j s)) (t (ix2 r 0)) (l (ix2 r 0))

/-- The gelu of an expert's first product. -/
def act (h : Vec Ideal S256x4096 .bf16) (u : Vec Ideal S1x256x4096 .bf16) (r s : Fin 256) : EReal :=
  gelu (∑ j : Fin 4096, h (ix2 r j) * u (ix3 0 s j))

variable (h : Vec Ideal S256x4096 .bf16) (u : Vec Ideal S1x256x4096 .bf16)
  (q0 q1 q2 q3 q4 q5 q6 q7 : Vec Ideal S256x256 .bf16) (k0 k1 k2 k3 k4 k5 k6 k7 : Vec Ideal S1x256x256 .bf16)
  (t0 t1 t2 t3 t4 t5 t6 t7 l0 l1 l2 l3 l4 l5 l6 l7 : Vec Ideal S256x1 .f32)

/-- A slab at an index. -/
def slab (r s : Fin 256) : EReal :=
  (term q0 k0 t0 l0 r s + term q1 k1 t1 l1 r s + term q2 k2 t2 l2 r s + term q3 k3 t3 l3 r s + term q4 k4 t4 l4 r s
    + term q5 k5 t5 l5 r s + term q6 k6 t6 l6 r s + term q7 k7 t7 l7 r s) * act h u r s

theorem slab0 (r s : Fin 256) :
    k0_pay15 (F := Ideal) (k0_pay2 (F := Ideal) h u) (k0_pay11 (F := Ideal) (k0_pay8 (F := Ideal) (k0_pay6 (F := Ideal) (k0_pay3 (F := Ideal) q0 k0 t0 l0) (k0_pay4 (F := Ideal) q1) (k0_pay5 (F := Ideal) k1) t1 l1 q2 k2 t2 l2) (k0_pay7 (F := Ideal) q3 k3) t3 l3 q4 k4 t4 l4) (k0_pay9 (F := Ideal) q5 k5) (k0_pay10 (F := Ideal) t5) l5 q6 k6 t6 l6) (k0_pay12 (F := Ideal) q7 k7) (k0_pay13 (F := Ideal) l7) (k0_pay14 (F := Ideal) q7 k7 t7) (ix2 r s)
      = slab h u q0 q1 q2 q3 q4 q5 q6 q7 k0 k1 k2 k3 k4 k5 k6 k7 t0 t1 t2 t3 t4 t5 t6 t7 l0 l1 l2 l3 l4 l5 l6 l7 r s := by
  unfold slab term act gelu share
  pointwise [k0_pay2, k0_pay3, k0_pay4, k0_pay5, k0_pay6, k0_pay7, k0_pay8, k0_pay9, k0_pay10, k0_pay11, k0_pay12, k0_pay13, k0_pay14, k0_pay15]
  try rfl

theorem slab1 (r s : Fin 256) :
    k0_pay26 (F := Ideal) (k0_pay16 (F := Ideal) h u) (k0_pay23 (F := Ideal) (k0_pay21 (F := Ideal) (k0_pay20 (F := Ideal) (k0_pay18 (F := Ideal) q0 k0 t0) (k0_pay19 (F := Ideal) q0 k0 l0) (Scalar.ofBits (F := Ideal) .f32 0x00000000#32) q1 k1 t1 l1 q2 k2 t2 l2) q3 k3 t3 l3 q4 k4 t4 l4) (k0_pay22 (F := Ideal) q5) k5 t5 l5 q6 k6 t6 l6) (k0_pay24 (F := Ideal) q7) (k0_pay25 (F := Ideal) k7) (constant (F := Ideal) S256x256 .f32 0x00000000#32) t7 l7 (ix2 r s)
      = slab h u q0 q1 q2 q3 q4 q5 q6 q7 k0 k1 k2 k3 k4 k5 k6 k7 t0 t1 t2 t3 t4 t5 t6 t7 l0 l1 l2 l3 l4 l5 l6 l7 r s := by
  unfold slab term act gelu share
  pointwise [k0_pay16, k0_pay17, k0_pay18, k0_pay19, k0_pay20, k0_pay21, k0_pay22, k0_pay23, k0_pay24, k0_pay25, k0_pay26]
  try rfl

theorem slab2 (r s : Fin 256) :
    k0_pay39 (F := Ideal) (k0_pay27 (F := Ideal) h u) (k0_pay37 (F := Ideal) (k0_pay33 (F := Ideal) (k0_pay29 (F := Ideal) (k0_pay28 (F := Ideal) q0 k0) t0 l0 q1 k1 t1 l1) (k0_pay30 (F := Ideal) q2 k2) (k0_pay31 (F := Ideal) t2) (k0_pay32 (F := Ideal) l2) q3 k3 t3 l3) (k0_pay35 (F := Ideal) q4 k4 t4) (k0_pay36 (F := Ideal) q4 k4 l4) q5 k5 t5 l5) (k0_pay38 (F := Ideal) q6 k6 t6 l6) q7 k7 t7 l7 (ix2 r s)
      = slab h u q0 q1 q2 q3 q4 q5 q6 q7 k0 k1 k2 k3 k4 k5 k6 k7 t0 t1 t2 t3 t4 t5 t6 t7 l0 l1 l2 l3 l4 l5 l6 l7 r s := by
  unfold slab term act gelu share
  pointwise [k0_pay27, k0_pay28, k0_pay29, k0_pay30, k0_pay31, k0_pay32, k0_pay33, k0_pay34, k0_pay35, k0_pay36, k0_pay37, k0_pay38, k0_pay39]
  try rfl

theorem slab3 (r s : Fin 256) :
    k0_pay48 (F := Ideal) (k0_pay40 (F := Ideal) h u) (k0_pay45 (F := Ideal) (k0_pay43 (F := Ideal) (k0_pay41 (F := Ideal) q0 k0 t0 l0 q1 k1 t1 l1) (k0_pay42 (F := Ideal) q2) k2 t2 l2 q3 k3 t3 l3) (k0_pay44 (F := Ideal) q4 k4) t4 l4 q5 k5 t5 l5) (k0_pay46 (F := Ideal) q6 k6) (k0_pay47 (F := Ideal) t6) l6 q7 k7 t7 l7 (ix2 r s)
      = slab h u q0 q1 q2 q3 q4 q5 q6 q7 k0 k1 k2 k3 k4 k5 k6 k7 t0 t1 t2 t3 t4 t5 t6 t7 l0 l1 l2 l3 l4 l5 l6 l7 r s := by
  unfold slab term act gelu share
  pointwise [k0_pay40, k0_pay41, k0_pay42, k0_pay43, k0_pay44, k0_pay45, k0_pay46, k0_pay47, k0_pay48]
  try rfl

theorem slab4 (r s : Fin 256) :
    k0_pay1 (F := Ideal) (k0_pay51 (F := Ideal) (k0_pay49 (F := Ideal) h u) (k0_pay50 (F := Ideal) h u)) (k0_pay59 (F := Ideal) (k0_pay57 (F := Ideal) (k0_pay56 (F := Ideal) (k0_pay52 (F := Ideal) q0 k0 t0 l0) (k0_pay54 (F := Ideal) q1 k1 t1) (k0_pay55 (F := Ideal) q1 k1 l1) (Scalar.ofBits (F := Ideal) .f32 0x00000000#32) q2 k2 t2 l2 q3 k3 t3 l3) q4 k4 t4 l4 q5 k5 t5 l5) (k0_pay58 (F := Ideal) q6) k6 t6 l6) (k0_pay60 (F := Ideal) q7 k7) (k0_pay61 (F := Ideal) t7) l7 (ix2 r s)
      = slab h u q0 q1 q2 q3 q4 q5 q6 q7 k0 k1 k2 k3 k4 k5 k6 k7 t0 t1 t2 t3 t4 t5 t6 t7 l0 l1 l2 l3 l4 l5 l6 l7 r s := by
  unfold slab term act gelu share
  pointwise [k0_pay49, k0_pay50, k0_pay51, k0_pay52, k0_pay53, k0_pay54, k0_pay55, k0_pay56, k0_pay57, k0_pay58, k0_pay59, k0_pay60, k0_pay61, k0_pay1]
  try rfl

end Cert.PeerWIdeal.Hand

end
-- ==== Proof.PeerWeights.lean ====
/-
  The experts' weights: the call's array holds, for each token and expert, the sum over the heads of the head's softmax on the expert,
  times the gelu of the expert's first product.
-/
module

public import proofs.«01_k».proof.Proof.PeerSlab
public import proofs.«01_k».proof.Proof.Gen.PeerWRefIdeal.Run
public import proofs.«01_k».proof.Proof.Gen.PeerWRefIdeal.Read
public import Idealize.ShloMosaic.PureOps.Ideal.Laws
public import Idealize.ShloMosaic.Lib.Claim
public import Idealize.ShloMosaic.Lib.Quiescent

@[expose] public section

set_option maxRecDepth 16384

noncomputable section

namespace Cert.PeerWIdeal.Hand

open Cert.PeerWIdeal Cert.PeerWIdeal.Gen
open Idealize.ShloMosaic Idealize.ShloMosaic.TcCoe Idealize.SL.Sem

/-! ## A grid point's block -/

/-- Head `n`'s softmax on an expert of the block. -/
def head (Q : Vec Ideal S256x2048 .bf16) (K : Vec Ideal S8x256x1280 .bf16) (R : Vec Ideal S256x16 .f32) (n : Fin 8) (r : Fin 256) (s : Fin 1280) : EReal :=
  share (∑ j : Fin 256, Q (ix2 r ⟨n.val * 256 + j.val, by omega⟩) * K (ix3 n j s)) (R (ix2 r ⟨n.val, by omega⟩)) (R (ix2 r ⟨8 + n.val, by omega⟩))

/-- The block a grid point writes. -/
def block (H : Vec Ideal S256x4096 .bf16) (U : Vec Ideal S1x1280x4096 .bf16) (Q : Vec Ideal S256x2048 .bf16) (K : Vec Ideal S8x256x1280 .bf16) (R : Vec Ideal S256x16 .f32) :
    Vec Ideal S256x1280 .bf16 := fun y =>
  (head Q K R 0 (y 0) (y 1) + head Q K R 1 (y 0) (y 1) + head Q K R 2 (y 0) (y 1) + head Q K R 3 (y 0) (y 1) + head Q K R 4 (y 0) (y 1) + head Q K R 5 (y 0) (y 1) + head Q K R 6 (y 0) (y 1) + head Q K R 7 (y 0) (y 1))
    * gelu (∑ j : Fin 4096, H (ix2 (y 0) j) * U (ix3 0 (y 1) j))

theorem term_ld (Q : Vec Ideal S256x2048 .bf16) (K : Vec Ideal S8x256x1280 .bf16) (R : Vec Ideal S256x16 .f32) (n : Fin 8) (c : ℕ) (hc : c + 256 ≤ 1280)
    (o a b p : ℕ) (ho : o = n.val * 256) (ha : a = n.val) (hb : b = 8 + n.val) (hp : p = n.val)
    (io : ∀ x, (![0, o] : Fin 2 → Nat) x + S256x256.size x ≤ S256x2048.size x) (ip : ∀ x, (![p, 0, c] : Fin 3 → Nat) x + S1x256x256.size x ≤ S8x256x1280.size x)
    (ia : ∀ x, (![0, a] : Fin 2 → Nat) x + S256x1.size x ≤ S256x16.size x) (ib : ∀ x, (![0, b] : Fin 2 → Nat) x + S256x1.size x ≤ S256x16.size x) (r s : Fin 256) :
    term (View.ld Q (Rect.unit (s := S256x2048) ![0, o] S256x256.size io)) (View.ld K (Rect.unit (s := S8x256x1280) ![p, 0, c] S1x256x256.size ip))
      (View.ld R (Rect.unit (s := S256x16) ![0, a] S256x1.size ia)) (View.ld R (Rect.unit (s := S256x16) ![0, b] S256x1.size ib)) r s
      = head Q K R n r ⟨c + s.val, by omega⟩ := by
  subst ho ha hb hp
  have e2 : ∀ j : Fin 256, View.ld Q (Rect.unit (s := S256x2048) ![0, n.val * 256] S256x256.size io) (ix2 r j) = Q (ix2 r ⟨n.val * 256 + j.val, by omega⟩) := fun j =>
    View.ld_unit_apply_of _ _ _ _ _ _ (by intro x; fin_cases x <;> first | rfl | simp)
  have e3 : ∀ j : Fin 256, View.ld K (Rect.unit (s := S8x256x1280) ![n.val, 0, c] S1x256x256.size ip) (ix3 0 j s) = K (ix3 n j ⟨c + s.val, by omega⟩) := fun j =>
    View.ld_unit_apply_of _ _ _ _ _ _ (by intro x; fin_cases x <;> first | rfl | simp)
  have e4 : View.ld R (Rect.unit (s := S256x16) ![0, n.val] S256x1.size ia) (ix2 r 0) = R (ix2 r ⟨n.val, by omega⟩) :=
    View.ld_unit_apply_of _ _ _ _ _ _ (by intro x; fin_cases x <;> first | rfl | simp)
  have e5 : View.ld R (Rect.unit (s := S256x16) ![0, 8 + n.val] S256x1.size ib) (ix2 r 0) = R (ix2 r ⟨8 + n.val, by omega⟩) :=
    View.ld_unit_apply_of _ _ _ _ _ _ (by intro x; fin_cases x <;> first | rfl | simp)
  unfold term head
  rw [e4, e5]
  exact congrArg (share · _ _) (Finset.sum_congr rfl fun j _ => congrArg₂ (· * ·) (e2 j) (e3 j))

theorem act_ld (H : Vec Ideal S256x4096 .bf16) (U : Vec Ideal S1x1280x4096 .bf16) (c : ℕ) (hc : c + 256 ≤ 1280)
    (iu : ∀ x, (![0, c, 0] : Fin 3 → Nat) x + S1x256x4096.size x ≤ S1x1280x4096.size x) (r s : Fin 256) :
    act (View.ld H r0_0) (View.ld U (Rect.unit (s := S1x1280x4096) ![0, c, 0] S1x256x4096.size iu)) r s
      = gelu (∑ j : Fin 4096, H (ix2 r j) * U (ix3 0 ⟨c + s.val, by omega⟩ j)) := by
  unfold act
  refine congrArg gelu (Finset.sum_congr rfl fun j _ => congrArg₂ (· * ·) ?_ ?_)
  · exact View.ld_unit_apply_of _ _ _ _ _ _ (by intro x; fin_cases x <;> first | rfl | simp)
  · exact View.ld_unit_apply_of _ _ _ _ _ _ (by intro x; fin_cases x <;> first | rfl | simp)

theorem slab_ld (H : Vec Ideal S256x4096 .bf16) (U : Vec Ideal S1x1280x4096 .bf16) (Q : Vec Ideal S256x2048 .bf16) (K : Vec Ideal S8x256x1280 .bf16) (R : Vec Ideal S256x16 .f32)
    (c : ℕ) (hc : c + 256 ≤ 1280) (iu : ∀ x, (![0, c, 0] : Fin 3 → Nat) x + S1x256x4096.size x ≤ S1x1280x4096.size x)

    (i0 : ∀ a, (![0, 0, c] : Fin 3 → Nat) a + S1x256x256.size a ≤ S8x256x1280.size a)
    (i1 : ∀ a, (![1, 0, c] : Fin 3 → Nat) a + S1x256x256.size a ≤ S8x256x1280.size a)
    (i2 : ∀ a, (![2, 0, c] : Fin 3 → Nat) a + S1x256x256.size a ≤ S8x256x1280.size a)
    (i3 : ∀ a, (![3, 0, c] : Fin 3 → Nat) a + S1x256x256.size a ≤ S8x256x1280.size a)
    (i4 : ∀ a, (![4, 0, c] : Fin 3 → Nat) a + S1x256x256.size a ≤ S8x256x1280.size a)
    (i5 : ∀ a, (![5, 0, c] : Fin 3 → Nat) a + S1x256x256.size a ≤ S8x256x1280.size a)
    (i6 : ∀ a, (![6, 0, c] : Fin 3 → Nat) a + S1x256x256.size a ≤ S8x256x1280.size a)
    (i7 : ∀ a, (![7, 0, c] : Fin 3 → Nat) a + S1x256x256.size a ≤ S8x256x1280.size a) (r s : Fin 256) :
    slab (View.ld H r0_0) (View.ld U (Rect.unit (s := S1x1280x4096) ![0, c, 0] S1x256x4096.size iu))
      (View.ld Q r0_2) (View.ld Q r0_6) (View.ld Q r0_10) (View.ld Q r0_14) (View.ld Q r0_18) (View.ld Q r0_22) (View.ld Q r0_26) (View.ld Q r0_30)
      (View.ld K (Rect.unit (s := S8x256x1280) ![0, 0, c] S1x256x256.size i0)) (View.ld K (Rect.unit (s := S8x256x1280) ![1, 0, c] S1x256x256.size i1)) (View.ld K (Rect.unit (s := S8x256x1280) ![2, 0, c] S1x256x256.size i2)) (View.ld K (Rect.unit (s := S8x256x1280) ![3, 0, c] S1x256x256.size i3)) (View.ld K (Rect.unit (s := S8x256x1280) ![4, 0, c] S1x256x256.size i4)) (View.ld K (Rect.unit (s := S8x256x1280) ![5, 0, c] S1x256x256.size i5)) (View.ld K (Rect.unit (s := S8x256x1280) ![6, 0, c] S1x256x256.size i6)) (View.ld K (Rect.unit (s := S8x256x1280) ![7, 0, c] S1x256x256.size i7))
      (View.ld R r0_4) (View.ld R r0_8) (View.ld R r0_12) (View.ld R r0_16) (View.ld R r0_20) (View.ld R r0_24) (View.ld R r0_28) (View.ld R r0_32)
      (View.ld R r0_5) (View.ld R r0_9) (View.ld R r0_13) (View.ld R r0_17) (View.ld R r0_21) (View.ld R r0_25) (View.ld R r0_29) (View.ld R r0_33) r s
      = block H U Q K R (ix2 r ⟨c + s.val, by omega⟩) := by
  unfold slab block
  exact congrArg₂ (· * ·) (congrArg₂ (· + ·) (congrArg₂ (· + ·) (congrArg₂ (· + ·) (congrArg₂ (· + ·) (congrArg₂ (· + ·) (congrArg₂ (· + ·) (congrArg₂ (· + ·) (term_ld Q K R 0 c hc 0 0 8 0 rfl rfl rfl rfl _ _ _ _ r s) (term_ld Q K R 1 c hc 256 1 9 1 rfl rfl rfl rfl _ _ _ _ r s)) (term_ld Q K R 2 c hc 512 2 10 2 rfl rfl rfl rfl _ _ _ _ r s)) (term_ld Q K R 3 c hc 768 3 11 3 rfl rfl rfl rfl _ _ _ _ r s)) (term_ld Q K R 4 c hc 1024 4 12 4 rfl rfl rfl rfl _ _ _ _ r s)) (term_ld Q K R 5 c hc 1280 5 13 5 rfl rfl rfl rfl _ _ _ _ r s)) (term_ld Q K R 6 c hc 1536 6 14 6 rfl rfl rfl rfl _ _ _ _ r s)) (term_ld Q K R 7 c hc 1792 7 15 7 rfl rfl rfl rfl _ _ _ _ r s)) (act_ld H U c hc iu r s)

theorem emb_eq (c : ℕ) (hc : c + 256 ≤ 1280) (i : ∀ a, (![0, c] : Fin 2 → Nat) a + S256x256.size a ≤ S256x1280.size a) (x : S256x256.Idx) :
    (ix2 (x 0 : Fin 256) (⟨c + (x 1).val, by have : (x 1).val < 256 := (x 1).isLt; omega⟩ : Fin 1280) : S256x1280.Idx) = (Rect.unit (s := S256x1280) ![0, c] S256x256.size i).emb x :=
  by blk_ext

/-- What a grid point leaves in its block. -/
theorem out_eq (H : Vec Ideal S256x4096 .bf16) (U : Vec Ideal S1x1280x4096 .bf16) (Q : Vec Ideal S256x2048 .bf16) (K : Vec Ideal S8x256x1280 .bf16) (R : Vec Ideal S256x16 .f32)
    (y : S256x1280.Idx) : out0_5 H U Q K R y = block H U Q K R y := by
  unfold out0_5
  refine View.canon_apply_of_pieces (block H U Q K R) _ ?_ y (cover0_5 _ _ _ _ _ y)
  · intro p hp
    rcases List.mem_cons.mp hp with rfl | hp
    · intro x
      have e : x = ix2 (x 0) (x 1) := by blk_ext
      refine (congrArg _ e).trans ((slab4 _ _ _ _ _ _ _ _ _ _ _ _ _ _ _ _ _ _ _ _ _ _ _ _ _ _ _ _ _ _ _ _ _ _ (x 0) (x 1)).trans ?_)
      refine (slab_ld H U Q K R 1024 (by decide) _ _ _ _ _ _ _ _ _ (x 0) (x 1)).trans (congrArg (block H U Q K R) ?_)
      exact emb_eq 1024 (by decide) inb_S256x1280_S256x256_0_1024 x
    rcases List.mem_cons.mp hp with rfl | hp
    · intro x
      have e : x = ix2 (x 0) (x 1) := by blk_ext
      refine (congrArg _ e).trans ((slab3 _ _ _ _ _ _ _ _ _ _ _ _ _ _ _ _ _ _ _ _ _ _ _ _ _ _ _ _ _ _ _ _ _ _ (x 0) (x 1)).trans ?_)
      refine (slab_ld H U Q K R 768 (by decide) _ _ _ _ _ _ _ _ _ (x 0) (x 1)).trans (congrArg (block H U Q K R) ?_)
      exact emb_eq 768 (by decide) inb_S256x1280_S256x256_0_768 x
    rcases List.mem_cons.mp hp with rfl | hp
    · intro x
      have e : x = ix2 (x 0) (x 1) := by blk_ext
      refine (congrArg _ e).trans ((slab2 _ _ _ _ _ _ _ _ _ _ _ _ _ _ _ _ _ _ _ _ _ _ _ _ _ _ _ _ _ _ _ _ _ _ (x 0) (x 1)).trans ?_)
      refine (slab_ld H U Q K R 512 (by decide) _ _ _ _ _ _ _ _ _ (x 0) (x 1)).trans (congrArg (block H U Q K R) ?_)
      exact emb_eq 512 (by decide) inb_S256x1280_S256x256_0_512 x
    rcases List.mem_cons.mp hp with rfl | hp
    · intro x
      have e : x = ix2 (x 0) (x 1) := by blk_ext
      refine (congrArg _ e).trans ((slab1 _ _ _ _ _ _ _ _ _ _ _ _ _ _ _ _ _ _ _ _ _ _ _ _ _ _ _ _ _ _ _ _ _ _ (x 0) (x 1)).trans ?_)
      refine (slab_ld H U Q K R 256 (by decide) _ _ _ _ _ _ _ _ _ (x 0) (x 1)).trans (congrArg (block H U Q K R) ?_)
      exact emb_eq 256 (by decide) inb_S256x1280_S256x256_0_256 x
    rcases List.mem_cons.mp hp with rfl | hp
    · intro x
      have e : x = ix2 (x 0) (x 1) := by blk_ext
      refine (congrArg _ e).trans ((slab0 _ _ _ _ _ _ _ _ _ _ _ _ _ _ _ _ _ _ _ _ _ _ _ _ _ _ _ _ _ _ _ _ _ _ (x 0) (x 1)).trans ?_)
      refine (slab_ld H U Q K R 0 (by decide) _ _ _ _ _ _ _ _ _ (x 0) (x 1)).trans (congrArg (block H U Q K R) ?_)
      exact emb_eq 0 (by decide) inb_S256x1280_S256x256_0_0 x
    nomatch hp

/-! ## The operands -/

/-- A token's score on expert `e` in head `n`: the first half key is the one of `e / 80`, the second of `e % 80`. -/
def score (q : Vec Ideal S16640x2048 .f32) (key : Vec Ideal S8x2x80x128 .f32) (i : Fin 16640) (n : Fin 8) (e : Fin 6400) : EReal :=
  (∑ k : Fin 128, q (ix2 i ⟨n.val * 256 + k.val, by omega⟩) * key (ix4 n 0 ⟨e.val / 80, by omega⟩ k))
    + ∑ k : Fin 128, q (ix2 i ⟨n.val * 256 + (128 + k.val), by omega⟩) * key (ix4 n 1 ⟨e.val % 80, by omega⟩ k)

/-- Head `n`'s softmax of a token on expert `e`. -/
def part (q : Vec Ideal S16640x2048 .f32) (key : Vec Ideal S8x2x80x128 .f32) (thr ln : Vec Ideal S16640x8 .f32) (i : Fin 16640) (n : Fin 8) (e : Fin 6400) : EReal :=
  share (score q key i n e) (thr (ix2 i n)) (ln (ix2 i n))

/-- The experts' weights. -/
def res (h : Vec Ideal S16640x4096 .f32) (u : Vec Ideal S4x6400x4096 .f32) (q : Vec Ideal S16640x2048 .f32) (key : Vec Ideal S8x2x80x128 .f32)
    (thr ln : Vec Ideal S16640x8 .f32) : Vec Ideal S16640x6400 .bf16 := fun j =>
  (∑ n : Fin 8, part q key thr ln (j 0) n (j 1)) * gelu (∑ k : Fin 4096, h (ix2 (j 0) k) * u (ix3 0 (j 1) k))

/-- The first half keys, one column for each expert. -/
def left (key : Vec Ideal S8x2x80x128 .f32) : Vec Ideal S8x6400x128 .f32 :=
  shapeCast S8x6400x128 (broadcastInDim (α := Ideal .f32) S8x80x80x128 ![0, 1, 3] bcast_S8x80x128_S8x80x80x128_0_1_3
    (shapeCast S8x80x128 (extractStridedSlice (α := Ideal .f32) S8x1x80x128 ![0, 0, 0, 0] key slices_S8x2x80x128_S8x1x80x128_0_0_0_0) shapeCasts_S8x1x80x128_S8x80x128))
    shapeCasts_S8x80x80x128_S8x6400x128

/-- The second half keys, one column for each expert. -/
def right (key : Vec Ideal S8x2x80x128 .f32) : Vec Ideal S8x6400x128 .f32 :=
  shapeCast S8x6400x128 (broadcastInDim (α := Ideal .f32) S1x8x80x80x1x128 ![0, 1, 2, 3, 4, 5] bcast_S1x8x1x80x1x128_S1x8x80x80x1x128_0_1_2_3_4_5
    (shapeCast S1x8x1x80x1x128 (shapeCast S8x80x128 (extractStridedSlice (α := Ideal .f32) S8x1x80x128 ![0, 1, 0, 0] key slices_S8x2x80x128_S8x1x80x128_0_1_0_0)
      shapeCasts_S8x1x80x128_S8x80x128) shapeCasts_S8x80x128_S1x8x1x80x1x128))
    shapeCasts_S1x8x80x80x1x128_S8x6400x128

/-- The keys as the call reads them. -/
def keys (key : Vec Ideal S8x2x80x128 .f32) : Vec Ideal S8x256x6400 .bf16 :=
  truncf (F := Ideal) (φ := .f32) .bf16 (transpose S8x256x6400 [0, 2, 1]
    (concatenate (α := Ideal .f32) S8x6400x256 2 [⟨S8x6400x128, left key⟩, ⟨S8x6400x128, right key⟩] concatenates_S8x6400x128_S8x6400x128_S8x6400x256_d2)
    transposes_S8x6400x256_S8x256x6400_0_2_1) bitsLt_bf16_f32

/-- The thresholds and the normalisers as the call reads them. -/
def route (thr ln : Vec Ideal S16640x8 .f32) : Vec Ideal S16640x16 .f32 :=
  concatenate (α := Ideal .f32) S16640x16 1 [⟨S16640x8, thr⟩, ⟨S16640x8, ln⟩] concatenates_S16640x8_S16640x8_S16640x16_d1

theorem left_apply (key : Vec Ideal S8x2x80x128 .f32) (n : Fin 8) (e : Fin 6400) (d : Fin 128) :
    left key (ix3 n e d) = key (ix4 n 0 ⟨e.val / 80, by omega⟩ d) := by
  pointwise [left]

theorem right_apply (key : Vec Ideal S8x2x80x128 .f32) (n : Fin 8) (e : Fin 6400) (d : Fin 128) :
    right key (ix3 n e d) = key (ix4 n 1 ⟨e.val % 80, by omega⟩ d) := by
  pointwise [right]

theorem keys_left (key : Vec Ideal S8x2x80x128 .f32) (n : Fin 8) (d : Fin 128) (e : Fin 6400) :
    keys key (ix3 n ⟨d.val, by omega⟩ e) = key (ix4 n 0 ⟨e.val / 80, by omega⟩ d) := by
  refine Eq.trans ?_ (left_apply key n e d)
  pointwise [keys]

theorem keys_right (key : Vec Ideal S8x2x80x128 .f32) (n : Fin 8) (d : Fin 128) (e : Fin 6400) :
    keys key (ix3 n ⟨128 + d.val, by omega⟩ e) = key (ix4 n 1 ⟨e.val % 80, by omega⟩ d) := by
  refine Eq.trans ?_ (right_apply key n e d)
  pointwise [keys]

theorem route_left (thr ln : Vec Ideal S16640x8 .f32) (i : Fin 16640) (n : Fin 8) : route thr ln (ix2 i ⟨n.val, by omega⟩) = thr (ix2 i n) := by
  pointwise [route]

theorem route_right (thr ln : Vec Ideal S16640x8 .f32) (i : Fin 16640) (n : Fin 8) : route thr ln (ix2 i ⟨8 + n.val, by omega⟩) = ln (ix2 i n) := by
  pointwise [route]

variable (m : (ℓ : Loc nD τ sig) → Buf (Elt Ideal) ℓ)

theorem V_h (c : Dev nD) : V m c main_v12 = truncf (F := Ideal) (φ := .f32) .bf16 (m ((c : Thread nD τ).loc main_arg0)) bitsLt_bf16_f32 := by
  rfl

theorem V_u (c : Dev nD) : V m c main_v13 = truncf (F := Ideal) (φ := .f32) .bf16 (m ((c : Thread nD τ).loc main_arg1)) bitsLt_bf16_f32 := by
  rfl

theorem V_q (c : Dev nD) : V m c main_v14 = truncf (F := Ideal) (φ := .f32) .bf16 (m ((c : Thread nD τ).loc main_arg2)) bitsLt_bf16_f32 := by
  rfl

theorem V_k (c : Dev nD) : V m c main_v15 = keys (m ((c : Thread nD τ).loc main_arg3)) := by
  rfl

theorem V_r (c : Dev nD) : V m c main_v11 = route (m ((c : Thread nD τ).loc main_arg4)) (m ((c : Thread nD τ).loc main_arg5)) := by
  rfl

theorem idx : ∀ t : Fin cfg0.N, win0_0.index t = ![t.val % 65, 0] ∧ win0_1.index t = ![0, t.val / 65, 0] ∧ win0_2.index t = ![t.val % 65, 0]
    ∧ win0_3.index t = ![0, 0, t.val / 65] ∧ win0_4.index t = ![t.val % 65, 0] ∧ win0_5.index t = ![t.val % 65, t.val / 65] :=
  (by decide +kernel : ∀ t : Fin grid0.N, _)

theorem lt325 (t : Fin cfg0.N) : t.val < 325 := lt_of_lt_of_eq t.isLt (by decide +kernel)

/-- A head's softmax in a grid point's block is the one of the token and the expert there. -/
theorem head_eq (c : Dev nD) (t : Fin cfg0.N) (q : Vec Ideal S16640x2048 .f32) (key : Vec Ideal S8x2x80x128 .f32) (thr ln : Vec Ideal S16640x8 .f32)
    (hq : q = m ((c : Thread nD τ).loc main_arg2)) (hk : key = m ((c : Thread nD τ).loc main_arg3))
    (ht : thr = m ((c : Thread nD τ).loc main_arg4)) (hl : ln = m ((c : Thread nD τ).loc main_arg5))
    (n : Fin 8) (r : Fin 256) (s : Fin 1280) (i : Fin 16640) (e : Fin 6400) (h0 : i.val = t.val % 65 * 256 + r.val) (h1 : e.val = t.val / 65 * 1280 + s.val) :
    head (iblk m c 2 t) (iblk m c 3 t) (iblk m c 4 t) n r s = part q key thr ln i n e := by
  have := lt325 t
  have eq : ∀ d : Fin 2048, (iblk m c 2 t : Vec Ideal S256x2048 .bf16) (ix2 r d) = q (ix2 i d) := fun d => by
    refine Eq.trans (b := (V m c main_v14 : Vec Ideal S16640x2048 .bf16) (ix2 i d)) ?_ (by rw [V_q, hq]; rfl)
    blk_ext [iblk, idx t]
  have ek : ∀ d : Fin 256, (iblk m c 3 t : Vec Ideal S8x256x1280 .bf16) (ix3 n d s) = keys key (ix3 n d e) := fun d => by
    rw [hk, ← V_k m c]
    blk_ext [iblk, idx t]
  have er : ∀ d : Fin 16, (iblk m c 4 t : Vec Ideal S256x16 .f32) (ix2 r d) = route thr ln (ix2 i d) := fun d => by
    rw [ht, hl, ← V_r m c]
    blk_ext [iblk, idx t]
  unfold head part
  rw [er, er, route_left, route_right]
  refine congrArg (share · _ _) ?_
  unfold score
  refine (Fin.sum_univ_add (a := 128) (b := 128) _).trans (congrArg₂ (· + ·) ?_ ?_)
  · exact Finset.sum_congr rfl fun k _ => congrArg₂ (· * ·) (eq _) ((ek _).trans (keys_left key n k e))
  · exact Finset.sum_congr rfl fun k _ => congrArg₂ (· * ·) (eq _) ((ek _).trans (keys_right key n k e))

/-- What a grid point computes, at an index of its block. -/
theorem point (c : Dev nD) (t : Fin cfg0.N) (h : Vec Ideal S16640x4096 .f32) (u : Vec Ideal S4x6400x4096 .f32) (q : Vec Ideal S16640x2048 .f32)
    (key : Vec Ideal S8x2x80x128 .f32) (thr ln : Vec Ideal S16640x8 .f32)
    (hh : h = m ((c : Thread nD τ).loc main_arg0)) (hu : u = m ((c : Thread nD τ).loc main_arg1)) (hq : q = m ((c : Thread nD τ).loc main_arg2))
    (hk : key = m ((c : Thread nD τ).loc main_arg3)) (ht : thr = m ((c : Thread nD τ).loc main_arg4)) (hl : ln = m ((c : Thread nD τ).loc main_arg5))
    (y : S256x1280.Idx) (j : S16640x6400.Idx) (h0 : (j 0).val = t.val % 65 * 256 + (y 0).val) (h1 : (j 1).val = t.val / 65 * 1280 + (y 1).val) :
    block (iblk m c 0 t) (iblk m c 1 t) (iblk m c 2 t) (iblk m c 3 t) (iblk m c 4 t) y = res h u q key thr ln j := by
  have := lt325 t
  have hy0 : (y 0).val < 256 := (y 0).isLt
  have hy1 : (y 1).val < 1280 := (y 1).isLt
  have e (n : Fin 8) := head_eq m c t q key thr ln hq hk ht hl n (y 0) (y 1) (j 0) (j 1) h0 h1
  unfold block res
  rw [Fin.sum_univ_eight]
  simp only [e]
  refine congrArg₂ (· * ·) rfl (congrArg gelu (Finset.sum_congr rfl fun k _ => congrArg₂ (· * ·) ?_ ?_))
  · refine Eq.trans (b := (V m c main_v12 : Vec Ideal S16640x4096 .bf16) (ix2 (j 0) k)) ?_ (by rw [V_h, hh]; rfl)
    blk_ext [iblk, idx t]
  · refine Eq.trans (b := (V m c main_v13 : Vec Ideal S4x6400x4096 .bf16) (ix3 0 (j 1) k)) ?_ (by rw [V_u, hu]; rfl)
    blk_ext [iblk, idx t]

/-- The call's array after the run. -/
theorem final (c : Dev nD) (h : Vec Ideal S16640x4096 .f32) (u : Vec Ideal S4x6400x4096 .f32) (q : Vec Ideal S16640x2048 .f32)
    (key : Vec Ideal S8x2x80x128 .f32) (thr ln : Vec Ideal S16640x8 .f32)
    (hh : h = m ((c : Thread nD τ).loc main_arg0)) (hu : u = m ((c : Thread nD τ).loc main_arg1)) (hq : q = m ((c : Thread nD τ).loc main_arg2))
    (hk : key = m ((c : Thread nD τ).loc main_arg3)) (ht : thr = m ((c : Thread nD τ).loc main_arg4)) (hl : ln = m ((c : Thread nD τ).loc main_arg5)) :
    (dats m 0 c).arrAt 5 cfg0.N = res h u q key thr ln := by
  refine (dats m 0 c).arrAt_eq_of_covers 5 _ (by decide +kernel) fun t hf y => ?_
  blk_simp
  rw [after0_5, out_eq]
  refine point m c t h u q key thr ln hh hu hq hk ht hl y _ ?_ ?_ <;> blk_simp [idx t]

end Cert.PeerWIdeal.Hand

namespace Cert.PeerWRefIdeal.Hand

open Cert.PeerWRefIdeal Cert.PeerWRefIdeal.Read
open Idealize.ShloMosaic Idealize.ShloMosaic.TcCoe Idealize.SL.Sem

/-- The reference's score. -/
theorem score_eq (q : Vec Ideal S16640x2048 .f32) (key : Vec Ideal S8x2x80x128 .f32) (i : Fin 16640) (n : Fin 8) (e : Fin 6400) (x : S16640x8x6400.Idx)
    (h0 : (x 0).val = i.val) (h1 : (x 1).val = n.val) (h2 : (x 2).val = e.val) :
    val_main_v12 (F := Ideal) q key x = Cert.PeerWIdeal.Hand.score q key i n e := by
  rw [val_main_v12_apply, val_main_v11_apply, val_main_v9_apply, val_main_v10_apply, val_main_v5_apply, val_main_v8_apply, val_main_v4_apply, val_main_v7_apply,
    val_main_v3_apply, val_main_v6_apply, val_main_v2_apply, val_main_v2_apply, val_main_v1_apply, val_main_v1_apply]
  simp only [val_main_v0_apply]
  unfold Cert.PeerWIdeal.Hand.score
  refine congrArg₂ (· + ·) ?_ ?_
  · refine Finset.sum_congr rfl fun k _ => (mul_comm _ _).trans (congrArg₂ (· * ·) (congrArg q ?_) (congrArg key ?_))
    · funext a; apply Fin.ext; fin_cases a <;> simp <;> omega
    · funext a; apply Fin.ext; fin_cases a <;> simp <;> omega
  · refine Finset.sum_congr rfl fun k _ => (mul_comm _ _).trans (congrArg₂ (· * ·) (congrArg q ?_) (congrArg key ?_))
    · funext a; apply Fin.ext; fin_cases a <;> simp <;> omega
    · funext a; apply Fin.ext; fin_cases a <;> simp <;> omega

/-- A head's softmax in the reference. -/
theorem part_eq (q : Vec Ideal S16640x2048 .f32) (key : Vec Ideal S8x2x80x128 .f32) (thr ln : Vec Ideal S16640x8 .f32) (j : S16640x6400.Idx) (n : Fin 8) :
    val_main_v20 (F := Ideal) q key thr ln (idx_main_v32 j n) = Cert.PeerWIdeal.Hand.part q key thr ln (j 0) n (j 1) := by
  have es := score_eq q key (j 0) n (j 1) (idx_main_v32 j n) rfl rfl rfl
  have et : val_main_v14 (F := Ideal) thr (idx_main_v32 j n) = thr (ix2 (j 0) n) := by
    rw [val_main_v14_apply, val_main_v13_apply]
    exact congrArg thr (funext fun a => Fin.ext (by fin_cases a <;> rfl))
  have el : val_main_v17 (F := Ideal) ln (idx_main_v32 j n) = ln (ix2 (j 0) n) := by
    rw [val_main_v17_apply, val_main_v16_apply]
    exact congrArg ln (funext fun a => Fin.ext (by fin_cases a <;> rfl))
  have ez : val_main_call0_v1 (F := Ideal) (idx_main_v32 j n) = (0 : EReal) := by
    rw [val_main_call0_v1_apply, val_main_call0_v0_apply, val_main_cst_apply]
    simp
  rw [val_main_v20_apply, val_main_v15_apply, val_main_v19_apply, val_main_v18_apply, es, et, el, ez]
  rfl

theorem ref_eq (h : Vec Ideal S16640x4096 .f32) (u : Vec Ideal S4x6400x4096 .f32) (q : Vec Ideal S16640x2048 .f32) (key : Vec Ideal S8x2x80x128 .f32)
    (thr ln : Vec Ideal S16640x8 .f32) :
    val_main_v34 (F := Ideal) h u q key thr ln = Cert.PeerWIdeal.Hand.res h u q key thr ln := by
  funext j
  have ea : val_main_v24 (F := Ideal) h u j = ∑ k : Fin 4096, h (ix2 (j 0) k) * u (ix3 0 (j 1) k) := by
    rw [val_main_v24_apply]
    simp only [val_main_v23_apply, val_main_v22_apply, val_main_v21_apply]
    have hj1 : (j 1).val < 6400 := (j 1).isLt
    refine Finset.sum_congr rfl fun k _ => congrArg₂ (· * ·) (congrArg h ?_) (congrArg u ?_)
    · funext a; apply Fin.ext; fin_cases a <;> rfl
    · funext a; apply Fin.ext; fin_cases a <;> simp <;> omega
  have ez (z : S_.Idx) : val_main_cst_2 (F := Ideal) z = (0 : EReal) := by
    rw [val_main_cst_2_apply]
    simp
  rw [val_main_v34_apply, val_main_v33_apply, val_main_v32_apply, val_main_v31_apply, val_main_v26_apply, val_main_v25_apply, val_main_cst_0_apply,
    val_main_v30_apply, val_main_v29_apply, val_main_v27_apply, val_main_v28_apply, val_main_cst_1_apply, ea, ez]
  simp only [part_eq]
  unfold Cert.PeerWIdeal.Hand.res Cert.PeerWIdeal.Hand.gelu
  simp only [Ideal.truncf_def, Ideal.mulf_def, Ideal.hostUnary_erfc_def, Ideal.hostNegf_def, Ideal.negf_def, neg_mul, Ideal.erfc_neg, zero_add]

/-- The call and its reference compute the same array. -/
theorem algebraic : Cert.algebraic_PeerWIdeal_PeerWRefIdeal := by
  intro m g m' g' _ hagree
  refine ⟨fun c => Cert.PeerWIdeal.Hand.res (m ((c.tc : Thread Cert.PeerWIdeal.nD Cert.PeerWIdeal.τ).loc Cert.PeerWIdeal.main_arg0))
    (m ((c.tc : Thread Cert.PeerWIdeal.nD Cert.PeerWIdeal.τ).loc Cert.PeerWIdeal.main_arg1))
    (m ((c.tc : Thread Cert.PeerWIdeal.nD Cert.PeerWIdeal.τ).loc Cert.PeerWIdeal.main_arg2))
    (m ((c.tc : Thread Cert.PeerWIdeal.nD Cert.PeerWIdeal.τ).loc Cert.PeerWIdeal.main_arg3))
    (m ((c.tc : Thread Cert.PeerWIdeal.nD Cert.PeerWIdeal.τ).loc Cert.PeerWIdeal.main_arg4))
    (m ((c.tc : Thread Cert.PeerWIdeal.nD Cert.PeerWIdeal.τ).loc Cert.PeerWIdeal.main_arg5)), ?_, ?_⟩
  · exact (θ_run Cert.PeerWIdeal.defs _ _).mono (fun _ h c => ⟨(h c).1.trans (Cert.PeerWIdeal.Hand.final m c _ _ _ _ _ _ rfl rfl rfl rfl rfl rfl), (h c).2⟩)
      (Cert.PeerWIdeal.Value.run_blocks (F := Ideal) m g)
  · refine (θ_run Cert.PeerWRefIdeal.defs _ _).mono (fun _ h c => ⟨((h c).1.trans (val_main_v34_eq (F := Ideal) _ _)).trans ?_, (h c).2⟩)
      (Cert.PeerWRefIdeal.Value.run (F := Ideal) m' g')
    rw [(hagree c).1, (hagree c).2.1, (hagree c).2.2.1, (hagree c).2.2.2.1, (hagree c).2.2.2.2.1, (hagree c).2.2.2.2.2]
    exact ref_eq _ _ _ _ _ _

/-- The reference's run: its arguments end unchanged; it declares no semaphore. -/
theorem frame : Cert.quiescent_PeerWRefIdeal := fun m g _ =>
  (θ_run Cert.PeerWRefIdeal.defs _ _).mono (fun r h => ⟨fun c => (h c).2, Idealize.ShloMosaic.sem_eq_zero_of_no_sems (by decide) r.2⟩)
    (Cert.PeerWRefIdeal.Value.run (F := Ideal) m g)

end Cert.PeerWRefIdeal.Hand

end
-- ==== Proof.Masked.lean ====
/-
  Softmax over finite scores of which some are masked, with one score more that has no value (a sink): a masked score
  is −∞ and its weight is zero. The weights do not depend on the real number subtracted from the scores.
-/
module

public import proofs.«01_k».proof.Proof.Softmax

@[expose] public section

noncomputable section

namespace Cert.Softmax

open Idealize.ShloMosaic

variable {ι : Type} [Fintype ι] (ok : ι → Prop) [DecidablePred ok] (s : ι → ℝ) (sink : ℝ)

/-- A key's weight before the division: two to its score, or zero where the key is masked. -/
def mw (k : ι) : ℝ := if ok k then pw (s k) else 0

/-- The sum of the weights and the sink's. -/
def total : ℝ := ∑ k, mw ok s k + pw sink

/-- A key's softmax weight. -/
def share (k : ι) : ℝ := mw ok s k / total ok s sink

theorem mw_nonneg (k : ι) : 0 ≤ mw ok s k := by
  unfold mw; split
  · exact (pw_pos _).le
  · exact le_rfl

theorem total_pos : 0 < total ok s sink := add_pos_of_nonneg_of_pos (Finset.sum_nonneg fun k _ => mw_nonneg ok s k) (pw_pos _)

theorem share_masked (k : ι) (h : ¬ ok k) : share ok s sink k = 0 := by
  unfold share mw; rw [if_neg h, zero_div]

/-- The exponential of two at a score that may be masked, less a real. -/
theorem exp2_masked (k : ι) (M : ℝ) :
    Ideal.exp2 ((if ok k then ((s k : ℝ) : EReal) else ⊥) - (M : EReal)) = ((pw (-M) * mw ok s k : ℝ) : EReal) := by
  unfold mw
  split
  · rw [exp2_sub, ← pw_add, neg_add_eq_sub]
  · rw [EReal.bot_sub, Ideal.exp2_bot, mul_zero, EReal.coe_zero]

/-- The quotient of the weighted sum of values by the sum of the weights and the sink's, all taken less any real `M`. -/
theorem masked_quotient (v : ι → EReal) (M : ℝ) :
    Ideal.div (∑ k, v k * Ideal.exp2 ((if ok k then ((s k : ℝ) : EReal) else ⊥) - (M : EReal)))
        (∑ k, (1 : EReal) * Ideal.exp2 ((if ok k then ((s k : ℝ) : EReal) else ⊥) - (M : EReal)) + Ideal.exp2 ((sink : EReal) - (M : EReal)))
      = ∑ k, v k * ((share ok s sink k : ℝ) : EReal) := by
  simp only [exp2_masked, one_mul]
  have e : (∑ k, ((pw (-M) * mw ok s k : ℝ) : EReal)) + Ideal.exp2 ((sink : EReal) - (M : EReal)) = ((pw (-M) * total ok s sink : ℝ) : EReal) := by
    rw [coe_sum, exp2_sub, ← EReal.coe_add]
    congr 1
    unfold total
    rw [mul_add, Finset.mul_sum, ← pw_add, neg_add_eq_sub]
  have hL : 0 < pw (-M) * total ok s sink := mul_pos (pw_pos _) (total_pos ok s sink)
  rw [e, Ideal.div_coe hL.ne', mul_comm, mul_sum _ _ (one_div_pos.mpr hL).le]
  refine Finset.sum_congr rfl fun k _ => ?_
  rw [mul_left_comm, ← EReal.coe_mul]
  congr 2
  unfold share
  have h1 := (pw_pos (-M)).ne'
  have h2 := (total_pos ok s sink).ne'
  field_simp

/-- The exponential at a score in natural units that may be masked, less a real. -/
theorem exp_masked (k : ι) (M : ℝ) :
    Ideal.exp ((if ok k then ((s k * Real.log 2 : ℝ) : EReal) else ⊥) - (M : EReal)) = ((Real.exp (-M) * mw ok s k : ℝ) : EReal) := by
  unfold mw
  split
  · rw [← EReal.coe_sub, Ideal.exp_coe, sub_eq_neg_add, Real.exp_add, pw, Real.rpow_def_of_pos (by norm_num), mul_comm (s k)]
  · rw [EReal.bot_sub, Ideal.exp_bot, mul_zero, EReal.coe_zero]

/-- The reference's spelling of a softmax weight: its scores and its sink are those in powers of two times `log 2`. -/
theorem masked_weight (M : ℝ) (k : ι) :
    Ideal.div (Ideal.exp ((if ok k then ((s k * Real.log 2 : ℝ) : EReal) else ⊥) - (M : EReal)))
        (∑ j, Ideal.exp ((if ok j then ((s j * Real.log 2 : ℝ) : EReal) else ⊥) - (M : EReal)) + Ideal.exp (((sink * Real.log 2 : ℝ) : EReal) - (M : EReal)))
      = ((share ok s sink k : ℝ) : EReal) := by
  simp only [exp_masked]
  have e : (∑ k, ((Real.exp (-M) * mw ok s k : ℝ) : EReal)) + Ideal.exp (((sink * Real.log 2 : ℝ) : EReal) - (M : EReal)) = ((Real.exp (-M) * total ok s sink : ℝ) : EReal) := by
    rw [coe_sum, ← EReal.coe_sub, Ideal.exp_coe, ← EReal.coe_add]
    congr 1
    unfold total
    rw [mul_add, Finset.mul_sum, sub_eq_neg_add, Real.exp_add, pw, Real.rpow_def_of_pos (by norm_num), mul_comm sink]
  have hL : 0 < Real.exp (-M) * total ok s sink := mul_pos (Real.exp_pos _) (total_pos ok s sink)
  rw [e, Ideal.div_coe hL.ne', ← EReal.coe_mul]
  congr 1
  unfold share
  have h1 := (Real.exp_pos (-M)).ne'
  have h2 := (total_pos ok s sink).ne'
  field_simp

/-- A maximum of extended reals below +∞, taken from −∞, is below +∞. -/
theorem fold_max_lt_top (f : ι → EReal) (hf : ∀ k, f k < ⊤) : (Finset.univ : Finset ι).fold max ⊥ f < ⊤ :=
  (Finset.fold_max_lt _).mpr ⟨bot_lt_top, fun k _ => hf k⟩

/-- A score that may be masked is below +∞. -/
theorem masked_lt_top (p : Prop) [Decidable p] (x : ℝ) : (if p then (x : EReal) else ⊥) < ⊤ := by
  split
  · exact EReal.coe_lt_top _
  · exact bot_lt_top

/-- An extended real between a real and +∞ is a real. -/
theorem real_of_between {x : EReal} (b : ℝ) (h1 : (b : EReal) ≤ x) (h2 : x < ⊤) : ∃ M : ℝ, x = (M : EReal) :=
  ⟨x.toReal, (EReal.coe_toReal h2.ne ((EReal.bot_lt_coe b).trans_le h1).ne').symm⟩

end Cert.Softmax
-- ==== Proof.WindowPair.lean ====
/-
  Two heads' output block of the windowed attention as a function of the five blocks that the body loads for it, and its
  entries over the extended reals. The two heads' queries stand one above the other, so column `j` of a tile of scores is
  query `j % 128` of head `j / 128`.
-/
module

public import proofs.«01_k».proof.Proof.Gen.WindowIdeal.Value
public import proofs.«01_k».proof.Proof.Masked
public import Idealize.ShloMosaic.Lib.WordCmp
public import Idealize.ShloMosaic.Lib.Pipeline.ValueKit

@[expose] public section

set_option maxRecDepth 16384

noncomputable section

namespace Cert.WindowIdeal.Hand

open Cert.WindowIdeal Cert.WindowIdeal.Gen Cert.Softmax
open Idealize.ShloMosaic Idealize.ShloMosaic.TcCoe Idealize.SL.Sem
open Idealize.ShloMosaic.WordCmp

section

variable {F : FTy → Type} [FloatOps F] [Named F]
variable (w : BitVec 32) (kp kc kn : FVec F S128x128 .bf16) (kx : FVec F S256x128 .bf16) (q : FVec F S256x128 .bf16) (z : Vec F S1x1x1x256 .f32)
variable (vt : FVec F S144x640 .bf16)

/-- The row number of each entry of a tile of scores. -/
def rowNo : IVec S128x256 32 := iota .tc S128x256 32 [0] iota_S128x256_d0_w32

/-- The scores against the 128 keys before the queries' block. -/
def sBefore : FVec F S128x256 .f32 := k0_pay18 w rowNo k0_pay1 (k0_pay14 kp q)

/-- The scores against the block's own keys. -/
def sOwn : FVec F S128x256 .f32 := k0_pay15 kc q

/-- The scores against the 128 keys after the block. -/
def sAfter : FVec F S128x256 .f32 := k0_pay19 w rowNo k0_pay1 kn q

/-- The scores against the context tokens' keys. -/
def sCtx : FVec F S256x256 .f32 := k0_pay13 kx q

/-- Each query's largest score, its sink included. -/
def top : FVec F S1x256 .f32 := k0_pay20 w rowNo k0_pay1 kn kx q (k0_pay14 kp q) (k0_pay15 kc q) z

/-- The weights before the division. -/
def weights : FVec F S640x256 .bf16 :=
  k0_pay24 (sCtx kx q) (top w kp kc kn kx q z) (k0_pay21 w rowNo k0_pay1 kn kx q (k0_pay14 kp q) (k0_pay15 kc q) z)
    (k0_pay22 w rowNo k0_pay1 kn kx q (k0_pay14 kp q) (k0_pay15 kc q) z) (k0_pay23 w rowNo k0_pay1 kn kx q (k0_pay14 kp q) (k0_pay15 kc q) z)

/-- The two heads' output, one above the other. -/
def pairOut : FVec F S256x128 .f32 := k0_pay32 vt (top w kp kc kn kx q z) (weights w kp kc kn kx q z) z

/-- What the body stores for the first head of a pair. -/
def upper : FVec F S128x128 .bf16 :=
  truncf .bf16 (extractStridedSlice S128x128 ![0, 0] (pairOut w kp kc kn kx q z vt) slices_S256x128_o0_0_S128x128) bitsLt_bf16_f32

/-- What the body stores for the second head of a pair. -/
def lower : FVec F S128x128 .bf16 :=
  truncf .bf16 (extractStridedSlice S128x128 ![128, 0] (pairOut w kp kc kn kx q z vt) slices_S256x128_o128_0_S128x128) bitsLt_bf16_f32

end

variable (n : Fin 128) (kp kc kn : FVec Ideal S128x128 .bf16) (kx : FVec Ideal S256x128 .bf16) (q : FVec Ideal S256x128 .bf16) (z : Vec Ideal S1x1x1x256 .f32)
variable (vt : FVec Ideal S144x640 .bf16)

/-- The block's number as the body has it. -/
abbrev word (n : ℕ) : BitVec 32 := BitVec.ofNat 32 n

/-- The column's query number. -/
theorem col_apply (p : Fin 128) (j : Fin 256) : (k0_pay1 : IVec S128x256 32) (ix2 p j) = word (j.val % 128) := by
  pointwise [k0_pay1]
  revert j
  decide +kernel

/-- The named mask value is −∞. -/
theorem mask_eq : Named.named (F := Ideal) Cert.WindowIdeal.κ "mask" (φ := .f32) 0xF149F2CA#32 = (⊥ : EReal) :=
  IdealRules.named_const.ideal_named_scalar _ _ _ _ rfl

theorem neg_inf : Ideal.ofBits FTy.f32 4286578688#32 = (⊥ : EReal) := by simp [Ideal.ofBits, Ideal.ieee]

theorem sOwn_apply (p : Fin 128) (j : Fin 256) : sOwn kc q (ix2 p j) = ∑ d : Fin 128, kc (ix2 p d) * q (ix2 j d) := by
  pointwise [sOwn, k0_pay15]

theorem sCtx_apply (p : Fin 256) (j : Fin 256) : sCtx kx q (ix2 p j) = ∑ d : Fin 128, kx (ix2 p d) * q (ix2 j d) := by
  pointwise [sCtx, k0_pay13]

theorem sBefore_apply (p : Fin 128) (j : Fin 256) :
    sBefore (word n.val) kp q (ix2 p j) = if j.val % 128 ≤ p.val ∧ 0 < n.val then ∑ d : Fin 128, kp (ix2 p d) * q (ix2 j d) else ⊥ := by
  pointwise [sBefore, k0_pay18, k0_pay14, rowNo]
  rw [col_apply, mask_eq]
  have h1 : j.val % 128 < 128 := Nat.mod_lt _ (by decide)
  rw [show ∀ (e : CmpIPredicate) (x y : BitVec 32), Scalar.cmpi e x y = IntOp.cmpi e x y from fun _ _ _ => rfl, cmpi_sge_ofNat (by omega) (by omega), cmpi_sgt_ofNat (by omega) (by omega), andi_ofBool, ← Bool.decide_and, select_decide]

theorem sAfter_apply (p : Fin 128) (j : Fin 256) :
    sAfter (word n.val) kn q (ix2 p j) = if p.val ≤ j.val % 128 ∧ n.val < 127 then ∑ d : Fin 128, kn (ix2 p d) * q (ix2 j d) else ⊥ := by
  pointwise [sAfter, k0_pay19, rowNo]
  rw [col_apply, mask_eq]
  have h1 : j.val % 128 < 128 := Nat.mod_lt _ (by decide)
  rw [show ∀ (e : CmpIPredicate) (x y : BitVec 32), Scalar.cmpi e x y = IntOp.cmpi e x y from fun _ _ _ => rfl, cmpi_sle_ofNat (by omega) (by omega), cmpi_slt_ofNat (by omega) (by omega), andi_ofBool, ← Bool.decide_and, select_decide]

theorem top_apply (w : BitVec 32) (j : Fin 256) :
    top w kp kc kn kx q z (ix2 0 j)
      = max (max (max (max (z (ix4 0 0 0 j)) ((Finset.univ : Finset (Fin 128)).fold max ⊥ fun p => sBefore w kp q (ix2 p j)))
          ((Finset.univ : Finset (Fin 128)).fold max ⊥ fun p => sOwn kc q (ix2 p j)))
          ((Finset.univ : Finset (Fin 128)).fold max ⊥ fun p => sAfter w kn q (ix2 p j)))
          ((Finset.univ : Finset (Fin 256)).fold max ⊥ fun p => sCtx kx q (ix2 p j)) := by
  unfold sBefore sOwn sAfter sCtx
  pointwise [top, k0_pay20]
  rw [neg_inf]

/-- A column of scores, in the order of the weights' rows. -/
def sAll (w : BitVec 32) (j : Fin 256) (p : Fin 640) : EReal :=
  if h : p.val < 128 then sBefore w kp q (ix2 ⟨p.val, h⟩ j) else if h : p.val - 128 < 128 then sOwn kc q (ix2 ⟨p.val - 128, by omega⟩ j)
    else if h : p.val - 128 - 128 < 128 then sAfter w kn q (ix2 ⟨p.val - 128 - 128, by omega⟩ j) else sCtx kx q (ix2 ⟨p.val - 128 - 128 - 128, by omega⟩ j)

theorem weights_apply (w : BitVec 32) (p : Fin 640) (j : Fin 256) :
    weights w kp kc kn kx q z (ix2 p j) = Ideal.exp2 (sAll kp kc kn kx q w j p - top w kp kc kn kx q z (ix2 0 j)) := by
  unfold sAll
  pointwise [weights, k0_pay24, k0_pay21, k0_pay22, k0_pay23]
  split_ifs <;> rfl

/-- An entry of the two heads' output: the weighted sum of the values divided by the weights' sum and the sink's. -/
theorem pairOut_apply (w : BitVec 32) (j : Fin 256) (d : Fin 128) :
    pairOut w kp kc kn kx q z vt (ix2 j d)
      = Ideal.div (∑ p : Fin 640, vt (ix2 ⟨d.val, by omega⟩ p) * Ideal.exp2 (sAll kp kc kn kx q w j p - top w kp kc kn kx q z (ix2 0 j)))
          (∑ p : Fin 640, vt (ix2 128 p) * Ideal.exp2 (sAll kp kc kn kx q w j p - top w kp kc kn kx q z (ix2 0 j))
            + Ideal.exp2 (z (ix4 0 0 0 j) - top w kp kc kn kx q z (ix2 0 j))) := by
  simp only [← weights_apply]
  pointwise [pairOut, k0_pay32]
  rfl

end Cert.WindowIdeal.Hand
-- ==== Proof.WindowBlock.lean ====
/-
  What one run of the windowed attention's body leaves in its output block: each pair of heads' output, as a function of
  the blocks the body loads.
-/
module

public import proofs.«01_k».proof.Proof.WindowPair
public import Idealize.ShloMosaic.Lib.Pipeline.ReadBack

@[expose] public section

set_option maxRecDepth 16384

noncomputable section

namespace Cert.WindowIdeal.Hand

open Cert.WindowIdeal Cert.WindowIdeal.Gen Cert.Softmax
open Idealize.ShloMosaic Idealize.ShloMosaic.TcCoe Idealize.SL.Sem

/-- Head 0's columns lie off head 1's. -/
theorem skip10 (y : S128x128.Idx) : (Rect.unit (s := S128x512) ![0, 0] S128x128.size inb_S128x512_S128x128_0_0).emb y ∉ (Rect.unit (s := S128x512) ![0, 128] S128x128.size inb_S128x512_S128x128_0_128).set :=
  LoadRect.idx_not_mem_of_disj (p := (Rect.unit (s := S128x512) ![0, 128] S128x128.size inb_S128x512_S128x128_0_128)) (B := (Rect.unit (s := S128x512) ![0, 0] S128x128.size inb_S128x512_S128x128_0_0).toLoadRect) (by decide) y

/-- Head 0's columns lie off head 2's. -/
theorem skip20 (y : S128x128.Idx) : (Rect.unit (s := S128x512) ![0, 0] S128x128.size inb_S128x512_S128x128_0_0).emb y ∉ (Rect.unit (s := S128x512) ![0, 256] S128x128.size inb_S128x512_S128x128_0_256).set :=
  LoadRect.idx_not_mem_of_disj (p := (Rect.unit (s := S128x512) ![0, 256] S128x128.size inb_S128x512_S128x128_0_256)) (B := (Rect.unit (s := S128x512) ![0, 0] S128x128.size inb_S128x512_S128x128_0_0).toLoadRect) (by decide) y

/-- Head 0's columns lie off head 3's. -/
theorem skip30 (y : S128x128.Idx) : (Rect.unit (s := S128x512) ![0, 0] S128x128.size inb_S128x512_S128x128_0_0).emb y ∉ (Rect.unit (s := S128x512) ![0, 384] S128x128.size inb_S128x512_S128x128_0_384).set :=
  LoadRect.idx_not_mem_of_disj (p := (Rect.unit (s := S128x512) ![0, 384] S128x128.size inb_S128x512_S128x128_0_384)) (B := (Rect.unit (s := S128x512) ![0, 0] S128x128.size inb_S128x512_S128x128_0_0).toLoadRect) (by decide) y

/-- Head 1's columns lie off head 2's. -/
theorem skip21 (y : S128x128.Idx) : (Rect.unit (s := S128x512) ![0, 128] S128x128.size inb_S128x512_S128x128_0_128).emb y ∉ (Rect.unit (s := S128x512) ![0, 256] S128x128.size inb_S128x512_S128x128_0_256).set :=
  LoadRect.idx_not_mem_of_disj (p := (Rect.unit (s := S128x512) ![0, 256] S128x128.size inb_S128x512_S128x128_0_256)) (B := (Rect.unit (s := S128x512) ![0, 128] S128x128.size inb_S128x512_S128x128_0_128).toLoadRect) (by decide) y

/-- Head 1's columns lie off head 3's. -/
theorem skip31 (y : S128x128.Idx) : (Rect.unit (s := S128x512) ![0, 128] S128x128.size inb_S128x512_S128x128_0_128).emb y ∉ (Rect.unit (s := S128x512) ![0, 384] S128x128.size inb_S128x512_S128x128_0_384).set :=
  LoadRect.idx_not_mem_of_disj (p := (Rect.unit (s := S128x512) ![0, 384] S128x128.size inb_S128x512_S128x128_0_384)) (B := (Rect.unit (s := S128x512) ![0, 128] S128x128.size inb_S128x512_S128x128_0_128).toLoadRect) (by decide) y

/-- Head 2's columns lie off head 3's. -/
theorem skip32 (y : S128x128.Idx) : (Rect.unit (s := S128x512) ![0, 256] S128x128.size inb_S128x512_S128x128_0_256).emb y ∉ (Rect.unit (s := S128x512) ![0, 384] S128x128.size inb_S128x512_S128x128_0_384).set :=
  LoadRect.idx_not_mem_of_disj (p := (Rect.unit (s := S128x512) ![0, 384] S128x128.size inb_S128x512_S128x128_0_384)) (B := (Rect.unit (s := S128x512) ![0, 256] S128x128.size inb_S128x512_S128x128_0_256).toLoadRect) (by decide) y

section

variable {F : FTy → Type} [FloatOps F] [Named F]
variable (c : Dev nD) (i : grid0.Coords)
  (arg2 : Memref sig .tc .vmem S128x512 .bf16) (harg2 : arg2.IsWhole) (arg3 : Memref sig .tc .vmem S16640x128 .bf16) (harg3 : arg3.IsWhole)
  (arg4 : Memref sig .tc .vmem S1x130x144x128 .bf16) (harg4 : arg4.IsWhole) (arg5 : Memref sig .tc .vmem S1x2x1x256 .f32) (harg5 : arg5.IsWhole)
  (arg6 : Memref sig .tc .vmem S128x512 .bf16) (harg6 : arg6.IsWhole)
  (x0 : Vec F S128x512 .bf16) (x1 : Vec F S16640x128 .bf16) (x2 : Vec F S1x130x144x128 .bf16) (x3 : Vec F S1x2x1x256 .f32)

/-- The 128 keys before the block. -/
def kBefore : FVec F S128x128 .bf16 := k0_pay2 (View.ld x1 (Rect.unit (s := S16640x128) (k0_off1 i) S128x128.size (k0_off1_inb i)))

/-- The block's own keys. -/
def kOwn : FVec F S128x128 .bf16 := k0_pay3 (View.ld x1 (Rect.unit (s := S16640x128) (k0_off2 i) S128x128.size (k0_off2_inb i)))

/-- The 128 keys after the block. -/
def kAfter : FVec F S128x128 .bf16 := k0_pay4 (View.ld x1 (Rect.unit (s := S16640x128) (k0_off3 i) S128x128.size (k0_off3_inb i)))

/-- The context tokens' keys. -/
def kCtx : FVec F S256x128 .bf16 := k0_pay5 (View.ld x1 (Rect.unit (s := S16640x128) ![0, 0] S256x128.size inb_S16640x128_S256x128_0_0))

/-- The transposed values of the same keys, side by side. -/
def vAll : FVec F S144x640 .bf16 :=
  k0_pay8 (k0_pay6 (View.ld x2 (Rect.unit (s := S1x130x144x128) (k0_off4 i) S1x1x144x128.size (k0_off4_inb i))))
    (k0_pay7 (View.ld x2 (Rect.unit (s := S1x130x144x128) (k0_off5 i) S1x1x144x128.size (k0_off5_inb i))))
    (View.ld x2 (Rect.unit (s := S1x130x144x128) (k0_off6 i) S1x1x144x128.size (k0_off6_inb i)))
    (View.ld x2 (Rect.unit (s := S1x130x144x128) ![0, 0, 0, 0] S1x1x144x128.size inb_S1x130x144x128_S1x1x144x128_0_0_0_0))
    (View.ld x2 (Rect.unit (s := S1x130x144x128) ![0, 1, 0, 0] S1x1x144x128.size inb_S1x130x144x128_S1x1x144x128_0_1_0_0))

/-- The queries of the first pair of heads, one head above the other. -/
def q01 : FVec F S256x128 .bf16 := k0_pay9 (View.ld x0 (Rect.unit (s := S128x512) ![0, 0] S128x128.size inb_S128x512_S128x128_0_0)) (View.ld x0 (Rect.unit (s := S128x512) ![0, 128] S128x128.size inb_S128x512_S128x128_0_128))

/-- The queries of the second pair of heads. -/
def q23 : FVec F S256x128 .bf16 := k0_pay10 (View.ld x0 (Rect.unit (s := S128x512) ![0, 256] S128x128.size inb_S128x512_S128x128_0_256)) (View.ld x0 (Rect.unit (s := S128x512) ![0, 384] S128x128.size inb_S128x512_S128x128_0_384))

/-- The sinks of the first pair. -/
def z01 : Vec F S1x1x1x256 .f32 := View.ld x3 (Rect.unit (s := S1x2x1x256) ![0, 0, 0, 0] S1x1x1x256.size inb_S1x2x1x256_S1x1x1x256_0_0_0_0)

/-- The sinks of the second pair. -/
def z23 : Vec F S1x1x1x256 .f32 := View.ld x3 (Rect.unit (s := S1x2x1x256) ![0, 1, 0, 0] S1x1x1x256.size inb_S1x2x1x256_S1x1x1x256_0_1_0_0)

theorem q01_eq : kernelRun0_A.sl.v106 (F := F) c arg2 harg2 x0 = q01 x0 := by
  change k0_pay9 (arg2.view.readAt (Elt F) (Rect.unit (s := S128x512) ![0, 0] S128x128.size inb_S128x512_S128x128_0_0).toLoadRect (harg2.unread x0)) (arg2.view.readAt (Elt F) (Rect.unit (s := S128x512) ![0, 128] S128x128.size inb_S128x512_S128x128_0_128).toLoadRect (harg2.unread x0)) = _
  simp only [View.readAt_eq_ld, harg2.read_unread]
  rfl

theorem q23_eq : kernelRun0_A.sl.v111 (F := F) c arg2 harg2 x0 = q23 x0 := by
  change k0_pay10 (arg2.view.readAt (Elt F) (Rect.unit (s := S128x512) ![0, 256] S128x128.size inb_S128x512_S128x128_0_256).toLoadRect (harg2.unread x0)) (arg2.view.readAt (Elt F) (Rect.unit (s := S128x512) ![0, 384] S128x128.size inb_S128x512_S128x128_0_384).toLoadRect (harg2.unread x0)) = _
  simp only [View.readAt_eq_ld, harg2.read_unread]
  rfl

theorem vAll_eq : kernelRun0_A.sl.v101 (F := F) c i arg4 harg4 x2 = vAll i x2 := by
  change k0_pay8 (k0_pay6 (arg4.view.readAt (Elt F) (Rect.unit (s := S1x130x144x128) (k0_off4 i) S1x1x144x128.size (k0_off4_inb i)).toLoadRect (harg4.unread x2))) (k0_pay7 (arg4.view.readAt (Elt F) (Rect.unit (s := S1x130x144x128) (k0_off5 i) S1x1x144x128.size (k0_off5_inb i)).toLoadRect (harg4.unread x2)))
    (arg4.view.readAt (Elt F) (Rect.unit (s := S1x130x144x128) (k0_off6 i) S1x1x144x128.size (k0_off6_inb i)).toLoadRect (harg4.unread x2)) (arg4.view.readAt (Elt F) (Rect.unit (s := S1x130x144x128) ![0, 0, 0, 0] S1x1x144x128.size inb_S1x130x144x128_S1x1x144x128_0_0_0_0).toLoadRect (harg4.unread x2))
    (arg4.view.readAt (Elt F) (Rect.unit (s := S1x130x144x128) ![0, 1, 0, 0] S1x1x144x128.size inb_S1x130x144x128_S1x1x144x128_0_1_0_0).toLoadRect (harg4.unread x2)) = _
  simp only [View.readAt_eq_ld, harg4.read_unread]
  rfl

theorem s112_eq : kernelRun0_A.sl.v112 (F := F) c i arg2 harg2 arg3 harg3 x0 x1 = k0_pay14 (kBefore i x1) (q01 x0) := by
  have h : kernelRun0_A.sl.v28 (F := F) c i arg3 harg3 x1 = kBefore i x1 := by
    unfold kernelRun0_A.sl.v28
    simp only [View.readAt_eq_ld, harg3.read_unread]
    rfl
  rw [← h, ← q01_eq c arg2 harg2 x0]
  rfl

theorem s113_eq : kernelRun0_A.sl.v113 (F := F) c i arg2 harg2 arg3 harg3 x0 x1 = k0_pay15 (kOwn i x1) (q01 x0) := by
  have h : kernelRun0_A.sl.v31 (F := F) c i arg3 harg3 x1 = kOwn i x1 := by
    unfold kernelRun0_A.sl.v31
    simp only [View.readAt_eq_ld, harg3.read_unread]
    rfl
  rw [← h, ← q01_eq c arg2 harg2 x0]
  rfl

/-- The output block's columns of head 0. -/
theorem out_head0 (y : S128x128.Idx) : out0_A_4 (F := F) c i arg2 harg2 arg3 harg3 arg4 harg4 arg5 harg5 arg6 harg6 x0 x1 x2 x3 ((Rect.unit (s := S128x512) ![0, 0] S128x128.size inb_S128x512_S128x128_0_0).emb y)
    = upper (BitVec.ofNat 32 (i 1).val) (kBefore i x1) (kOwn i x1) (kAfter i x1) (kCtx x1) (q01 x0) (z01 x3) (vAll i x2) y := by
  unfold out0_A_4 kernelRun0_A
  dsimp only
  rw [View.read_writes_junk_eq_canon]
  refine (View.canon_cons_of_not_mem (⟨(Rect.unit (s := S128x512) ![0, 384] S128x128.size inb_S128x512_S128x128_0_384), _⟩ : View.Piece (Elt F) S128x512 .bf16) _ (skip30 y)).trans ?_
  refine (View.canon_cons_of_not_mem (⟨(Rect.unit (s := S128x512) ![0, 256] S128x128.size inb_S128x512_S128x128_0_256), _⟩ : View.Piece (Elt F) S128x512 .bf16) _ (skip20 y)).trans ?_
  refine (View.canon_cons_of_not_mem (⟨(Rect.unit (s := S128x512) ![0, 128] S128x128.size inb_S128x512_S128x128_0_128), _⟩ : View.Piece (Elt F) S128x512 .bf16) _ (skip10 y)).trans ?_
  refine (View.canon_cons_emb (Rect.unit (s := S128x512) ![0, 0] S128x128.size inb_S128x512_S128x128_0_0) _ _ y).trans ?_
  simp only [s112_eq, s113_eq, q01_eq, q23_eq, vAll_eq, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.v28, kernelRun0_A.sl.v31, kernelRun0_A.sl.v34, kernelRun0_A.sl.v36, View.readAt_eq_ld, harg2.read_unread, harg3.read_unread, harg4.read_unread, harg5.read_unread]
  rfl

/-- The output block's columns of head 1. -/
theorem out_head1 (y : S128x128.Idx) : out0_A_4 (F := F) c i arg2 harg2 arg3 harg3 arg4 harg4 arg5 harg5 arg6 harg6 x0 x1 x2 x3 ((Rect.unit (s := S128x512) ![0, 128] S128x128.size inb_S128x512_S128x128_0_128).emb y)
    = lower (BitVec.ofNat 32 (i 1).val) (kBefore i x1) (kOwn i x1) (kAfter i x1) (kCtx x1) (q01 x0) (z01 x3) (vAll i x2) y := by
  unfold out0_A_4 kernelRun0_A
  dsimp only
  rw [View.read_writes_junk_eq_canon]
  refine (View.canon_cons_of_not_mem (⟨(Rect.unit (s := S128x512) ![0, 384] S128x128.size inb_S128x512_S128x128_0_384), _⟩ : View.Piece (Elt F) S128x512 .bf16) _ (skip31 y)).trans ?_
  refine (View.canon_cons_of_not_mem (⟨(Rect.unit (s := S128x512) ![0, 256] S128x128.size inb_S128x512_S128x128_0_256), _⟩ : View.Piece (Elt F) S128x512 .bf16) _ (skip21 y)).trans ?_
  refine (View.canon_cons_emb (Rect.unit (s := S128x512) ![0, 128] S128x128.size inb_S128x512_S128x128_0_128) _ _ y).trans ?_
  simp only [s112_eq, s113_eq, q01_eq, q23_eq, vAll_eq, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.v28, kernelRun0_A.sl.v31, kernelRun0_A.sl.v34, kernelRun0_A.sl.v36, View.readAt_eq_ld, harg2.read_unread, harg3.read_unread, harg4.read_unread, harg5.read_unread]
  rfl

/-- The output block's columns of head 2. -/
theorem out_head2 (y : S128x128.Idx) : out0_A_4 (F := F) c i arg2 harg2 arg3 harg3 arg4 harg4 arg5 harg5 arg6 harg6 x0 x1 x2 x3 ((Rect.unit (s := S128x512) ![0, 256] S128x128.size inb_S128x512_S128x128_0_256).emb y)
    = upper (BitVec.ofNat 32 (i 1).val) (kBefore i x1) (kOwn i x1) (kAfter i x1) (kCtx x1) (q23 x0) (z23 x3) (vAll i x2) y := by
  unfold out0_A_4 kernelRun0_A
  dsimp only
  rw [View.read_writes_junk_eq_canon]
  refine (View.canon_cons_of_not_mem (⟨(Rect.unit (s := S128x512) ![0, 384] S128x128.size inb_S128x512_S128x128_0_384), _⟩ : View.Piece (Elt F) S128x512 .bf16) _ (skip32 y)).trans ?_
  refine (View.canon_cons_emb (Rect.unit (s := S128x512) ![0, 256] S128x128.size inb_S128x512_S128x128_0_256) _ _ y).trans ?_
  simp only [s112_eq, s113_eq, q01_eq, q23_eq, vAll_eq, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.v28, kernelRun0_A.sl.v31, kernelRun0_A.sl.v34, kernelRun0_A.sl.v36, View.readAt_eq_ld, harg2.read_unread, harg3.read_unread, harg4.read_unread, harg5.read_unread]
  rfl

/-- The output block's columns of head 3. -/
theorem out_head3 (y : S128x128.Idx) : out0_A_4 (F := F) c i arg2 harg2 arg3 harg3 arg4 harg4 arg5 harg5 arg6 harg6 x0 x1 x2 x3 ((Rect.unit (s := S128x512) ![0, 384] S128x128.size inb_S128x512_S128x128_0_384).emb y)
    = lower (BitVec.ofNat 32 (i 1).val) (kBefore i x1) (kOwn i x1) (kAfter i x1) (kCtx x1) (q23 x0) (z23 x3) (vAll i x2) y := by
  unfold out0_A_4 kernelRun0_A
  dsimp only
  rw [View.read_writes_junk_eq_canon]
  refine (View.canon_cons_emb (Rect.unit (s := S128x512) ![0, 384] S128x128.size inb_S128x512_S128x128_0_384) _ _ y).trans ?_
  simp only [s112_eq, s113_eq, q01_eq, q23_eq, vAll_eq, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.v28, kernelRun0_A.sl.v31, kernelRun0_A.sl.v34, kernelRun0_A.sl.v36, View.readAt_eq_ld, harg2.read_unread, harg3.read_unread, harg4.read_unread, harg5.read_unread]
  rfl

end

end Cert.WindowIdeal.Hand
-- ==== Proof.WindowHost.lean ====
/-
  The windowed attention's operands as the host prepares them, read at an index, and the attention they lead to: which
  keys a query sees, in the order in which the call and the reference both list them (128 keys before the query's block,
  the block's own, 128 after it, and the 256 context tokens').
-/
module

public import proofs.«01_k».proof.Proof.Host
public import proofs.«01_k».proof.Proof.Masked
public import proofs.«01_k».proof.Proof.Gen.WindowIdeal.Value
public import Idealize.ShloMosaic.Lib.Claim
public import Idealize.ShloMosaic.Lib.Pipeline.ValueKit

@[expose] public section

set_option maxRecDepth 16384

noncomputable section

namespace Cert.WindowIdeal.Hand

open Cert.WindowIdeal Cert.WindowIdeal.Gen Cert.Softmax Cert.GlobalIdeal.Hand
open Idealize.ShloMosaic Idealize.ShloMosaic.TcCoe Idealize.SL.Sem

/-! ## The attention -/

/-- The key that stands at place `p` of the list that block `n` of 128 queries sees. After the last block stands that
    block again, where every place is masked. -/
def key (n : Fin 128) (p : Fin 640) : Fin 16640 :=
  ⟨if p.val < 128 then 128 * n.val + 128 + p.val else if p.val < 256 then 128 * n.val + 256 + (p.val - 128)
    else if p.val < 384 then min (128 * n.val + 384) 16512 + (p.val - 256) else p.val - 384, by split_ifs <;> omega⟩

/-- Whether query `r` of block `n` sees place `p`: a latent token within 128 of its own, or a context token. -/
def near (n r : Fin 128) (p : Fin 640) : Prop :=
  (p.val < 128 → r.val ≤ p.val ∧ 0 < n.val) ∧ (256 ≤ p.val → p.val < 384 → p.val - 256 ≤ r.val ∧ n.val < 127)

instance (n r : Fin 128) : DecidablePred (near n r) := fun p => by unfold near; infer_instance

/-- The latent token of query `r` of block `n`. -/
def tok (n r : Fin 128) : Fin 16384 := ⟨128 * n.val + r.val, by omega⟩

/-- A query's scores along its list, in powers of two. -/
def places (Q : Vec Ideal S16384x2x4x128 .f32) (K : Vec Ideal S16640x2x128 .f32) (n r : Fin 128) (h : Fin 2) (g : Fin 4) (p : Fin 640) : ℝ :=
  score Q K (tok n r) h g (key n p)

/-- A head's sink, in powers of two. -/
def sink2 (Z : Vec Ideal S8 .f32) (h : Fin 2) (g : Fin 4) : ℝ := (Z (ix1 ⟨4 * h.val + g.val, by omega⟩) : EReal).toReal * (1 / Real.log 2)

/-- The attention of query `r` of block `n` in head `g` of key head `h`, coordinate `d`. -/
def watt (Q : Vec Ideal S16384x2x4x128 .f32) (K V : Vec Ideal S16640x2x128 .f32) (Z : Vec Ideal S8 .f32) (n r : Fin 128) (h : Fin 2) (g : Fin 4) (d : Fin 128) : EReal :=
  ∑ p : Fin 640, V (ix3 (key n p) h d) * ((share (near n r) (places Q K n r h g) (sink2 Z h g) p : ℝ) : EReal)

/-! ## The operands -/

/-- The packed array that the call reads its queries and keys from. -/
def qkvW (q : Vec Ideal S16384x2x4x128 .f32) (k v : Vec Ideal S16640x2x128 .f32) : Vec Ideal S16640x3072 .bf16 :=
  truncf .bf16 (concatenate S16640x3072 1 [⟨S16640x1024, concatenate S16640x1024 0 [⟨S256x1024, broadcastInDim S256x1024 ![] bcast_S_S256x1024 (constant (F := Ideal) S_ .f32 0x00000000#32)⟩,
      ⟨S16384x1024, scaled q⟩] concatenates_S256x1024_S16384x1024_S16640x1024_d0⟩,
    ⟨S16640x256, shapeCast S16640x256 k shapeCasts_S16640x2x128_S16640x256⟩,
    ⟨S16640x256, shapeCast S16640x256 v shapeCasts_S16640x2x128_S16640x256⟩,
    ⟨S16640x1536, broadcastInDim S16640x1536 ![] bcast_S_S16640x1536 (constant (F := Ideal) S_ .f32 0x00000000#32)⟩] concatenates_S16640x1024_S16640x256_S16640x256_S16640x1536_S16640x3072_d1) bitsLt_bf16_f32

/-- The values in chunks of 128 keys, transposed, with a row of ones below each chunk. -/
def vtW (v : Vec Ideal S16640x2x128 .f32) : Vec Ideal S2x130x144x128 .bf16 :=
  truncf .bf16 (concatenate S2x130x144x128 2 [⟨S2x130x128x128, transpose S2x130x128x128 [2, 0, 3, 1]
      (shapeCast S130x128x2x128 v shapeCasts_S16640x2x128_S130x128x2x128) transposes_S130x128x2x128_S2x130x128x128_2_0_3_1⟩,
    ⟨S2x130x1x128, broadcastInDim S2x130x1x128 ![] bcast_S_S2x130x1x128 (constant (F := Ideal) S_ .f32 0x3F800000#32)⟩,
    ⟨S2x130x15x128, broadcastInDim S2x130x15x128 ![] bcast_S_S2x130x15x128 (constant (F := Ideal) S_ .f32 0x00000000#32)⟩] concatenates_S2x130x128x128_S2x130x1x128_S2x130x15x128_S2x130x144x128_d2) bitsLt_bf16_f32

/-- The sinks divided by `log 2`, each repeated for the 128 queries of a block. -/
def sinksW (z : Vec Ideal S8 .f32) : Vec Ideal S2x2x1x256 .f32 :=
  shapeCast S2x2x1x256 (shapeCast S1024 (broadcastInDim S8x128 ![0] bcast_S8_S8x128_0 (Host.divf (F := Ideal) (φ := .f32) z
    (broadcastInDim S8 ![] bcast_S_S8 (Host.log (constant (F := Ideal) S_ .f32 0x40000000#32))))) shapeCasts_S8x128_S1024) shapeCasts_S1024_S2x2x1x256

/-- The packed array holds the scaled queries in the latent tokens' rows. -/
theorem qkvW_q (q : Vec Ideal S16384x2x4x128 .f32) (k v : Vec Ideal S16640x2x128 .f32) (i : Fin 16384) (j : Fin 1024) :
    qkvW q k v (ix2 ⟨256 + i.val, by omega⟩ ⟨j.val, by omega⟩) = scaled q (ix2 i j) := by
  pointwise [qkvW]

/-- The packed array holds the keys from column 1024 on. -/
theorem qkvW_k (q : Vec Ideal S16384x2x4x128 .f32) (k v : Vec Ideal S16640x2x128 .f32) (i : Fin 16640) (h : Fin 2) (d : Fin 128) :
    qkvW q k v (ix2 i ⟨1024 + 128 * h.val + d.val, by omega⟩) = k (ix3 i h d) := by
  pointwise [qkvW]
  rw [dif_neg (by omega), dif_pos (by omega)]
  congr 2 <;> exact Fin.ext (by simp only; omega)

/-- A transposed value at an index. -/
theorem vtW_v (v : Vec Ideal S16640x2x128 .f32) (h : Fin 2) (n : Fin 130) (e : Fin 144) (he : e.val < 128) (κ : Fin 128) :
    vtW v (ix4 h n e κ) = v (ix3 ⟨128 * n.val + κ.val, by omega⟩ h ⟨e.val, he⟩) := by
  pointwise [vtW]
  rw [dif_pos he]
  congr 2; exact Fin.ext (by simp only; omega)

/-- Row 128 of the transposed values is ones. -/
theorem vtW_one (v : Vec Ideal S16640x2x128 .f32) (h : Fin 2) (n : Fin 130) (κ : Fin 128) :
    vtW v (ix4 h n 128 κ) = (1 : EReal) := by
  pointwise [vtW]

/-- A sink at an index. -/
theorem sinksW_apply (z : Vec Ideal S8 .f32) (h : Fin 2) (g : Fin 4) (r : Fin 128) :
    sinksW z (ix4 h ⟨g.val / 2, by omega⟩ 0 ⟨128 * (g.val % 2) + r.val, by omega⟩) = z (ix1 ⟨4 * h.val + g.val, by omega⟩) * ((1 / Real.log 2 : ℝ) : EReal) := by
  pointwise [sinksW]
  rw [bits_2, Ideal.log_coe, if_neg (by norm_num)]
  refine (Ideal.div_coe (Real.log_pos (by norm_num)).ne' _).trans ?_
  congr 3; exact Fin.ext (by simp only; omega)

section

variable (m : (ℓ : Loc nD τ sig) → Buf (Elt Ideal) ℓ) (c : Dev nD)

/-- The call's first two operands are the packed array. -/
theorem V_qkvW : V m c main_v12 = qkvW (m ((c : Thread nD τ).loc main_arg0)) (m ((c : Thread nD τ).loc main_arg1)) (m ((c : Thread nD τ).loc main_arg2)) := by
  rfl

/-- The call's third operand is the array of transposed values. -/
theorem V_vtW : V m c main_v18 = vtW (m ((c : Thread nD τ).loc main_arg2)) := by
  rfl

/-- The call's fourth operand is the array of sinks. -/
theorem V_sinksW : V m c main_v24 = sinksW (m ((c : Thread nD τ).loc main_arg3)) := by
  rfl

/-- Which block of its array each window has at grid point `t`. -/
theorem idx : ∀ t : Fin cfg0.N, win0_0.index t = ![t.val % 128 + 2, t.val / 128] ∧ win0_1.index t = ![0, 8 + t.val / 128]
    ∧ win0_2.index t = ![t.val / 128, 0, 0, 0] ∧ win0_3.index t = ![t.val / 128, 0, 0, 0] ∧ win0_4.index t = ![t.val % 128 + 2, t.val / 128]
    ∧ (grid0.coords t 1).val = t.val % 128 ∧ t.val < 256 :=
  (by decide +kernel : ∀ t : Fin grid0.N, win0_0.index t = ![t.val % 128 + 2, t.val / 128] ∧ win0_1.index t = ![0, 8 + t.val / 128]
    ∧ win0_2.index t = ![t.val / 128, 0, 0, 0] ∧ win0_3.index t = ![t.val / 128, 0, 0, 0] ∧ win0_4.index t = ![t.val % 128 + 2, t.val / 128]
    ∧ (grid0.coords t 1).val = t.val % 128 ∧ t.val < 256)

theorem lt256 (t : Fin cfg0.N) : t.val < 256 := (idx t).2.2.2.2.2.2

/-- The block of queries of grid point `t`. -/
def bk (t : Fin cfg0.N) : Fin 128 := ⟨t.val % 128, by omega⟩

/-- The key head of grid point `t`. -/
def hd (t : Fin cfg0.N) : Fin 2 := ⟨t.val / 128, by have := lt256 t; omega⟩

/-- The query block at an index. -/
theorem blk_q (t : Fin cfg0.N) (Q : Vec Ideal S16384x2x4x128 .f32) (hQ : Q = m ((c : Thread nD τ).loc main_arg0))
    (r : Fin 128) (g : Fin 4) (d : Fin 128) :
    (iblk m c 0 t : Vec Ideal S128x512 .bf16) (ix2 r ⟨128 * g.val + d.val, by omega⟩)
      = Q (ix4 (tok (bk t) r) (hd t) g d) * ((1 / scaleBy : ℝ) : EReal) := by
  subst hQ
  refine Eq.trans ?_ (scaled_apply (m ((c : Thread nD τ).loc main_arg0)) (tok (bk t) r) (hd t) g d)
  refine Eq.trans ?_ (qkvW_q (m ((c : Thread nD τ).loc main_arg0)) (m ((c : Thread nD τ).loc main_arg1)) (m ((c : Thread nD τ).loc main_arg2)) (tok (bk t) r) _)
  rw [← V_qkvW]
  have := lt256 t
  unfold tok hd bk
  blk_ext [iblk, idx t]

/-- The key block at an index. -/
theorem blk_k (t : Fin cfg0.N) (n : Fin 16640) (d : Fin 128) :
    (iblk m c 1 t : Vec Ideal S16640x128 .bf16) (ix2 n d)
      = (m ((c : Thread nD τ).loc main_arg1) : Vec Ideal S16640x2x128 .f32) (ix3 n (hd t) d) := by
  refine Eq.trans ?_ (qkvW_k (m ((c : Thread nD τ).loc main_arg0)) (m ((c : Thread nD τ).loc main_arg1)) (m ((c : Thread nD τ).loc main_arg2)) n (hd t) d)
  rw [← V_qkvW]
  have := lt256 t
  unfold hd
  blk_ext [iblk, idx t]

/-- The block of transposed values is key head `hd t` of its array. -/
theorem blk_vt (t : Fin cfg0.N) (n : Fin 130) (e : Fin 144) (κ : Fin 128) :
    (iblk m c 2 t : Vec Ideal S1x130x144x128 .bf16) (ix4 0 n e κ) = vtW (m ((c : Thread nD τ).loc main_arg2)) (ix4 (hd t) n e κ) := by
  rw [← V_vtW]
  have := lt256 t
  unfold hd
  blk_ext [iblk, idx t]

/-- The block of sinks is key head `hd t` of its array. -/
theorem blk_sink (t : Fin cfg0.N) (p : Fin 2) (j : Fin 256) :
    (iblk m c 3 t : Vec Ideal S1x2x1x256 .f32) (ix4 0 p 0 j) = sinksW (m ((c : Thread nD τ).loc main_arg3)) (ix4 (hd t) p 0 j) := by
  rw [← V_sinksW]
  have := lt256 t
  unfold hd
  blk_ext [iblk, idx t]

end

end Cert.WindowIdeal.Hand
-- ==== Proof.WindowPoint.lean ====
/-
  The windowed attention's call: what its result array holds at a latent token's row.
-/
module

public import proofs.«01_k».proof.Proof.WindowBlock
public import proofs.«01_k».proof.Proof.WindowHost

@[expose] public section

set_option maxRecDepth 16384

noncomputable section

namespace Cert.WindowIdeal.Hand

open Cert.WindowIdeal Cert.WindowIdeal.Gen Cert.Softmax
open Cert.GlobalIdeal.Hand (scaleBy score score_real)
open Idealize.ShloMosaic Idealize.ShloMosaic.TcCoe Idealize.SL.Sem

theorem key_eq (n : Fin 128) (p : Fin 640) : (key n p).val = if p.val < 128 then 128 * n.val + 128 + p.val else if p.val < 256 then 128 * n.val + 256 + (p.val - 128)
    else if p.val < 384 then min (128 * n.val + 384) 16512 + (p.val - 256) else p.val - 384 := rfl

/-- A finite sink, scaled, as a real number. -/
theorem sink_real (Z : Vec Ideal S8 .f32) (rz : ∀ i, Z i = (((Z i : EReal).toReal : ℝ) : EReal)) (h : Fin 2) (g : Fin 4) :
    Z (ix1 ⟨4 * h.val + g.val, by omega⟩) * ((1 / Real.log 2 : ℝ) : EReal) = ((sink2 Z h g : ℝ) : EReal) := by
  rw [rz, ← EReal.coe_mul]
  rfl

section

variable (Q : Vec Ideal S16384x2x4x128 .f32) (K V : Vec Ideal S16640x2x128 .f32) (Z : Vec Ideal S8 .f32)
variable (rq : ∀ i, Q i = (((Q i : EReal).toReal : ℝ) : EReal)) (rk : ∀ i, K i = (((K i : EReal).toReal : ℝ) : EReal)) (rz : ∀ i, Z i = (((Z i : EReal).toReal : ℝ) : EReal))
variable (n r : Fin 128) (h : Fin 2) (g : Fin 4) (j : Fin 256) (hj : j.val % 128 = r.val)
variable (kp kc kn : FVec Ideal S128x128 .bf16) (kx : FVec Ideal S256x128 .bf16) (q : FVec Ideal S256x128 .bf16) (z : Vec Ideal S1x1x1x256 .f32)
variable (vt : FVec Ideal S144x640 .bf16)
variable (hq : ∀ d : Fin 128, q (ix2 j d) = Q (ix4 (tok n r) h g d) * ((1 / scaleBy : ℝ) : EReal))
variable (hkp : ∀ (p : Fin 128) (d : Fin 128), kp (ix2 p d) = K (ix3 (key n ⟨p.val, by omega⟩) h d))
variable (hkc : ∀ (p : Fin 128) (d : Fin 128), kc (ix2 p d) = K (ix3 (key n ⟨128 + p.val, by omega⟩) h d))
variable (hkn : ∀ (p : Fin 128) (d : Fin 128), kn (ix2 p d) = K (ix3 (key n ⟨256 + p.val, by omega⟩) h d))
variable (hkx : ∀ (p : Fin 256) (d : Fin 128), kx (ix2 p d) = K (ix3 (key n ⟨384 + p.val, by omega⟩) h d))
variable (hz : z (ix4 0 0 0 j) = Z (ix1 ⟨4 * h.val + g.val, by omega⟩) * ((1 / Real.log 2 : ℝ) : EReal))
variable (hv : ∀ (p : Fin 640) (d : Fin 128), vt (ix2 ⟨d.val, by omega⟩ p) = V (ix3 (key n p) h d)) (hone : ∀ p : Fin 640, vt (ix2 128 p) = (1 : EReal))

include rq rk hq

include hkp hj in
theorem before_real (p : Fin 128) : sBefore (word n.val) kp q (ix2 p j) = if near n r ⟨p.val, by omega⟩ then ((places Q K n r h g ⟨p.val, by omega⟩ : ℝ) : EReal) else ⊥ := by
  rw [sBefore_apply]
  refine if_congr ?_ ?_ rfl
  · unfold near; simp only; omega
  · simp only [hkp, hq]
    exact score_real Q K rq rk _ _ _ _

include hkc in
theorem own_real (p : Fin 128) : sOwn kc q (ix2 p j) = ((places Q K n r h g ⟨128 + p.val, by omega⟩ : ℝ) : EReal) := by
  rw [sOwn_apply]
  simp only [hkc, hq]
  exact score_real Q K rq rk _ _ _ _

include hkn hj in
theorem after_real (p : Fin 128) : sAfter (word n.val) kn q (ix2 p j) = if near n r ⟨256 + p.val, by omega⟩ then ((places Q K n r h g ⟨256 + p.val, by omega⟩ : ℝ) : EReal) else ⊥ := by
  rw [sAfter_apply]
  refine if_congr ?_ ?_ rfl
  · unfold near; simp only; omega
  · simp only [hkn, hq]
    exact score_real Q K rq rk _ _ _ _

include hkx in
theorem ctx_real (p : Fin 256) : sCtx kx q (ix2 p j) = ((places Q K n r h g ⟨384 + p.val, by omega⟩ : ℝ) : EReal) := by
  rw [sCtx_apply]
  simp only [hkx, hq]
  exact score_real Q K rq rk _ _ _ _

include hkp hkc hkn hkx hj

/-- The column of scores: a place's score where the query sees it, −∞ where it does not. -/
theorem sAll_real (p : Fin 640) : sAll kp kc kn kx q (word n.val) j p = if near n r p then ((places Q K n r h g p : ℝ) : EReal) else ⊥ := by
  unfold sAll
  by_cases h1 : p.val < 128
  · rw [dif_pos h1]
    exact before_real Q K rq rk n r h g j hj kp q hq hkp ⟨p.val, h1⟩
  rw [dif_neg h1]
  by_cases h2 : p.val - 128 < 128
  · have e : (⟨128 + (p.val - 128), by omega⟩ : Fin 640) = p := Fin.ext (by simp only; omega)
    rw [dif_pos h2, if_pos (show near n r p from ⟨fun hh => by omega, fun hh => by omega⟩)]
    exact (own_real Q K rq rk n r h g j kc q hq hkc ⟨p.val - 128, h2⟩).trans (congrArg (fun p => ((places Q K n r h g p : ℝ) : EReal)) e)
  rw [dif_neg h2]
  by_cases h3 : p.val - 128 - 128 < 128
  · have e : (⟨256 + (p.val - 128 - 128), by omega⟩ : Fin 640) = p := Fin.ext (by simp only; omega)
    rw [dif_pos h3]
    exact (after_real Q K rq rk n r h g j hj kn q hq hkn ⟨p.val - 128 - 128, h3⟩).trans (congrArg (fun p => if near n r p then ((places Q K n r h g p : ℝ) : EReal) else ⊥) e)
  · have e : (⟨384 + (p.val - 128 - 128 - 128), by omega⟩ : Fin 640) = p := Fin.ext (by simp only; omega)
    rw [dif_neg h3, if_pos (show near n r p from ⟨fun hh => by omega, fun _ hh => by omega⟩)]
    exact (ctx_real Q K rq rk n r h g j kx q hq hkx ⟨p.val - 128 - 128 - 128, by omega⟩).trans (congrArg (fun p => ((places Q K n r h g p : ℝ) : EReal)) e)

include rz hz

/-- The largest score is a real number. -/
theorem top_real : ∃ M : ℝ, top (word n.val) kp kc kn kx q z (ix2 0 j) = (M : EReal) := by
  have hs := hz.trans (sink_real Z rz h g)
  rw [top_apply]
  refine real_of_between (sink2 Z h g) ?_ ?_
  · rw [← hs]
    exact (((le_max_left _ _).trans (le_max_left _ _)).trans (le_max_left _ _)).trans (le_max_left _ _)
  · refine max_lt (max_lt (max_lt (max_lt ?_ (fold_max_lt_top _ fun p => ?_)) (fold_max_lt_top _ fun p => ?_)) (fold_max_lt_top _ fun p => ?_)) (fold_max_lt_top _ fun p => ?_)
    · rw [hs]; exact EReal.coe_lt_top _
    · rw [before_real Q K rq rk n r h g j hj kp q hq hkp]; exact masked_lt_top _ _
    · rw [own_real Q K rq rk n r h g j kc q hq hkc]; exact EReal.coe_lt_top _
    · rw [after_real Q K rq rk n r h g j hj kn q hq hkn]; exact masked_lt_top _ _
    · rw [ctx_real Q K rq rk n r h g j kx q hq hkx]; exact EReal.coe_lt_top _

include hv hone

/-- An entry of the two heads' output is the attention of its query. -/
theorem pair_att (d : Fin 128) : pairOut (word n.val) kp kc kn kx q z vt (ix2 j d) = watt Q K V Z n r h g d := by
  obtain ⟨M, hM⟩ := top_real Q K Z rq rk rz n r h g j hj kp kc kn kx q z hq hkp hkc hkn hkx hz
  rw [pairOut_apply, hM, hz.trans (sink_real Z rz h g)]
  simp only [sAll_real Q K rq rk n r h g j hj kp kc kn kx q hq hkp hkc hkn hkx, hv, hone]
  exact masked_quotient (near n r) (places Q K n r h g) (sink2 Z h g) (fun p => V (ix3 (key n p) h d)) M

end

section

variable (i : grid0.Coords) (n : Fin 128) (hn : (i 1).val = n.val)
variable (x0 : Vec Ideal S128x512 .bf16) (x1 : Vec Ideal S16640x128 .bf16) (x2 : Vec Ideal S1x130x144x128 .bf16) (x3 : Vec Ideal S1x2x1x256 .f32)

include hn

theorem kBefore_apply (p d : Fin 128) : kBefore i x1 (ix2 p d) = x1 (ix2 (key n ⟨p.val, by omega⟩) d) := by
  have e0 : k0_off1 i 0 = 128 * (i 1).val + 128 := congrFun (k0_off1_eq i) 0
  have e1 : k0_off1 i 1 = 0 := congrFun (k0_off1_eq i) 1
  pointwise [kBefore, k0_pay2]
  refine congrArg x1 (congrArg₂ ix2 (Fin.ext ?_) (Fin.ext ?_))
  · rw [key_eq]
    simp only [e0, hn]
    split_ifs <;> omega
  · simp only [e1]; omega

theorem kOwn_apply (p d : Fin 128) : kOwn i x1 (ix2 p d) = x1 (ix2 (key n ⟨128 + p.val, by omega⟩) d) := by
  have e0 : k0_off2 i 0 = 128 * (i 1).val + 256 := congrFun (k0_off2_eq i) 0
  have e1 : k0_off2 i 1 = 0 := congrFun (k0_off2_eq i) 1
  pointwise [kOwn, k0_pay3]
  refine congrArg x1 (congrArg₂ ix2 (Fin.ext ?_) (Fin.ext ?_))
  · rw [key_eq]
    simp only [e0, hn]
    split_ifs <;> omega
  · simp only [e1]; omega

theorem kAfter_apply (p d : Fin 128) : kAfter i x1 (ix2 p d) = x1 (ix2 (key n ⟨256 + p.val, by omega⟩) d) := by
  have e0 : k0_off3 i 0 = min (128 * (i 1).val + 384) 16512 := congrFun (k0_off3_eq i) 0
  have e1 : k0_off3 i 1 = 0 := congrFun (k0_off3_eq i) 1
  pointwise [kAfter, k0_pay4]
  refine congrArg x1 (congrArg₂ ix2 (Fin.ext ?_) (Fin.ext ?_))
  · rw [key_eq]
    simp only [e0, hn]
    split_ifs <;> omega
  · simp only [e1]; omega

theorem vAll_apply (e : Fin 144) (p : Fin 640) : vAll i x2 (ix2 e p) = x2 (ix4 0 ⟨(key n p).val / 128, by omega⟩ e ⟨(key n p).val % 128, by omega⟩) := by
  have a0 : k0_off4 i 0 = 0 := congrFun (k0_off4_eq i) 0
  have a1 : k0_off4 i 1 = (i 1).val + 1 := congrFun (k0_off4_eq i) 1
  have a2 : k0_off4 i 2 = 0 := congrFun (k0_off4_eq i) 2
  have a3 : k0_off4 i 3 = 0 := congrFun (k0_off4_eq i) 3
  have b0 : k0_off5 i 0 = 0 := congrFun (k0_off5_eq i) 0
  have b1 : k0_off5 i 1 = (i 1).val + 2 := congrFun (k0_off5_eq i) 1
  have b2 : k0_off5 i 2 = 0 := congrFun (k0_off5_eq i) 2
  have b3 : k0_off5 i 3 = 0 := congrFun (k0_off5_eq i) 3
  have c0 : k0_off6 i 0 = 0 := congrFun (k0_off6_eq i) 0
  have c1 : k0_off6 i 1 = min (128 * (i 1).val + 384) 16512 / 128 := congrFun (k0_off6_eq i) 1
  have c2 : k0_off6 i 2 = 0 := congrFun (k0_off6_eq i) 2
  have c3 : k0_off6 i 3 = 0 := congrFun (k0_off6_eq i) 3
  have key4 : ∀ (a a' : Fin 1) (b b' : Fin 130) (f f' : Fin 144) (k k' : Fin 128), b.val = b'.val → f.val = f'.val → k.val = k'.val → x2 (ix4 a b f k) = x2 (ix4 a' b' f' k') := by
    intro a a' b b' f f' k k' h1 h2 h3
    rw [Subsingleton.elim a a', Fin.ext h1, Fin.ext h2, Fin.ext h3]
  have k1 : p.val < 128 → (key n p).val = 128 * n.val + 128 + p.val := fun h => by rw [key_eq, if_pos h]
  have k2 : ¬ p.val < 128 → p.val < 256 → (key n p).val = 128 * n.val + 256 + (p.val - 128) := fun h h' => by rw [key_eq, if_neg h, if_pos h']
  have k3 : ¬ p.val < 256 → p.val < 384 → (key n p).val = min (128 * n.val + 384) 16512 + (p.val - 256) := fun h h' => by rw [key_eq, if_neg (by omega), if_neg h, if_pos h']
  have k4 : ¬ p.val < 384 → (key n p).val = p.val - 384 := fun h => by rw [key_eq, if_neg (by omega), if_neg (by omega), if_neg h]
  rw [hn] at a1 b1 c1
  pointwise [vAll, k0_pay6, k0_pay7, k0_pay8]
  by_cases h1 : p.val < 128
  · rw [dif_pos h1]
    refine key4 _ _ _ _ _ _ _ _ ?_ ?_ ?_
    · show k0_off4 i 1 = (key n p).val / 128
      rw [a1, k1 h1]; omega
    · show k0_off4 i 2 + e.val = e.val
      rw [a2]; omega
    · show k0_off4 i 3 + p.val = (key n p).val % 128
      rw [a3, k1 h1]; omega
  rw [dif_neg h1]
  by_cases h2 : p.val - 128 < 128
  · rw [dif_pos h2]
    refine key4 _ _ _ _ _ _ _ _ ?_ ?_ ?_
    · show k0_off5 i 1 = (key n p).val / 128
      rw [b1, k2 h1 (by omega)]; omega
    · show k0_off5 i 2 + e.val = e.val
      rw [b2]; omega
    · show k0_off5 i 3 + (p.val - 128) = (key n p).val % 128
      rw [b3, k2 h1 (by omega)]; omega
  rw [dif_neg h2]
  by_cases h3 : p.val - 128 - 128 < 128
  · rw [dif_pos h3]
    refine key4 _ _ _ _ _ _ _ _ ?_ ?_ ?_
    · show k0_off6 i 1 = (key n p).val / 128
      rw [c1, k3 (by omega) (by omega)]; omega
    · show k0_off6 i 2 + e.val = e.val
      rw [c2]; omega
    · show k0_off6 i 3 + (p.val - 128 - 128) = (key n p).val % 128
      rw [c3, k3 (by omega) (by omega)]; omega
  rw [dif_neg h3]
  by_cases h4 : p.val - 128 - 128 - 128 < 128
  · rw [dif_pos h4]
    refine key4 _ _ _ _ _ _ _ _ ?_ rfl ?_
    · show 0 = (key n p).val / 128
      rw [k4 (by omega)]; omega
    · show p.val - 128 - 128 - 128 = (key n p).val % 128
      rw [k4 (by omega)]; omega
  · rw [dif_neg h4]
    refine key4 _ _ _ _ _ _ _ _ ?_ rfl ?_
    · show 1 = (key n p).val / 128
      rw [k4 (by omega)]; omega
    · show p.val - 128 - 128 - 128 - 128 = (key n p).val % 128
      rw [k4 (by omega)]; omega

end

section

variable (x0 : Vec Ideal S128x512 .bf16) (x1 : Vec Ideal S16640x128 .bf16) (x3 : Vec Ideal S1x2x1x256 .f32)

theorem kCtx_apply (n : Fin 128) (p : Fin 256) (d : Fin 128) : kCtx x1 (ix2 p d) = x1 (ix2 (key n ⟨384 + p.val, by omega⟩) d) := by
  pointwise [kCtx, k0_pay5]
  refine congrArg (fun a => x1 (ix2 a d)) (Fin.ext ?_)
  rw [key_eq]
  simp only
  split_ifs <;> omega

theorem q01_apply (u : Fin 2) (r d : Fin 128) : q01 x0 (ix2 ⟨128 * u.val + r.val, by omega⟩ d) = x0 (ix2 r ⟨128 * u.val + d.val, by omega⟩) := by
  pointwise [q01, k0_pay9]
  split_ifs <;> exact congrArg x0 (congrArg₂ ix2 (Fin.ext (by simp only; omega)) (Fin.ext (by simp only; omega)))

theorem q23_apply (u : Fin 2) (r d : Fin 128) : q23 x0 (ix2 ⟨128 * u.val + r.val, by omega⟩ d) = x0 (ix2 r ⟨128 * (2 + u.val) + d.val, by omega⟩) := by
  pointwise [q23, k0_pay10]
  split_ifs <;> exact congrArg x0 (congrArg₂ ix2 (Fin.ext (by simp only; omega)) (Fin.ext (by simp only; omega)))

theorem z01_apply (j : Fin 256) : z01 x3 (ix4 0 0 0 j) = x3 (ix4 0 0 0 j) := by
  pointwise [z01]

theorem z23_apply (j : Fin 256) : z23 x3 (ix4 0 0 0 j) = x3 (ix4 0 1 0 j) := by
  pointwise [z23]

theorem upper_apply (w : BitVec 32) (kp kc kn : FVec Ideal S128x128 .bf16) (kx : FVec Ideal S256x128 .bf16) (q : FVec Ideal S256x128 .bf16) (z : Vec Ideal S1x1x1x256 .f32)
    (vt : FVec Ideal S144x640 .bf16) (r d : Fin 128) : upper w kp kc kn kx q z vt (ix2 r d) = pairOut w kp kc kn kx q z vt (ix2 ⟨128 * (0 : Fin 2).val + r.val, by omega⟩ d) := by
  pointwise [upper]

theorem lower_apply (w : BitVec 32) (kp kc kn : FVec Ideal S128x128 .bf16) (kx : FVec Ideal S256x128 .bf16) (q : FVec Ideal S256x128 .bf16) (z : Vec Ideal S1x1x1x256 .f32)
    (vt : FVec Ideal S144x640 .bf16) (r d : Fin 128) : lower w kp kc kn kx q z vt (ix2 r d) = pairOut w kp kc kn kx q z vt (ix2 ⟨128 * (1 : Fin 2).val + r.val, by omega⟩ d) := by
  pointwise [lower]

end

section

variable (m : (ℓ : Loc nD τ sig) → Buf (Elt Ideal) ℓ)

/-- What the call's array holds at a latent token's row: its column names the key head, the head and the coordinate. -/
def attAt (Q : Vec Ideal S16384x2x4x128 .f32) (K V : Vec Ideal S16640x2x128 .f32) (Z : Vec Ideal S8 .f32) : Vec Ideal S16640x1024 .bf16 := fun j =>
  watt Q K V Z ⟨((j 0).val - 256) / 128, by have h : (j 0).val < 16640 := (j 0).isLt; omega⟩ ⟨((j 0).val - 256) % 128, by omega⟩
    ⟨(j 1).val / 512, by have h : (j 1).val < 1024 := (j 1).isLt; omega⟩ ⟨(j 1).val / 128 % 4, by omega⟩ ⟨(j 1).val % 128, by omega⟩

/-- The specification at a row of block `n`, with the column spelled by head and coordinate. -/
theorem attAt_apply (Q : Vec Ideal S16384x2x4x128 .f32) (K V : Vec Ideal S16640x2x128 .f32) (Z : Vec Ideal S8 .f32) (j : S16640x1024.Idx) (n r : Fin 128) (h : Fin 2) (g : Fin 4) (d : Fin 128)
    (h0 : (j 0).val = 256 + (128 * n.val + r.val)) (h1 : (j 1).val = 512 * h.val + 128 * g.val + d.val) : attAt Q K V Z j = watt Q K V Z n r h g d := by
  unfold attAt
  congr 1 <;> exact Fin.ext (by simp only; omega)

variable (c : Dev nD) (t : Fin cfg0.N) (Q : Vec Ideal S16384x2x4x128 .f32) (K V : Vec Ideal S16640x2x128 .f32) (Z : Vec Ideal S8 .f32)
  (hQ : Q = m ((c : Thread nD τ).loc main_arg0)) (hK : K = m ((c : Thread nD τ).loc main_arg1)) (hV : V = m ((c : Thread nD τ).loc main_arg2)) (hZ : Z = m ((c : Thread nD τ).loc main_arg3))
  (rq : ∀ i, Q i = (((Q i : EReal).toReal : ℝ) : EReal)) (rk : ∀ i, K i = (((K i : EReal).toReal : ℝ) : EReal)) (rz : ∀ i, Z i = (((Z i : EReal).toReal : ℝ) : EReal))

include hQ hK hV hZ rq rk rz

section

variable (i : grid0.Coords) (hi : (i 1).val = (bk t).val)
  (a2 : Memref sig .tc .vmem S128x512 .bf16) (h2 : a2.IsWhole) (a3 : Memref sig .tc .vmem S16640x128 .bf16) (h3 : a3.IsWhole)
  (a4 : Memref sig .tc .vmem S1x130x144x128 .bf16) (h4 : a4.IsWhole) (a5 : Memref sig .tc .vmem S1x2x1x256 .f32) (h5 : a5.IsWhole)
  (a6 : Memref sig .tc .vmem S128x512 .bf16) (h6 : a6.IsWhole)

include hi

theorem point0 (r d : Fin 128) :
    out0_A_4 (F := Ideal) c i a2 h2 a3 h3 a4 h4 a5 h5 a6 h6 (iblk m c 0 t) (iblk m c 1 t) (iblk m c 2 t) (iblk m c 3 t) (ix2 r ⟨128 * (0 : Fin 4).val + d.val, by omega⟩)
      = watt Q K V Z (bk t) r (hd t) 0 d := by
  have e : (ix2 r ⟨128 * (0 : Fin 4).val + d.val, by omega⟩ : S128x512.Idx)
      = (Rect.unit (s := S128x512) ![0, 0] S128x128.size inb_S128x512_S128x128_0_0).emb (ix2 r d) := by
    blk_ext
  rw [e, out_head0, hi, upper_apply]
  refine pair_att Q K V Z rq rk rz (bk t) r (hd t) 0 ⟨128 * (0 : Fin 2).val + r.val, by omega⟩ (by simp) _ _ _ _ _ _ _ (fun d => ?_) (fun p d => ?_) (fun p d => ?_) (fun p d => ?_) (fun p d => ?_) ?_ (fun p d => ?_) (fun p => ?_) d
  · exact (q01_apply (iblk m c 0 t) 0 r d).trans (blk_q m c t Q hQ r 0 d)
  · exact ((kBefore_apply i (bk t) hi (iblk m c 1 t) p d).trans (blk_k m c t _ d)).trans (by rw [hK])
  · exact ((kOwn_apply i (bk t) hi (iblk m c 1 t) p d).trans (blk_k m c t _ d)).trans (by rw [hK])
  · exact ((kAfter_apply i (bk t) hi (iblk m c 1 t) p d).trans (blk_k m c t _ d)).trans (by rw [hK])
  · exact ((kCtx_apply (iblk m c 1 t) (bk t) p d).trans (blk_k m c t _ d)).trans (by rw [hK])
  · exact ((z01_apply (iblk m c 3 t) _).trans (blk_sink m c t 0 _)).trans (by rw [← hZ]; exact sinksW_apply Z (hd t) 0 r)
  · refine ((vAll_apply i (bk t) hi (iblk m c 2 t) _ p).trans (blk_vt m c t _ _ _)).trans ?_
    rw [← hV]
    refine (vtW_v V (hd t) _ _ d.isLt _).trans (congrArg (fun a => V (ix3 a (hd t) d)) (Fin.ext ?_))
    simp only
    omega
  · refine ((vAll_apply i (bk t) hi (iblk m c 2 t) _ p).trans (blk_vt m c t _ _ _)).trans ?_
    exact vtW_one _ _ _ _

theorem point1 (r d : Fin 128) :
    out0_A_4 (F := Ideal) c i a2 h2 a3 h3 a4 h4 a5 h5 a6 h6 (iblk m c 0 t) (iblk m c 1 t) (iblk m c 2 t) (iblk m c 3 t) (ix2 r ⟨128 * (1 : Fin 4).val + d.val, by omega⟩)
      = watt Q K V Z (bk t) r (hd t) 1 d := by
  have e : (ix2 r ⟨128 * (1 : Fin 4).val + d.val, by omega⟩ : S128x512.Idx)
      = (Rect.unit (s := S128x512) ![0, 128] S128x128.size inb_S128x512_S128x128_0_128).emb (ix2 r d) := by
    blk_ext
  rw [e, out_head1, hi, lower_apply]
  refine pair_att Q K V Z rq rk rz (bk t) r (hd t) 1 ⟨128 * (1 : Fin 2).val + r.val, by omega⟩ (by simp) _ _ _ _ _ _ _ (fun d => ?_) (fun p d => ?_) (fun p d => ?_) (fun p d => ?_) (fun p d => ?_) ?_ (fun p d => ?_) (fun p => ?_) d
  · exact (q01_apply (iblk m c 0 t) 1 r d).trans (blk_q m c t Q hQ r 1 d)
  · exact ((kBefore_apply i (bk t) hi (iblk m c 1 t) p d).trans (blk_k m c t _ d)).trans (by rw [hK])
  · exact ((kOwn_apply i (bk t) hi (iblk m c 1 t) p d).trans (blk_k m c t _ d)).trans (by rw [hK])
  · exact ((kAfter_apply i (bk t) hi (iblk m c 1 t) p d).trans (blk_k m c t _ d)).trans (by rw [hK])
  · exact ((kCtx_apply (iblk m c 1 t) (bk t) p d).trans (blk_k m c t _ d)).trans (by rw [hK])
  · exact ((z01_apply (iblk m c 3 t) _).trans (blk_sink m c t 0 _)).trans (by rw [← hZ]; exact sinksW_apply Z (hd t) 1 r)
  · refine ((vAll_apply i (bk t) hi (iblk m c 2 t) _ p).trans (blk_vt m c t _ _ _)).trans ?_
    rw [← hV]
    refine (vtW_v V (hd t) _ _ d.isLt _).trans (congrArg (fun a => V (ix3 a (hd t) d)) (Fin.ext ?_))
    simp only
    omega
  · refine ((vAll_apply i (bk t) hi (iblk m c 2 t) _ p).trans (blk_vt m c t _ _ _)).trans ?_
    exact vtW_one _ _ _ _

theorem point2 (r d : Fin 128) :
    out0_A_4 (F := Ideal) c i a2 h2 a3 h3 a4 h4 a5 h5 a6 h6 (iblk m c 0 t) (iblk m c 1 t) (iblk m c 2 t) (iblk m c 3 t) (ix2 r ⟨128 * (2 : Fin 4).val + d.val, by omega⟩)
      = watt Q K V Z (bk t) r (hd t) 2 d := by
  have e : (ix2 r ⟨128 * (2 : Fin 4).val + d.val, by omega⟩ : S128x512.Idx)
      = (Rect.unit (s := S128x512) ![0, 256] S128x128.size inb_S128x512_S128x128_0_256).emb (ix2 r d) := by
    blk_ext
  rw [e, out_head2, hi, upper_apply]
  refine pair_att Q K V Z rq rk rz (bk t) r (hd t) 2 ⟨128 * (0 : Fin 2).val + r.val, by omega⟩ (by simp) _ _ _ _ _ _ _ (fun d => ?_) (fun p d => ?_) (fun p d => ?_) (fun p d => ?_) (fun p d => ?_) ?_ (fun p d => ?_) (fun p => ?_) d
  · exact (q23_apply (iblk m c 0 t) 0 r d).trans (blk_q m c t Q hQ r 2 d)
  · exact ((kBefore_apply i (bk t) hi (iblk m c 1 t) p d).trans (blk_k m c t _ d)).trans (by rw [hK])
  · exact ((kOwn_apply i (bk t) hi (iblk m c 1 t) p d).trans (blk_k m c t _ d)).trans (by rw [hK])
  · exact ((kAfter_apply i (bk t) hi (iblk m c 1 t) p d).trans (blk_k m c t _ d)).trans (by rw [hK])
  · exact ((kCtx_apply (iblk m c 1 t) (bk t) p d).trans (blk_k m c t _ d)).trans (by rw [hK])
  · exact ((z23_apply (iblk m c 3 t) _).trans (blk_sink m c t 1 _)).trans (by rw [← hZ]; exact sinksW_apply Z (hd t) 2 r)
  · refine ((vAll_apply i (bk t) hi (iblk m c 2 t) _ p).trans (blk_vt m c t _ _ _)).trans ?_
    rw [← hV]
    refine (vtW_v V (hd t) _ _ d.isLt _).trans (congrArg (fun a => V (ix3 a (hd t) d)) (Fin.ext ?_))
    simp only
    omega
  · refine ((vAll_apply i (bk t) hi (iblk m c 2 t) _ p).trans (blk_vt m c t _ _ _)).trans ?_
    exact vtW_one _ _ _ _

theorem point3 (r d : Fin 128) :
    out0_A_4 (F := Ideal) c i a2 h2 a3 h3 a4 h4 a5 h5 a6 h6 (iblk m c 0 t) (iblk m c 1 t) (iblk m c 2 t) (iblk m c 3 t) (ix2 r ⟨128 * (3 : Fin 4).val + d.val, by omega⟩)
      = watt Q K V Z (bk t) r (hd t) 3 d := by
  have e : (ix2 r ⟨128 * (3 : Fin 4).val + d.val, by omega⟩ : S128x512.Idx)
      = (Rect.unit (s := S128x512) ![0, 384] S128x128.size inb_S128x512_S128x128_0_384).emb (ix2 r d) := by
    blk_ext
  rw [e, out_head3, hi, lower_apply]
  refine pair_att Q K V Z rq rk rz (bk t) r (hd t) 3 ⟨128 * (1 : Fin 2).val + r.val, by omega⟩ (by simp) _ _ _ _ _ _ _ (fun d => ?_) (fun p d => ?_) (fun p d => ?_) (fun p d => ?_) (fun p d => ?_) ?_ (fun p d => ?_) (fun p => ?_) d
  · exact (q23_apply (iblk m c 0 t) 1 r d).trans (blk_q m c t Q hQ r 3 d)
  · exact ((kBefore_apply i (bk t) hi (iblk m c 1 t) p d).trans (blk_k m c t _ d)).trans (by rw [hK])
  · exact ((kOwn_apply i (bk t) hi (iblk m c 1 t) p d).trans (blk_k m c t _ d)).trans (by rw [hK])
  · exact ((kAfter_apply i (bk t) hi (iblk m c 1 t) p d).trans (blk_k m c t _ d)).trans (by rw [hK])
  · exact ((kCtx_apply (iblk m c 1 t) (bk t) p d).trans (blk_k m c t _ d)).trans (by rw [hK])
  · exact ((z23_apply (iblk m c 3 t) _).trans (blk_sink m c t 1 _)).trans (by rw [← hZ]; exact sinksW_apply Z (hd t) 3 r)
  · refine ((vAll_apply i (bk t) hi (iblk m c 2 t) _ p).trans (blk_vt m c t _ _ _)).trans ?_
    rw [← hV]
    refine (vtW_v V (hd t) _ _ d.isLt _).trans (congrArg (fun a => V (ix3 a (hd t) d)) (Fin.ext ?_))
    simp only
    omega
  · refine ((vAll_apply i (bk t) hi (iblk m c 2 t) _ p).trans (blk_vt m c t _ _ _)).trans ?_
    exact vtW_one _ _ _ _

/-- A grid point's block in the four heads of its key head. -/
theorem points (r d : Fin 128) : ∀ g : Fin 4,
    out0_A_4 (F := Ideal) c i a2 h2 a3 h3 a4 h4 a5 h5 a6 h6 (iblk m c 0 t) (iblk m c 1 t) (iblk m c 2 t) (iblk m c 3 t) (ix2 r ⟨128 * g.val + d.val, by omega⟩)
      = watt Q K V Z (bk t) r (hd t) g d
  | ⟨0, _⟩ => point0 m c t Q K V Z hQ hK hV hZ rq rk rz i hi a2 h2 a3 h3 a4 h4 a5 h5 a6 h6 r d
  | ⟨1, _⟩ => point1 m c t Q K V Z hQ hK hV hZ rq rk rz i hi a2 h2 a3 h3 a4 h4 a5 h5 a6 h6 r d
  | ⟨2, _⟩ => point2 m c t Q K V Z hQ hK hV hZ rq rk rz i hi a2 h2 a3 h3 a4 h4 a5 h5 a6 h6 r d
  | ⟨3, _⟩ => point3 m c t Q K V Z hQ hK hV hZ rq rk rz i hi a2 h2 a3 h3 a4 h4 a5 h5 a6 h6 r d

end

/-- What a grid point leaves in its output block, at any index of the block. -/
theorem point (y : S128x512.Idx) (j : S16640x1024.Idx) (h0 : (j 0).val = (t.val % 128 + 2) * 128 + (y 0).val) (h1 : (j 1).val = t.val / 128 * 512 + (y 1).val) :
    (dats m 0 c).after 4 t y = attAt Q K V Z j := by
  have b0 : (y 0).val < 128 := (y 0).isLt
  have b1 : (y 1).val < 512 := (y 1).isLt
  have bt := lt256 t
  obtain ⟨r, hr⟩ : ∃ r : Fin 128, (y 0).val = r.val := ⟨⟨(y 0).val, b0⟩, rfl⟩
  obtain ⟨g, d, hy⟩ : ∃ (g : Fin 4) (d : Fin 128), (y 1).val = 128 * g.val + d.val :=
    ⟨⟨(y 1).val / 128, by omega⟩, ⟨(y 1).val % 128, by omega⟩, by simp only; omega⟩
  have ey : y = ix2 r ⟨128 * g.val + d.val, by omega⟩ := by
    funext a
    match a with
    | ⟨0, _⟩ => exact Fin.ext hr
    | ⟨1, _⟩ => exact Fin.ext hy
  rw [attAt_apply Q K V Z j (bk t) r (hd t) g d (by simp only [bk]; omega) (by simp only [hd]; omega), ey, after0_4]
  unfold outsAt0
  exact points m c t Q K V Z hQ hK hV hZ rq rk rz _ (idx t).2.2.2.2.2.1 _ _ _ _ _ _ _ _ _ _ r d g

omit t in
/-- The call's array after the run, at a latent token's row: the attention of its queries over the keys they see. -/
theorem final_apply (j : S16640x1024.Idx) (hj : 256 ≤ (j 0).val) : (dats m 0 c).arrAt 4 cfg0.N j = attAt Q K V Z j := by
  refine ((dats m 0 c).arrAt_apply_of_coversWhere 4 (attAt Q K V Z) (P := fun j => 256 ≤ (j 0).val) (fun β => 2 ≤ β 0) (by decide +kernel) (fun t hf y => ?_)
    (fun j => by blk_simp [Pipeline.Window.cell_apply]; omega) j).trans (if_pos hj)
  blk_simp
  refine point m c t Q K V Z hQ hK hV hZ rq rk rz _ _ ?_ ?_ <;> blk_simp [idx t]

end

end Cert.WindowIdeal.Hand
-- ==== Proof.WindowReference.lean ====
/-
  The windowed attention's reference read at an index: with finite queries, keys and sinks, a latent token's row is the
  attention of its queries over the keys they see.
-/
module

public import proofs.«01_k».proof.Proof.WindowHost
public import proofs.«01_k».proof.Proof.Gen.WindowRefIdeal.Read
public import Idealize.ShloMosaic.Lib.WordCmp
public import Idealize.ShloMosaic.Lib.Pointwise
public import Idealize.ShloMosaic.Lib.Claim
public import Idealize.ShloMosaic.Lib.Pipeline.ValueKit

@[expose] public section

set_option maxRecDepth 16384

noncomputable section

namespace Cert.WindowRefIdeal.Hand

open Cert.WindowRefIdeal Cert.WindowRefIdeal.Gen Cert.WindowRefIdeal.Read Cert.Softmax
open Cert.WindowIdeal.Hand (key near tok places sink2 watt)
open Cert.GlobalIdeal.Hand (bits_128 scaleBy score)
open Idealize.ShloMosaic Idealize.ShloMosaic.TcCoe Idealize.SL.Sem
open Idealize.ShloMosaic.WordCmp

theorem neg_inf : Ideal.ofBits FTy.f32 4286578688#32 = (⊥ : EReal) := by simp [Ideal.ofBits, Ideal.ieee]

/-- The result at a latent token's row: the values by the weights, over the window and over the context tokens. -/
theorem v86_apply (q : Vec Ideal S16384x2x4x128 .f32) (k v : Vec Ideal S16640x2x128 .f32) (z : Vec Ideal S8 .f32) (i : Fin 16384) (j : Fin 1024) :
    val_main_v86 (F := Ideal) q k v z (ix2 ⟨256 + i.val, by omega⟩ j)
      = (∑ p : Fin 384, val_main_v14 (F := Ideal) v (ix4 ⟨i.val / 128, by omega⟩ p ⟨j.val / 512, by omega⟩ ⟨j.val % 128, by omega⟩)
          * val_main_v75 (F := Ideal) q k z (ix5 ⟨i.val / 128, by omega⟩ ⟨j.val / 512, by omega⟩ ⟨j.val / 128 % 4, by omega⟩ ⟨i.val % 128, by omega⟩ ⟨p.val, by omega⟩))
        + ∑ p : Fin 256, v (ix3 ⟨p.val, by omega⟩ ⟨j.val / 512, by omega⟩ ⟨j.val % 128, by omega⟩)
          * val_main_v75 (F := Ideal) q k z (ix5 ⟨i.val / 128, by omega⟩ ⟨j.val / 512, by omega⟩ ⟨j.val / 128 % 4, by omega⟩ ⟨i.val % 128, by omega⟩ ⟨384 + p.val, by omega⟩) := by
  pointwise [val_main_v86, val_main_v85, val_main_v83, val_main_v82, val_main_v81, val_main_v80, val_main_v79, val_main_v78, val_main_v77, val_main_v76, val_main_v16]

/-- The band of values of a block of queries, at a latent token's place. -/
theorem v14_apply (v : Vec Ideal S16640x2x128 .f32) (n : Fin 128) (p : Fin 384) (h : Fin 2) (d : Fin 128) (h0 : 128 ≤ 128 * n.val + p.val) (h1 : 128 * n.val + p.val < 16512) :
    val_main_v14 (F := Ideal) v (ix4 n p h d) = v (ix3 ⟨128 * n.val + 128 + p.val, by omega⟩ h d) := by
  pointwise [val_main_v14, val_main_v13, val_main_v12, val_main_v11, val_main_v10, val_main_v9, val_main_v8]
  split_ifs <;> first | omega | exact congrArg (fun a => v (ix3 a h d)) (Fin.ext (by simp only; omega))

/-- The band of keys of a block of queries, at a latent token's place. -/
theorem v7_apply (k : Vec Ideal S16640x2x128 .f32) (n : Fin 128) (p : Fin 384) (h : Fin 2) (d : Fin 128) (h0 : 128 ≤ 128 * n.val + p.val) (h1 : 128 * n.val + p.val < 16512) :
    val_main_v7 (F := Ideal) k (ix4 n p h d) = k (ix3 ⟨128 * n.val + 128 + p.val, by omega⟩ h d) := by
  pointwise [val_main_v7, val_main_v6, val_main_v5, val_main_v4, val_main_v3, val_main_v2, val_main_v1]
  split_ifs <;> first | omega | exact congrArg (fun a => k (ix3 a h d)) (Fin.ext (by simp only; omega))

/-- The score against a place of the band. -/
theorem v21_apply (q : Vec Ideal S16384x2x4x128 .f32) (k : Vec Ideal S16640x2x128 .f32) (n r : Fin 128) (h : Fin 2) (g : Fin 4) (p : Fin 384) :
    val_main_v21 (F := Ideal) q k (ix5 n h g r p)
      = Ideal.div (∑ d : Fin 128, val_main_v7 (F := Ideal) k (ix4 n p h d) * q (ix4 (tok n r) h g d)) (Ideal.sqrt (Ideal.ofBits FTy.f32 1124073472#32)) := by
  pointwise [val_main_v21, val_main_v20, val_main_v19, val_main_cst, val_main_v18, val_main_v17, val_main_v0, tok]
  simp only [Nat.mul_comm n.val]

/-- The score against a context token. -/
theorem v26_apply (q : Vec Ideal S16384x2x4x128 .f32) (k : Vec Ideal S16640x2x128 .f32) (n r : Fin 128) (h : Fin 2) (g : Fin 4) (p : Fin 256) :
    val_main_v26 (F := Ideal) q k (ix5 n h g r p)
      = Ideal.div (∑ d : Fin 128, k (ix3 ⟨p.val, by omega⟩ h d) * q (ix4 (tok n r) h g d)) (Ideal.sqrt (Ideal.ofBits FTy.f32 1124073472#32)) := by
  pointwise [val_main_v26, val_main_v25, val_main_v24, val_main_cst_1, val_main_v23, val_main_v22, val_main_v15, val_main_v0, tok]
  simp only [Nat.mul_comm n.val]

theorem toInt_subi (x y : BitVec 32) (a b : Int) (hx : x.toInt = a) (hy : y.toInt = b) (h0 : -2147483648 ≤ a - b) (h1 : a - b < 2147483648) :
    (IntOp.subi x y).toInt = a - b := by
  subst hx hy
  exact BitVec.toInt_sub.trans (Int.bmod_eq_of_le (by omega) (by omega))

theorem toInt_addi (x y : BitVec 32) (a b : Int) (hx : x.toInt = a) (hy : y.toInt = b) (h0 : -2147483648 ≤ a + b) (h1 : a + b < 2147483648) :
    (IntOp.addi x y).toInt = a + b := by
  subst hx hy
  exact (BitVec.toInt_add x y).trans (Int.bmod_eq_of_le (by omega) (by omega))

theorem toInt_muli (x y : BitVec 32) (a b : Int) (hx : x.toInt = a) (hy : y.toInt = b) (h0 : -2147483648 ≤ a * b) (h1 : a * b < 2147483648) :
    (IntOp.muli x y).toInt = a * b := by
  subst hx hy
  exact (BitVec.toInt_mul x y).trans (Int.bmod_eq_of_le (by omega) (by omega))

theorem toInt_absi (x : BitVec 32) (a : Int) (hx : x.toInt = a) (h0 : -2147483648 < a) (h1 : a < 2147483648) : (IntOp.absi x).toInt = |a| := by
  subst hx
  unfold IntOp.absi
  rw [BitVec.msb_eq_toInt]
  by_cases h : x.toInt < 0
  · rw [if_pos (decide_eq_true h), abs_of_neg h]
    exact BitVec.toInt_neg.trans (Int.bmod_eq_of_le (by omega) (by omega))
  · rw [if_neg (by simpa using h), abs_of_nonneg (by omega)]

/-- The mask at a place of the band. -/
theorem mask_apply (n r : Fin 128) (h : Fin 2) (g : Fin 4) (p : Fin 384) :
    val_main_call2_v1 (F := Ideal) (ix5 n h g r p) = BitVec.ofBool (decide (near n r ⟨p.val, by omega⟩)) := by
  pointwise [val_main_call2_v1, val_main_v60, val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_v27, val_main_c_2, val_main_c_3, val_main_c_4, val_main_c_5, val_main_c_6, val_main_c_7]
  have en : (BitVec.ofNat 32 n.val).toInt = (n.val : Int) := toInt_ofNat_of_lt (by omega)
  have er : (BitVec.ofNat 32 r.val).toInt = (r.val : Int) := toInt_ofNat_of_lt (by omega)
  have ep : (BitVec.ofNat 32 p.val).toInt = (p.val : Int) := toInt_ofNat_of_lt (by omega)
  have e1 := toInt_absi _ _ (toInt_subi _ _ _ _ (toInt_subi _ (128#32) _ 128 ep (by decide) (by omega) (by omega)) er (by omega) (by omega)) (by omega) (by omega)
  have e2 := toInt_addi _ _ _ _ (toInt_muli _ (128#32) _ 128 (toInt_subi _ (1#32) _ 1 en (by decide) (by omega) (by omega)) (by decide) (by omega) (by omega)) ep (by omega) (by omega)
  rw [cmpi_sle_eq, cmpi_sge_eq, cmpi_slt_eq, e1, e2, show (128#32).toInt = 128 from by decide, show (0#32).toInt = 0 from by decide,
    show (16384#32).toInt = 16384 from by decide, andi_ofBool, andi_ofBool, ← Bool.decide_and, ← Bool.decide_and]
  refine congrArg BitVec.ofBool (decide_eq_decide.mpr ?_)
  unfold near
  rw [abs_le]
  simp only
  omega

/-- All the scores of a query, its sink last. -/
theorem v64_apply (q : Vec Ideal S16384x2x4x128 .f32) (k : Vec Ideal S16640x2x128 .f32) (z : Vec Ideal S8 .f32) (n r : Fin 128) (h : Fin 2) (g : Fin 4) (p : Fin 641) :
    val_main_v64 (F := Ideal) q k z (ix5 n h g r p)
      = if hp : p.val < 384 then val_main_v61 (F := Ideal) q k (ix5 n h g r ⟨p.val, hp⟩) else if hp : p.val - 384 < 256 then val_main_v26 (F := Ideal) q k (ix5 n h g r ⟨p.val - 384, hp⟩)
        else z (ix1 ⟨4 * h.val + g.val, by omega⟩) := by
  pointwise [val_main_v64, val_main_v63, val_main_v62]
  simp only [Nat.mul_comm h.val]

theorem v61_apply (q : Vec Ideal S16384x2x4x128 .f32) (k : Vec Ideal S16640x2x128 .f32) (n r : Fin 128) (h : Fin 2) (g : Fin 4) (p : Fin 384) :
    val_main_v61 (F := Ideal) q k (ix5 n h g r p) = if near n r ⟨p.val, by omega⟩ then val_main_v21 (F := Ideal) q k (ix5 n h g r p) else ⊥ := by
  refine (val_main_v61_apply q k _).trans ?_
  rw [mask_apply, select_decide]
  refine congrArg (ite _ _) ?_
  rw [val_main_call2_v2_apply, val_main_call2_v0_apply, val_main_cst_8_apply]
  exact neg_inf

/-- A weight at an index. -/
theorem v75_apply (q : Vec Ideal S16384x2x4x128 .f32) (k : Vec Ideal S16640x2x128 .f32) (z : Vec Ideal S8 .f32) (n r : Fin 128) (h : Fin 2) (g : Fin 4) (p : Fin 641) :
    val_main_v75 (F := Ideal) q k z (ix5 n h g r p)
      = Ideal.div (Ideal.exp (val_main_v64 (F := Ideal) q k z (ix5 n h g r p) - val_main_v67 (F := Ideal) q k z (ix4 n h g r)))
          (∑ j : Fin 641, Ideal.exp (val_main_v64 (F := Ideal) q k z (ix5 n h g r j) - val_main_v67 (F := Ideal) q k z (ix4 n h g r))) := by
  pointwise [val_main_v75, val_main_v74, val_main_v73, val_main_v72, val_main_v71, val_main_v70, val_main_v69, val_main_v68, val_main_cst_11]

theorem key_val (n : Fin 128) (p : Fin 640) : (key n p).val = if p.val < 128 then 128 * n.val + 128 + p.val else if p.val < 256 then 128 * n.val + 256 + (p.val - 128)
    else if p.val < 384 then min (128 * n.val + 384) 16512 + (p.val - 256) else p.val - 384 := rfl

section Finite

variable (q : Vec Ideal S16384x2x4x128 .f32) (k : Vec Ideal S16640x2x128 .f32) (z : Vec Ideal S8 .f32)
variable (hq : ∀ i, q i = (((q i : EReal).toReal : ℝ) : EReal)) (hk : ∀ i, k i = (((k i : EReal).toReal : ℝ) : EReal)) (hz : ∀ i, z i = (((z i : EReal).toReal : ℝ) : EReal))
include hq hk

/-- The quotient of a query's product with a key by the root of 128: the score, from powers of two to powers of e. -/
theorem quotient_real (i : Fin 16384) (h : Fin 2) (g : Fin 4) (n : Fin 16640) :
    Ideal.div (∑ d : Fin 128, k (ix3 n h d) * q (ix4 i h g d)) (Ideal.sqrt (Ideal.ofBits FTy.f32 1124073472#32))
      = ((score q k i h g n * Real.log 2 : ℝ) : EReal) := by
  have e : ∑ d : Fin 128, k (ix3 n h d) * q (ix4 i h g d)
      = ((∑ d : Fin 128, (k (ix3 n h d) : EReal).toReal * (q (ix4 i h g d) : EReal).toReal : ℝ) : EReal) := by
    rw [← coe_sum]
    refine Finset.sum_congr rfl fun d _ => ?_
    rw [hk, hq, ← EReal.coe_mul]
    simp only [EReal.toReal_coe]
  rw [e, bits_128, Ideal.sqrt_coe, if_neg (by norm_num), Ideal.div_coe (by positivity), ← EReal.coe_mul]
  refine congrArg Real.toEReal ?_
  unfold score scaleBy
  generalize (∑ d : Fin 128, (k (ix3 n h d) : EReal).toReal * (q (ix4 i h g d) : EReal).toReal) = x
  have hl : Real.log 2 ≠ 0 := (Real.log_pos (by norm_num)).ne'
  field_simp

/-- A score of the list, masked where the query does not see its place. -/
theorem v64_place (n r : Fin 128) (h : Fin 2) (g : Fin 4) (p : Fin 640) :
    val_main_v64 (F := Ideal) q k z (ix5 n h g r p.castSucc) = if near n r p then ((places q k n r h g p * Real.log 2 : ℝ) : EReal) else ⊥ := by
  rw [v64_apply]
  by_cases hp : p.val < 384
  · rw [dif_pos (show p.castSucc.val < 384 from hp), v61_apply]
    by_cases hn : near n r p
    · rw [if_pos hn, if_pos (show near n r ⟨(⟨p.castSucc.val, hp⟩ : Fin 384).val, _⟩ from hn), v21_apply]
      have hn' := hn
      unfold near at hn'
      have hkey : ∀ d : Fin 128, val_main_v7 (F := Ideal) k (ix4 n ⟨p.castSucc.val, hp⟩ h d) = k (ix3 (key n p) h d) := fun d => by
        rw [v7_apply k n ⟨p.castSucc.val, hp⟩ h d (by show 128 ≤ 128 * n.val + p.val; omega) (by show 128 * n.val + p.val < 16512; omega)]
        refine congrArg (fun a => k (ix3 a h d)) (Fin.ext ?_)
        show 128 * n.val + 128 + p.val = (key n p).val
        rw [key_val]
        split_ifs <;> omega
      simp only [hkey]
      exact quotient_real q k hq hk _ _ _ _
    · rw [if_neg hn, if_neg (show ¬ near n r ⟨(⟨p.castSucc.val, hp⟩ : Fin 384).val, _⟩ from hn)]
  · have hn : near n r p := ⟨fun hh => by omega, fun _ hh => by omega⟩
    have h2 : p.castSucc.val - 384 < 256 := by show p.val - 384 < 256; omega
    rw [dif_neg (show ¬ p.castSucc.val < 384 from hp), dif_pos h2, if_pos hn, v26_apply]
    have hkey : (⟨(⟨p.castSucc.val - 384, h2⟩ : Fin 256).val, by omega⟩ : Fin 16640) = key n p := by
      refine Fin.ext ?_
      show p.val - 384 = (key n p).val
      rw [key_val]
      split_ifs <;> omega
    rw [hkey]
    exact quotient_real q k hq hk _ _ _ _

omit hq hk in
include hz in
/-- The last score is the sink. -/
theorem v64_sink (n r : Fin 128) (h : Fin 2) (g : Fin 4) :
    val_main_v64 (F := Ideal) q k z (ix5 n h g r (Fin.last 640)) = ((sink2 z h g * Real.log 2 : ℝ) : EReal) := by
  rw [v64_apply, dif_neg (by simp), dif_neg (by simp), hz]
  refine congrArg Real.toEReal ?_
  unfold sink2
  have hl : Real.log 2 ≠ 0 := (Real.log_pos (by norm_num)).ne'
  field_simp

include hz

/-- The largest score of a query is a real number. -/
theorem v67_real (n r : Fin 128) (h : Fin 2) (g : Fin 4) : ∃ M : ℝ, val_main_v67 (F := Ideal) q k z (ix4 n h g r) = ((M : ℝ) : EReal) := by
  have hr : S128x2x4x128x641.Reduces [4] S128x2x4x128 := by decide
  have el : ∀ p : Fin 641, hr.lift (ix4 n h g r) p = ix5 n h g r p := fun p => funext fun a => Fin.ext (by fin_cases a <;> rfl)
  have e : val_main_v65 (F := Ideal) q k z (ix4 n h g r) = (Finset.univ : Finset (Fin 641)).fold max ⊥ fun p => val_main_v64 (F := Ideal) q k z (ix5 n h g r p) := by
    unfold val_main_v65
    rw [Host.reduce_eq_fold_single FloatOps.maximumf _ _ _ hr h_S_ _, val_main_cst_9_apply]
    refine (congrArg (fun b => (Finset.univ : Finset (Fin 641)).fold max b (val_main_v64 (F := Ideal) q k z ∘ hr.lift (ix4 n h g r))) neg_inf).trans ?_
    exact congrArg (fun f => (Finset.univ : Finset (Fin 641)).fold max ⊥ f) (funext fun p => congrArg (val_main_v64 (F := Ideal) q k z) (el p))
  have e' : val_main_v67 (F := Ideal) q k z (ix4 n h g r) = (Finset.univ : Finset (Fin 641)).fold max ⊥ fun p => val_main_v64 (F := Ideal) q k z (ix5 n h g r p) := by
    rw [val_main_v67_apply, e, val_main_v66_apply, val_main_cst_10_apply]
    refine (congrArg (fun b => max b _) neg_inf).trans ?_
    exact max_eq_right bot_le
  rw [e']
  refine real_of_between (sink2 z h g * Real.log 2) ?_ (fold_max_lt_top _ fun p => ?_)
  · exact Finset.le_fold_max _ |>.mpr (Or.inr ⟨Fin.last 640, Finset.mem_univ _, (v64_sink q k z hz n r h g).ge⟩)
  · refine Fin.lastCases ?_ (fun p => ?_) p
    · rw [v64_sink q k z hz]; exact EReal.coe_lt_top _
    · rw [v64_place q k z hq hk]; exact masked_lt_top _ _

/-- The weight of a place. -/
theorem v75_real (n r : Fin 128) (h : Fin 2) (g : Fin 4) (p : Fin 640) :
    val_main_v75 (F := Ideal) q k z (ix5 n h g r p.castSucc) = ((share (near n r) (places q k n r h g) (sink2 z h g) p : ℝ) : EReal) := by
  obtain ⟨M, hM⟩ := v67_real q k z hq hk hz n r h g
  rw [v75_apply, hM, Fin.sum_univ_castSucc, v64_sink q k z hz]
  simp only [v64_place q k z hq hk]
  exact masked_weight (near n r) (places q k n r h g) (sink2 z h g) M p

/-- A latent token's row of the reference. -/
theorem v86_real (v : Vec Ideal S16640x2x128 .f32) (i : Fin 16384) (j : Fin 1024) :
    val_main_v86 (F := Ideal) q k v z (ix2 ⟨256 + i.val, by omega⟩ j)
      = watt q k v z ⟨i.val / 128, by omega⟩ ⟨i.val % 128, by omega⟩ ⟨j.val / 512, by omega⟩ ⟨j.val / 128 % 4, by omega⟩ ⟨j.val % 128, by omega⟩ := by
  rw [v86_apply]
  generalize (⟨i.val / 128, _⟩ : Fin 128) = n
  generalize (⟨i.val % 128, _⟩ : Fin 128) = r
  generalize (⟨j.val / 512, _⟩ : Fin 2) = h
  generalize (⟨j.val / 128 % 4, _⟩ : Fin 4) = g
  generalize (⟨j.val % 128, _⟩ : Fin 128) = d
  refine Eq.trans ?_ (Fin.sum_univ_add (a := 384) (b := 256) fun p : Fin 640 => v (ix3 (key n p) h d) * ((share (near n r) (places q k n r h g) (sink2 z h g) p : ℝ) : EReal)).symm
  refine congr (congrArg HAdd.hAdd (Finset.sum_congr rfl fun p _ => ?_)) (Finset.sum_congr rfl fun p _ => ?_)
  · have e := v75_real q k z hq hk hz n r h g (Fin.castAdd 256 p)
    refine (congrArg _ e).trans ?_
    by_cases hn : near n r (Fin.castAdd 256 p)
    · have hn' := hn
      unfold near at hn'
      have h1 : (Fin.castAdd 256 p).val = p.val := rfl
      refine congrArg (fun x => x * _) ((v14_apply v n p h d (by omega) (by omega)).trans ?_)
      refine congrArg (fun a => v (ix3 a h d)) (Fin.ext ?_)
      show 128 * n.val + 128 + p.val = (key n (Fin.castAdd 256 p)).val
      rw [key_val]
      split_ifs <;> omega
    · rw [share_masked _ _ _ _ hn, EReal.coe_zero, mul_zero, mul_zero]
  · have e := v75_real q k z hq hk hz n r h g (Fin.natAdd 384 p)
    refine (congrArg _ e).trans ?_
    refine congrArg (fun a => v (ix3 a h d) * _) (Fin.ext ?_)
    have h1 : (Fin.natAdd 384 p).val = 384 + p.val := rfl
    show p.val = (key n (Fin.natAdd 384 p)).val
    rw [key_val]
    split_ifs <;> omega

end Finite

end Cert.WindowRefIdeal.Hand
-- ==== Proof.WindowValues.lean ====
/-
  The windowed attention's claim: the mask and the precondition read, and the two programs' results compared where the
  mask is set.
-/
module

public import proofs.«01_k».proof.Defs
public import proofs.«01_k».proof.Proof.WindowPoint
public import proofs.«01_k».proof.Proof.WindowReference
public import proofs.«01_k».proof.Proof.Values
public import proofs.«01_k».proof.Proof.Gen.Window
public import proofs.«01_k».proof.Proof.Gen.WindowIdeal.Value
public import proofs.«01_k».proof.Proof.Gen.WindowRefIdeal.Run
public import proofs.«01_k».proof.Proof.Gen.Pre_finite_window
public import proofs.«01_k».proof.Proof.Gen.On_window_rows
public import Idealize.ShloMosaic.Lib.ReduceAll
public import Idealize.ShloMosaic.Lib.Quiescent

@[expose] public section

set_option maxRecDepth 16384

noncomputable section

namespace Cert.WindowRefIdeal.Hand

open Idealize.ShloMosaic Idealize.ShloMosaic.TcCoe Idealize.SL.Sem Cert.Softmax Cert.Attention

/-- Where the mask is set the row is a latent token's. -/
theorem row_of_window {F : FTy → Type} [FloatOps F] (q : FVec F Cert.On_window_rows.S16384x2x4x128 .f32) (k v : FVec F Cert.On_window_rows.S16640x2x128 .f32)
    (z : FVec F Cert.On_window_rows.S8 .f32) (j : Cert.On_window_rows.S16640x1024.Idx) (h : Cert.On_window_rows.fn (F := F) q k v z j = 1#1) : 256 ≤ (j 0).val :=
  row_of_mask q k v j h

/-- The precondition says the queries, the keys and the sinks are real numbers. -/
theorem real_of_window (q : FVec Ideal Cert.Pre_finite_window.S16384x2x4x128 .f32) (k v : FVec Ideal Cert.Pre_finite_window.S16640x2x128 .f32) (z : FVec Ideal Cert.Pre_finite_window.S8 .f32)
    (h : Cert.Pre_finite_window.fn (F := Ideal) q k v z = fun _ => 1#1) :
    (∀ i, q i = (((q i : EReal).toReal : ℝ) : EReal)) ∧ (∀ i, k i = (((k i : EReal).toReal : ℝ) : EReal)) ∧ ∀ i, z i = (((z i : EReal).toReal : ℝ) : EReal) := by
  have h0 := congrFun h (fun a => nomatch a)
  have h1 := IntOp.andi_eq_one.mp h0
  have h2 := IntOp.andi_eq_one.mp h1.1
  have : Subsingleton Cert.Pre_finite_window.S_.Idx := ⟨fun a b => funext fun x => nomatch x⟩
  refine ⟨fun i => ?_, fun i => ?_, fun i => ?_⟩
  · exact real_of_lt (Host.reduce_andi_all _ _ _ _ _ h2.1 i)
  · exact real_of_lt (Host.reduce_andi_all _ _ _ _ _ h2.2 i)
  · exact real_of_lt (Host.reduce_andi_all _ _ _ _ _ h1.2 i)

/-- The reference's result at a latent token's row. -/
theorem ref_apply (q : Vec Ideal Cert.WindowIdeal.S16384x2x4x128 .f32) (k v : Vec Ideal Cert.WindowIdeal.S16640x2x128 .f32) (z : Vec Ideal Cert.WindowIdeal.S8 .f32)
    (hq : ∀ i, q i = (((q i : EReal).toReal : ℝ) : EReal)) (hk : ∀ i, k i = (((k i : EReal).toReal : ℝ) : EReal)) (hz : ∀ i, z i = (((z i : EReal).toReal : ℝ) : EReal))
    (j : Cert.WindowIdeal.S16640x1024.Idx) (hj : 256 ≤ (j 0).val) :
    Cert.WindowRefIdeal.Read.val_main_v86 (F := Ideal) q k v z j = Cert.WindowIdeal.Hand.attAt q k v z j := by
  have b0 : (j 0).val < 16640 := (j 0).isLt
  have e : j = ix2 ⟨256 + (⟨(j 0).val - 256, by omega⟩ : Fin 16384).val, by omega⟩ (j 1) := by
    funext a
    match a with
    | ⟨0, _⟩ => exact Fin.ext (by show (j 0).val = 256 + ((j 0).val - 256); omega)
    | ⟨1, _⟩ => rfl
  exact (congrArg (Cert.WindowRefIdeal.Read.val_main_v86 (F := Ideal) q k v z) e).trans (v86_real q k z hq hk hz v ⟨(j 0).val - 256, by omega⟩ (j 1))

/-- The kernel at the extended reals: where the mask is set its result is the attention, and its arguments end unchanged. -/
theorem algebraic : Cert.algebraic_WindowIdeal_WindowRefIdeal_on_window_rows_pre_finite_window := by
  intro m g m' g' hpre hagree
  refine ⟨fun c => Cert.WindowIdeal.Hand.attAt (m ((c.tc : Thread Cert.WindowIdeal.nD Cert.WindowIdeal.τ).loc Cert.WindowIdeal.main_arg0))
    (m ((c.tc : Thread Cert.WindowIdeal.nD Cert.WindowIdeal.τ).loc Cert.WindowIdeal.main_arg1)) (m ((c.tc : Thread Cert.WindowIdeal.nD Cert.WindowIdeal.τ).loc Cert.WindowIdeal.main_arg2))
    (m ((c.tc : Thread Cert.WindowIdeal.nD Cert.WindowIdeal.τ).loc Cert.WindowIdeal.main_arg3)), ?_, ?_⟩
  · refine (θ_run Cert.WindowIdeal.defs _ _).mono (fun _ h c => ⟨fun i hi => ?_, (h c).2⟩) (Cert.WindowIdeal.Value.run_blocks (F := Ideal) m g)
    have hr := real_of_window _ _ _ _ (hpre c)
    exact (congrFun (h c).1 i).trans (Cert.WindowIdeal.Hand.final_apply m c _ _ _ _ rfl rfl rfl rfl hr.1 hr.2.1 hr.2.2 i (row_of_window _ _ _ _ i hi))
  · refine (θ_run Cert.WindowRefIdeal.defs _ _).mono (fun _ h c => ⟨fun i hi => ?_, (h c).2⟩) (Cert.WindowRefIdeal.Value.run (F := Ideal) m' g')
    have hr := real_of_window _ _ _ _ (hpre c)
    refine (congrFun ((h c).1.trans (Cert.WindowRefIdeal.Read.val_main_v86_eq (F := Ideal) _ _)) i).trans ?_
    rw [(hagree c).1, (hagree c).2.1, (hagree c).2.2.1, (hagree c).2.2.2]
    exact ref_apply _ _ _ _ hr.1 hr.2.1 hr.2.2 i (row_of_window _ _ _ _ i hi)

/-- The reference's run: its arguments end unchanged; it declares no semaphore. -/
theorem frame : Cert.quiescent_WindowRefIdeal := fun m g _ =>
  (θ_run Cert.WindowRefIdeal.defs _ _).mono (fun r h => ⟨fun c => (h c).2, Idealize.ShloMosaic.sem_eq_zero_of_no_sems (by decide) r.2⟩)
    (Cert.WindowRefIdeal.Value.run (F := Ideal) m g)

end Cert.WindowRefIdeal.Hand

end
-- ==== Proof.lean ====
/-
  The certificate: for each of the kernel's calls taken, the frames of the call, of its idealized text and of its reference, and the call's values.
-/
module

public import proofs.«01_k».proof.Defs
public import proofs.«01_k».proof.Proof.Gen.Global
public import proofs.«01_k».proof.Proof.Gen.Global.Skeleton
public import proofs.«01_k».proof.Proof.Gen.Global.Loops
public import proofs.«01_k».proof.Proof.Gen.Global.Launch
public import proofs.«01_k».proof.Proof.Gen.Global.Points
public import proofs.«01_k».proof.Proof.Gen.Global.Frame
public import proofs.«01_k».proof.Proof.Gen.GlobalIdeal
public import proofs.«01_k».proof.Proof.Gen.GlobalIdeal.Skeleton
public import proofs.«01_k».proof.Proof.Gen.GlobalIdeal.Loops
public import proofs.«01_k».proof.Proof.Gen.GlobalIdeal.Launch
public import proofs.«01_k».proof.Proof.Gen.GlobalIdeal.Points
public import proofs.«01_k».proof.Proof.Gen.GlobalIdeal.Frame
public import proofs.«01_k».proof.Proof.Gen.GlobalRefIdeal
public import proofs.«01_k».proof.Proof.Gen.InSsd
public import proofs.«01_k».proof.Proof.Gen.InSsd.Skeleton
public import proofs.«01_k».proof.Proof.Gen.InSsd.Launch
public import proofs.«01_k».proof.Proof.Gen.InSsd.Points
public import proofs.«01_k».proof.Proof.Gen.InSsd.Frame
public import proofs.«01_k».proof.Proof.Gen.InSsdIdeal
public import proofs.«01_k».proof.Proof.Gen.InSsdIdeal.Skeleton
public import proofs.«01_k».proof.Proof.Gen.InSsdIdeal.Launch
public import proofs.«01_k».proof.Proof.Gen.InSsdIdeal.Points
public import proofs.«01_k».proof.Proof.Gen.InSsdIdeal.Frame
public import proofs.«01_k».proof.Proof.Gen.InSsdRefIdeal
public import proofs.«01_k».proof.Proof.Gen.InAttn
public import proofs.«01_k».proof.Proof.Gen.InAttn.Skeleton
public import proofs.«01_k».proof.Proof.Gen.InAttn.Launch
public import proofs.«01_k».proof.Proof.Gen.InAttn.Points
public import proofs.«01_k».proof.Proof.Gen.InAttn.Frame
public import proofs.«01_k».proof.Proof.Gen.InAttnIdeal
public import proofs.«01_k».proof.Proof.Gen.InAttnIdeal.Skeleton
public import proofs.«01_k».proof.Proof.Gen.InAttnIdeal.Launch
public import proofs.«01_k».proof.Proof.Gen.InAttnIdeal.Points
public import proofs.«01_k».proof.Proof.Gen.InAttnIdeal.Frame
public import proofs.«01_k».proof.Proof.Gen.InAttnRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.Final
public import proofs.«01_k».proof.Proof.Gen.Final.Skeleton
public import proofs.«01_k».proof.Proof.Gen.Final.Loops
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Loops
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.Norm
public import proofs.«01_k».proof.Proof.Gen.Norm.Skeleton
public import proofs.«01_k».proof.Proof.Gen.Norm.Loops
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Loops
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.PeerOut
public import proofs.«01_k».proof.Proof.Gen.PeerOut.Skeleton
public import proofs.«01_k».proof.Proof.Gen.PeerOut.Launch
public import proofs.«01_k».proof.Proof.Gen.PeerOut.Points
public import proofs.«01_k».proof.Proof.Gen.PeerOut.Frame
public import proofs.«01_k».proof.Proof.Gen.PeerOutIdeal
public import proofs.«01_k».proof.Proof.Gen.PeerOutIdeal.Skeleton
public import proofs.«01_k».proof.Proof.Gen.PeerOutIdeal.Launch
public import proofs.«01_k».proof.Proof.Gen.PeerOutIdeal.Points
public import proofs.«01_k».proof.Proof.Gen.PeerOutIdeal.Frame
public import proofs.«01_k».proof.Proof.Gen.PeerOutRefIdeal
public import proofs.«01_k».proof.Proof.Gen.Mods
public import proofs.«01_k».proof.Proof.Gen.Mods.Skeleton
public import proofs.«01_k».proof.Proof.Gen.Mods.Launch
public import proofs.«01_k».proof.Proof.Gen.Mods.Points
public import proofs.«01_k».proof.Proof.Gen.Mods.Frame
public import proofs.«01_k».proof.Proof.Gen.ModsIdeal
public import proofs.«01_k».proof.Proof.Gen.ModsIdeal.Skeleton
public import proofs.«01_k».proof.Proof.Gen.ModsIdeal.Launch
public import proofs.«01_k».proof.Proof.Gen.ModsIdeal.Points
public import proofs.«01_k».proof.Proof.Gen.ModsIdeal.Frame
public import proofs.«01_k».proof.Proof.Gen.ModsRefIdeal
public import proofs.«01_k».proof.Proof.Gen.PeerW
public import proofs.«01_k».proof.Proof.Gen.PeerW.Skeleton
public import proofs.«01_k».proof.Proof.Gen.PeerW.Launch
public import proofs.«01_k».proof.Proof.Gen.PeerW.Points
public import proofs.«01_k».proof.Proof.Gen.PeerW.Frame
public import proofs.«01_k».proof.Proof.Gen.PeerWIdeal
public import proofs.«01_k».proof.Proof.Gen.PeerWIdeal.Skeleton
public import proofs.«01_k».proof.Proof.Gen.PeerWIdeal.Launch
public import proofs.«01_k».proof.Proof.Gen.PeerWIdeal.Points
public import proofs.«01_k».proof.Proof.Gen.PeerWIdeal.Frame
public import proofs.«01_k».proof.Proof.Gen.PeerWRefIdeal
public import proofs.«01_k».proof.Proof.Gen.Window
public import proofs.«01_k».proof.Proof.Gen.Window.Skeleton
public import proofs.«01_k».proof.Proof.Gen.Window.Launch
public import proofs.«01_k».proof.Proof.Gen.Window.Points
public import proofs.«01_k».proof.Proof.Gen.Window.Frame
public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Gen.WindowRefIdeal
public import proofs.«01_k».proof.Proof.Gen.Pre_finite_scores
public import proofs.«01_k».proof.Proof.Gen.Pre_finite_window
public import proofs.«01_k».proof.Proof.Gen.On_latent_rows
public import proofs.«01_k».proof.Proof.Gen.On_window_rows
public import proofs.«01_k».proof.Proof.Gen.GlobalIdeal.Value
public import proofs.«01_k».proof.Proof.Gen.GlobalRefIdeal.Run
public import proofs.«01_k».proof.Proof.Gen.GlobalRefIdeal.Read
public import proofs.«01_k».proof.Proof.Gen.InSsdIdeal.Value
public import proofs.«01_k».proof.Proof.Gen.InSsdRefIdeal.Run
public import proofs.«01_k».proof.Proof.Gen.InSsdRefIdeal.Read
public import proofs.«01_k».proof.Proof.Gen.InAttnIdeal.Value
public import proofs.«01_k».proof.Proof.Gen.InAttnRefIdeal.Run
public import proofs.«01_k».proof.Proof.Gen.InAttnRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.QueryIdeal.Value
public import proofs.«01_k».proof.Proof.Gen.QueryRefIdeal.Run
public import proofs.«01_k».proof.Proof.Gen.QueryRefIdeal.Read
public import proofs.«01_k».proof.Proof.Gen.FinalIdeal.Value
public import proofs.«01_k».proof.Proof.Gen.FinalRefIdeal.Run
public import proofs.«01_k».proof.Proof.Gen.FinalRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.PeerOutIdeal.Value
public import proofs.«01_k».proof.Proof.Gen.PeerOutRefIdeal.Run
public import proofs.«01_k».proof.Proof.Gen.PeerOutRefIdeal.Read
public import proofs.«01_k».proof.Proof.Gen.ModsIdeal.Value
public import proofs.«01_k».proof.Proof.Gen.ModsRefIdeal.Run
public import proofs.«01_k».proof.Proof.Gen.ModsRefIdeal.Read
public import proofs.«01_k».proof.Proof.Gen.PeerWIdeal.Value
public import proofs.«01_k».proof.Proof.Gen.PeerWRefIdeal.Run
public import proofs.«01_k».proof.Proof.Gen.PeerWRefIdeal.Read
public import proofs.«01_k».proof.Proof.Gen.WindowIdeal.Value
public import proofs.«01_k».proof.Proof.Gen.WindowRefIdeal.Run
public import proofs.«01_k».proof.Proof.Gen.WindowRefIdeal.Read
public import proofs.«01_k».proof.Proof.Values
public import proofs.«01_k».proof.Proof.InSsd
public import proofs.«01_k».proof.Proof.InAttn
public import proofs.«01_k».proof.Proof.OutProj
public import proofs.«01_k».proof.Proof.Query
public import proofs.«01_k».proof.Proof.FinalNorm
public import proofs.«01_k».proof.Proof.Norm
public import proofs.«01_k».proof.Proof.PeerOut
public import proofs.«01_k».proof.Proof.Mods
public import proofs.«01_k».proof.Proof.PeerWeights
public import proofs.«01_k».proof.Proof.WindowValues
public import Idealize.ShloMosaic.Adequacy
public import Idealize.ShloMosaic.Init

@[expose] public section

noncomputable section

namespace Cert.Proof

open Idealize.ShloMosaic Idealize.SL.Sem Cert.Global

/-- Every claim of the certificate. -/
theorem claim : Cert.Claim := ⟨Cert.Global.Gen.facts, Cert.GlobalIdeal.Gen.facts, Cert.GlobalRefIdeal.Gen.facts, Cert.InSsd.Gen.facts, Cert.InSsdIdeal.Gen.facts, Cert.InSsdRefIdeal.Gen.facts, Cert.InAttn.Gen.facts, Cert.InAttnIdeal.Gen.facts, Cert.InAttnRefIdeal.Gen.facts, Cert.Out.Gen.facts, Cert.OutIdeal.Gen.facts, Cert.OutRefIdeal.Gen.facts, Cert.Query.Gen.facts, Cert.QueryIdeal.Gen.facts, Cert.QueryRefIdeal.Gen.facts, Cert.Final.Gen.facts, Cert.FinalIdeal.Gen.facts, Cert.FinalRefIdeal.Gen.facts, Cert.Norm.Gen.facts, Cert.NormIdeal.Gen.facts, Cert.NormRefIdeal.Gen.facts, Cert.PeerOut.Gen.facts, Cert.PeerOutIdeal.Gen.facts, Cert.PeerOutRefIdeal.Gen.facts, Cert.Mods.Gen.facts, Cert.ModsIdeal.Gen.facts, Cert.ModsRefIdeal.Gen.facts, Cert.PeerW.Gen.facts, Cert.PeerWIdeal.Gen.facts, Cert.PeerWRefIdeal.Gen.facts, Cert.Window.Gen.facts, Cert.WindowIdeal.Gen.facts, Cert.WindowRefIdeal.Gen.facts, Cert.Pre_finite_scores.Gen.facts, Cert.Pre_finite_window.Gen.facts, Cert.On_latent_rows.Gen.facts, Cert.On_window_rows.Gen.facts,
  fun m g _ => Cert.Global.Gen.frame m g,
  fun m g _ => Cert.GlobalIdeal.Gen.frame m g,
  fun m g _ => Cert.GlobalIdeal.Gen.frame m g,
  Cert.Attention.frame_ref,
  fun m g _ => Cert.Attention.frame_ref m g trivial,
  fun m g _ => Cert.InSsd.Gen.frame m g,
  fun m g _ => Cert.InSsdIdeal.Gen.frame m g,
  Cert.InSsdRefIdeal.Hand.frame,
  fun m g _ => Cert.InAttn.Gen.frame m g,
  fun m g _ => Cert.InAttnIdeal.Gen.frame m g,
  Cert.InAttnRefIdeal.Hand.frame,
  fun m g _ => Cert.Out.Gen.frame m g,
  fun m g _ => Cert.OutIdeal.Gen.frame m g,
  Cert.OutRefIdeal.Hand.frame,
  fun m g _ => Cert.Query.Gen.frame m g,
  fun m g _ => Cert.QueryIdeal.Gen.frame m g,
  Cert.QueryRefIdeal.Hand.frame,
  fun m g _ => Cert.Final.Gen.frame m g,
  fun m g _ => Cert.FinalIdeal.Gen.frame m g,
  Cert.FinalRefIdeal.Hand.frame,
  fun m g _ => Cert.Norm.Gen.frame m g,
  fun m g _ => Cert.NormIdeal.Gen.frame m g,
  Cert.NormRefIdeal.Hand.frame,
  fun m g _ => Cert.PeerOut.Gen.frame m g,
  fun m g _ => Cert.PeerOutIdeal.Gen.frame m g,
  Cert.PeerOutRefIdeal.Hand.frame,
  fun m g _ => Cert.Mods.Gen.frame m g,
  fun m g _ => Cert.ModsIdeal.Gen.frame m g,
  Cert.ModsRefIdeal.Hand.frame,
  fun m g _ => Cert.PeerW.Gen.frame m g,
  fun m g _ => Cert.PeerWIdeal.Gen.frame m g,
  Cert.PeerWRefIdeal.Hand.frame,
  fun m g _ => Cert.Window.Gen.frame m g,
  fun m g _ => Cert.WindowIdeal.Gen.frame m g,
  fun m g _ => Cert.WindowIdeal.Gen.frame m g,
  Cert.WindowRefIdeal.Hand.frame,
  fun m g _ => Cert.WindowRefIdeal.Hand.frame m g trivial,
  trivial,
  Cert.Attention.algebraic,
  trivial,
  Cert.InSsdRefIdeal.Hand.algebraic,
  trivial,
  Cert.InAttnRefIdeal.Hand.algebraic,
  trivial,
  Cert.OutRefIdeal.Hand.algebraic,
  trivial,
  Cert.QueryRefIdeal.Hand.algebraic,
  trivial,
  Cert.FinalRefIdeal.Hand.algebraic,
  trivial,
  Cert.NormRefIdeal.Hand.algebraic,
  trivial,
  Cert.PeerOutRefIdeal.Hand.algebraic,
  trivial,
  Cert.ModsRefIdeal.Hand.algebraic,
  trivial,
  Cert.PeerWRefIdeal.Hand.algebraic,
  IdealRules.named_const.statement Cert.WindowIdeal.κ "mask" .f32 0xF149F2CA#32 (⊥ : EReal) rfl,
  Cert.WindowRefIdeal.Hand.algebraic⟩

end Cert.Proof

end
